-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v14)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v143_0)) (v1 : (c : Dev Cert.Kernel12Ideal.nD) → Buf (Elt Ideal) ((c.tc : Thread Cert.Kernel12Ideal.nD Cert.Kernel12Ideal.τ).loc Cert.Kernel12Ideal.main_v143_1)) (v2 : (c : Dev Cert.Kernel12Ideal.nD) → Buf (Elt Ideal) ((c.tc : Thread Cert.Kernel12Ideal.nD Cert.Kernel12Ideal.τ).loc Cert.Kernel12Ideal.main_v143_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v143_0) = v0 c
          ∧ r.2.mem ((c.tc : Thread Cert.Kernel12Ideal.nD Cert.Kernel12Ideal.τ).loc Cert.Kernel12Ideal.main_v143_1) = v1 c
          ∧ r.2.mem ((c.tc : Thread Cert.Kernel12Ideal.nD Cert.Kernel12Ideal.τ).loc Cert.Kernel12Ideal.main_v143_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v78) = v0 c
          ∧ r.2.mem ((c.tc : Thread Cert.Reference12Ideal.nD Cert.Reference12Ideal.τ).loc Cert.Reference12Ideal.main_v80) = v1 c
          ∧ r.2.mem ((c.tc : Thread Cert.Reference12Ideal.nD Cert.Reference12Ideal.τ).loc Cert.Reference12Ideal.main_v82) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v33) = v0 c
          ∧ r.2.mem ((c.tc : Thread Cert.Reference13Ideal.nD Cert.Reference13Ideal.τ).loc Cert.Reference13Ideal.main_v65) = v1 c
          ∧ r.2.mem ((c.tc : Thread Cert.Reference13Ideal.nD Cert.Reference13Ideal.τ).loc Cert.Reference13Ideal.main_v66) = v2 c
          ∧ r.2.mem ((c.tc : Thread Cert.Reference13Ideal.nD Cert.Reference13Ideal.τ).loc Cert.Reference13Ideal.main_v35) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg1) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg1) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg1) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg1) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite4 : Cert.Pre_finite4.Facts) (hPre_finite5 : Cert.Pre_finite5.Facts) (hPre_finite8 : Cert.Pre_finite8.Facts) (hPre_finite13 : Cert.Pre_finite13.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite13.lean ====
abbrev S8192x1024 : Shape := ⟨2, ![8192, 1024]⟩
abbrev S1024x1024 : Shape := ⟨2, ![1024, 1024]⟩
abbrev S8192x512 : Shape := ⟨2, ![8192, 512]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S8192x512 : S_.BroadcastsInDim S8192x512 (![] : Fin 0 → Fin S8192x512.rank)
  bcast_S_S8192x3072 : S_.BroadcastsInDim S8192x3072 (![] : Fin 0 → Fin S8192x3072.rank)

variable [Facts]

def fn {F : FTy → Type} [FloatOps F] (main_arg0 : FVec F S8192x1024 .f32) (main_arg1 : FVec F S1024x1024 .bf16) (main_arg2 : FVec F S8192x512 .f32) (main_arg3 : FVec F S8192x3072 .f32) : IVec S8192x1024 1 × IVec S1024x1024 1 × IVec S8192x512 1 × IVec S8192x3072 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x3072 .f32 := Host.absf main_arg3
  let main_cst_2 : FVec F S_ .f32 := constant S_ .f32 0x7F800000#32
  let main_v10 : FVec F S8192x3072 .f32 := broadcastInDim S8192x3072 ![] bcast_S_S8192x3072 main_cst_2
  let main_v11 : IVec S8192x3072 1 := cmpf .olt main_v9 main_v10
  (main_v2, main_v5, main_v8, main_v11)
-- ==== Pre_finite4.lean ====
abbrev S8192x5632 : Shape := ⟨2, ![8192, 5632]⟩
abbrev S4x1024x1408 : Shape := ⟨3, ![4, 1024, 1408]⟩
abbrev S8192x1024 : Shape := ⟨2, ![8192, 1024]⟩
abbrev S1x1024 : Shape := ⟨2, ![1, 1024]⟩
abbrev S_ : Shape := ⟨0, ![]⟩

class Facts : Prop where
  bcast_S_S8192x5632 : S_.BroadcastsInDim S8192x5632 (![] : Fin 0 → Fin S8192x5632.rank)
  bcast_S_S4x1024x1408 : S_.BroadcastsInDim S4x1024x1408 (![] : Fin 0 → Fin S4x1024x1408.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x5632 .bf16) (main_arg1 : FVec F S4x1024x1408 .bf16) (main_arg2 : FVec F S8192x1024 .f32) (main_arg3 : FVec F S1x1024 .f32) (main_arg4 : FVec F S8192x1024 .f32) : IVec S8192x5632 1 × IVec S4x1024x1408 1 × IVec S8192x1024 1 × IVec S1x1024 1 :=
  let main_v0 : FVec F S8192x5632 .bf16 := Host.absf main_arg0
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_v3 : FVec F S4x1024x1408 .bf16 := Host.absf main_arg1
  let main_cst_0 : FVec F S_ .bf16 := constant S_ .bf16 0x7F80#16
  let main_v4 : FVec F S4x1024x1408 .bf16 := broadcastInDim S4x1024x1408 ![] bcast_S_S4x1024x1408 main_cst_0
  let main_v5 : IVec S4x1024x1408 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite5.lean ====
abbrev S8192x1024 : Shape := ⟨2, ![8192, 1024]⟩
abbrev S2816x1024 : Shape := ⟨2, ![2816, 1024]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x5632 : S_.BroadcastsInDim S8192x5632 (![] : Fin 0 → Fin S8192x5632.rank)

variable [Facts]

def fn {F : FTy → Type} [FloatOps F] (main_arg0 : FVec F S8192x1024 .f32) (main_arg1 : FVec F S2816x1024 .bf16) (main_arg2 : FVec F S8192x5632 .bf16) : IVec S8192x1024 1 × IVec S2816x1024 1 × IVec S8192x5632 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x5632 .bf16 := Host.absf main_arg2
  let main_cst_1 : FVec F S_ .bf16 := constant S_ .bf16 0x7F80#16
  let main_v7 : FVec F S8192x5632 .bf16 := broadcastInDim S8192x5632 ![] bcast_S_S8192x5632 main_cst_1
  let main_v8 : IVec S8192x5632 1 := cmpf .olt main_v6 main_v7
  (main_v2, main_v5, main_v8)
-- ==== Pre_finite8.lean ====
abbrev S8192x512 : Shape := ⟨2, ![8192, 512]⟩
abbrev S8192x1536 : Shape := ⟨2, ![8192, 1536]⟩
abbrev S4x1024x768 : Shape := ⟨3, ![4, 1024, 768]⟩
abbrev S8192x1024 : Shape := ⟨2, ![8192, 1024]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  bcast_S_S8192x1536 : S_.BroadcastsInDim S8192x1536 (![] : Fin 0 → Fin S8192x1536.rank)
  bcast_S_S4x1024x768 : S_.BroadcastsInDim S4x1024x768 (![] : Fin 0 → Fin S4x1024x768.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_arg6 : FVec F S1x1024 .f32) (main_v2 : IVec S8192x512 1) (main_v5 : IVec S8192x1536 1) (main_v8 : IVec S8192x512 1) (main_v11 : IVec S8192x512 1) (main_v14 : IVec S4x1024x768 1) (main_v17 : IVec S8192x1024 1) : IVec S8192x512 1 × IVec S8192x1536 1 × IVec S8192x512 1 × IVec S8192x512 1 × IVec S4x1024x768 1 × IVec S8192x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S8192x512 .bf16) (main_arg1 : FVec F S8192x1536 .bf16) (main_arg2 : FVec F S8192x512 .bf16) (main_arg3 : FVec F S8192x512 .bf16) (main_arg4 : FVec F S4x1024x768 .bf16) (main_arg5 : FVec F S8192x1024 .f32) (main_arg6 : FVec F S1x1024 .f32) (main_arg7 : FVec F S8192x1024 .f32) : IVec S8192x512 1 × IVec S8192x1536 1 × IVec S8192x512 1 × IVec S8192x512 1 × IVec S4x1024x768 1 × IVec S8192x1024 1 × IVec S1x1024 1 :=
  let main_v0 : FVec F S8192x512 .bf16 := Host.absf main_arg0
  let main_cst : FVec F S_ .bf16 := constant S_ .bf16 0x7F80#16
  let main_v1 : FVec F S8192x512 .bf16 := broadcastInDim S8192x512 ![] bcast_S_S8192x512 main_cst
  let main_v2 : IVec S8192x512 1 := cmpf .olt main_v0 main_v1
  let main_v3 : FVec F S8192x1536 .bf16 := Host.absf main_arg1
  let main_cst_0 : FVec F S_ .bf16 := constant S_ .bf16 0x7F80#16
  let main_v4 : FVec F S8192x1536 .bf16 := broadcastInDim S8192x1536 ![] bcast_S_S8192x1536 main_cst_0
  let main_v5 : IVec S8192x1536 1 := cmpf .olt main_v3 main_v4
  let main_v6 : FVec F S8192x512 .bf16 := Host.absf main_arg2
  let main_cst_1 : FVec F S_ .bf16 := constant S_ .bf16 0x7F80#16
  let main_v7 : FVec F S8192x512 .bf16 := broadcastInDim S8192x512 ![] bcast_S_S8192x512 main_cst_1
  let main_v8 : IVec S8192x512 1 := cmpf .olt main_v6 main_v7
  let main_v9 : FVec F S8192x512 .bf16 := Host.absf main_arg3
  let main_cst_2 : FVec F S_ .bf16 := constant S_ .bf16 0x7F80#16
  let main_v10 : FVec F S8192x512 .bf16 := broadcastInDim S8192x512 ![] bcast_S_S8192x512 main_cst_2
  let main_v11 : IVec S8192x512 1 := cmpf .olt main_v9 main_v10
  let main_v12 : FVec F S4x1024x768 .bf16 := Host.absf main_arg4
  let main_cst_3 : FVec F S_ .bf16 := constant S_ .bf16 0x7F80#16
  let main_v13 : FVec F S4x1024x768 .bf16 := broadcastInDim S4x1024x768 ![] bcast_S_S4x1024x768 main_cst_3
  let main_v14 : IVec S4x1024x768 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg6 main_v2 main_v5 main_v8 main_v11 main_v14 main_v17
-- ==== Kernel.lean ====
abbrev S1x8192x512 : Shape := ⟨3, ![1, 8192, 512]⟩
abbrev S8192x512 : Shape := ⟨2, ![8192, 512]⟩
abbrev S64x128x512 : Shape := ⟨3, ![64, 128, 512]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S1x8192x4x128 : Shape := ⟨4, ![1, 8192, 4, 128]⟩
abbrev S1x8192x4x64 : Shape := ⟨4, ![1, 8192, 4, 64]⟩
abbrev S1x8192x1x64 : Shape := ⟨4, ![1, 8192, 1, 64]⟩
abbrev S8192x1536 : Shape := ⟨2, ![8192, 1536]⟩
abbrev S64x1 : Shape := ⟨2, ![64, 1]⟩
abbrev S64x64 : Shape := ⟨2, ![64, 64]⟩
abbrev S128 : Shape := ⟨1, ![128]⟩
abbrev S128x1 : Shape := ⟨2, ![128, 1]⟩
abbrev S128x64 : Shape := ⟨2, ![128, 64]⟩
abbrev S64x1x64 : Shape := ⟨3, ![64, 1, 64]⟩
abbrev S1x128x64 : Shape := ⟨3, ![1, 128, 64]⟩
abbrev S64x128x64 : Shape := ⟨3, ![64, 128, 64]⟩
abbrev S8192x128 : Shape := ⟨2, ![8192, 128]⟩
abbrev S4 : Shape := ⟨1, ![4]⟩
abbrev S4x1 : Shape := ⟨2, ![4, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S4x128x1 : Shape := ⟨3, ![4, 128, 1]⟩
abbrev S512x1 : Shape := ⟨2, ![512, 1]⟩
abbrev S1x512 : Shape := ⟨2, ![1, 512]⟩
abbrev S512x512 : Shape := ⟨2, ![512, 512]⟩
abbrev S4x128x512 : Shape := ⟨3, ![4, 128, 512]⟩
abbrev S512x128 : Shape := ⟨2, ![512, 128]⟩
abbrev S512x1536 : Shape := ⟨2, ![512, 1536]⟩

abbrev nBuf : Space → Nat
  | .hbm => 243
  | .vmem => 28
  | .smem => 0
  | _ => 0

abbrev hbmTy0_0 (i : Nat) : BufTy := match i % 128 with
  | 0 => ⟨S1x8192x512, .f32⟩
  | 1 => ⟨S1x8192x512, .f32⟩
  | 2 => ⟨S1x8192x512, .f32⟩
  | 3 => ⟨S8192x512, .bf16⟩
  | 4 => ⟨S64x128x512, .bf16⟩
  | 5 => ⟨S64x128x512, .bf16⟩
  | 6 => ⟨S64x128x512, .bf16⟩
  | 7 => ⟨S64x128x512, .bf16⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S8192, .f32⟩
  | 17 => ⟨S8192x1, .f32⟩
  | 18 => ⟨S1x64, .f32⟩
  | 19 => ⟨S8192x64, .f32⟩
  | 20 => ⟨S8192x64, .f32⟩
  | 21 => ⟨S8192x64, .f32⟩
  | 22 => ⟨S8192x64, .f32⟩
  | 23 => ⟨S8192x1x64, .f32⟩
  | 24 => ⟨S8192x64, .f32⟩
  | 25 => ⟨S8192x1x64, .f32⟩
  | 26 => ⟨S1x8192x4x128, .f32⟩
  | 27 => ⟨S1x8192x4x64, .f32⟩
  | 28 => ⟨S1x8192x4x64, .f32⟩
  | 29 => ⟨S1x8192x1x64, .f32⟩
  | 30 => ⟨S1x8192x4x64, .f32⟩
  | 31 => ⟨S1x8192x4x64, .f32⟩
  | 32 => ⟨S1x8192x1x64, .f32⟩
  | 33 => ⟨S1x8192x4x64, .f32⟩
  | 34 => ⟨S1x8192x4x64, .f32⟩
  | 35 => ⟨S1x8192x4x64, .f32⟩
  | 36 => ⟨S1x8192x1x64, .f32⟩
  | 37 => ⟨S1x8192x4x64, .f32⟩
  | 38 => ⟨S1x8192x4x64, .f32⟩
  | 39 => ⟨S1x8192x1x64, .f32⟩
  | 40 => ⟨S1x8192x4x64, .f32⟩
  | 41 => ⟨S1x8192x4x64, .f32⟩
  | 42 => ⟨S1x8192x4x64, .f32⟩
  | 43 => ⟨S1x8192x4x128, .f32⟩
  | 44 => ⟨S1x8192x4x128, .f32⟩
  | 45 => ⟨S1x8192x4x64, .f32⟩
  | 46 => ⟨S1x8192x4x64, .f32⟩
  | 47 => ⟨S1x8192x1x64, .f32⟩
  | 48 => ⟨S1x8192x4x64, .f32⟩
  | 49 => ⟨S1x8192x4x64, .f32⟩
  | 50 => ⟨S1x8192x1x64, .f32⟩
  | 51 => ⟨S1x8192x4x64, .f32⟩
  | 52 => ⟨S1x8192x4x64, .f32⟩
  | 53 => ⟨S1x8192x4x64, .f32⟩
  | 54 => ⟨S1x8192x1x64, .f32⟩
  | 55 => ⟨S1x8192x4x64, .f32⟩
  | 56 => ⟨S1x8192x4x64, .f32⟩
  | 57 => ⟨S1x8192x1x64, .f32⟩
  | 58 => ⟨S1x8192x4x64, .f32⟩
  | 59 => ⟨S1x8192x4x64, .f32⟩
  | 60 => ⟨S1x8192x4x64, .f32⟩
  | 61 => ⟨S1x8192x4x128, .f32⟩
  | 62 => ⟨S_, .f32⟩
  | 63 => ⟨S1x8192x4x128, .f32⟩
  | 64 => ⟨S1x8192x4x128, .f32⟩
  | 65 => ⟨S8192x512, .f32⟩
  | 66 => ⟨S8192x512, .f32⟩
  | 67 => ⟨S8192x512, .f32⟩
  | 68 => ⟨S8192x1536, .f32⟩
  | 69 => ⟨S8192x1536, .bf16⟩
  | 70 => ⟨S64, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S64, .f32⟩
  | 79 => ⟨S_, .f32⟩
  | 80 => ⟨S64, .f32⟩
  | 81 => ⟨S64, .f32⟩
  | 82 => ⟨S64x1, .f32⟩
  | 83 => ⟨S1x64, .f32⟩
  | 84 => ⟨S64x64, .f32⟩
  | 85 => ⟨S64x64, .f32⟩
  | 86 => ⟨S64x64, .f32⟩
  | 87 => ⟨S128, .f32⟩
  | 88 => ⟨S128x1, .f32⟩
  | 89 => ⟨S1x64, .f32⟩
  | 90 => ⟨S128x64, .f32⟩
  | 91 => ⟨S128x64, .f32⟩
  | 92 => ⟨S128x64, .f32⟩
  | 93 => ⟨S64x64, .f32⟩
  | 94 => ⟨S64x1x64, .f32⟩
  | 95 => ⟨S64x64, .f32⟩
  | 96 => ⟨S64x1x64, .f32⟩
  | 97 => ⟨S128x64, .f32⟩
  | 98 => ⟨S1x128x64, .f32⟩
  | 99 => ⟨S128x64, .f32⟩
  | 100 => ⟨S1x128x64, .f32⟩
  | 101 => ⟨S64x128x64, .f32⟩
  | 102 => ⟨S64x128x64, .f32⟩
  | 103 => ⟨S64x128x64, .f32⟩
  | 104 => ⟨S64x128x64, .f32⟩
  | 105 => ⟨S64x128x64, .f32⟩
  | 106 => ⟨S64x128x64, .f32⟩
  | 107 => ⟨S64x128x64, .f32⟩
  | 108 => ⟨S8192x64, .f32⟩
  | 109 => ⟨S64x128x64, .f32⟩
  | 110 => ⟨S64x128x64, .f32⟩
  | 111 => ⟨S64x128x64, .f32⟩
  | 112 => ⟨S64x128x64, .f32⟩
  | 113 => ⟨S64x128x64, .f32⟩
  | 114 => ⟨S64x128x64, .f32⟩
  | 115 => ⟨S64x128x64, .f32⟩
  | 116 => ⟨S8192x64, .f32⟩
  | 117 => ⟨S8192x128, .f32⟩
  | 118 => ⟨S8192x64, .f32⟩
  | 119 => ⟨S8192x128, .f32⟩
  | 120 => ⟨S4, .f32⟩
  | 121 => ⟨S_, .f32⟩
  | 122 => ⟨S4, .f32⟩
  | 123 => ⟨S4, .f32⟩
  | 124 => ⟨S_, .f32⟩
  | 125 => ⟨S4, .f32⟩
  | 126 => ⟨S4, .f32⟩
  | 127 => ⟨S4, .f32⟩
  | _ => ⟨S1x8192x512, .f32⟩

abbrev hbmTy0_1 (i : Nat) : BufTy := match i % 128 with
  | 0 => ⟨S_, .f32⟩
  | 1 => ⟨S4, .f32⟩
  | 2 => ⟨S4, .f32⟩
  | 3 => ⟨S4, .f32⟩
  | 4 => ⟨S4x1, .f32⟩
  | 5 => ⟨S4, .f32⟩
  | 6 => ⟨S4, .f32⟩
  | 7 => ⟨S4x1, .f32⟩
  | 8 => ⟨S128, .f32⟩
  | 9 => ⟨S128x1, .f32⟩
  | 10 => ⟨S1x128, .f32⟩
  | 11 => ⟨S128x128, .f32⟩
  | 12 => ⟨S128x128, .f32⟩
  | 13 => ⟨S128x128, .f32⟩
  | 14 => ⟨S_, .f32⟩
  | 15 => ⟨S128x128, .f32⟩
  | 16 => ⟨S128x128, .i1⟩
  | 17 => ⟨S4x1x1, .f32⟩
  | 18 => ⟨S_, .f32⟩
  | 19 => ⟨S128x128, .f32⟩
  | 20 => ⟨S128x128, .i1⟩
  | 21 => ⟨S_, .f32⟩
  | 22 => ⟨S_, .f32⟩
  | 23 => ⟨S128x128, .f32⟩
  | 24 => ⟨S128x128, .f32⟩
  | 25 => ⟨S1x128x128, .f32⟩
  | 26 => ⟨S4x128x128, .f32⟩
  | 27 => ⟨S4x128x128, .f32⟩
  | 28 => ⟨S4x128x128, .f32⟩
  | 29 => ⟨S4x128x128, .f32⟩
  | 30 => ⟨S_, .f32⟩
  | 31 => ⟨S_, .f32⟩
  | 32 => ⟨S4x128x128, .i1⟩
  | 33 => ⟨S4x128x128, .f32⟩
  | 34 => ⟨S4x128x128, .f32⟩
  | 35 => ⟨S_, .f32⟩
  | 36 => ⟨S128x128, .f32⟩
  | 37 => ⟨S128x128, .i1⟩
  | 38 => ⟨S4x1x1, .f32⟩
  | 39 => ⟨S_, .f32⟩
  | 40 => ⟨S128x128, .f32⟩
  | 41 => ⟨S128x128, .i1⟩
  | 42 => ⟨S128x128, .f32⟩
  | 43 => ⟨S_, .f32⟩
  | 44 => ⟨S_, .f32⟩
  | 45 => ⟨S128x128, .f32⟩
  | 46 => ⟨S128x128, .f32⟩
  | 47 => ⟨S1x128x128, .f32⟩
  | 48 => ⟨S4x128x128, .f32⟩
  | 49 => ⟨S4x128x128, .f32⟩
  | 50 => ⟨S4x128x128, .f32⟩
  | 51 => ⟨S4x128x128, .f32⟩
  | 52 => ⟨S_, .f32⟩
  | 53 => ⟨S_, .f32⟩
  | 54 => ⟨S4x128x128, .i1⟩
  | 55 => ⟨S4x128x128, .f32⟩
  | 56 => ⟨S4x128x128, .f32⟩
  | 57 => ⟨S4x128x128, .f32⟩
  | 58 => ⟨S4x128x128, .f32⟩
  | 59 => ⟨S_, .f32⟩
  | 60 => ⟨S128, .f32⟩
  | 61 => ⟨S128, .f32⟩
  | 62 => ⟨S1x128, .f32⟩
  | 63 => ⟨S4x128, .f32⟩
  | 64 => ⟨S4x128, .f32⟩
  | 65 => ⟨S4x128, .f32⟩
  | 66 => ⟨S4x128, .f32⟩
  | 67 => ⟨S128x4, .f32⟩
  | 68 => ⟨S128x4x128, .f32⟩
  | 69 => ⟨S128x512, .f32⟩
  | 70 => ⟨S_, .f32⟩
  | 71 => ⟨S128, .f32⟩
  | 72 => ⟨S128, .f32⟩
  | 73 => ⟨S1x128, .f32⟩
  | 74 => ⟨S4x128, .f32⟩
  | 75 => ⟨S4x128, .f32⟩
  | 76 => ⟨S4x128, .f32⟩
  | 77 => ⟨S4x128, .f32⟩
  | 78 => ⟨S128x4, .f32⟩
  | 79 => ⟨S128x4x128, .f32⟩
  | 80 => ⟨S128x512, .f32⟩
  | 81 => ⟨S_, .f32⟩
  | 82 => ⟨S128, .f32⟩
  | 83 => ⟨S128, .f32⟩
  | 84 => ⟨S1x128, .f32⟩
  | 85 => ⟨S4x128, .f32⟩
  | 86 => ⟨S4x128, .f32⟩
  | 87 => ⟨S4x128, .f32⟩
  | 88 => ⟨S4x128, .f32⟩
  | 89 => ⟨S128x4, .f32⟩
  | 90 => ⟨S128x4x128, .f32⟩
  | 91 => ⟨S128x512, .f32⟩
  | 92 => ⟨S1x128, .f32⟩
  | 93 => ⟨S4x128, .f32⟩
  | 94 => ⟨S4x128, .f32⟩
  | 95 => ⟨S4x128, .f32⟩
  | 96 => ⟨S4x128, .f32⟩
  | 97 => ⟨S128x4, .f32⟩
  | 98 => ⟨S128x4x128, .f32⟩
  | 99 => ⟨S128x512, .f32⟩
  | 100 => ⟨S_, .f32⟩
  | 101 => ⟨S4x1, .f32⟩
  | 102 => ⟨S4x1, .f32⟩
  | 103 => ⟨S4x1, .f32⟩
  | 104 => ⟨S4x128x1, .f32⟩
  | 105 => ⟨S512x1, .f32⟩
  | 106 => ⟨S1x512, .f32⟩
  | 107 => ⟨S_, .f32⟩
  | 108 => ⟨S4x1, .f32⟩
  | 109 => ⟨S4x1, .f32⟩
  | 110 => ⟨S4x1, .f32⟩
  | 111 => ⟨S4x128x1, .f32⟩
  | 112 => ⟨S512x1, .f32⟩
  | 113 => ⟨S1x512, .f32⟩
  | 114 => ⟨S8192x1536, .bf16⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x128x512, .bf16⟩
  | .local _ .vmem, ⟨9, _⟩ => ⟨S4x128x512, .bf16⟩
  | .local _ .vmem, ⟨10, _⟩ => ⟨S4x128x512, .bf16⟩
  | .local _ .vmem, ⟨11, _⟩ => ⟨S4x128x512, .bf16⟩
  | .local _ .vmem, ⟨12, _⟩ => ⟨S4x128x512, .bf16⟩
  | .local _ .vmem, ⟨13, _⟩ => ⟨S4x128x512, .bf16⟩
  | .local _ .vmem, ⟨14, _⟩ => ⟨S4x128x512, .bf16⟩
  | .local _ .vmem, ⟨15, _⟩ => ⟨S4x128x512, .bf16⟩
  | .local _ .vmem, ⟨16, _⟩ => ⟨S4x128x128, .f32⟩
  | .local _ .vmem, ⟨17, _⟩ => ⟨S4x128x128, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x1536, .bf16⟩
  | .local _ .vmem, ⟨27, _⟩ => ⟨S512x1536, .bf16⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_1 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_2 : Ref sig .tc := ⟨.hbm, 72, rfl⟩
abbrev main_v61 : Ref sig .tc := ⟨.hbm, 73, rfl⟩
abbrev main_v62 : Ref sig .tc := ⟨.hbm, 74, rfl⟩
abbrev main_cst_3 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_4 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_cst_5 : Ref sig .tc := ⟨.hbm, 121, rfl⟩
abbrev main_v107 : Ref sig .tc := ⟨.hbm, 122, rfl⟩
abbrev main_v108 : Ref sig .tc := ⟨.hbm, 123, rfl⟩
abbrev main_cst_6 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_7 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_cst_8 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_cst_9 : Ref sig .tc := ⟨.hbm, 146, rfl⟩
abbrev main_v128 : Ref sig .tc := ⟨.hbm, 147, rfl⟩
abbrev main_v129 : Ref sig .tc := ⟨.hbm, 148, rfl⟩
abbrev main_cst_10 : Ref sig .tc := ⟨.hbm, 149, rfl⟩
abbrev main_call0_v0 : Ref sig .tc := ⟨.hbm, 150, rfl⟩
abbrev main_call0_v1 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_cst_11 : Ref sig .tc := ⟨.hbm, 158, rfl⟩
abbrev main_call1_v0 : Ref sig .tc := ⟨.hbm, 159, rfl⟩
abbrev main_call1_v1 : Ref sig .tc := ⟨.hbm, 160, rfl⟩
abbrev main_call1_v2 : Ref sig .tc := ⟨.hbm, 161, rfl⟩
abbrev main_v136 : Ref sig .tc := ⟨.hbm, 162, rfl⟩
abbrev main_cst_12 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_cst_13 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_cst_14 : Ref sig .tc := ⟨.hbm, 171, rfl⟩
abbrev main_call2_v0 : Ref sig .tc := ⟨.hbm, 172, rfl⟩
abbrev main_call2_v1 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_15 : Ref sig .tc := ⟨.hbm, 180, rfl⟩
abbrev main_call3_v0 : Ref sig .tc := ⟨.hbm, 181, rfl⟩
abbrev main_call3_v1 : Ref sig .tc := ⟨.hbm, 182, rfl⟩
abbrev main_call3_v2 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_16 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_17 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_cst_18 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_cst_19 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_cst_20 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S1x8192x512 : Shape := ⟨3, ![1, 8192, 512]⟩
abbrev S8192x512 : Shape := ⟨2, ![8192, 512]⟩
abbrev S64x128x512 : Shape := ⟨3, ![64, 128, 512]⟩
abbrev S64x128x1x4x128 : Shape := ⟨5, ![64, 128, 1, 4, 128]⟩
abbrev S64x1x4x128x128 : Shape := ⟨5, ![64, 1, 4, 128, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S1x8192x4x128 : Shape := ⟨4, ![1, 8192, 4, 128]⟩
abbrev S1x8192x4x64 : Shape := ⟨4, ![1, 8192, 4, 64]⟩
abbrev S1x8192x1x64 : Shape := ⟨4, ![1, 8192, 1, 64]⟩
abbrev S4 : Shape := ⟨1, ![4]⟩
abbrev S1x64x128x4x128 : Shape := ⟨5, ![1, 64, 128, 4, 128]⟩
abbrev S1x4x64x128x128 : Shape := ⟨5, ![1, 4, 64, 128, 128]⟩
abbrev S128 : Shape := ⟨1, ![128]⟩
abbrev S4x1 : Shape := ⟨2, ![4, 1]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x128 : Shape := ⟨2, ![4, 128]⟩
abbrev S4x1x128x128 : Shape := ⟨4, ![4, 1, 128, 128]⟩
abbrev S1x4x1x128x128 : Shape := ⟨5, ![1, 4, 1, 128, 128]⟩
abbrev S4x1x128x1 : Shape := ⟨4, ![4, 1, 128, 1]⟩
abbrev S1x4x1x128x1 : Shape := ⟨5, ![1, 4, 1, 128, 1]⟩
abbrev S1x8192x1536 : Shape := ⟨3, ![1, 8192, 1536]⟩
abbrev S8192x1536 : Shape := ⟨2, ![8192, 1536]⟩

abbrev nBuf : Space → Nat
  | .hbm => 333
  | .vmem => 0
  | .smem => 0
  | _ => 0

abbrev hbmTy0_0 (i : Nat) : BufTy := match i % 128 with
  | 0 => ⟨S1x8192x512, .f32⟩
  | 1 => ⟨S1x8192x512, .f32⟩
  | 2 => ⟨S1x8192x512, .f32⟩
  | 3 => ⟨S8192x512, .bf16⟩
  | 4 => ⟨S64x128x512, .bf16⟩
  | 5 => ⟨S64x128x512, .bf16⟩
  | 6 => ⟨S64x128x512, .bf16⟩
  | 7 => ⟨S64x128x512, .bf16⟩
  | 8 => ⟨S64x128x512, .f32⟩
  | 9 => ⟨S64x128x1x4x128, .f32⟩
  | 10 => ⟨S64x1x4x128x128, .f32⟩
  | 11 => ⟨S64x128x512, .f32⟩
  | 12 => ⟨S64x128x1x4x128, .f32⟩
  | 13 => ⟨S64x1x4x128x128, .f32⟩
  | 14 => ⟨S64x1x4x128x128, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S8192, .f32⟩
  | 24 => ⟨S8192x1, .f32⟩
  | 25 => ⟨S1x64, .f32⟩
  | 26 => ⟨S8192x64, .f32⟩
  | 27 => ⟨S8192x64, .f32⟩
  | 28 => ⟨S8192x64, .f32⟩
  | 29 => ⟨S8192x64, .f32⟩
  | 30 => ⟨S8192x1x64, .f32⟩
  | 31 => ⟨S8192x64, .f32⟩
  | 32 => ⟨S8192x1x64, .f32⟩
  | 33 => ⟨S1x8192x4x128, .f32⟩
  | 34 => ⟨S1x8192x4x64, .f32⟩
  | 35 => ⟨S1x8192x4x64, .f32⟩
  | 36 => ⟨S1x8192x1x64, .f32⟩
  | 37 => ⟨S1x8192x4x64, .f32⟩
  | 38 => ⟨S1x8192x4x64, .f32⟩
  | 39 => ⟨S1x8192x1x64, .f32⟩
  | 40 => ⟨S1x8192x4x64, .f32⟩
  | 41 => ⟨S1x8192x4x64, .f32⟩
  | 42 => ⟨S1x8192x4x64, .f32⟩
  | 43 => ⟨S1x8192x1x64, .f32⟩
  | 44 => ⟨S1x8192x4x64, .f32⟩
  | 45 => ⟨S1x8192x4x64, .f32⟩
  | 46 => ⟨S1x8192x1x64, .f32⟩
  | 47 => ⟨S1x8192x4x64, .f32⟩
  | 48 => ⟨S1x8192x4x64, .f32⟩
  | 49 => ⟨S1x8192x4x64, .f32⟩
  | 50 => ⟨S1x8192x4x128, .f32⟩
  | 51 => ⟨S1x8192x4x128, .f32⟩
  | 52 => ⟨S1x8192x4x64, .f32⟩
  | 53 => ⟨S1x8192x4x64, .f32⟩
  | 54 => ⟨S1x8192x1x64, .f32⟩
  | 55 => ⟨S1x8192x4x64, .f32⟩
  | 56 => ⟨S1x8192x4x64, .f32⟩
  | 57 => ⟨S1x8192x1x64, .f32⟩
  | 58 => ⟨S1x8192x4x64, .f32⟩
  | 59 => ⟨S1x8192x4x64, .f32⟩
  | 60 => ⟨S1x8192x4x64, .f32⟩
  | 61 => ⟨S1x8192x1x64, .f32⟩
  | 62 => ⟨S1x8192x4x64, .f32⟩
  | 63 => ⟨S1x8192x4x64, .f32⟩
  | 64 => ⟨S1x8192x1x64, .f32⟩
  | 65 => ⟨S1x8192x4x64, .f32⟩
  | 66 => ⟨S1x8192x4x64, .f32⟩
  | 67 => ⟨S1x8192x4x64, .f32⟩
  | 68 => ⟨S1x8192x4x128, .f32⟩
  | 69 => ⟨S_, .f32⟩
  | 70 => ⟨S1x8192x4x128, .f32⟩
  | 71 => ⟨S1x8192x4x128, .f32⟩
  | 72 => ⟨S1x8192x4x128, .f32⟩
  | 73 => ⟨S4, .f32⟩
  | 74 => ⟨S_, .f32⟩
  | 75 => ⟨S4, .f32⟩
  | 76 => ⟨S4, .f32⟩
  | 77 => ⟨S_, .f32⟩
  | 78 => ⟨S4, .f32⟩
  | 79 => ⟨S4, .f32⟩
  | 80 => ⟨S4, .f32⟩
  | 81 => ⟨S_, .f32⟩
  | 82 => ⟨S4, .f32⟩
  | 83 => ⟨S4, .f32⟩
  | 84 => ⟨S4, .f32⟩
  | 85 => ⟨S1x64x128x4x128, .f32⟩
  | 86 => ⟨S1x4x64x128x128, .f32⟩
  | 87 => ⟨S1x64x128x4x128, .f32⟩
  | 88 => ⟨S1x4x64x128x128, .f32⟩
  | 89 => ⟨S1x64x128x4x128, .f32⟩
  | 90 => ⟨S1x4x64x128x128, .f32⟩
  | 91 => ⟨S128, .f32⟩
  | 92 => ⟨S4, .f32⟩
  | 93 => ⟨S4x1, .f32⟩
  | 94 => ⟨S128x1, .f32⟩
  | 95 => ⟨S1x128, .f32⟩
  | 96 => ⟨S128x128, .f32⟩
  | 97 => ⟨S128x128, .f32⟩
  | 98 => ⟨S128x128, .f32⟩
  | 99 => ⟨S_, .f32⟩
  | 100 => ⟨S128x128, .f32⟩
  | 101 => ⟨S128x128, .i1⟩
  | 102 => ⟨S4x1x1, .f32⟩
  | 103 => ⟨S_, .f32⟩
  | 104 => ⟨S_, .f32⟩
  | 105 => ⟨S128x128, .f32⟩
  | 106 => ⟨S128x128, .f32⟩
  | 107 => ⟨S1x128x128, .f32⟩
  | 108 => ⟨S4x128x128, .f32⟩
  | 109 => ⟨S4x128x128, .f32⟩
  | 110 => ⟨S4x128x128, .f32⟩
  | 111 => ⟨S4x128x128, .f32⟩
  | 112 => ⟨S_, .f32⟩
  | 113 => ⟨S_, .f32⟩
  | 114 => ⟨S4x128x128, .i1⟩
  | 115 => ⟨S4x128x128, .f32⟩
  | 116 => ⟨S4x128x128, .f32⟩
  | 117 => ⟨S_, .f32⟩
  | 118 => ⟨S128, .f32⟩
  | 119 => ⟨S128, .f32⟩
  | 120 => ⟨S1x128, .f32⟩
  | 121 => ⟨S4x128, .f32⟩
  | 122 => ⟨S4x128, .f32⟩
  | 123 => ⟨S4x128, .f32⟩
  | 124 => ⟨S4x128, .f32⟩
  | 125 => ⟨S_, .f32⟩
  | 126 => ⟨S128, .f32⟩
  | 127 => ⟨S128, .f32⟩
  | _ => ⟨S1x8192x512, .f32⟩

abbrev hbmTy0_1 (i : Nat) : BufTy := match i % 128 with
  | 0 => ⟨S1x128, .f32⟩
  | 1 => ⟨S4x128, .f32⟩
  | 2 => ⟨S4x128, .f32⟩
  | 3 => ⟨S4x128, .f32⟩
  | 4 => ⟨S4x128, .f32⟩
  | 5 => ⟨S1x4x64x128x128, .f32⟩
  | 6 => ⟨S4x1x128x128, .f32⟩
  | 7 => ⟨S1x4x1x128x128, .f32⟩
  | 8 => ⟨S1x4x64x128x128, .f32⟩
  | 9 => ⟨S1x4x64x128x128, .f32⟩
  | 10 => ⟨S1x4x64x128x128, .f32⟩
  | 11 => ⟨S4x1x128x1, .f32⟩
  | 12 => ⟨S1x4x1x128x1, .f32⟩
  | 13 => ⟨S1x4x64x128x128, .f32⟩
  | 14 => ⟨S1x4x64x128x128, .f32⟩
  | 15 => ⟨S64x1x4x128x128, .f32⟩
  | 16 => ⟨S1x4x64x128x128, .f32⟩
  | 17 => ⟨S4x1x128x1, .f32⟩
  | 18 => ⟨S1x4x1x128x1, .f32⟩
  | 19 => ⟨S1x4x64x128x128, .f32⟩
  | 20 => ⟨S1x4x64x128x128, .f32⟩
  | 21 => ⟨S1x4x64x128x128, .f32⟩
  | 22 => ⟨S1x8192x4x128, .f32⟩
  | 23 => ⟨S1x64x128x4x128, .f32⟩
  | 24 => ⟨S1x4x64x128x128, .f32⟩
  | 25 => ⟨S1x8192x4x128, .f32⟩
  | 26 => ⟨S1x64x128x4x128, .f32⟩
  | 27 => ⟨S1x4x64x128x128, .f32⟩
  | 28 => ⟨S1x8192x4x128, .f32⟩
  | 29 => ⟨S1x64x128x4x128, .f32⟩
  | 30 => ⟨S1x4x64x128x128, .f32⟩
  | 31 => ⟨S128, .f32⟩
  | 32 => ⟨S4, .f32⟩
  | 33 => ⟨S4x1, .f32⟩
  | 34 => ⟨S128x1, .f32⟩
  | 35 => ⟨S1x128, .f32⟩
  | 36 => ⟨S128x128, .f32⟩
  | 37 => ⟨S128x128, .f32⟩
  | 38 => ⟨S128x128, .f32⟩
  | 39 => ⟨S_, .f32⟩
  | 40 => ⟨S128x128, .f32⟩
  | 41 => ⟨S128x128, .i1⟩
  | 42 => ⟨S4x1x1, .f32⟩
  | 43 => ⟨S_, .f32⟩
  | 44 => ⟨S_, .f32⟩
  | 45 => ⟨S128x128, .f32⟩
  | 46 => ⟨S128x128, .f32⟩
  | 47 => ⟨S1x128x128, .f32⟩
  | 48 => ⟨S4x128x128, .f32⟩
  | 49 => ⟨S4x128x128, .f32⟩
  | 50 => ⟨S4x128x128, .f32⟩
  | 51 => ⟨S4x128x128, .f32⟩
  | 52 => ⟨S_, .f32⟩
  | 53 => ⟨S_, .f32⟩
  | 54 => ⟨S4x128x128, .i1⟩
  | 55 => ⟨S4x128x128, .f32⟩
  | 56 => ⟨S4x128x128, .f32⟩
  | 57 => ⟨S_, .f32⟩
  | 58 => ⟨S128, .f32⟩
  | 59 => ⟨S128, .f32⟩
  | 60 => ⟨S1x128, .f32⟩
  | 61 => ⟨S4x128, .f32⟩
  | 62 => ⟨S4x128, .f32⟩
  | 63 => ⟨S4x128, .f32⟩
  | 64 => ⟨S4x128, .f32⟩
  | 65 => ⟨S_, .f32⟩
  | 66 => ⟨S128, .f32⟩
  | 67 => ⟨S128, .f32⟩
  | 68 => ⟨S1x128, .f32⟩
  | 69 => ⟨S4x128, .f32⟩
  | 70 => ⟨S4x128, .f32⟩
  | 71 => ⟨S4x128, .f32⟩
  | 72 => ⟨S4x128, .f32⟩
  | 73 => ⟨S1x4x64x128x128, .f32⟩
  | 74 => ⟨S4x1x128x128, .f32⟩
  | 75 => ⟨S1x4x1x128x128, .f32⟩
  | 76 => ⟨S1x4x64x128x128, .f32⟩
  | 77 => ⟨S1x4x64x128x128, .f32⟩
  | 78 => ⟨S1x4x64x128x128, .f32⟩
  | 79 => ⟨S4x1x128x1, .f32⟩
  | 80 => ⟨S1x4x1x128x1, .f32⟩
  | 81 => ⟨S1x4x64x128x128, .f32⟩
  | 82 => ⟨S1x4x64x128x128, .f32⟩
  | 83 => ⟨S64x1x4x128x128, .f32⟩
  | 84 => ⟨S1x4x64x128x128, .f32⟩
  | 85 => ⟨S4x1x128x1, .f32⟩
  | 86 => ⟨S1x4x1x128x1, .f32⟩
  | 87 => ⟨S1x4x64x128x128, .f32⟩
  | 88 => ⟨S1x4x64x128x128, .f32⟩
  | 89 => ⟨S1x4x64x128x128, .f32⟩
  | 90 => ⟨S1x64x128x4x128, .f32⟩
  | 91 => ⟨S1x8192x4x128, .f32⟩
  | 92 => ⟨S1x64x128x4x128, .f32⟩
  | 93 => ⟨S1x8192x4x128, .f32⟩
  | 94 => ⟨S1x8192x4x128, .f32⟩
  | 95 => ⟨S1x8192x4x128, .f32⟩
  | 96 => ⟨S1x8192x512, .f32⟩
  | 97 => ⟨S8192x512, .f32⟩
  | 98 => ⟨S1x8192x512, .f32⟩
  | 99 => ⟨S64x128x512, .f32⟩
  | 100 => ⟨S64x128x1x4x128, .f32⟩
  | 101 => ⟨S64x1x4x128x128, .f32⟩
  | 102 => ⟨S64x128x512, .f32⟩
  | 103 => ⟨S64x128x1x4x128, .f32⟩
  | 104 => ⟨S64x1x4x128x128, .f32⟩
  | 105 => ⟨S64x1x4x128x128, .f32⟩
  | 106 => ⟨S1x8192x4x128, .f32⟩
  | 107 => ⟨S1x8192x4x128, .f32⟩
  | 108 => ⟨S1x64x128x4x128, .f32⟩
  | 109 => ⟨S1x4x64x128x128, .f32⟩
  | 110 => ⟨S1x64x128x4x128, .f32⟩
  | 111 => ⟨S1x4x64x128x128, .f32⟩
  | 112 => ⟨S1x4x64x128x128, .f32⟩
  | 113 => ⟨S1x4x64x128x128, .f32⟩
  | 114 => ⟨S1x4x64x128x128, .f32⟩
  | 115 => ⟨S64x1x4x128x128, .f32⟩
  | 116 => ⟨S1x4x64x128x128, .f32⟩
  | 117 => ⟨S64x1x4x128x128, .f32⟩
  | 118 => ⟨S1x4x64x128x128, .f32⟩
  | 119 => ⟨S1x4x64x128x128, .f32⟩
  | 120 => ⟨S1x4x64x128x128, .f32⟩
  | 121 => ⟨S1x4x64x128x128, .f32⟩
  | 122 => ⟨S1x4x64x128x128, .f32⟩
  | 123 => ⟨S1x4x64x128x128, .f32⟩
  | 124 => ⟨S1x4x64x128x128, .f32⟩
  | 125 => ⟨S1x4x64x128x128, .f32⟩
  | 126 => ⟨S1x4x64x128x128, .f32⟩
  | 127 => ⟨S1x4x64x128x128, .f32⟩
  | _ => ⟨S1x8192x512, .f32⟩

abbrev hbmTy0_2 (i : Nat) : BufTy := match i % 128 with
  | 0 => ⟨S1x4x64x128x128, .f32⟩
  | 1 => ⟨S1x4x64x128x128, .f32⟩
  | 2 => ⟨S1x4x64x128x128, .f32⟩
  | 3 => ⟨S1x64x128x4x128, .f32⟩
  | 4 => ⟨S1x8192x4x128, .f32⟩
  | 5 => ⟨S1x8192x4x128, .f32⟩
  | 6 => ⟨S1x64x128x4x128, .f32⟩
  | 7 => ⟨S1x8192x4x128, .f32⟩
  | 8 => ⟨S1x8192x4x128, .f32⟩
  | 9 => ⟨S1x64x128x4x128, .f32⟩
  | 10 => ⟨S1x8192x4x128, .f32⟩
  | 11 => ⟨S1x8192x4x128, .f32⟩
  | 12 => ⟨S1x4x64x128x128, .f32⟩
  | 13 => ⟨S1x4x64x128x128, .f32⟩
  | 14 => ⟨S1x4x64x128x128, .f32⟩
  | 15 => ⟨S64x1x4x128x128, .f32⟩
  | 16 => ⟨S1x4x64x128x128, .f32⟩
  | 17 => ⟨S64x1x4x128x128, .f32⟩
  | 18 => ⟨S1x4x64x128x128, .f32⟩
  | 19 => ⟨S1x4x64x128x128, .f32⟩
  | 20 => ⟨S1x4x64x128x128, .f32⟩
  | 21 => ⟨S1x4x64x128x128, .f32⟩
  | 22 => ⟨S1x4x64x128x128, .f32⟩
  | 23 => ⟨S1x4x64x128x128, .f32⟩
  | 24 => ⟨S1x4x64x128x128, .f32⟩
  | 25 => ⟨S1x4x64x128x128, .f32⟩
  | 26 => ⟨S1x4x64x128x128, .f32⟩
  | 27 => ⟨S1x4x64x128x128, .f32⟩
  | 28 => ⟨S1x4x64x128x128, .f32⟩
  | 29 => ⟨S1x4x64x128x128, .f32⟩
  | 30 => ⟨S1x4x64x128x128, .f32⟩
  | 31 => ⟨S1x64x128x4x128, .f32⟩
  | 32 => ⟨S1x8192x4x128, .f32⟩
  | 33 => ⟨S1x8192x4x128, .f32⟩
  | 34 => ⟨S1x64x128x4x128, .f32⟩
  | 35 => ⟨S1x8192x4x128, .f32⟩
  | 36 => ⟨S1x8192x4x128, .f32⟩
  | 37 => ⟨S1x64x128x4x128, .f32⟩
  | 38 => ⟨S1x8192x4x128, .f32⟩
  | 39 => ⟨S1x8192x4x128, .f32⟩
  | 40 => ⟨S1x8192x512, .f32⟩
  | 41 => ⟨S_, .f32⟩
  | 42 => ⟨S1x8192x4x128, .f32⟩
  | 43 => ⟨S1x8192x4x128, .f32⟩
  | 44 => ⟨S1x8192x4x64, .f32⟩
  | 45 => ⟨S1x8192x4x64, .f32⟩
  | 46 => ⟨S1x8192x4x64, .f32⟩
  | 47 => ⟨S1x8192x4x64, .f32⟩
  | 48 => ⟨S1x8192x4x64, .f32⟩
  | 49 => ⟨S1x8192x4x64, .f32⟩
  | 50 => ⟨S1x8192x4x64, .f32⟩
  | 51 => ⟨S1x8192x4x64, .f32⟩
  | 52 => ⟨S1x8192x4x64, .f32⟩
  | 53 => ⟨S1x8192x4x64, .f32⟩
  | 54 => ⟨S1x8192x4x64, .f32⟩
  | 55 => ⟨S1x8192x4x64, .f32⟩
  | 56 => ⟨S1x8192x4x64, .f32⟩
  | 57 => ⟨S1x8192x4x128, .f32⟩
  | 58 => ⟨S1x8192x512, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x64, .f32⟩
  | 71 => ⟨S1x8192x4x64, .f32⟩
  | 72 => ⟨S1x8192x4x128, .f32⟩
  | 73 => ⟨S1x8192x512, .f32⟩
  | 74 => ⟨S1x8192x1536, .f32⟩
  | 75 => ⟨S8192x1536, .f32⟩
  | 76 => ⟨S8192x1536, .bf16⟩
  | _ => ⟨S1x8192x512, .f32⟩

abbrev hbmTy (i : Nat) : BufTy := match i / 128 with
  | 0 => hbmTy0_0 i
  | 1 => hbmTy0_1 i
  | 2 => hbmTy0_2 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_1 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_2 : Ref sig .tc := ⟨.hbm, 74, rfl⟩
abbrev main_v63 : Ref sig .tc := ⟨.hbm, 75, rfl⟩
abbrev main_v64 : Ref sig .tc := ⟨.hbm, 76, rfl⟩
abbrev main_cst_3 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_4 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_5 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_6 : Ref sig .tc := ⟨.hbm, 103, rfl⟩
abbrev main_call0_v0 : Ref sig .tc := ⟨.hbm, 104, rfl⟩
abbrev main_call0_v1 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_7 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v94 : Ref sig .tc := ⟨.hbm, 116, rfl⟩
abbrev main_cst_8 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_9 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_cst_10 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_cst_11 : Ref sig .tc := ⟨.hbm, 171, rfl⟩
abbrev main_call5_v0 : Ref sig .tc := ⟨.hbm, 172, rfl⟩
abbrev main_call5_v1 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_cst_12 : Ref sig .tc := ⟨.hbm, 180, rfl⟩
abbrev main_call6_v0 : Ref sig .tc := ⟨.hbm, 181, rfl⟩
abbrev main_call6_v1 : Ref sig .tc := ⟨.hbm, 182, rfl⟩
abbrev main_call6_v2 : Ref sig .tc := ⟨.hbm, 183, rfl⟩
abbrev main_v152 : Ref sig .tc := ⟨.hbm, 184, rfl⟩
abbrev main_cst_13 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_cst_14 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_cst_15 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_v273 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_v294 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩

abbrev nD : Nat := 1
abbrev τ : Topo := Topo.v7x

variable {F : FTy → Type} [FloatOps F]
-- ==== Kernel2.lean ====
abbrev S8192x5632 : Shape := ⟨2, ![8192, 5632]⟩
abbrev S8192x1024 : Shape := ⟨2, ![8192, 1024]⟩
abbrev S2816x1024 : Shape := ⟨2, ![2816, 1024]⟩
abbrev S512x5632 : Shape := ⟨2, ![512, 5632]⟩
abbrev S512x1024 : Shape := ⟨2, ![512, 1024]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S2816x1024, .bf16⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S2816x1024, .bf16⟩
  | .local _ .vmem, ⟨5, _⟩ => ⟨S2816x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v26 : BitVec 1 := Scalar.cmpi .eq arg0 c15_i32
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S8192x5632 : Shape := ⟨2, ![8192, 5632]⟩
abbrev S8192x1024 : Shape := ⟨2, ![8192, 1024]⟩
abbrev S_ : Shape := ⟨0, ![]⟩
abbrev S2816x1024 : Shape := ⟨2, ![2816, 1024]⟩
abbrev S8192x2816 : Shape := ⟨2, ![8192, 2816]⟩
abbrev S1024x2816 : Shape := ⟨2, ![1024, 2816]⟩

abbrev nBuf : Space → Nat
  | .hbm => 21
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x1024, .f32⟩
  | .hbm, ⟨18, _⟩ => ⟨S1024x2816, .f32⟩
  | .hbm, ⟨19, _⟩ => ⟨S2816x1024, .f32⟩
  | .hbm, ⟨20, _⟩ => ⟨S2816x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S4x1024x1408 : Shape := ⟨3, ![4, 1024, 1408]⟩
abbrev S1024x2048 : Shape := ⟨2, ![1024, 2048]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 21
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x8192, .f32⟩
  | .hbm, ⟨19, _⟩ => ⟨S1024x8192, .bf16⟩
  | .hbm, ⟨20, _⟩ => ⟨S4x1024x1408, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S1x1024 : Shape := ⟨2, ![1, 1024]⟩
abbrev S8192x5632 : Shape := ⟨2, ![8192, 5632]⟩
abbrev S_ : Shape := ⟨0, ![]⟩
abbrev S1024x5632 : Shape := ⟨2, ![1024, 5632]⟩
abbrev S8192 : Shape := ⟨1, ![8192]⟩
abbrev S8192x1 : Shape := ⟨2, ![8192, 1]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x5632, .bf16⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x5632, .f32⟩
  | .hbm, ⟨22, _⟩ => ⟨S5632x1024, .f32⟩
  | .hbm, ⟨23, _⟩ => ⟨S1024x5632, .f32⟩
  | .hbm, ⟨24, _⟩ => ⟨S1024x4x1408, .f32⟩
  | .hbm, ⟨25, _⟩ => ⟨S4x1024x1408, .f32⟩
  | .hbm, ⟨26, _⟩ => ⟨S4x1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S8192x5632 : Shape := ⟨2, ![8192, 5632]⟩
abbrev S4x1024x1408 : Shape := ⟨3, ![4, 1024, 1408]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_31 : BitVec 32 := 0#32
  let v57 : BitVec 1 := Scalar.cmpi .ne v56 c0_i32_31
  v57

def k0_cond2 (i : grid0.Coords) : BitVec 1 :=
  let arg0 : BitVec 32 := BitVec.ofNat 32 (i 0).val
  let c0_i32 : BitVec 32 := 0#32
  let v55 : BitVec 1 := Scalar.cmpi .eq arg0 c0_i32
  let v_true : BitVec 1 := 1#1
  let v58 : BitVec 1 := Scalar.xori v55 v_true
  let v59 : BitVec 32 := Scalar.extui v58
  let c0_i32_32 : BitVec 32 := 0#32
  let v60 : BitVec 1 := Scalar.cmpi .ne v59 c0_i32_32
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S8192x5632 : Shape := ⟨2, ![8192, 5632]⟩
abbrev S4x1024x1408 : Shape := ⟨3, ![4, 1024, 1408]⟩
abbrev S8192x1024 : Shape := ⟨2, ![8192, 1024]⟩
abbrev S1x1024 : Shape := ⟨2, ![1, 1024]⟩
abbrev S1024x4x1408 : Shape := ⟨3, ![1024, 4, 1408]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5632, .f32⟩
  | .hbm, ⟨28, _⟩ => ⟨S8192x5632, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x5632 : Shape := ⟨2, ![8192, 5632]⟩
abbrev S512x1024 : Shape := ⟨2, ![512, 1024]⟩
abbrev S512x5632 : Shape := ⟨2, ![512, 5632]⟩
abbrev S512x2816 : Shape := ⟨2, ![512, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x5632, .bf16⟩
  | .hbm, ⟨3, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x5632, .bf16⟩
  | .hbm, ⟨3, _⟩ => ⟨S8192x5632, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S4x1024x1408 : Shape := ⟨3, ![4, 1024, 1408]⟩
abbrev S8192x5632 : Shape := ⟨2, ![8192, 5632]⟩
abbrev S1024x8192 : Shape := ⟨2, ![1024, 8192]⟩
abbrev S512x1024 : Shape := ⟨2, ![512, 1024]⟩
abbrev S512x5632 : Shape := ⟨2, ![512, 5632]⟩
abbrev S1024x512 : Shape := ⟨2, ![1024, 512]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1408, .bf16⟩
  | .hbm, ⟨3, _⟩ => ⟨S8192x5632, .bf16⟩
  | .hbm, ⟨4, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x5632, .bf16⟩
  | .local _ .vmem, ⟨5, _⟩ => ⟨S512x5632, .bf16⟩
  | .local _ .vmem, ⟨6, _⟩ => ⟨S1024x512, .bf16⟩
  | .local _ .vmem, ⟨7, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x1024 : Shape := ⟨2, ![8192, 1024]⟩
abbrev S1x1024 : Shape := ⟨2, ![1, 1024]⟩
abbrev S4x1024x1408 : Shape := ⟨3, ![4, 1024, 1408]⟩
abbrev S_ : Shape := ⟨0, ![]⟩
abbrev S8192 : Shape := ⟨1, ![8192]⟩
abbrev S8192x1 : Shape := ⟨2, ![8192, 1]⟩
abbrev S1024x4x1408 : Shape := ⟨3, ![1024, 4, 1408]⟩
abbrev S1024x5632 : Shape := ⟨2, ![1024, 5632]⟩
abbrev S8192x5632 : Shape := ⟨2, ![8192, 5632]⟩
abbrev S1024x8192 : Shape := ⟨2, ![1024, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1408, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S4x1024x1408, .f32⟩
  | .hbm, ⟨19, _⟩ => ⟨S1024x4x1408, .f32⟩
  | .hbm, ⟨20, _⟩ => ⟨S1024x5632, .f32⟩
  | .hbm, ⟨21, _⟩ => ⟨S8192x5632, .f32⟩
  | .hbm, ⟨22, _⟩ => ⟨S8192x5632, .bf16⟩
  | .hbm, ⟨23, _⟩ => ⟨S1024x8192, .f32⟩
  | .hbm, ⟨24, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel7.lean ====
abbrev S8192x5632 : Shape := ⟨2, ![8192, 5632]⟩
abbrev S2816x1024 : Shape := ⟨2, ![2816, 1024]⟩
abbrev S8192x1024 : Shape := ⟨2, ![8192, 1024]⟩
abbrev S512x5632 : Shape := ⟨2, ![512, 5632]⟩
abbrev S512x1024 : Shape := ⟨2, ![512, 1024]⟩
abbrev S512x2816 : Shape := ⟨2, ![512, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x5632, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x1024, .f32⟩
  | .hbm, ⟨18, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel8.lean ====
abbrev S8192x512 : Shape := ⟨2, ![8192, 512]⟩
abbrev S8192x1536 : Shape := ⟨2, ![8192, 1536]⟩
abbrev S4x1024x768 : Shape := ⟨3, ![4, 1024, 768]⟩
abbrev S8192x1024 : Shape := ⟨2, ![8192, 1024]⟩
abbrev S1x1024 : Shape := ⟨2, ![1, 1024]⟩
abbrev S512x512 : Shape := ⟨2, ![512, 512]⟩
abbrev S512x1536 : Shape := ⟨2, ![512, 1536]⟩
abbrev S512x1024 : Shape := ⟨2, ![512, 1024]⟩
abbrev S1x1024x512 : Shape := ⟨3, ![1, 1024, 512]⟩
abbrev S1024x512 : Shape := ⟨2, ![1024, 512]⟩
abbrev S512x256 : Shape := ⟨2, ![512, 256]⟩
abbrev S1x1024x256 : Shape := ⟨3, ![1, 1024, 256]⟩
abbrev S1024x256 : Shape := ⟨2, ![1024, 256]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x512, .bf16⟩
  | .hbm, ⟨1, _⟩ => ⟨S8192x1536, .bf16⟩
  | .hbm, ⟨2, _⟩ => ⟨S8192x512, .bf16⟩
  | .hbm, ⟨3, _⟩ => ⟨S8192x512, .bf16⟩
  | .hbm, ⟨4, _⟩ => ⟨S4x1024x768, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x1024x768, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let v71 : BitVec 32 := Scalar.extui v70
  let c0_i32_49 : BitVec 32 := 0#32
  let v72 : BitVec 1 := Scalar.cmpi .ne v71 c0_i32_49
  v72

def k0_cond2 (i : grid0.Coords) : BitVec 1 :=
  let arg0 : BitVec 32 := BitVec.ofNat 32 (i 0).val
  let c0_i32 : BitVec 32 := 0#32
  let v70 : BitVec 1 := Scalar.cmpi .eq arg0 c0_i32
  let v_true : BitVec 1 := 1#1
  let v73 : BitVec 1 := Scalar.xori v70 v_true
  let v74 : BitVec 32 := Scalar.extui v73
  let c0_i32_50 : BitVec 32 := 0#32
  let v75 : BitVec 1 := Scalar.cmpi .ne v74 c0_i32_50
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S8192x512 : Shape := ⟨2, ![8192, 512]⟩
abbrev S8192x1536 : Shape := ⟨2, ![8192, 1536]⟩
abbrev S4x1024x768 : Shape := ⟨3, ![4, 1024, 768]⟩
abbrev S8192x1024 : Shape := ⟨2, ![8192, 1024]⟩
abbrev S1x1024 : Shape := ⟨2, ![1, 1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1024x4x768 : Shape := ⟨3, ![1024, 4, 768]⟩
abbrev S1024x3072 : Shape := ⟨2, ![1024, 3072]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1536, .bf16⟩
  | .hbm, ⟨2, _⟩ => ⟨S8192x512, .bf16⟩
  | .hbm, ⟨3, _⟩ => ⟨S8192x512, .bf16⟩
  | .hbm, ⟨4, _⟩ => ⟨S4x1024x768, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x3072, .bf16⟩
  | .hbm, ⟨9, _⟩ => ⟨S8192x3072, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S4x1024x768, .f32⟩
  | .hbm, ⟨30, _⟩ => ⟨S1024x4x768, .f32⟩
  | .hbm, ⟨31, _⟩ => ⟨S1024x3072, .f32⟩
  | .hbm, ⟨32, _⟩ => ⟨S8192x3072, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S8192x512 : Shape := ⟨2, ![8192, 512]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S4x1024x768 : Shape := ⟨3, ![4, 1024, 768]⟩
abbrev S1024x1024 : Shape := ⟨2, ![1024, 1024]⟩
abbrev S1024x512 : Shape := ⟨2, ![1024, 512]⟩
abbrev S1024x1536 : Shape := ⟨2, ![1024, 1536]⟩
abbrev S1x1024x512 : Shape := ⟨3, ![1, 1024, 512]⟩
abbrev S1x1024x256 : Shape := ⟨3, ![1, 1024, 256]⟩
abbrev S1024x256 : Shape := ⟨2, ![1024, 256]⟩
abbrev S1x1024x768 : Shape := ⟨3, ![1, 1024, 768]⟩
abbrev S1024x768 : Shape := ⟨2, ![1024, 768]⟩

abbrev nBuf : Space → Nat
  | .hbm => 24
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x512, .bf16⟩
  | .hbm, ⟨3, _⟩ => ⟨S8192x1536, .bf16⟩
  | .hbm, ⟨4, _⟩ => ⟨S8192x512, .bf16⟩
  | .hbm, ⟨5, _⟩ => ⟨S8192x512, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x8192, .f32⟩
  | .hbm, ⟨22, _⟩ => ⟨S1024x8192, .bf16⟩
  | .hbm, ⟨23, _⟩ => ⟨S4x1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1536, .bf16⟩
  | .local _ .vmem, ⟨5, _⟩ => ⟨S1024x1536, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S4x1024x768, .bf16⟩
  | .local _ .vmem, ⟨11, _⟩ => ⟨S4x1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v61 : BitVec 1 := Scalar.cmpi .eq arg0 c7_i32
  let v62 : BitVec 32 := Scalar.extui v61
  let c0_i32_58 : BitVec 32 := 0#32
  let v63 : BitVec 1 := Scalar.cmpi .ne v62 c0_i32_58
  v63

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S8192x1024 : Shape := ⟨2, ![8192, 1024]⟩
abbrev S1x1024 : Shape := ⟨2, ![1, 1024]⟩
abbrev S8192x512 : Shape := ⟨2, ![8192, 512]⟩
abbrev S8192x1536 : Shape := ⟨2, ![8192, 1536]⟩
abbrev S_ : Shape := ⟨0, ![]⟩
abbrev S1024x3072 : Shape := ⟨2, ![1024, 3072]⟩
abbrev S8192x3072 : Shape := ⟨2, ![8192, 3072]⟩
abbrev S8192 : Shape := ⟨1, ![8192]⟩
abbrev S8192x1 : Shape := ⟨2, ![8192, 1]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x512, .bf16⟩
  | .hbm, ⟨3, _⟩ => ⟨S8192x1536, .bf16⟩
  | .hbm, ⟨4, _⟩ => ⟨S8192x512, .bf16⟩
  | .hbm, ⟨5, _⟩ => ⟨S8192x512, .bf16⟩
  | .hbm, ⟨6, _⟩ => ⟨S_, .f32⟩
  | .hbm, ⟨7, _⟩ => ⟨S1024x3072, .f32⟩
  | .hbm, ⟨8, _⟩ => ⟨S8192x3072, .bf16⟩
  | .hbm, ⟨9, _⟩ => ⟨S8192x3072, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S3072x1024, .f32⟩
  | .hbm, ⟨27, _⟩ => ⟨S1024x3072, .f32⟩
  | .hbm, ⟨28, _⟩ => ⟨S1024x4x768, .f32⟩
  | .hbm, ⟨29, _⟩ => ⟨S4x1024x768, .f32⟩
  | .hbm, ⟨30, _⟩ => ⟨S4x1024x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel10.lean ====
abbrev S8192x256 : Shape := ⟨2, ![8192, 256]⟩
abbrev S8192x512 : Shape := ⟨2, ![8192, 512]⟩
abbrev S8192x1024 : Shape := ⟨2, ![8192, 1024]⟩
abbrev S1024x1024 : Shape := ⟨2, ![1024, 1024]⟩
abbrev S1024x256 : Shape := ⟨2, ![1024, 256]⟩
abbrev S1024x512 : Shape := ⟨2, ![1024, 512]⟩
abbrev S256x1024 : Shape := ⟨2, ![256, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S8192x1024, .f32⟩
  | .hbm, ⟨4, _⟩ => ⟨S1024x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_20 : BitVec 32 := 0#32
  let v28 : BitVec 1 := Scalar.cmpi .ne v27 c0_i32_20
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference10Ideal.lean ====
abbrev S8192x256 : Shape := ⟨2, ![8192, 256]⟩
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x256, .f32⟩
  | .hbm, ⟨7, _⟩ => ⟨S8192x512, .f32⟩
  | .hbm, ⟨8, _⟩ => ⟨S8192x256, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel11.lean ====
abbrev S8192x256 : Shape := ⟨2, ![8192, 256]⟩
abbrev S8192x512 : Shape := ⟨2, ![8192, 512]⟩
abbrev S1024x1024 : Shape := ⟨2, ![1024, 1024]⟩
abbrev S8192x1024 : Shape := ⟨2, ![8192, 1024]⟩
abbrev S512x256 : Shape := ⟨2, ![512, 256]⟩
abbrev S512x512 : Shape := ⟨2, ![512, 512]⟩
abbrev S512x1024 : Shape := ⟨2, ![512, 1024]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S1024x1024, .bf16⟩
  | .hbm, ⟨4, _⟩ => ⟨S8192x1024, .f32⟩
  | .hbm, ⟨5, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S8192x256 : Shape := ⟨2, ![8192, 256]⟩
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S1024x1024, .bf16⟩
  | .hbm, ⟨4, _⟩ => ⟨S8192x1024, .f32⟩
  | .hbm, ⟨5, _⟩ => ⟨S8192x256, .f32⟩
  | .hbm, ⟨6, _⟩ => ⟨S8192x512, .f32⟩
  | .hbm, ⟨7, _⟩ => ⟨S8192x256, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S4x1024x768 : Shape := ⟨3, ![4, 1024, 768]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S128 : Shape := ⟨1, ![128]⟩
abbrev S128x1 : Shape := ⟨2, ![128, 1]⟩
abbrev S128x64 : Shape := ⟨2, ![128, 64]⟩
abbrev S64x1x64 : Shape := ⟨3, ![64, 1, 64]⟩
abbrev S1x128x64 : Shape := ⟨3, ![1, 128, 64]⟩
abbrev S64x128x64 : Shape := ⟨3, ![64, 128, 64]⟩
abbrev S8192x64 : Shape := ⟨2, ![8192, 64]⟩
abbrev S8192x128 : Shape := ⟨2, ![8192, 128]⟩
abbrev S4 : Shape := ⟨1, ![4]⟩
abbrev S4x1 : Shape := ⟨2, ![4, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S4x128x1 : Shape := ⟨3, ![4, 128, 1]⟩
abbrev S512x1 : Shape := ⟨2, ![512, 1]⟩
abbrev S1x512 : Shape := ⟨2, ![1, 512]⟩
abbrev S8192x3072 : Shape := ⟨2, ![8192, 3072]⟩
abbrev S1024x8192 : Shape := ⟨2, ![1024, 8192]⟩
abbrev S8192x1536 : Shape := ⟨2, ![8192, 1536]⟩
abbrev S512x1024 : Shape := ⟨2, ![512, 1024]⟩
abbrev S512x128 : Shape := ⟨2, ![512, 128]⟩
abbrev S512x3072 : Shape := ⟨2, ![512, 3072]⟩
abbrev S1024x512 : Shape := ⟨2, ![1024, 512]⟩
abbrev S512x1536 : Shape := ⟨2, ![512, 1536]⟩
abbrev S512 : Shape := ⟨1, ![512]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 178
  | .vmem => 14
  | .smem => 0
  | _ => 0

abbrev hbmTy0_0 (i : Nat) : BufTy := match i % 128 with
  | 0 => ⟨S8192x1024, .f32⟩
  | 1 => ⟨S1x1024, .f32⟩
  | 2 => ⟨S4x1024x768, .bf16⟩
  | 3 => ⟨S64, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S64, .f32⟩
  | 12 => ⟨S_, .f32⟩
  | 13 => ⟨S64, .f32⟩
  | 14 => ⟨S64, .f32⟩
  | 15 => ⟨S64x1, .f32⟩
  | 16 => ⟨S1x64, .f32⟩
  | 17 => ⟨S64x64, .f32⟩
  | 18 => ⟨S64x64, .f32⟩
  | 19 => ⟨S64x64, .f32⟩
  | 20 => ⟨S128, .f32⟩
  | 21 => ⟨S128x1, .f32⟩
  | 22 => ⟨S1x64, .f32⟩
  | 23 => ⟨S128x64, .f32⟩
  | 24 => ⟨S128x64, .f32⟩
  | 25 => ⟨S128x64, .f32⟩
  | 26 => ⟨S64x64, .f32⟩
  | 27 => ⟨S64x1x64, .f32⟩
  | 28 => ⟨S64x64, .f32⟩
  | 29 => ⟨S64x1x64, .f32⟩
  | 30 => ⟨S128x64, .f32⟩
  | 31 => ⟨S1x128x64, .f32⟩
  | 32 => ⟨S128x64, .f32⟩
  | 33 => ⟨S1x128x64, .f32⟩
  | 34 => ⟨S64x128x64, .f32⟩
  | 35 => ⟨S64x128x64, .f32⟩
  | 36 => ⟨S64x128x64, .f32⟩
  | 37 => ⟨S64x128x64, .f32⟩
  | 38 => ⟨S64x128x64, .f32⟩
  | 39 => ⟨S64x128x64, .f32⟩
  | 40 => ⟨S64x128x64, .f32⟩
  | 41 => ⟨S8192x64, .f32⟩
  | 42 => ⟨S64x128x64, .f32⟩
  | 43 => ⟨S64x128x64, .f32⟩
  | 44 => ⟨S64x128x64, .f32⟩
  | 45 => ⟨S64x128x64, .f32⟩
  | 46 => ⟨S64x128x64, .f32⟩
  | 47 => ⟨S64x128x64, .f32⟩
  | 48 => ⟨S64x128x64, .f32⟩
  | 49 => ⟨S8192x64, .f32⟩
  | 50 => ⟨S8192x128, .f32⟩
  | 51 => ⟨S8192x64, .f32⟩
  | 52 => ⟨S8192x128, .f32⟩
  | 53 => ⟨S4, .f32⟩
  | 54 => ⟨S_, .f32⟩
  | 55 => ⟨S4, .f32⟩
  | 56 => ⟨S4, .f32⟩
  | 57 => ⟨S_, .f32⟩
  | 58 => ⟨S4, .f32⟩
  | 59 => ⟨S4, .f32⟩
  | 60 => ⟨S4, .f32⟩
  | 61 => ⟨S_, .f32⟩
  | 62 => ⟨S4, .f32⟩
  | 63 => ⟨S4, .f32⟩
  | 64 => ⟨S4, .f32⟩
  | 65 => ⟨S4x1, .f32⟩
  | 66 => ⟨S4, .f32⟩
  | 67 => ⟨S4, .f32⟩
  | 68 => ⟨S4x1, .f32⟩
  | 69 => ⟨S128, .f32⟩
  | 70 => ⟨S128x1, .f32⟩
  | 71 => ⟨S1x128, .f32⟩
  | 72 => ⟨S128x128, .f32⟩
  | 73 => ⟨S128x128, .f32⟩
  | 74 => ⟨S128x128, .f32⟩
  | 75 => ⟨S_, .f32⟩
  | 76 => ⟨S128x128, .f32⟩
  | 77 => ⟨S128x128, .i1⟩
  | 78 => ⟨S4x1x1, .f32⟩
  | 79 => ⟨S_, .f32⟩
  | 80 => ⟨S128x128, .f32⟩
  | 81 => ⟨S128x128, .i1⟩
  | 82 => ⟨S_, .f32⟩
  | 83 => ⟨S_, .f32⟩
  | 84 => ⟨S128x128, .f32⟩
  | 85 => ⟨S128x128, .f32⟩
  | 86 => ⟨S1x128x128, .f32⟩
  | 87 => ⟨S4x128x128, .f32⟩
  | 88 => ⟨S4x128x128, .f32⟩
  | 89 => ⟨S4x128x128, .f32⟩
  | 90 => ⟨S4x128x128, .f32⟩
  | 91 => ⟨S_, .f32⟩
  | 92 => ⟨S_, .f32⟩
  | 93 => ⟨S4x128x128, .i1⟩
  | 94 => ⟨S4x128x128, .f32⟩
  | 95 => ⟨S4x128x128, .f32⟩
  | 96 => ⟨S_, .f32⟩
  | 97 => ⟨S128x128, .f32⟩
  | 98 => ⟨S128x128, .i1⟩
  | 99 => ⟨S4x1x1, .f32⟩
  | 100 => ⟨S_, .f32⟩
  | 101 => ⟨S128x128, .f32⟩
  | 102 => ⟨S128x128, .i1⟩
  | 103 => ⟨S128x128, .f32⟩
  | 104 => ⟨S_, .f32⟩
  | 105 => ⟨S_, .f32⟩
  | 106 => ⟨S128x128, .f32⟩
  | 107 => ⟨S128x128, .f32⟩
  | 108 => ⟨S1x128x128, .f32⟩
  | 109 => ⟨S4x128x128, .f32⟩
  | 110 => ⟨S4x128x128, .f32⟩
  | 111 => ⟨S4x128x128, .f32⟩
  | 112 => ⟨S4x128x128, .f32⟩
  | 113 => ⟨S_, .f32⟩
  | 114 => ⟨S_, .f32⟩
  | 115 => ⟨S4x128x128, .i1⟩
  | 116 => ⟨S4x128x128, .f32⟩
  | 117 => ⟨S4x128x128, .f32⟩
  | 118 => ⟨S4x128x128, .f32⟩
  | 119 => ⟨S4x128x128, .f32⟩
  | 120 => ⟨S_, .f32⟩
  | 121 => ⟨S128, .f32⟩
  | 122 => ⟨S128, .f32⟩
  | 123 => ⟨S1x128, .f32⟩
  | 124 => ⟨S4x128, .f32⟩
  | 125 => ⟨S4x128, .f32⟩
  | 126 => ⟨S4x128, .f32⟩
  | 127 => ⟨S4x128, .f32⟩
  | _ => ⟨S8192x1024, .f32⟩

abbrev hbmTy0_1 (i : Nat) : BufTy := match i % 128 with
  | 0 => ⟨S128x4, .f32⟩
  | 1 => ⟨S128x4x128, .f32⟩
  | 2 => ⟨S128x512, .f32⟩
  | 3 => ⟨S_, .f32⟩
  | 4 => ⟨S128, .f32⟩
  | 5 => ⟨S128, .f32⟩
  | 6 => ⟨S1x128, .f32⟩
  | 7 => ⟨S4x128, .f32⟩
  | 8 => ⟨S4x128, .f32⟩
  | 9 => ⟨S4x128, .f32⟩
  | 10 => ⟨S4x128, .f32⟩
  | 11 => ⟨S128x4, .f32⟩
  | 12 => ⟨S128x4x128, .f32⟩
  | 13 => ⟨S128x512, .f32⟩
  | 14 => ⟨S_, .f32⟩
  | 15 => ⟨S128, .f32⟩
  | 16 => ⟨S128, .f32⟩
  | 17 => ⟨S1x128, .f32⟩
  | 18 => ⟨S4x128, .f32⟩
  | 19 => ⟨S4x128, .f32⟩
  | 20 => ⟨S4x128, .f32⟩
  | 21 => ⟨S4x128, .f32⟩
  | 22 => ⟨S128x4, .f32⟩
  | 23 => ⟨S128x4x128, .f32⟩
  | 24 => ⟨S128x512, .f32⟩
  | 25 => ⟨S1x128, .f32⟩
  | 26 => ⟨S4x128, .f32⟩
  | 27 => ⟨S4x128, .f32⟩
  | 28 => ⟨S4x128, .f32⟩
  | 29 => ⟨S4x128, .f32⟩
  | 30 => ⟨S128x4, .f32⟩
  | 31 => ⟨S128x4x128, .f32⟩
  | 32 => ⟨S128x512, .f32⟩
  | 33 => ⟨S_, .f32⟩
  | 34 => ⟨S4x1, .f32⟩
  | 35 => ⟨S4x1, .f32⟩
  | 36 => ⟨S4x1, .f32⟩
  | 37 => ⟨S4x128x1, .f32⟩
  | 38 => ⟨S512x1, .f32⟩
  | 39 => ⟨S1x512, .f32⟩
  | 40 => ⟨S_, .f32⟩
  | 41 => ⟨S4x1, .f32⟩
  | 42 => ⟨S4x1, .f32⟩
  | 43 => ⟨S4x1, .f32⟩
  | 44 => ⟨S4x128x1, .f32⟩
  | 45 => ⟨S512x1, .f32⟩
  | 46 => ⟨S1x512, .f32⟩
  | 47 => ⟨S8192x3072, .f32⟩
  | 48 => ⟨S1024x8192, .bf16⟩
  | 49 => ⟨S8192x1536, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x3072, .f32⟩
  | .local _ .vmem, ⟨9, _⟩ => ⟨S512x3072, .f32⟩
  | .local _ .vmem, ⟨10, _⟩ => ⟨S1024x512, .bf16⟩
  | .local _ .vmem, ⟨11, _⟩ => ⟨S1024x512, .bf16⟩
  | .local _ .vmem, ⟨12, _⟩ => ⟨S512x1536, .bf16⟩
  | .local _ .vmem, ⟨13, _⟩ => ⟨S512x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_2 : Ref sig .tc := ⟨.hbm, 54, rfl⟩
abbrev main_v48 : Ref sig .tc := ⟨.hbm, 55, rfl⟩
abbrev main_v49 : Ref sig .tc := ⟨.hbm, 56, rfl⟩
abbrev main_cst_3 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_cst_5 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_6 : Ref sig .tc := ⟨.hbm, 79, rfl⟩
abbrev main_v69 : Ref sig .tc := ⟨.hbm, 80, rfl⟩
abbrev main_v70 : Ref sig .tc := ⟨.hbm, 81, rfl⟩
abbrev main_cst_7 : Ref sig .tc := ⟨.hbm, 82, rfl⟩
abbrev main_call0_v0 : Ref sig .tc := ⟨.hbm, 83, rfl⟩
abbrev main_call0_v1 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_8 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_10 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_11 : Ref sig .tc := ⟨.hbm, 104, rfl⟩
abbrev main_call2_v0 : Ref sig .tc := ⟨.hbm, 105, rfl⟩
abbrev main_call2_v1 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_12 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_13 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_14 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_15 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_16 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_17 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143_0 : Ref sig .tc := ⟨.hbm, 175, rfl⟩
abbrev main_v143_1 : Ref sig .tc := ⟨.hbm, 176, rfl⟩
abbrev main_v143_2 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8192x1024 : Shape := ⟨2, ![8192, 1024]⟩
abbrev S1x1024 : Shape := ⟨2, ![1, 1024]⟩
abbrev S4x1024x768 : Shape := ⟨3, ![4, 1024, 768]⟩
abbrev S_ : Shape := ⟨0, ![]⟩
abbrev S8192 : Shape := ⟨1, ![8192]⟩
abbrev S8192x1 : Shape := ⟨2, ![8192, 1]⟩
abbrev S1024x4x768 : Shape := ⟨3, ![1024, 4, 768]⟩
abbrev S1024x3072 : Shape := ⟨2, ![1024, 3072]⟩
abbrev S8192x3072 : Shape := ⟨2, ![8192, 3072]⟩
abbrev S8192x512 : Shape := ⟨2, ![8192, 512]⟩
abbrev S8192x1536 : Shape := ⟨2, ![8192, 1536]⟩
abbrev S1x8192x512 : Shape := ⟨3, ![1, 8192, 512]⟩
abbrev S64 : Shape := ⟨1, ![64]⟩
abbrev S1x64 : Shape := ⟨2, ![1, 64]⟩
abbrev S8192x64 : Shape := ⟨2, ![8192, 64]⟩
abbrev S8192x1x64 : Shape := ⟨3, ![8192, 1, 64]⟩
abbrev S1x8192x4x128 : Shape := ⟨4, ![1, 8192, 4, 128]⟩
abbrev S1x8192x4x64 : Shape := ⟨4, ![1, 8192, 4, 64]⟩
abbrev S1x8192x1x64 : Shape := ⟨4, ![1, 8192, 1, 64]⟩
abbrev S1024x8192 : Shape := ⟨2, ![1024, 8192]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x768, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S4x1024x768, .f32⟩
  | .hbm, ⟨19, _⟩ => ⟨S1024x4x768, .f32⟩
  | .hbm, ⟨20, _⟩ => ⟨S1024x3072, .f32⟩
  | .hbm, ⟨21, _⟩ => ⟨S8192x3072, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x1536, .f32⟩
  | .hbm, ⟨26, _⟩ => ⟨S1x8192x512, .f32⟩
  | .hbm, ⟨27, _⟩ => ⟨S1x8192x512, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S8192, .f32⟩
  | .hbm, ⟨37, _⟩ => ⟨S8192x1, .f32⟩
  | .hbm, ⟨38, _⟩ => ⟨S1x64, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S8192x64, .f32⟩
  | .hbm, ⟨43, _⟩ => ⟨S8192x1x64, .f32⟩
  | .hbm, ⟨44, _⟩ => ⟨S8192x64, .f32⟩
  | .hbm, ⟨45, _⟩ => ⟨S8192x1x64, .f32⟩
  | .hbm, ⟨46, _⟩ => ⟨S1x8192x4x128, .f32⟩
  | .hbm, ⟨47, _⟩ => ⟨S1x8192x4x64, .f32⟩
  | .hbm, ⟨48, _⟩ => ⟨S1x8192x4x64, .f32⟩
  | .hbm, ⟨49, _⟩ => ⟨S1x8192x1x64, .f32⟩
  | .hbm, ⟨50, _⟩ => ⟨S1x8192x4x64, .f32⟩
  | .hbm, ⟨51, _⟩ => ⟨S1x8192x4x64, .f32⟩
  | .hbm, ⟨52, _⟩ => ⟨S1x8192x1x64, .f32⟩
  | .hbm, ⟨53, _⟩ => ⟨S1x8192x4x64, .f32⟩
  | .hbm, ⟨54, _⟩ => ⟨S1x8192x4x64, .f32⟩
  | .hbm, ⟨55, _⟩ => ⟨S1x8192x4x64, .f32⟩
  | .hbm, ⟨56, _⟩ => ⟨S1x8192x1x64, .f32⟩
  | .hbm, ⟨57, _⟩ => ⟨S1x8192x4x64, .f32⟩
  | .hbm, ⟨58, _⟩ => ⟨S1x8192x4x64, .f32⟩
  | .hbm, ⟨59, _⟩ => ⟨S1x8192x1x64, .f32⟩
  | .hbm, ⟨60, _⟩ => ⟨S1x8192x4x64, .f32⟩
  | .hbm, ⟨61, _⟩ => ⟨S1x8192x4x64, .f32⟩
  | .hbm, ⟨62, _⟩ => ⟨S1x8192x4x64, .f32⟩
  | .hbm, ⟨63, _⟩ => ⟨S1x8192x4x128, .f32⟩
  | .hbm, ⟨64, _⟩ => ⟨S1x8192x4x128, .f32⟩
  | .hbm, ⟨65, _⟩ => ⟨S1x8192x4x64, .f32⟩
  | .hbm, ⟨66, _⟩ => ⟨S1x8192x4x64, .f32⟩
  | .hbm, ⟨67, _⟩ => ⟨S1x8192x1x64, .f32⟩
  | .hbm, ⟨68, _⟩ => ⟨S1x8192x4x64, .f32⟩
  | .hbm, ⟨69, _⟩ => ⟨S1x8192x4x64, .f32⟩
  | .hbm, ⟨70, _⟩ => ⟨S1x8192x1x64, .f32⟩
  | .hbm, ⟨71, _⟩ => ⟨S1x8192x4x64, .f32⟩
  | .hbm, ⟨72, _⟩ => ⟨S1x8192x4x64, .f32⟩
  | .hbm, ⟨73, _⟩ => ⟨S1x8192x4x64, .f32⟩
  | .hbm, ⟨74, _⟩ => ⟨S1x8192x1x64, .f32⟩
  | .hbm, ⟨75, _⟩ => ⟨S1x8192x4x64, .f32⟩
  | .hbm, ⟨76, _⟩ => ⟨S1x8192x4x64, .f32⟩
  | .hbm, ⟨77, _⟩ => ⟨S1x8192x1x64, .f32⟩
  | .hbm, ⟨78, _⟩ => ⟨S1x8192x4x64, .f32⟩
  | .hbm, ⟨79, _⟩ => ⟨S1x8192x4x64, .f32⟩
  | .hbm, ⟨80, _⟩ => ⟨S1x8192x4x64, .f32⟩
  | .hbm, ⟨81, _⟩ => ⟨S1x8192x4x128, .f32⟩
  | .hbm, ⟨82, _⟩ => ⟨S_, .f32⟩
  | .hbm, ⟨83, _⟩ => ⟨S1x8192x4x128, .f32⟩
  | .hbm, ⟨84, _⟩ => ⟨S1x8192x4x128, .f32⟩
  | .hbm, ⟨85, _⟩ => ⟨S8192x512, .f32⟩
  | .hbm, ⟨86, _⟩ => ⟨S8192x512, .f32⟩
  | .hbm, ⟨87, _⟩ => ⟨S8192x3072, .f32⟩
  | .hbm, ⟨88, _⟩ => ⟨S1024x8192, .f32⟩
  | .hbm, ⟨89, _⟩ => ⟨S1024x8192, .bf16⟩
  | .hbm, ⟨90, _⟩ => ⟨S8192x1536, .f32⟩
  | .hbm, ⟨91, _⟩ => ⟨S8192x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_cst_4 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S8192x512 : Shape := ⟨2, ![8192, 512]⟩
abbrev S8192x3072 : Shape := ⟨2, ![8192, 3072]⟩
abbrev S8192x256 : Shape := ⟨2, ![8192, 256]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S128x1024 : Shape := ⟨2, ![128, 1024]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x512, .f32⟩
  | .hbm, ⟨3, _⟩ => ⟨S8192x3072, .f32⟩
  | .hbm, ⟨4, _⟩ => ⟨S8192x256, .f32⟩
  | .hbm, ⟨5, _⟩ => ⟨S8192x512, .bf16⟩
  | .hbm, ⟨6, _⟩ => ⟨S8192x512, .bf16⟩
  | .hbm, ⟨7, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x256, .f32⟩
  | .local _ .vmem, ⟨8, _⟩ => ⟨S512x256, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x256, .f32⟩
  | .local _ .vmem, ⟨14, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8192x1024 : Shape := ⟨2, ![8192, 1024]⟩
abbrev S1024x1024 : Shape := ⟨2, ![1024, 1024]⟩
abbrev S8192x512 : Shape := ⟨2, ![8192, 512]⟩
abbrev S8192x3072 : Shape := ⟨2, ![8192, 3072]⟩
abbrev S_ : Shape := ⟨0, ![]⟩
abbrev S8192x256 : Shape := ⟨2, ![8192, 256]⟩
abbrev S8192x4x128 : Shape := ⟨3, ![8192, 4, 128]⟩
abbrev S8192x4 : Shape := ⟨2, ![8192, 4]⟩
abbrev S8192x4x1 : Shape := ⟨3, ![8192, 4, 1]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x512, .f32⟩
  | .hbm, ⟨3, _⟩ => ⟨S8192x3072, .f32⟩
  | .hbm, ⟨4, _⟩ => ⟨S_, .f32⟩
  | .hbm, ⟨5, _⟩ => ⟨S8192x256, .f32⟩
  | .hbm, ⟨6, _⟩ => ⟨S8192x512, .f32⟩
  | .hbm, ⟨7, _⟩ => ⟨S8192x4x128, .f32⟩
  | .hbm, ⟨8, _⟩ => ⟨S_, .f32⟩
  | .hbm, ⟨9, _⟩ => ⟨S8192x4, .f32⟩
  | .hbm, ⟨10, _⟩ => ⟨S8192x4x1, .f32⟩
  | .hbm, ⟨11, _⟩ => ⟨S_, .f32⟩
  | .hbm, ⟨12, _⟩ => ⟨S8192x4x1, .f32⟩
  | .hbm, ⟨13, _⟩ => ⟨S8192x4x1, .f32⟩
  | .hbm, ⟨14, _⟩ => ⟨S8192x4x128, .f32⟩
  | .hbm, ⟨15, _⟩ => ⟨S8192x4x128, .f32⟩
  | .hbm, ⟨16, _⟩ => ⟨S8192x4x128, .f32⟩
  | .hbm, ⟨17, _⟩ => ⟨S_, .f32⟩
  | .hbm, ⟨18, _⟩ => ⟨S8192x4x128, .f32⟩
  | .hbm, ⟨19, _⟩ => ⟨S8192x4x128, .f32⟩
  | .hbm, ⟨20, _⟩ => ⟨S_, .f32⟩
  | .hbm, ⟨21, _⟩ => ⟨S8192x4, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S8192x4x128, .f32⟩
  | .hbm, ⟨27, _⟩ => ⟨S8192x4x128, .f32⟩
  | .hbm, ⟨28, _⟩ => ⟨S_, .f32⟩
  | .hbm, ⟨29, _⟩ => ⟨S8192x4x1, .f32⟩
  | .hbm, ⟨30, _⟩ => ⟨S8192x4x1, .f32⟩
  | .hbm, ⟨31, _⟩ => ⟨S8192x4x1, .f32⟩
  | .hbm, ⟨32, _⟩ => ⟨S8192x4x1, .f32⟩
  | .hbm, ⟨33, _⟩ => ⟨S_, .f32⟩
  | .hbm, ⟨34, _⟩ => ⟨S8192x4x1, .f32⟩
  | .hbm, ⟨35, _⟩ => ⟨S8192x4x1, .f32⟩
  | .hbm, ⟨36, _⟩ => ⟨S8192x4x128, .f32⟩
  | .hbm, ⟨37, _⟩ => ⟨S8192x4x128, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S1024x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x256, .f32⟩
  | .hbm, ⟨58, _⟩ => ⟨S8192x512, .f32⟩
  | .hbm, ⟨59, _⟩ => ⟨S8192x256, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x4x128, .f32⟩
  | .hbm, ⟨67, _⟩ => ⟨S8192x4x128, .f32⟩
  | .hbm, ⟨68, _⟩ => ⟨S_, .f32⟩
  | .hbm, ⟨69, _⟩ => ⟨S8192x4, .f32⟩
  | .hbm, ⟨70, _⟩ => ⟨S8192x4x1, .f32⟩
  | .hbm, ⟨71, _⟩ => ⟨S8192x4x128, .f32⟩
  | .hbm, ⟨72, _⟩ => ⟨S8192x4x128, .f32⟩
  | .hbm, ⟨73, _⟩ => ⟨S8192x4x1, .f32⟩
  | .hbm, ⟨74, _⟩ => ⟨S8192x4x128, .f32⟩
  | .hbm, ⟨75, _⟩ => ⟨S_, .f32⟩
  | .hbm, ⟨76, _⟩ => ⟨S8192x4, .f32⟩
  | .hbm, ⟨77, _⟩ => ⟨S8192x4x1, .f32⟩
  | .hbm, ⟨78, _⟩ => ⟨S_, .f32⟩
  | .hbm, ⟨79, _⟩ => ⟨S8192x4x1, .f32⟩
  | .hbm, ⟨80, _⟩ => ⟨S8192x4x1, .f32⟩
  | .hbm, ⟨81, _⟩ => ⟨S_, .f32⟩
  | .hbm, ⟨82, _⟩ => ⟨S8192x4, .f32⟩
  | .hbm, ⟨83, _⟩ => ⟨S8192x4x128, .f32⟩
  | .hbm, ⟨84, _⟩ => ⟨S8192x4x128, .f32⟩
  | .hbm, ⟨85, _⟩ => ⟨S8192x4x128, .f32⟩
  | .hbm, ⟨86, _⟩ => ⟨S_, .f32⟩
  | .hbm, ⟨87, _⟩ => ⟨S8192x4, .f32⟩
  | .hbm, ⟨88, _⟩ => ⟨S8192x4x1, .f32⟩
  | .hbm, ⟨89, _⟩ => ⟨S8192x4x128, .f32⟩
  | .hbm, ⟨90, _⟩ => ⟨S8192x4x1, .f32⟩
  | .hbm, ⟨91, _⟩ => ⟨S_, .f32⟩
  | .hbm, ⟨92, _⟩ => ⟨S8192x4x1, .f32⟩
  | .hbm, ⟨93, _⟩ => ⟨S8192x4x1, .f32⟩
  | .hbm, ⟨94, _⟩ => ⟨S_, .f32⟩
  | .hbm, ⟨95, _⟩ => ⟨S8192x4, .f32⟩
  | .hbm, ⟨96, _⟩ => ⟨S8192x4x128, .f32⟩
  | .hbm, ⟨97, _⟩ => ⟨S8192x4x128, .f32⟩
  | .hbm, ⟨98, _⟩ => ⟨S8192x512, .f32⟩
  | .hbm, ⟨99, _⟩ => ⟨S8192x512, .bf16⟩
  | .hbm, ⟨100, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v27_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v27_1 : Ref sig .tc := ⟨.hbm, 50, rfl⟩
abbrev main_v27_0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]
-- ==== Kernel14.lean ====
abbrev S2048x768 : Shape := ⟨2, ![2048, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1408x1024 : Shape := ⟨2, ![1408, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1144x128 : Shape := ⟨2, ![1144, 128]⟩

abbrev nBuf : Space → Nat
  | .hbm => 7
  | .vmem => 7
  | .smem => 0
  | _ => 0

abbrev bufTy : (tb : Table) → Fin (tcTables nBuf tb) → BufTy
  | .hbm, ⟨0, _⟩ => ⟨S1144x128, .f32⟩
  | .hbm, ⟨1, _⟩ => ⟨S1144x128, .f32⟩
  | .hbm, ⟨2, _⟩ => ⟨S1144x128, .f32⟩
  | .hbm, ⟨3, _⟩ => ⟨S1144x128, .f32⟩
  | .hbm, ⟨4, _⟩ => ⟨S1144x128, .f32⟩
  | .hbm, ⟨5, _⟩ => ⟨S1144x128, .f32⟩
  | .hbm, ⟨6, _⟩ => ⟨S1144x128, .f32⟩
  | .local _ .vmem, ⟨0, _⟩ => ⟨S1144x128, .f32⟩
  | .local _ .vmem, ⟨1, _⟩ => ⟨S1144x128, .f32⟩
  | .local _ .vmem, ⟨2, _⟩ => ⟨S1144x128, .f32⟩
  | .local _ .vmem, ⟨3, _⟩ => ⟨S1144x128, .f32⟩
  | .local _ .vmem, ⟨4, _⟩ => ⟨S1144x128, .f32⟩
  | .local _ .vmem, ⟨5, _⟩ => ⟨S1144x128, .f32⟩
  | .local _ .vmem, ⟨6, _⟩ => ⟨S1144x128, .f32⟩
  | _, _ => ⟨S1144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S1144x128 : Shape := ⟨2, ![1144, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1144x128, .f32⟩
  | .hbm, ⟨1, _⟩ => ⟨S1144x128, .f32⟩
  | .hbm, ⟨2, _⟩ => ⟨S1144x128, .f32⟩
  | .hbm, ⟨3, _⟩ => ⟨S1144x128, .f32⟩
  | .hbm, ⟨4, _⟩ => ⟨S_, .f32⟩
  | .hbm, ⟨5, _⟩ => ⟨S1144x128, .f32⟩
  | .hbm, ⟨6, _⟩ => ⟨S1144x128, .f32⟩
  | .hbm, ⟨7, _⟩ => ⟨S_, .f32⟩
  | .hbm, ⟨8, _⟩ => ⟨S1144x128, .f32⟩
  | .hbm, ⟨9, _⟩ => ⟨S1144x128, .f32⟩
  | .hbm, ⟨10, _⟩ => ⟨S1144x128, .f32⟩
  | .hbm, ⟨11, _⟩ => ⟨S_, .f32⟩
  | .hbm, ⟨12, _⟩ => ⟨S1144x128, .f32⟩
  | .hbm, ⟨13, _⟩ => ⟨S1144x128, .f32⟩
  | .hbm, ⟨14, _⟩ => ⟨S1144x128, .f32⟩
  | .hbm, ⟨15, _⟩ => ⟨S_, .f32⟩
  | .hbm, ⟨16, _⟩ => ⟨S1144x128, .f32⟩
  | .hbm, ⟨17, _⟩ => ⟨S1144x128, .f32⟩
  | .hbm, ⟨18, _⟩ => ⟨S1144x128, .f32⟩
  | .hbm, ⟨19, _⟩ => ⟨S_, .f32⟩
  | .hbm, ⟨20, _⟩ => ⟨S1144x128, .f32⟩
  | .hbm, ⟨21, _⟩ => ⟨S1144x128, .f32⟩
  | .hbm, ⟨22, _⟩ => ⟨S_, .f32⟩
  | .hbm, ⟨23, _⟩ => ⟨S1144x128, .f32⟩
  | .hbm, ⟨24, _⟩ => ⟨S1144x128, .f32⟩
  | .hbm, ⟨25, _⟩ => ⟨S1144x128, .f32⟩
  | .hbm, ⟨26, _⟩ => ⟨S_, .f32⟩
  | .hbm, ⟨27, _⟩ => ⟨S1144x128, .f32⟩
  | .hbm, ⟨28, _⟩ => ⟨S1144x128, .f32⟩
  | .hbm, ⟨29, _⟩ => ⟨S1144x128, .f32⟩
  | .hbm, ⟨30, _⟩ => ⟨S_, .f32⟩
  | .hbm, ⟨31, _⟩ => ⟨S1144x128, .f32⟩
  | .hbm, ⟨32, _⟩ => ⟨S1144x128, .f32⟩
  | .hbm, ⟨33, _⟩ => ⟨S1144x128, .f32⟩
  | .hbm, ⟨34, _⟩ => ⟨S_, .f32⟩
  | .hbm, ⟨35, _⟩ => ⟨S1144x128, .f32⟩
  | .hbm, ⟨36, _⟩ => ⟨S1144x128, .f32⟩
  | _, _ => ⟨S1144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Ret.Tiles.lean ====
/- What one grid point of the retention's backward pass stores, tile by tile: for each of its four chunks and four
   heads a tile of dq, of dk and of dv, every one the same function of the tiles it loads. -/
module

public import proofs.«01_k».proof.Proof.Gen.KernelIdeal.Frame

@[expose] public section

noncomputable section

namespace Cert.Ret

open Cert.KernelIdeal Cert.KernelIdeal.Gen Idealize.ShloMosaic Idealize.SL.Sem

variable {F : FTy → Type} [FloatOps F]

/-- The tile of dv: from the tiles of q, k and the output's cotangent, the transposed decay mask, the two states'
    cotangents and the two rows of decays. -/
def pDV (q k da : Vec F S128x128 .bf16) (dmt : Vec F S1x128x128 .f32) (gf gb : Vec F S1x128x128 .bf16)
    (zf zb : Vec F S128x128 .f32) : FVec F S128x128 .bf16 :=
  k0_pay24 (k0_pay17 (k0_pay5 k) da (k0_pay8 q k dmt) (k0_pay13 gf) gb zf zb)

/-- The tile of dq, rotated back. -/
def pDQ (k v da : Vec F S128x128 .bf16) (dm : Vec F S1x128x128 .f32) (sf sb : Vec F S1x128x128 .bf16)
    (xif xib cs sn : Vec F S128x128 .f32) : FVec F S128x128 .bf16 :=
  k0_pay22 (k0_pay20 (k0_pay2 cs) (k0_pay5 k) da (k0_pay9 v da dm) (k0_pay11 sf) (k0_pay12 sb) xif xib)
    (k0_pay21 (k0_pay3 sn) (k0_pay5 k) da (k0_pay9 v da dm) (k0_pay11 sf) (k0_pay12 sb) xif xib)

/-- The tile of dk, rotated back and scaled. -/
def pDK (q v da : Vec F S128x128 .bf16) (dmt : Vec F S1x128x128 .f32) (gf gb : Vec F S1x128x128 .bf16)
    (zf zb cs sn : Vec F S128x128 .f32) : FVec F S128x128 .bf16 :=
  k0_pay23 (k0_pay2 cs) (k0_pay3 sn) (k0_pay19 (k0_pay4 q) (k0_pay6 v) (k0_pay10 v da dmt) (k0_pay13 gf) gb zf zb)

/-- The block a grid point writes is the join of these tiles. -/
theorem out_tiles (x0 x1 x2 x3 : Vec F S512x512 .bf16) (x4 x5 x6 x7 : Vec F S4x128x512 .bf16) (x8 x9 : Vec F S4x128x128 .f32) (x10 x11 x12 x13 : Vec F S128x512 .f32) (x14 x15 : Vec F S512x128 .f32) :
    out0_16 x0 x1 x2 x3 x4 x5 x6 x7 x8 x9 x10 x11 x12 x13 x14 x15 = View.canon (
      ⟨r0_91, pDV (View.ld x0 r0_87) (View.ld x1 r0_87) (View.ld x3 r0_87) (View.ld x9 r0_23) (View.ld x6 r0_88) (View.ld x7 r0_88) (View.ld x12 r0_25) (View.ld x13 r0_25)⟩ ::
      ⟨r0_90, pDK (View.ld x0 r0_87) (View.ld x2 r0_87) (View.ld x3 r0_87) (View.ld x9 r0_23) (View.ld x6 r0_88) (View.ld x7 r0_88) (View.ld x12 r0_25) (View.ld x13 r0_25) (View.ld x14 r0_71) (View.ld x15 r0_71)⟩ ::
      ⟨r0_89, pDQ (View.ld x1 r0_87) (View.ld x2 r0_87) (View.ld x3 r0_87) (View.ld x8 r0_23) (View.ld x4 r0_88) (View.ld x5 r0_88) (View.ld x10 r0_25) (View.ld x11 r0_25) (View.ld x14 r0_71) (View.ld x15 r0_71)⟩ ::
      ⟨r0_86, pDV (View.ld x0 r0_82) (View.ld x1 r0_82) (View.ld x3 r0_82) (View.ld x9 r0_16) (View.ld x6 r0_83) (View.ld x7 r0_83) (View.ld x12 r0_18) (View.ld x13 r0_18)⟩ ::
      ⟨r0_85, pDK (View.ld x0 r0_82) (View.ld x2 r0_82) (View.ld x3 r0_82) (View.ld x9 r0_16) (View.ld x6 r0_83) (View.ld x7 r0_83) (View.ld x12 r0_18) (View.ld x13 r0_18) (View.ld x14 r0_71) (View.ld x15 r0_71)⟩ ::
      ⟨r0_84, pDQ (View.ld x1 r0_82) (View.ld x2 r0_82) (View.ld x3 r0_82) (View.ld x8 r0_16) (View.ld x4 r0_83) (View.ld x5 r0_83) (View.ld x10 r0_18) (View.ld x11 r0_18) (View.ld x14 r0_71) (View.ld x15 r0_71)⟩ ::
      ⟨r0_81, pDV (View.ld x0 r0_77) (View.ld x1 r0_77) (View.ld x3 r0_77) (View.ld x9 r0_9) (View.ld x6 r0_78) (View.ld x7 r0_78) (View.ld x12 r0_11) (View.ld x13 r0_11)⟩ ::
      ⟨r0_80, pDK (View.ld x0 r0_77) (View.ld x2 r0_77) (View.ld x3 r0_77) (View.ld x9 r0_9) (View.ld x6 r0_78) (View.ld x7 r0_78) (View.ld x12 r0_11) (View.ld x13 r0_11) (View.ld x14 r0_71) (View.ld x15 r0_71)⟩ ::
      ⟨r0_79, pDQ (View.ld x1 r0_77) (View.ld x2 r0_77) (View.ld x3 r0_77) (View.ld x8 r0_9) (View.ld x4 r0_78) (View.ld x5 r0_78) (View.ld x10 r0_11) (View.ld x11 r0_11) (View.ld x14 r0_71) (View.ld x15 r0_71)⟩ ::
      ⟨r0_76, pDV (View.ld x0 r0_72) (View.ld x1 r0_72) (View.ld x3 r0_72) (View.ld x9 r0_2) (View.ld x6 r0_73) (View.ld x7 r0_73) (View.ld x12 r0_4) (View.ld x13 r0_4)⟩ ::
      ⟨r0_75, pDK (View.ld x0 r0_72) (View.ld x2 r0_72) (View.ld x3 r0_72) (View.ld x9 r0_2) (View.ld x6 r0_73) (View.ld x7 r0_73) (View.ld x12 r0_4) (View.ld x13 r0_4) (View.ld x14 r0_71) (View.ld x15 r0_71)⟩ ::
      ⟨r0_74, pDQ (View.ld x1 r0_72) (View.ld x2 r0_72) (View.ld x3 r0_72) (View.ld x8 r0_2) (View.ld x4 r0_73) (View.ld x5 r0_73) (View.ld x10 r0_4) (View.ld x11 r0_4) (View.ld x14 r0_71) (View.ld x15 r0_71)⟩ ::
      ⟨r0_70, pDV (View.ld x0 r0_66) (View.ld x1 r0_66) (View.ld x3 r0_66) (View.ld x9 r0_23) (View.ld x6 r0_67) (View.ld x7 r0_67) (View.ld x12 r0_25) (View.ld x13 r0_25)⟩ ::
      ⟨r0_69, pDK (View.ld x0 r0_66) (View.ld x2 r0_66) (View.ld x3 r0_66) (View.ld x9 r0_23) (View.ld x6 r0_67) (View.ld x7 r0_67) (View.ld x12 r0_25) (View.ld x13 r0_25) (View.ld x14 r0_50) (View.ld x15 r0_50)⟩ ::
      ⟨r0_68, pDQ (View.ld x1 r0_66) (View.ld x2 r0_66) (View.ld x3 r0_66) (View.ld x8 r0_23) (View.ld x4 r0_67) (View.ld x5 r0_67) (View.ld x10 r0_25) (View.ld x11 r0_25) (View.ld x14 r0_50) (View.ld x15 r0_50)⟩ ::
      ⟨r0_65, pDV (View.ld x0 r0_61) (View.ld x1 r0_61) (View.ld x3 r0_61) (View.ld x9 r0_16) (View.ld x6 r0_62) (View.ld x7 r0_62) (View.ld x12 r0_18) (View.ld x13 r0_18)⟩ ::
      ⟨r0_64, pDK (View.ld x0 r0_61) (View.ld x2 r0_61) (View.ld x3 r0_61) (View.ld x9 r0_16) (View.ld x6 r0_62) (View.ld x7 r0_62) (View.ld x12 r0_18) (View.ld x13 r0_18) (View.ld x14 r0_50) (View.ld x15 r0_50)⟩ ::
      ⟨r0_63, pDQ (View.ld x1 r0_61) (View.ld x2 r0_61) (View.ld x3 r0_61) (View.ld x8 r0_16) (View.ld x4 r0_62) (View.ld x5 r0_62) (View.ld x10 r0_18) (View.ld x11 r0_18) (View.ld x14 r0_50) (View.ld x15 r0_50)⟩ ::
      ⟨r0_60, pDV (View.ld x0 r0_56) (View.ld x1 r0_56) (View.ld x3 r0_56) (View.ld x9 r0_9) (View.ld x6 r0_57) (View.ld x7 r0_57) (View.ld x12 r0_11) (View.ld x13 r0_11)⟩ ::
      ⟨r0_59, pDK (View.ld x0 r0_56) (View.ld x2 r0_56) (View.ld x3 r0_56) (View.ld x9 r0_9) (View.ld x6 r0_57) (View.ld x7 r0_57) (View.ld x12 r0_11) (View.ld x13 r0_11) (View.ld x14 r0_50) (View.ld x15 r0_50)⟩ ::
      ⟨r0_58, pDQ (View.ld x1 r0_56) (View.ld x2 r0_56) (View.ld x3 r0_56) (View.ld x8 r0_9) (View.ld x4 r0_57) (View.ld x5 r0_57) (View.ld x10 r0_11) (View.ld x11 r0_11) (View.ld x14 r0_50) (View.ld x15 r0_50)⟩ ::
      ⟨r0_55, pDV (View.ld x0 r0_51) (View.ld x1 r0_51) (View.ld x3 r0_51) (View.ld x9 r0_2) (View.ld x6 r0_52) (View.ld x7 r0_52) (View.ld x12 r0_4) (View.ld x13 r0_4)⟩ ::
      ⟨r0_54, pDK (View.ld x0 r0_51) (View.ld x2 r0_51) (View.ld x3 r0_51) (View.ld x9 r0_2) (View.ld x6 r0_52) (View.ld x7 r0_52) (View.ld x12 r0_4) (View.ld x13 r0_4) (View.ld x14 r0_50) (View.ld x15 r0_50)⟩ ::
      ⟨r0_53, pDQ (View.ld x1 r0_51) (View.ld x2 r0_51) (View.ld x3 r0_51) (View.ld x8 r0_2) (View.ld x4 r0_52) (View.ld x5 r0_52) (View.ld x10 r0_4) (View.ld x11 r0_4) (View.ld x14 r0_50) (View.ld x15 r0_50)⟩ ::
      ⟨r0_49, pDV (View.ld x0 r0_45) (View.ld x1 r0_45) (View.ld x3 r0_45) (View.ld x9 r0_23) (View.ld x6 r0_46) (View.ld x7 r0_46) (View.ld x12 r0_25) (View.ld x13 r0_25)⟩ ::
      ⟨r0_48, pDK (View.ld x0 r0_45) (View.ld x2 r0_45) (View.ld x3 r0_45) (View.ld x9 r0_23) (View.ld x6 r0_46) (View.ld x7 r0_46) (View.ld x12 r0_25) (View.ld x13 r0_25) (View.ld x14 r0_29) (View.ld x15 r0_29)⟩ ::
      ⟨r0_47, pDQ (View.ld x1 r0_45) (View.ld x2 r0_45) (View.ld x3 r0_45) (View.ld x8 r0_23) (View.ld x4 r0_46) (View.ld x5 r0_46) (View.ld x10 r0_25) (View.ld x11 r0_25) (View.ld x14 r0_29) (View.ld x15 r0_29)⟩ ::
      ⟨r0_44, pDV (View.ld x0 r0_40) (View.ld x1 r0_40) (View.ld x3 r0_40) (View.ld x9 r0_16) (View.ld x6 r0_41) (View.ld x7 r0_41) (View.ld x12 r0_18) (View.ld x13 r0_18)⟩ ::
      ⟨r0_43, pDK (View.ld x0 r0_40) (View.ld x2 r0_40) (View.ld x3 r0_40) (View.ld x9 r0_16) (View.ld x6 r0_41) (View.ld x7 r0_41) (View.ld x12 r0_18) (View.ld x13 r0_18) (View.ld x14 r0_29) (View.ld x15 r0_29)⟩ ::
      ⟨r0_42, pDQ (View.ld x1 r0_40) (View.ld x2 r0_40) (View.ld x3 r0_40) (View.ld x8 r0_16) (View.ld x4 r0_41) (View.ld x5 r0_41) (View.ld x10 r0_18) (View.ld x11 r0_18) (View.ld x14 r0_29) (View.ld x15 r0_29)⟩ ::
      ⟨r0_39, pDV (View.ld x0 r0_35) (View.ld x1 r0_35) (View.ld x3 r0_35) (View.ld x9 r0_9) (View.ld x6 r0_36) (View.ld x7 r0_36) (View.ld x12 r0_11) (View.ld x13 r0_11)⟩ ::
      ⟨r0_38, pDK (View.ld x0 r0_35) (View.ld x2 r0_35) (View.ld x3 r0_35) (View.ld x9 r0_9) (View.ld x6 r0_36) (View.ld x7 r0_36) (View.ld x12 r0_11) (View.ld x13 r0_11) (View.ld x14 r0_29) (View.ld x15 r0_29)⟩ ::
      ⟨r0_37, pDQ (View.ld x1 r0_35) (View.ld x2 r0_35) (View.ld x3 r0_35) (View.ld x8 r0_9) (View.ld x4 r0_36) (View.ld x5 r0_36) (View.ld x10 r0_11) (View.ld x11 r0_11) (View.ld x14 r0_29) (View.ld x15 r0_29)⟩ ::
      ⟨r0_34, pDV (View.ld x0 r0_30) (View.ld x1 r0_30) (View.ld x3 r0_30) (View.ld x9 r0_2) (View.ld x6 r0_31) (View.ld x7 r0_31) (View.ld x12 r0_4) (View.ld x13 r0_4)⟩ ::
      ⟨r0_33, pDK (View.ld x0 r0_30) (View.ld x2 r0_30) (View.ld x3 r0_30) (View.ld x9 r0_2) (View.ld x6 r0_31) (View.ld x7 r0_31) (View.ld x12 r0_4) (View.ld x13 r0_4) (View.ld x14 r0_29) (View.ld x15 r0_29)⟩ ::
      ⟨r0_32, pDQ (View.ld x1 r0_30) (View.ld x2 r0_30) (View.ld x3 r0_30) (View.ld x8 r0_2) (View.ld x4 r0_31) (View.ld x5 r0_31) (View.ld x10 r0_4) (View.ld x11 r0_4) (View.ld x14 r0_29) (View.ld x15 r0_29)⟩ ::
      ⟨r0_28, pDV (View.ld x0 r0_22) (View.ld x1 r0_22) (View.ld x3 r0_22) (View.ld x9 r0_23) (View.ld x6 r0_24) (View.ld x7 r0_24) (View.ld x12 r0_25) (View.ld x13 r0_25)⟩ ::
      ⟨r0_27, pDK (View.ld x0 r0_22) (View.ld x2 r0_22) (View.ld x3 r0_22) (View.ld x9 r0_23) (View.ld x6 r0_24) (View.ld x7 r0_24) (View.ld x12 r0_25) (View.ld x13 r0_25) (View.ld x14 r0_0) (View.ld x15 r0_0)⟩ ::
      ⟨r0_26, pDQ (View.ld x1 r0_22) (View.ld x2 r0_22) (View.ld x3 r0_22) (View.ld x8 r0_23) (View.ld x4 r0_24) (View.ld x5 r0_24) (View.ld x10 r0_25) (View.ld x11 r0_25) (View.ld x14 r0_0) (View.ld x15 r0_0)⟩ ::
      ⟨r0_21, pDV (View.ld x0 r0_15) (View.ld x1 r0_15) (View.ld x3 r0_15) (View.ld x9 r0_16) (View.ld x6 r0_17) (View.ld x7 r0_17) (View.ld x12 r0_18) (View.ld x13 r0_18)⟩ ::
      ⟨r0_20, pDK (View.ld x0 r0_15) (View.ld x2 r0_15) (View.ld x3 r0_15) (View.ld x9 r0_16) (View.ld x6 r0_17) (View.ld x7 r0_17) (View.ld x12 r0_18) (View.ld x13 r0_18) (View.ld x14 r0_0) (View.ld x15 r0_0)⟩ ::
      ⟨r0_19, pDQ (View.ld x1 r0_15) (View.ld x2 r0_15) (View.ld x3 r0_15) (View.ld x8 r0_16) (View.ld x4 r0_17) (View.ld x5 r0_17) (View.ld x10 r0_18) (View.ld x11 r0_18) (View.ld x14 r0_0) (View.ld x15 r0_0)⟩ ::
      ⟨r0_14, pDV (View.ld x0 r0_8) (View.ld x1 r0_8) (View.ld x3 r0_8) (View.ld x9 r0_9) (View.ld x6 r0_10) (View.ld x7 r0_10) (View.ld x12 r0_11) (View.ld x13 r0_11)⟩ ::
      ⟨r0_13, pDK (View.ld x0 r0_8) (View.ld x2 r0_8) (View.ld x3 r0_8) (View.ld x9 r0_9) (View.ld x6 r0_10) (View.ld x7 r0_10) (View.ld x12 r0_11) (View.ld x13 r0_11) (View.ld x14 r0_0) (View.ld x15 r0_0)⟩ ::
      ⟨r0_12, pDQ (View.ld x1 r0_8) (View.ld x2 r0_8) (View.ld x3 r0_8) (View.ld x8 r0_9) (View.ld x4 r0_10) (View.ld x5 r0_10) (View.ld x10 r0_11) (View.ld x11 r0_11) (View.ld x14 r0_0) (View.ld x15 r0_0)⟩ ::
      ⟨r0_7, pDV (View.ld x0 r0_1) (View.ld x1 r0_1) (View.ld x3 r0_1) (View.ld x9 r0_2) (View.ld x6 r0_3) (View.ld x7 r0_3) (View.ld x12 r0_4) (View.ld x13 r0_4)⟩ ::
      ⟨r0_6, pDK (View.ld x0 r0_1) (View.ld x2 r0_1) (View.ld x3 r0_1) (View.ld x9 r0_2) (View.ld x6 r0_3) (View.ld x7 r0_3) (View.ld x12 r0_4) (View.ld x13 r0_4) (View.ld x14 r0_0) (View.ld x15 r0_0)⟩ ::
      ⟨r0_5, pDQ (View.ld x1 r0_1) (View.ld x2 r0_1) (View.ld x3 r0_1) (View.ld x8 r0_2) (View.ld x4 r0_3) (View.ld x5 r0_3) (View.ld x10 r0_4) (View.ld x11 r0_4) (View.ld x14 r0_0) (View.ld x15 r0_0)⟩ :: []) := rfl

end Cert.Ret

end
-- ==== Proof.Ret.Math.lean ====
/- The arithmetic of the retention's backward pass over the extended reals: one chunk of one head as the kernel
   computes it from the masks' sum, and as the derivative of the two directions gives it; the two agree. -/
module

public import Idealize.ShloMosaic.PureOps.Ideal.Laws

@[expose] public section

noncomputable section

namespace Cert.Ret

/-- A chunk of one head. -/
abbrev M := Fin 128 → Fin 128 → EReal

/-- Lane `d` of head `h`. -/
abbrev hd (h : Fin 4) (d : Fin 128) : Fin 512 := ⟨h.val * 128 + d.val, by omega⟩

/-- Lane `d` of head `h` of the `w`-th of the three gradients (or of q, k and v). -/
abbrev col (w : Fin 3) (h : Fin 4) (d : Fin 128) : Fin 1536 := ⟨w.val * 512 + (h.val * 128 + d.val), by omega⟩

/-- Row `i` of chunk `n` of the sequence. -/
abbrev sq (n : Fin 64) (i : Fin 128) : Fin 8192 := ⟨n.val * 128 + i.val, by omega⟩

/-- The scale 128^(-1/2) as the kernel has it. -/
abbrev scale : EReal := Idealize.ShloMosaic.Ideal.ofBits Idealize.ShloMosaic.FTy.f32 1035273459#32

/-- The lane half a head away, which the rotation pairs with lane `d`. -/
def opp (d : Fin 128) : Fin 128 := ⟨(d.val + 128 - 64) % 128, Nat.mod_lt _ (by decide)⟩

/-- The lane's place in its half of the head. -/
def half (d : Fin 128) : Fin 64 := ⟨d.val % 64, Nat.mod_lt _ (by decide)⟩

/-- dv as the kernel's tile has it. -/
def dvK (q k da dmt gf gb zf zb : M) : M := fun i e =>
  ∑ x, (∑ y, k i y * q x y) * dmt i x * da x e + zf i e * ∑ x, k i x * gf x e + zb i e * ∑ x, k i x * gb x e

/-- dq before it is rotated back, as the kernel's tile has it. -/
def dqK (k v da dm sf sb xif xib : M) : M := fun i e =>
  ∑ x, (∑ y, da i y * v x y) * dm i x * k x e + xif i e * ∑ x, da i x * sf e x + xib i e * ∑ x, da i x * sb e x

/-- dk before it is rotated back, as the kernel's tile has it. -/
def dkK (q v da dmt gf gb zf zb : M) : M := fun i e =>
  ∑ x, (∑ y, v i y * da x y) * dmt i x * q x e + ∑ x, zf i x * v i x * gf e x + ∑ x, zb i x * v i x * gb e x

/-- The rotation's transpose as the kernel has it: a multiple of the lane plus a multiple of its partner. -/
def rotK (x cs sn : M) : M := fun i d => x i d * cs i d + x i (opp d) * sn i (opp d)

/-- One direction's part of dv. -/
def dvR (q k da dd g : M) (z : Fin 128 → EReal) : M := fun i e =>
  (∑ x, g x e * k i x) * z i + ∑ x, da x e * ((∑ y, q x y * k i y) * dd x i)

/-- One direction's part of dk, before it is rotated back. -/
def dkR (q v da dd g : M) (z : Fin 128 → EReal) : M := fun i e =>
  ∑ x, g e x * (v i x * z i) + ∑ x, ((∑ y, da x y * v i y) * dd x i) * q x e

/-- One direction's part of dq, before it is rotated back. -/
def dqR (k v da dd s : M) (xi : Fin 128 → EReal) : M := fun i e =>
  ∑ x, (da i x * xi i) * s e x + ∑ x, ((∑ y, da i y * v x y) * dd i x) * k x e

/-- The rotation's transpose as the derivative of the reference's rotation has it. -/
def rotR (x : M) (cos sin : Fin 128 → Fin 64 → EReal) : M := fun i d =>
  if d.val < 64 then x i (opp d) * sin i (half d) + x i d * cos i (half d)
  else x i d * cos i (half d) + (-x i (opp d)) * sin i (half d)

theorem mul_sum_of_real {ι : Type} [Fintype ι] (r : ℝ) (hr : 0 ≤ r) (f : ι → EReal) :
    (r : EReal) * ∑ x, f x = ∑ x, (r : EReal) * f x := by
  classical
  induction (Finset.univ : Finset ι) using Finset.induction_on with
  | empty => simp
  | insert a s ha ih =>
    rw [Finset.sum_insert ha, Finset.sum_insert ha, EReal.left_distrib_of_nonneg_of_ne_top (by exact_mod_cast hr) (EReal.coe_ne_top r), ih]

/-- A product with the sum of two numbers of which one is zero splits. -/
theorem mul_add_of_zero (a b c : EReal) (h : b = 0 ∨ c = 0) : a * (b + c) = a * b + a * c := by
  rcases h with rfl | rfl <;> simp

theorem dv_eq (q k da dmt gf gb zf zb : M) (df db : M) (zf' zb' : Fin 128 → EReal)
    (hd : ∀ i x, dmt i x = df x i + db x i) (h0 : ∀ x i, df x i = 0 ∨ db x i = 0)
    (hf : ∀ i e, zf i e = zf' i) (hb : ∀ i e, zb i e = zb' i) (i e : Fin 128) :
    dvK q k da dmt gf gb zf zb i e = dvR q k da db gb zb' i e + dvR q k da df gf zf' i e := by
  have h1 : ∀ x, (∑ y, k i y * q x y) * dmt i x * da x e
      = da x e * ((∑ y, q x y * k i y) * df x i) + da x e * ((∑ y, q x y * k i y) * db x i) := fun x => by
    rw [hd i x, show (∑ y, k i y * q x y) = ∑ y, q x y * k i y from Finset.sum_congr rfl fun y _ => mul_comm _ _,
      mul_add_of_zero _ _ _ (h0 x i), mul_comm _ (da x e)]
    refine mul_add_of_zero _ _ _ ?_
    rcases h0 x i with h | h <;> rw [h] <;> simp
  unfold dvK dvR
  rw [Finset.sum_congr rfl fun x _ => h1 x, Finset.sum_add_distrib, hf i e, hb i e, mul_comm (zf' i), mul_comm (zb' i),
    Finset.sum_congr rfl fun x _ => mul_comm (k i x) (gf x e), Finset.sum_congr rfl fun x _ => mul_comm (k i x) (gb x e)]
  abel

theorem dk_eq (q v da dmt gf gb zf zb : M) (df db : M) (zf' zb' : Fin 128 → EReal)
    (hd : ∀ i x, dmt i x = df x i + db x i) (h0 : ∀ x i, df x i = 0 ∨ db x i = 0)
    (hf : ∀ i e, zf i e = zf' i) (hb : ∀ i e, zb i e = zb' i) (i e : Fin 128) :
    dkK q v da dmt gf gb zf zb i e = dkR q v da db gb zb' i e + dkR q v da df gf zf' i e := by
  have h1 : ∀ x, (∑ y, v i y * da x y) * dmt i x * q x e
      = ((∑ y, da x y * v i y) * df x i) * q x e + ((∑ y, da x y * v i y) * db x i) * q x e := fun x => by
    rw [hd i x, show (∑ y, v i y * da x y) = ∑ y, da x y * v i y from Finset.sum_congr rfl fun y _ => mul_comm _ _,
      mul_add_of_zero _ _ _ (h0 x i), mul_comm _ (q x e), mul_comm _ (q x e), mul_comm _ (q x e)]
    refine mul_add_of_zero _ _ _ ?_
    rcases h0 x i with h | h <;> rw [h] <;> simp
  have h2 : ∀ (z : M) (z' : Fin 128 → EReal) (g : M), (∀ i e, z i e = z' i) →
      (∑ x, z i x * v i x * g e x) = ∑ x, g e x * (v i x * z' i) := fun z z' g h =>
    Finset.sum_congr rfl fun x _ => by rw [h i x, mul_comm (z' i), mul_comm]
  unfold dkK dkR
  rw [Finset.sum_congr rfl fun x _ => h1 x, Finset.sum_add_distrib, h2 zf zf' gf hf, h2 zb zb' gb hb]
  abel

theorem dq_eq (k v da dm sf sb xif xib : M) (df db : M) (xif' xib' : Fin 128 → EReal)
    (hd : ∀ i x, dm i x = df i x + db i x) (h0 : ∀ i x, df i x = 0 ∨ db i x = 0)
    (hf : ∀ i e, xif i e = xif' i) (hb : ∀ i e, xib i e = xib' i)
    (rf : ∀ i, ∃ r : ℝ, 0 ≤ r ∧ xif' i = r) (rb : ∀ i, ∃ r : ℝ, 0 ≤ r ∧ xib' i = r) (i e : Fin 128) :
    dqK k v da dm sf sb xif xib i e = dqR k v da db sb xib' i e + dqR k v da df sf xif' i e := by
  have h1 : ∀ x, (∑ y, da i y * v x y) * dm i x * k x e
      = ((∑ y, da i y * v x y) * df i x) * k x e + ((∑ y, da i y * v x y) * db i x) * k x e := fun x => by
    rw [hd i x, mul_add_of_zero _ _ _ (h0 i x), mul_comm _ (k x e), mul_comm _ (k x e), mul_comm _ (k x e)]
    refine mul_add_of_zero _ _ _ ?_
    rcases h0 i x with h | h <;> rw [h] <;> simp
  have h2 : ∀ (z : Fin 128 → EReal) (s : M), (∀ i, ∃ r : ℝ, 0 ≤ r ∧ z i = r) →
      z i * (∑ x, da i x * s e x) = ∑ x, (da i x * z i) * s e x := fun z s h => by
    obtain ⟨r, hr, hz⟩ := h i
    rw [hz, mul_sum_of_real r hr]
    exact Finset.sum_congr rfl fun x _ => by rw [mul_comm (da i x) (r : EReal), mul_assoc]
  unfold dqK dqR
  rw [Finset.sum_congr rfl fun x _ => h1 x, Finset.sum_add_distrib, hf i e, hb i e, h2 xif' sf rf, h2 xib' sb rb]
  abel

theorem rot_eq (x cs sn : M) (cos sin : Fin 128 → Fin 64 → EReal)
    (hc : ∀ i d, cs i d = cos i (half d))
    (hs : ∀ i d, sn i d = if d.val < 64 then -sin i (half d) else sin i (half d)) (i d : Fin 128) :
    rotK x cs sn i d = rotR x cos sin i d := by
  have hh : half (opp d) = half d := by
    apply Fin.ext; show (d.val + 128 - 64) % 128 % 64 = d.val % 64; have := d.isLt; omega
  have ho : (opp d).val < 64 ↔ ¬ d.val < 64 := by
    show (d.val + 128 - 64) % 128 < 64 ↔ _; have := d.isLt; omega
  unfold rotK rotR
  rw [hc, hs, hh]
  by_cases h : d.val < 64
  · rw [if_pos h, if_neg (by rw [ho]; exact not_not.mpr h), add_comm]
  · rw [if_neg h, if_pos (ho.mpr h), EReal.neg_mul, mul_neg]

/-- The rotation's transpose of a scaled chunk is the scaled transpose. -/
theorem rotR_scale (x : M) (cos sin : Fin 128 → Fin 64 → EReal) (r : ℝ) (hr : 0 ≤ r) (i d : Fin 128) :
    rotR (fun i d => x i d * r) cos sin i d = rotR x cos sin i d * r := by
  have hd : ∀ a b : EReal, (a + b) * r = a * r + b * r := fun a b =>
    EReal.right_distrib_of_nonneg_of_ne_top (by exact_mod_cast hr) (EReal.coe_ne_top r) a b
  unfold rotR
  split
  · rw [hd, mul_right_comm, mul_right_comm (x i d)]
  · rw [hd, mul_right_comm, ← EReal.neg_mul, mul_right_comm (-x i (opp d))]

end Cert.Ret

end
-- ==== Proof.Ret.TileAt.lean ====
/- The kernel's three tiles read at an index. -/
module

public import proofs.«01_k».proof.Proof.Ret.Tiles
public import proofs.«01_k».proof.Proof.Ret.Math
public import Idealize.ShloMosaic.Lib.Pointwise

@[expose] public section

noncomputable section

namespace Cert.Ret

open Cert.KernelIdeal Cert.KernelIdeal.Gen Idealize.ShloMosaic Idealize.ShloMosaic.Pointwise Idealize.SL.Sem

/-- A tile as a chunk of one head. -/
abbrev tile (x : S128x128.Idx → EReal) : M := fun i d => x (ix2 i d)

/-- A head's mask, or a chunk's state, as a chunk of one head. -/
abbrev tile1 (x : S1x128x128.Idx → EReal) : M := fun i d => x (ix3 0 i d)

theorem pDV_at (q k da : Vec Ideal S128x128 .bf16) (dmt : Vec Ideal S1x128x128 .f32) (gf gb : Vec Ideal S1x128x128 .bf16)
    (zf zb : Vec Ideal S128x128 .f32) (i e : Fin 128) :
    pDV q k da dmt gf gb zf zb (ix2 i e)
      = dvK (tile q) (tile k) (tile da) (tile1 dmt) (tile1 gf) (tile1 gb) (tile zf) (tile zb) i e := by
  pointwise [pDV, k0_pay24, k0_pay17, k0_pay5, k0_pay8, k0_pay13, k0_pay14, k0_pay15, k0_pay16, k0_pay4, k0_pay7]
  rfl

theorem pDQ_at (k v da : Vec Ideal S128x128 .bf16) (dm : Vec Ideal S1x128x128 .f32) (sf sb : Vec Ideal S1x128x128 .bf16)
    (xif xib cs sn : Vec Ideal S128x128 .f32) (i e : Fin 128) :
    pDQ k v da dm sf sb xif xib cs sn (ix2 i e)
      = rotK (dqK (tile k) (tile v) (tile da) (tile1 dm) (tile1 sf) (tile1 sb) (tile xif) (tile xib)) (tile cs) (tile sn) i e := by
  pointwise [pDQ, k0_pay22, k0_pay20, k0_pay21, k0_pay18, k0_pay2, k0_pay3, k0_pay5, k0_pay9, k0_pay6, k0_pay11, k0_pay12]
  rfl

theorem pDK_at (q v da : Vec Ideal S128x128 .bf16) (dmt : Vec Ideal S1x128x128 .f32) (gf gb : Vec Ideal S1x128x128 .bf16)
    (zf zb cs sn : Vec Ideal S128x128 .f32) (i e : Fin 128) :
    pDK q v da dmt gf gb zf zb cs sn (ix2 i e)
      = rotK (dkK (tile q) (tile v) (tile da) (tile1 dmt) (tile1 gf) (tile1 gb) (tile zf) (tile zb)) (tile cs) (tile sn) i e
        * scale := by
  pointwise [pDK, k0_pay23, k0_pay19, k0_pay2, k0_pay3, k0_pay4, k0_pay6, k0_pay10, k0_pay7, k0_pay13, k0_pay14, k0_pay15, k0_pay16]
  rfl

end Cert.Ret

end
-- ==== Proof.Ret.Block.lean ====
/- The block a grid point of the retention's backward pass writes, read at an index: chunk, head, which of the three
   gradients, and the place in the chunk. -/
module

public import proofs.«01_k».proof.Proof.Ret.TileAt
public import Idealize.ShloMosaic.Lib.Pipeline.ValueKit

@[expose] public section

set_option pp.maxSteps 300

noncomputable section

namespace Cert.Ret

open Cert.KernelIdeal Cert.KernelIdeal.Gen Idealize.ShloMosaic Idealize.ShloMosaic.Pointwise Idealize.SL.Sem

/-- Row `i` of chunk `c` of a block. -/
abbrev rr (c : Fin 4) (i : Fin 128) : Fin 512 := ⟨c.val * 128 + i.val, by omega⟩

/-- Chunk `c`, head `h` of a block of rows. -/
abbrev chunkOf (x : S512x512.Idx → EReal) (c h : Fin 4) : M := fun i d => x (ix2 (rr c i) (hd h d))

/-- The state of chunk `c`, head `h`. -/
abbrev stateOf (x : S4x128x512.Idx → EReal) (c h : Fin 4) : M := fun d e => x (ix3 c d (hd h e))

/-- The mask of head `h`. -/
abbrev maskOf (x : S4x128x128.Idx → EReal) (h : Fin 4) : M := fun i j => x (ix3 h i j)

/-- The decays of head `h`, repeated along the lanes. -/
abbrev decayOf (x : S128x512.Idx → EReal) (h : Fin 4) : M := fun i d => x (ix2 i (hd h d))

/-- The angles' rows of chunk `c`. -/
abbrev angleOf (x : S512x128.Idx → EReal) (c : Fin 4) : M := fun i d => x (ix2 (rr c i) d)

/-- One entry of the three gradients of a chunk of a head, as the kernel has it. -/
def cellK (q k v da sf sb gf gb dm dmt xif xib zf zb cs sn : M) (w : Fin 3) (i d : Fin 128) : EReal :=
  match w with
  | 0 => rotK (dqK k v da dm sf sb xif xib) cs sn i d
  | 1 => rotK (dkK q v da dmt gf gb zf zb) cs sn i d * scale
  | 2 => dvK q k da dmt gf gb zf zb i d

/-- A place of a block of rows of the three gradients: chunk, row, gradient, head and lane. -/
def at5 (g : Fin 4 → Fin 4 → Fin 3 → Fin 128 → Fin 128 → EReal) (j : S512x1536.Idx) : EReal :=
  g ⟨(j 0).val / 128, by have : (j 0).val < 512 := (j 0).isLt; omega⟩
    ⟨(j 1).val % 512 / 128, by omega⟩
    ⟨(j 1).val / 512, by have : (j 1).val < 1536 := (j 1).isLt; omega⟩
    ⟨(j 0).val % 128, by omega⟩ ⟨(j 1).val % 128, by omega⟩

theorem at5_of (g : Fin 4 → Fin 4 → Fin 3 → Fin 128 → Fin 128 → EReal) (j : S512x1536.Idx) (c h : Fin 4) (w : Fin 3)
    (i d : Fin 128) (h0 : (j 0).val = c.val * 128 + i.val) (h1 : (j 1).val = w.val * 512 + (h.val * 128 + d.val)) :
    at5 g j = g c h w i d := by
  have := c.isLt; have := h.isLt; have := w.isLt; have := i.isLt; have := d.isLt
  unfold at5
  congr 1 <;> apply Fin.ext <;> dsimp only <;> omega

theorem tile_ld (x : Vec Ideal S512x512 .bf16) (c h : Fin 4) (o0 o1 : Nat) (inb) (h0 : o0 = c.val * 128) (h1 : o1 = h.val * 128) :
    tile (View.ld x (Rect.unit (s := S512x512) ![o0, o1] S128x128.size inb)) = chunkOf x c h := by
  funext i d
  refine View.ld_unit_apply_of x _ _ _ _ (ix2 (rr c i) (hd h d)) fun a => ?_
  fin_cases a
  · exact congrArg (· + i.val) h0.symm
  · exact congrArg (· + d.val) h1.symm

theorem state_ld (x : Vec Ideal S4x128x512 .bf16) (c h : Fin 4) (o0 o1 : Nat) (inb) (h0 : o0 = c.val) (h1 : o1 = h.val * 128) :
    tile1 (View.ld x (Rect.unit (s := S4x128x512) ![o0, 0, o1] S1x128x128.size inb)) = stateOf x c h := by
  funext i d
  refine View.ld_unit_apply_of x _ _ _ _ (ix3 c i (hd h d)) fun a => ?_
  fin_cases a
  · exact h0.symm
  · exact (Nat.zero_add i.val).symm
  · exact congrArg (· + d.val) h1.symm

theorem mask_ld (x : Vec Ideal S4x128x128 .f32) (h : Fin 4) (o0 : Nat) (inb) (h0 : o0 = h.val) :
    tile1 (View.ld x (Rect.unit (s := S4x128x128) ![o0, 0, 0] S1x128x128.size inb)) = maskOf x h := by
  funext i d
  refine View.ld_unit_apply_of x _ _ _ _ (ix3 h i d) fun a => ?_
  fin_cases a
  · exact h0.symm
  · exact (Nat.zero_add i.val).symm
  · exact (Nat.zero_add d.val).symm

theorem decay_ld (x : Vec Ideal S128x512 .f32) (h : Fin 4) (o1 : Nat) (inb) (h1 : o1 = h.val * 128) :
    tile (View.ld x (Rect.unit (s := S128x512) ![0, o1] S128x128.size inb)) = decayOf x h := by
  funext i d
  refine View.ld_unit_apply_of x _ _ _ _ (ix2 i (hd h d)) fun a => ?_
  fin_cases a
  · exact (Nat.zero_add i.val).symm
  · exact congrArg (· + d.val) h1.symm

theorem angle_ld (x : Vec Ideal S512x128 .f32) (c : Fin 4) (o0 : Nat) (inb) (h0 : o0 = c.val * 128) :
    tile (View.ld x (Rect.unit (s := S512x128) ![o0, 0] S128x128.size inb)) = angleOf x c := by
  funext i d
  refine View.ld_unit_apply_of x _ _ _ _ (ix2 (rr c i) d) fun a => ?_
  fin_cases a
  · exact congrArg (· + i.val) h0.symm
  · exact (Nat.zero_add d.val).symm

theorem at5_piece (g : Fin 4 → Fin 4 → Fin 3 → Fin 128 → Fin 128 → EReal) (c h : Fin 4) (w : Fin 3) (o0 o1 : Nat) (inb)
    (x : S128x128.Idx) (h0 : o0 = c.val * 128) (h1 : o1 = w.val * 512 + h.val * 128) :
    at5 g ((Rect.unit (s := S512x1536) ![o0, o1] S128x128.size inb).emb x) = g c h w (x 0) (x 1) :=
  at5_of g _ c h w (x 0) (x 1)
    ((Rect.idx_unit_val _ _ inb x 0).trans (congrArg (· + (x 0).val) h0))
    ((Rect.idx_unit_val _ _ inb x 1).trans ((congrArg (· + (x 1).val) h1).trans (Nat.add_assoc _ _ _)))

section
variable (x0 x1 x2 x3 : Vec Ideal S512x512 .bf16) (x4 x5 x6 x7 : Vec Ideal S4x128x512 .bf16) (x8 x9 : Vec Ideal S4x128x128 .f32)
  (x10 x11 x12 x13 : Vec Ideal S128x512 .f32) (x14 x15 : Vec Ideal S512x128 .f32)

/-- The entries of a block, from the blocks of the arguments. -/
def blockK (c h : Fin 4) (w : Fin 3) (i d : Fin 128) : EReal :=
  cellK (chunkOf x0 c h) (chunkOf x1 c h) (chunkOf x2 c h) (chunkOf x3 c h) (stateOf x4 c h) (stateOf x5 c h) (stateOf x6 c h)
    (stateOf x7 c h) (maskOf x8 h) (maskOf x9 h) (decayOf x10 h) (decayOf x11 h) (decayOf x12 h) (decayOf x13 h)
    (angleOf x14 c) (angleOf x15 c) w i d

theorem ix2_eta (x : S128x128.Idx) : ∃ i d : Fin 128, x = ix2 i d :=
  ⟨x 0, x 1, by funext a; fin_cases a <;> rfl⟩

theorem piece_dv (c h : Fin 4) (o0 o1 l1 s0 m0 : Nat) (inb inb1 inb2 inb3 inb4) (h0 : o0 = c.val * 128) (h1 : l1 = h.val * 128)
    (h2 : o1 = (2 : Fin 3).val * 512 + h.val * 128) (h3 : s0 = c.val) (h4 : m0 = h.val) (x : S128x128.Idx) :
    pDV (View.ld x0 (Rect.unit (s := S512x512) ![o0, l1] S128x128.size inb1)) (View.ld x1 (Rect.unit (s := S512x512) ![o0, l1] S128x128.size inb1))
      (View.ld x3 (Rect.unit (s := S512x512) ![o0, l1] S128x128.size inb1)) (View.ld x9 (Rect.unit (s := S4x128x128) ![m0, 0, 0] S1x128x128.size inb2))
      (View.ld x6 (Rect.unit (s := S4x128x512) ![s0, 0, l1] S1x128x128.size inb3)) (View.ld x7 (Rect.unit (s := S4x128x512) ![s0, 0, l1] S1x128x128.size inb3))
      (View.ld x12 (Rect.unit (s := S128x512) ![0, l1] S128x128.size inb4)) (View.ld x13 (Rect.unit (s := S128x512) ![0, l1] S128x128.size inb4)) x
    = at5 (blockK x0 x1 x2 x3 x4 x5 x6 x7 x8 x9 x10 x11 x12 x13 x14 x15) ((Rect.unit (s := S512x1536) ![o0, o1] S128x128.size inb).emb x) := by
  obtain ⟨i, d, rfl⟩ := ix2_eta x
  refine Eq.trans ?_ (at5_piece _ c h 2 o0 o1 inb (ix2 i d) h0 h2).symm
  rw [pDV_at, tile_ld x0 c h o0 l1 inb1 h0 h1, tile_ld x1 c h o0 l1 inb1 h0 h1, tile_ld x3 c h o0 l1 inb1 h0 h1, mask_ld x9 h m0 inb2 h4,
    state_ld x6 c h s0 l1 inb3 h3 h1, state_ld x7 c h s0 l1 inb3 h3 h1, decay_ld x12 h l1 inb4 h1, decay_ld x13 h l1 inb4 h1]
  rfl

theorem piece_dk (c h : Fin 4) (o0 o1 l1 s0 m0 : Nat) (inb inb1 inb2 inb3 inb4 inb5) (h0 : o0 = c.val * 128) (h1 : l1 = h.val * 128)
    (h2 : o1 = (1 : Fin 3).val * 512 + h.val * 128) (h3 : s0 = c.val) (h4 : m0 = h.val) (x : S128x128.Idx) :
    pDK (View.ld x0 (Rect.unit (s := S512x512) ![o0, l1] S128x128.size inb1)) (View.ld x2 (Rect.unit (s := S512x512) ![o0, l1] S128x128.size inb1))
      (View.ld x3 (Rect.unit (s := S512x512) ![o0, l1] S128x128.size inb1)) (View.ld x9 (Rect.unit (s := S4x128x128) ![m0, 0, 0] S1x128x128.size inb2))
      (View.ld x6 (Rect.unit (s := S4x128x512) ![s0, 0, l1] S1x128x128.size inb3)) (View.ld x7 (Rect.unit (s := S4x128x512) ![s0, 0, l1] S1x128x128.size inb3))
      (View.ld x12 (Rect.unit (s := S128x512) ![0, l1] S128x128.size inb4)) (View.ld x13 (Rect.unit (s := S128x512) ![0, l1] S128x128.size inb4))
      (View.ld x14 (Rect.unit (s := S512x128) ![o0, 0] S128x128.size inb5)) (View.ld x15 (Rect.unit (s := S512x128) ![o0, 0] S128x128.size inb5)) x
    = at5 (blockK x0 x1 x2 x3 x4 x5 x6 x7 x8 x9 x10 x11 x12 x13 x14 x15) ((Rect.unit (s := S512x1536) ![o0, o1] S128x128.size inb).emb x) := by
  obtain ⟨i, d, rfl⟩ := ix2_eta x
  refine Eq.trans ?_ (at5_piece _ c h 1 o0 o1 inb (ix2 i d) h0 h2).symm
  rw [pDK_at, tile_ld x0 c h o0 l1 inb1 h0 h1, tile_ld x2 c h o0 l1 inb1 h0 h1, tile_ld x3 c h o0 l1 inb1 h0 h1, mask_ld x9 h m0 inb2 h4,
    state_ld x6 c h s0 l1 inb3 h3 h1, state_ld x7 c h s0 l1 inb3 h3 h1, decay_ld x12 h l1 inb4 h1, decay_ld x13 h l1 inb4 h1,
    angle_ld x14 c o0 inb5 h0, angle_ld x15 c o0 inb5 h0]
  rfl

theorem piece_dq (c h : Fin 4) (o0 o1 l1 s0 m0 : Nat) (inb inb1 inb2 inb3 inb4 inb5) (h0 : o0 = c.val * 128) (h1 : l1 = h.val * 128)
    (h2 : o1 = (0 : Fin 3).val * 512 + h.val * 128) (h3 : s0 = c.val) (h4 : m0 = h.val) (x : S128x128.Idx) :
    pDQ (View.ld x1 (Rect.unit (s := S512x512) ![o0, l1] S128x128.size inb1)) (View.ld x2 (Rect.unit (s := S512x512) ![o0, l1] S128x128.size inb1))
      (View.ld x3 (Rect.unit (s := S512x512) ![o0, l1] S128x128.size inb1)) (View.ld x8 (Rect.unit (s := S4x128x128) ![m0, 0, 0] S1x128x128.size inb2))
      (View.ld x4 (Rect.unit (s := S4x128x512) ![s0, 0, l1] S1x128x128.size inb3)) (View.ld x5 (Rect.unit (s := S4x128x512) ![s0, 0, l1] S1x128x128.size inb3))
      (View.ld x10 (Rect.unit (s := S128x512) ![0, l1] S128x128.size inb4)) (View.ld x11 (Rect.unit (s := S128x512) ![0, l1] S128x128.size inb4))
      (View.ld x14 (Rect.unit (s := S512x128) ![o0, 0] S128x128.size inb5)) (View.ld x15 (Rect.unit (s := S512x128) ![o0, 0] S128x128.size inb5)) x
    = at5 (blockK x0 x1 x2 x3 x4 x5 x6 x7 x8 x9 x10 x11 x12 x13 x14 x15) ((Rect.unit (s := S512x1536) ![o0, o1] S128x128.size inb).emb x) := by
  obtain ⟨i, d, rfl⟩ := ix2_eta x
  refine Eq.trans ?_ (at5_piece _ c h 0 o0 o1 inb (ix2 i d) h0 h2).symm
  rw [pDQ_at, tile_ld x1 c h o0 l1 inb1 h0 h1, tile_ld x2 c h o0 l1 inb1 h0 h1, tile_ld x3 c h o0 l1 inb1 h0 h1, mask_ld x8 h m0 inb2 h4,
    state_ld x4 c h s0 l1 inb3 h3 h1, state_ld x5 c h s0 l1 inb3 h3 h1, decay_ld x10 h l1 inb4 h1, decay_ld x11 h l1 inb4 h1,
    angle_ld x14 c o0 inb5 h0, angle_ld x15 c o0 inb5 h0]
  rfl

/-- The block a grid point writes, at an index. -/
theorem out_at (y : S512x1536.Idx) :
    out0_16 x0 x1 x2 x3 x4 x5 x6 x7 x8 x9 x10 x11 x12 x13 x14 x15 y
      = at5 (blockK x0 x1 x2 x3 x4 x5 x6 x7 x8 x9 x10 x11 x12 x13 x14 x15) y := by
  rw [out_tiles]
  refine View.canon_apply_of_pieces (Val := Elt Ideal) (e := .bf16) (at5 (blockK x0 x1 x2 x3 x4 x5 x6 x7 x8 x9 x10 x11 x12 x13 x14 x15)) _ ?_ y ?_
  swap
  · exact cover0_16 _ _ _ _ _ _ _ _ _ _ _ _ _ _ _ _ _ _ _ _ _ _ _ _ _ _ _ _ _ _ _ _ _ _ _ _ _ _ _ _ _ _ _ _ _ _ _ _ y
  refine List.forall_mem_cons.mpr ⟨piece_dv x0 x1 x2 x3 x4 x5 x6 x7 x8 x9 x10 x11 x12 x13 x14 x15 3 3 384 1408 384 3 3 inb_S512x1536_S128x128_384_1408 inb_S512x512_S128x128_384_384 inb_S4x128x128_S1x128x128_3_0_0 inb_S4x128x512_S1x128x128_3_0_384 inb_S128x512_S128x128_0_384 rfl rfl rfl rfl rfl, ?_⟩
  refine List.forall_mem_cons.mpr ⟨piece_dk x0 x1 x2 x3 x4 x5 x6 x7 x8 x9 x10 x11 x12 x13 x14 x15 3 3 384 896 384 3 3 inb_S512x1536_S128x128_384_896 inb_S512x512_S128x128_384_384 inb_S4x128x128_S1x128x128_3_0_0 inb_S4x128x512_S1x128x128_3_0_384 inb_S128x512_S128x128_0_384 inb_S512x128_S128x128_384_0 rfl rfl rfl rfl rfl, ?_⟩
  refine List.forall_mem_cons.mpr ⟨piece_dq x0 x1 x2 x3 x4 x5 x6 x7 x8 x9 x10 x11 x12 x13 x14 x15 3 3 384 384 384 3 3 inb_S512x1536_S128x128_384_384 inb_S512x512_S128x128_384_384 inb_S4x128x128_S1x128x128_3_0_0 inb_S4x128x512_S1x128x128_3_0_384 inb_S128x512_S128x128_0_384 inb_S512x128_S128x128_384_0 rfl rfl rfl rfl rfl, ?_⟩
  refine List.forall_mem_cons.mpr ⟨piece_dv x0 x1 x2 x3 x4 x5 x6 x7 x8 x9 x10 x11 x12 x13 x14 x15 3 2 384 1280 256 3 2 inb_S512x1536_S128x128_384_1280 inb_S512x512_S128x128_384_256 inb_S4x128x128_S1x128x128_2_0_0 inb_S4x128x512_S1x128x128_3_0_256 inb_S128x512_S128x128_0_256 rfl rfl rfl rfl rfl, ?_⟩
  refine List.forall_mem_cons.mpr ⟨piece_dk x0 x1 x2 x3 x4 x5 x6 x7 x8 x9 x10 x11 x12 x13 x14 x15 3 2 384 768 256 3 2 inb_S512x1536_S128x128_384_768 inb_S512x512_S128x128_384_256 inb_S4x128x128_S1x128x128_2_0_0 inb_S4x128x512_S1x128x128_3_0_256 inb_S128x512_S128x128_0_256 inb_S512x128_S128x128_384_0 rfl rfl rfl rfl rfl, ?_⟩
  refine List.forall_mem_cons.mpr ⟨piece_dq x0 x1 x2 x3 x4 x5 x6 x7 x8 x9 x10 x11 x12 x13 x14 x15 3 2 384 256 256 3 2 inb_S512x1536_S128x128_384_256 inb_S512x512_S128x128_384_256 inb_S4x128x128_S1x128x128_2_0_0 inb_S4x128x512_S1x128x128_3_0_256 inb_S128x512_S128x128_0_256 inb_S512x128_S128x128_384_0 rfl rfl rfl rfl rfl, ?_⟩
  refine List.forall_mem_cons.mpr ⟨piece_dv x0 x1 x2 x3 x4 x5 x6 x7 x8 x9 x10 x11 x12 x13 x14 x15 3 1 384 1152 128 3 1 inb_S512x1536_S128x128_384_1152 inb_S512x512_S128x128_384_128 inb_S4x128x128_S1x128x128_1_0_0 inb_S4x128x512_S1x128x128_3_0_128 inb_S128x512_S128x128_0_128 rfl rfl rfl rfl rfl, ?_⟩
  refine List.forall_mem_cons.mpr ⟨piece_dk x0 x1 x2 x3 x4 x5 x6 x7 x8 x9 x10 x11 x12 x13 x14 x15 3 1 384 640 128 3 1 inb_S512x1536_S128x128_384_640 inb_S512x512_S128x128_384_128 inb_S4x128x128_S1x128x128_1_0_0 inb_S4x128x512_S1x128x128_3_0_128 inb_S128x512_S128x128_0_128 inb_S512x128_S128x128_384_0 rfl rfl rfl rfl rfl, ?_⟩
  refine List.forall_mem_cons.mpr ⟨piece_dq x0 x1 x2 x3 x4 x5 x6 x7 x8 x9 x10 x11 x12 x13 x14 x15 3 1 384 128 128 3 1 inb_S512x1536_S128x128_384_128 inb_S512x512_S128x128_384_128 inb_S4x128x128_S1x128x128_1_0_0 inb_S4x128x512_S1x128x128_3_0_128 inb_S128x512_S128x128_0_128 inb_S512x128_S128x128_384_0 rfl rfl rfl rfl rfl, ?_⟩
  refine List.forall_mem_cons.mpr ⟨piece_dv x0 x1 x2 x3 x4 x5 x6 x7 x8 x9 x10 x11 x12 x13 x14 x15 3 0 384 1024 0 3 0 inb_S512x1536_S128x128_384_1024 inb_S512x512_S128x128_384_0 inb_S4x128x128_S1x128x128_0_0_0 inb_S4x128x512_S1x128x128_3_0_0 inb_S128x512_S128x128_0_0 rfl rfl rfl rfl rfl, ?_⟩
  refine List.forall_mem_cons.mpr ⟨piece_dk x0 x1 x2 x3 x4 x5 x6 x7 x8 x9 x10 x11 x12 x13 x14 x15 3 0 384 512 0 3 0 inb_S512x1536_S128x128_384_512 inb_S512x512_S128x128_384_0 inb_S4x128x128_S1x128x128_0_0_0 inb_S4x128x512_S1x128x128_3_0_0 inb_S128x512_S128x128_0_0 inb_S512x128_S128x128_384_0 rfl rfl rfl rfl rfl, ?_⟩
  refine List.forall_mem_cons.mpr ⟨piece_dq x0 x1 x2 x3 x4 x5 x6 x7 x8 x9 x10 x11 x12 x13 x14 x15 3 0 384 0 0 3 0 inb_S512x1536_S128x128_384_0 inb_S512x512_S128x128_384_0 inb_S4x128x128_S1x128x128_0_0_0 inb_S4x128x512_S1x128x128_3_0_0 inb_S128x512_S128x128_0_0 inb_S512x128_S128x128_384_0 rfl rfl rfl rfl rfl, ?_⟩
  refine List.forall_mem_cons.mpr ⟨piece_dv x0 x1 x2 x3 x4 x5 x6 x7 x8 x9 x10 x11 x12 x13 x14 x15 2 3 256 1408 384 2 3 inb_S512x1536_S128x128_256_1408 inb_S512x512_S128x128_256_384 inb_S4x128x128_S1x128x128_3_0_0 inb_S4x128x512_S1x128x128_2_0_384 inb_S128x512_S128x128_0_384 rfl rfl rfl rfl rfl, ?_⟩
  refine List.forall_mem_cons.mpr ⟨piece_dk x0 x1 x2 x3 x4 x5 x6 x7 x8 x9 x10 x11 x12 x13 x14 x15 2 3 256 896 384 2 3 inb_S512x1536_S128x128_256_896 inb_S512x512_S128x128_256_384 inb_S4x128x128_S1x128x128_3_0_0 inb_S4x128x512_S1x128x128_2_0_384 inb_S128x512_S128x128_0_384 inb_S512x128_S128x128_256_0 rfl rfl rfl rfl rfl, ?_⟩
  refine List.forall_mem_cons.mpr ⟨piece_dq x0 x1 x2 x3 x4 x5 x6 x7 x8 x9 x10 x11 x12 x13 x14 x15 2 3 256 384 384 2 3 inb_S512x1536_S128x128_256_384 inb_S512x512_S128x128_256_384 inb_S4x128x128_S1x128x128_3_0_0 inb_S4x128x512_S1x128x128_2_0_384 inb_S128x512_S128x128_0_384 inb_S512x128_S128x128_256_0 rfl rfl rfl rfl rfl, ?_⟩
  refine List.forall_mem_cons.mpr ⟨piece_dv x0 x1 x2 x3 x4 x5 x6 x7 x8 x9 x10 x11 x12 x13 x14 x15 2 2 256 1280 256 2 2 inb_S512x1536_S128x128_256_1280 inb_S512x512_S128x128_256_256 inb_S4x128x128_S1x128x128_2_0_0 inb_S4x128x512_S1x128x128_2_0_256 inb_S128x512_S128x128_0_256 rfl rfl rfl rfl rfl, ?_⟩
  refine List.forall_mem_cons.mpr ⟨piece_dk x0 x1 x2 x3 x4 x5 x6 x7 x8 x9 x10 x11 x12 x13 x14 x15 2 2 256 768 256 2 2 inb_S512x1536_S128x128_256_768 inb_S512x512_S128x128_256_256 inb_S4x128x128_S1x128x128_2_0_0 inb_S4x128x512_S1x128x128_2_0_256 inb_S128x512_S128x128_0_256 inb_S512x128_S128x128_256_0 rfl rfl rfl rfl rfl, ?_⟩
  refine List.forall_mem_cons.mpr ⟨piece_dq x0 x1 x2 x3 x4 x5 x6 x7 x8 x9 x10 x11 x12 x13 x14 x15 2 2 256 256 256 2 2 inb_S512x1536_S128x128_256_256 inb_S512x512_S128x128_256_256 inb_S4x128x128_S1x128x128_2_0_0 inb_S4x128x512_S1x128x128_2_0_256 inb_S128x512_S128x128_0_256 inb_S512x128_S128x128_256_0 rfl rfl rfl rfl rfl, ?_⟩
  refine List.forall_mem_cons.mpr ⟨piece_dv x0 x1 x2 x3 x4 x5 x6 x7 x8 x9 x10 x11 x12 x13 x14 x15 2 1 256 1152 128 2 1 inb_S512x1536_S128x128_256_1152 inb_S512x512_S128x128_256_128 inb_S4x128x128_S1x128x128_1_0_0 inb_S4x128x512_S1x128x128_2_0_128 inb_S128x512_S128x128_0_128 rfl rfl rfl rfl rfl, ?_⟩
  refine List.forall_mem_cons.mpr ⟨piece_dk x0 x1 x2 x3 x4 x5 x6 x7 x8 x9 x10 x11 x12 x13 x14 x15 2 1 256 640 128 2 1 inb_S512x1536_S128x128_256_640 inb_S512x512_S128x128_256_128 inb_S4x128x128_S1x128x128_1_0_0 inb_S4x128x512_S1x128x128_2_0_128 inb_S128x512_S128x128_0_128 inb_S512x128_S128x128_256_0 rfl rfl rfl rfl rfl, ?_⟩
  refine List.forall_mem_cons.mpr ⟨piece_dq x0 x1 x2 x3 x4 x5 x6 x7 x8 x9 x10 x11 x12 x13 x14 x15 2 1 256 128 128 2 1 inb_S512x1536_S128x128_256_128 inb_S512x512_S128x128_256_128 inb_S4x128x128_S1x128x128_1_0_0 inb_S4x128x512_S1x128x128_2_0_128 inb_S128x512_S128x128_0_128 inb_S512x128_S128x128_256_0 rfl rfl rfl rfl rfl, ?_⟩
  refine List.forall_mem_cons.mpr ⟨piece_dv x0 x1 x2 x3 x4 x5 x6 x7 x8 x9 x10 x11 x12 x13 x14 x15 2 0 256 1024 0 2 0 inb_S512x1536_S128x128_256_1024 inb_S512x512_S128x128_256_0 inb_S4x128x128_S1x128x128_0_0_0 inb_S4x128x512_S1x128x128_2_0_0 inb_S128x512_S128x128_0_0 rfl rfl rfl rfl rfl, ?_⟩
  refine List.forall_mem_cons.mpr ⟨piece_dk x0 x1 x2 x3 x4 x5 x6 x7 x8 x9 x10 x11 x12 x13 x14 x15 2 0 256 512 0 2 0 inb_S512x1536_S128x128_256_512 inb_S512x512_S128x128_256_0 inb_S4x128x128_S1x128x128_0_0_0 inb_S4x128x512_S1x128x128_2_0_0 inb_S128x512_S128x128_0_0 inb_S512x128_S128x128_256_0 rfl rfl rfl rfl rfl, ?_⟩
  refine List.forall_mem_cons.mpr ⟨piece_dq x0 x1 x2 x3 x4 x5 x6 x7 x8 x9 x10 x11 x12 x13 x14 x15 2 0 256 0 0 2 0 inb_S512x1536_S128x128_256_0 inb_S512x512_S128x128_256_0 inb_S4x128x128_S1x128x128_0_0_0 inb_S4x128x512_S1x128x128_2_0_0 inb_S128x512_S128x128_0_0 inb_S512x128_S128x128_256_0 rfl rfl rfl rfl rfl, ?_⟩
  refine List.forall_mem_cons.mpr ⟨piece_dv x0 x1 x2 x3 x4 x5 x6 x7 x8 x9 x10 x11 x12 x13 x14 x15 1 3 128 1408 384 1 3 inb_S512x1536_S128x128_128_1408 inb_S512x512_S128x128_128_384 inb_S4x128x128_S1x128x128_3_0_0 inb_S4x128x512_S1x128x128_1_0_384 inb_S128x512_S128x128_0_384 rfl rfl rfl rfl rfl, ?_⟩
  refine List.forall_mem_cons.mpr ⟨piece_dk x0 x1 x2 x3 x4 x5 x6 x7 x8 x9 x10 x11 x12 x13 x14 x15 1 3 128 896 384 1 3 inb_S512x1536_S128x128_128_896 inb_S512x512_S128x128_128_384 inb_S4x128x128_S1x128x128_3_0_0 inb_S4x128x512_S1x128x128_1_0_384 inb_S128x512_S128x128_0_384 inb_S512x128_S128x128_128_0 rfl rfl rfl rfl rfl, ?_⟩
  refine List.forall_mem_cons.mpr ⟨piece_dq x0 x1 x2 x3 x4 x5 x6 x7 x8 x9 x10 x11 x12 x13 x14 x15 1 3 128 384 384 1 3 inb_S512x1536_S128x128_128_384 inb_S512x512_S128x128_128_384 inb_S4x128x128_S1x128x128_3_0_0 inb_S4x128x512_S1x128x128_1_0_384 inb_S128x512_S128x128_0_384 inb_S512x128_S128x128_128_0 rfl rfl rfl rfl rfl, ?_⟩
  refine List.forall_mem_cons.mpr ⟨piece_dv x0 x1 x2 x3 x4 x5 x6 x7 x8 x9 x10 x11 x12 x13 x14 x15 1 2 128 1280 256 1 2 inb_S512x1536_S128x128_128_1280 inb_S512x512_S128x128_128_256 inb_S4x128x128_S1x128x128_2_0_0 inb_S4x128x512_S1x128x128_1_0_256 inb_S128x512_S128x128_0_256 rfl rfl rfl rfl rfl, ?_⟩
  refine List.forall_mem_cons.mpr ⟨piece_dk x0 x1 x2 x3 x4 x5 x6 x7 x8 x9 x10 x11 x12 x13 x14 x15 1 2 128 768 256 1 2 inb_S512x1536_S128x128_128_768 inb_S512x512_S128x128_128_256 inb_S4x128x128_S1x128x128_2_0_0 inb_S4x128x512_S1x128x128_1_0_256 inb_S128x512_S128x128_0_256 inb_S512x128_S128x128_128_0 rfl rfl rfl rfl rfl, ?_⟩
  refine List.forall_mem_cons.mpr ⟨piece_dq x0 x1 x2 x3 x4 x5 x6 x7 x8 x9 x10 x11 x12 x13 x14 x15 1 2 128 256 256 1 2 inb_S512x1536_S128x128_128_256 inb_S512x512_S128x128_128_256 inb_S4x128x128_S1x128x128_2_0_0 inb_S4x128x512_S1x128x128_1_0_256 inb_S128x512_S128x128_0_256 inb_S512x128_S128x128_128_0 rfl rfl rfl rfl rfl, ?_⟩
  refine List.forall_mem_cons.mpr ⟨piece_dv x0 x1 x2 x3 x4 x5 x6 x7 x8 x9 x10 x11 x12 x13 x14 x15 1 1 128 1152 128 1 1 inb_S512x1536_S128x128_128_1152 inb_S512x512_S128x128_128_128 inb_S4x128x128_S1x128x128_1_0_0 inb_S4x128x512_S1x128x128_1_0_128 inb_S128x512_S128x128_0_128 rfl rfl rfl rfl rfl, ?_⟩
  refine List.forall_mem_cons.mpr ⟨piece_dk x0 x1 x2 x3 x4 x5 x6 x7 x8 x9 x10 x11 x12 x13 x14 x15 1 1 128 640 128 1 1 inb_S512x1536_S128x128_128_640 inb_S512x512_S128x128_128_128 inb_S4x128x128_S1x128x128_1_0_0 inb_S4x128x512_S1x128x128_1_0_128 inb_S128x512_S128x128_0_128 inb_S512x128_S128x128_128_0 rfl rfl rfl rfl rfl, ?_⟩
  refine List.forall_mem_cons.mpr ⟨piece_dq x0 x1 x2 x3 x4 x5 x6 x7 x8 x9 x10 x11 x12 x13 x14 x15 1 1 128 128 128 1 1 inb_S512x1536_S128x128_128_128 inb_S512x512_S128x128_128_128 inb_S4x128x128_S1x128x128_1_0_0 inb_S4x128x512_S1x128x128_1_0_128 inb_S128x512_S128x128_0_128 inb_S512x128_S128x128_128_0 rfl rfl rfl rfl rfl, ?_⟩
  refine List.forall_mem_cons.mpr ⟨piece_dv x0 x1 x2 x3 x4 x5 x6 x7 x8 x9 x10 x11 x12 x13 x14 x15 1 0 128 1024 0 1 0 inb_S512x1536_S128x128_128_1024 inb_S512x512_S128x128_128_0 inb_S4x128x128_S1x128x128_0_0_0 inb_S4x128x512_S1x128x128_1_0_0 inb_S128x512_S128x128_0_0 rfl rfl rfl rfl rfl, ?_⟩
  refine List.forall_mem_cons.mpr ⟨piece_dk x0 x1 x2 x3 x4 x5 x6 x7 x8 x9 x10 x11 x12 x13 x14 x15 1 0 128 512 0 1 0 inb_S512x1536_S128x128_128_512 inb_S512x512_S128x128_128_0 inb_S4x128x128_S1x128x128_0_0_0 inb_S4x128x512_S1x128x128_1_0_0 inb_S128x512_S128x128_0_0 inb_S512x128_S128x128_128_0 rfl rfl rfl rfl rfl, ?_⟩
  refine List.forall_mem_cons.mpr ⟨piece_dq x0 x1 x2 x3 x4 x5 x6 x7 x8 x9 x10 x11 x12 x13 x14 x15 1 0 128 0 0 1 0 inb_S512x1536_S128x128_128_0 inb_S512x512_S128x128_128_0 inb_S4x128x128_S1x128x128_0_0_0 inb_S4x128x512_S1x128x128_1_0_0 inb_S128x512_S128x128_0_0 inb_S512x128_S128x128_128_0 rfl rfl rfl rfl rfl, ?_⟩
  refine List.forall_mem_cons.mpr ⟨piece_dv x0 x1 x2 x3 x4 x5 x6 x7 x8 x9 x10 x11 x12 x13 x14 x15 0 3 0 1408 384 0 3 inb_S512x1536_S128x128_0_1408 inb_S512x512_S128x128_0_384 inb_S4x128x128_S1x128x128_3_0_0 inb_S4x128x512_S1x128x128_0_0_384 inb_S128x512_S128x128_0_384 rfl rfl rfl rfl rfl, ?_⟩
  refine List.forall_mem_cons.mpr ⟨piece_dk x0 x1 x2 x3 x4 x5 x6 x7 x8 x9 x10 x11 x12 x13 x14 x15 0 3 0 896 384 0 3 inb_S512x1536_S128x128_0_896 inb_S512x512_S128x128_0_384 inb_S4x128x128_S1x128x128_3_0_0 inb_S4x128x512_S1x128x128_0_0_384 inb_S128x512_S128x128_0_384 inb_S512x128_S128x128_0_0 rfl rfl rfl rfl rfl, ?_⟩
  refine List.forall_mem_cons.mpr ⟨piece_dq x0 x1 x2 x3 x4 x5 x6 x7 x8 x9 x10 x11 x12 x13 x14 x15 0 3 0 384 384 0 3 inb_S512x1536_S128x128_0_384 inb_S512x512_S128x128_0_384 inb_S4x128x128_S1x128x128_3_0_0 inb_S4x128x512_S1x128x128_0_0_384 inb_S128x512_S128x128_0_384 inb_S512x128_S128x128_0_0 rfl rfl rfl rfl rfl, ?_⟩
  refine List.forall_mem_cons.mpr ⟨piece_dv x0 x1 x2 x3 x4 x5 x6 x7 x8 x9 x10 x11 x12 x13 x14 x15 0 2 0 1280 256 0 2 inb_S512x1536_S128x128_0_1280 inb_S512x512_S128x128_0_256 inb_S4x128x128_S1x128x128_2_0_0 inb_S4x128x512_S1x128x128_0_0_256 inb_S128x512_S128x128_0_256 rfl rfl rfl rfl rfl, ?_⟩
  refine List.forall_mem_cons.mpr ⟨piece_dk x0 x1 x2 x3 x4 x5 x6 x7 x8 x9 x10 x11 x12 x13 x14 x15 0 2 0 768 256 0 2 inb_S512x1536_S128x128_0_768 inb_S512x512_S128x128_0_256 inb_S4x128x128_S1x128x128_2_0_0 inb_S4x128x512_S1x128x128_0_0_256 inb_S128x512_S128x128_0_256 inb_S512x128_S128x128_0_0 rfl rfl rfl rfl rfl, ?_⟩
  refine List.forall_mem_cons.mpr ⟨piece_dq x0 x1 x2 x3 x4 x5 x6 x7 x8 x9 x10 x11 x12 x13 x14 x15 0 2 0 256 256 0 2 inb_S512x1536_S128x128_0_256 inb_S512x512_S128x128_0_256 inb_S4x128x128_S1x128x128_2_0_0 inb_S4x128x512_S1x128x128_0_0_256 inb_S128x512_S128x128_0_256 inb_S512x128_S128x128_0_0 rfl rfl rfl rfl rfl, ?_⟩
  refine List.forall_mem_cons.mpr ⟨piece_dv x0 x1 x2 x3 x4 x5 x6 x7 x8 x9 x10 x11 x12 x13 x14 x15 0 1 0 1152 128 0 1 inb_S512x1536_S128x128_0_1152 inb_S512x512_S128x128_0_128 inb_S4x128x128_S1x128x128_1_0_0 inb_S4x128x512_S1x128x128_0_0_128 inb_S128x512_S128x128_0_128 rfl rfl rfl rfl rfl, ?_⟩
  refine List.forall_mem_cons.mpr ⟨piece_dk x0 x1 x2 x3 x4 x5 x6 x7 x8 x9 x10 x11 x12 x13 x14 x15 0 1 0 640 128 0 1 inb_S512x1536_S128x128_0_640 inb_S512x512_S128x128_0_128 inb_S4x128x128_S1x128x128_1_0_0 inb_S4x128x512_S1x128x128_0_0_128 inb_S128x512_S128x128_0_128 inb_S512x128_S128x128_0_0 rfl rfl rfl rfl rfl, ?_⟩
  refine List.forall_mem_cons.mpr ⟨piece_dq x0 x1 x2 x3 x4 x5 x6 x7 x8 x9 x10 x11 x12 x13 x14 x15 0 1 0 128 128 0 1 inb_S512x1536_S128x128_0_128 inb_S512x512_S128x128_0_128 inb_S4x128x128_S1x128x128_1_0_0 inb_S4x128x512_S1x128x128_0_0_128 inb_S128x512_S128x128_0_128 inb_S512x128_S128x128_0_0 rfl rfl rfl rfl rfl, ?_⟩
  refine List.forall_mem_cons.mpr ⟨piece_dv x0 x1 x2 x3 x4 x5 x6 x7 x8 x9 x10 x11 x12 x13 x14 x15 0 0 0 1024 0 0 0 inb_S512x1536_S128x128_0_1024 inb_S512x512_S128x128_0_0 inb_S4x128x128_S1x128x128_0_0_0 inb_S4x128x512_S1x128x128_0_0_0 inb_S128x512_S128x128_0_0 rfl rfl rfl rfl rfl, ?_⟩
  refine List.forall_mem_cons.mpr ⟨piece_dk x0 x1 x2 x3 x4 x5 x6 x7 x8 x9 x10 x11 x12 x13 x14 x15 0 0 0 512 0 0 0 inb_S512x1536_S128x128_0_512 inb_S512x512_S128x128_0_0 inb_S4x128x128_S1x128x128_0_0_0 inb_S4x128x512_S1x128x128_0_0_0 inb_S128x512_S128x128_0_0 inb_S512x128_S128x128_0_0 rfl rfl rfl rfl rfl, ?_⟩
  refine List.forall_mem_cons.mpr ⟨piece_dq x0 x1 x2 x3 x4 x5 x6 x7 x8 x9 x10 x11 x12 x13 x14 x15 0 0 0 0 0 0 0 inb_S512x1536_S128x128_0_0 inb_S512x512_S128x128_0_0 inb_S4x128x128_S1x128x128_0_0_0 inb_S4x128x512_S1x128x128_0_0_0 inb_S128x512_S128x128_0_0 inb_S512x128_S128x128_0_0 rfl rfl rfl rfl rfl, ?_⟩
  exact fun _ h => absurd h List.not_mem_nil
end

end Cert.Ret

end
-- ==== Proof.Ret.Launch.lean ====
/- The array the retention's backward pass leaves, at an index, from the arrays its launch reads. -/
module

public import proofs.«01_k».proof.Proof.Ret.Block
public import proofs.«01_k».proof.Proof.Gen.KernelIdeal.Value

@[expose] public section

noncomputable section

namespace Cert.Ret

open Cert.KernelIdeal Cert.KernelIdeal.Gen Idealize.ShloMosaic Idealize.ShloMosaic.Pointwise Idealize.ShloMosaic.Pipeline Idealize.SL.Sem

/-- Chunk `c` of grid point `t`. -/
abbrev nn (t : Fin 16) (c : Fin 4) : Fin 64 := ⟨t.val * 4 + c.val, by omega⟩

/-- A place of the three gradients: chunk, head, gradient, row and lane. -/
def at6 (g : Fin 64 → Fin 4 → Fin 3 → Fin 128 → Fin 128 → EReal) (j : S8192x1536.Idx) : EReal :=
  g ⟨(j 0).val / 128, by have : (j 0).val < 8192 := (j 0).isLt; omega⟩
    ⟨(j 1).val % 512 / 128, by omega⟩
    ⟨(j 1).val / 512, by have : (j 1).val < 1536 := (j 1).isLt; omega⟩
    ⟨(j 0).val % 128, by omega⟩ ⟨(j 1).val % 128, by omega⟩

theorem at6_of (g : Fin 64 → Fin 4 → Fin 3 → Fin 128 → Fin 128 → EReal) (j : S8192x1536.Idx) (n : Fin 64) (h : Fin 4) (w : Fin 3)
    (i d : Fin 128) (h0 : (j 0).val = n.val * 128 + i.val) (h1 : (j 1).val = w.val * 512 + (h.val * 128 + d.val)) :
    at6 g j = g n h w i d := by
  have := n.isLt; have := h.isLt; have := w.isLt; have := i.isLt; have := d.isLt
  unfold at6
  congr 1 <;> apply Fin.ext <;> dsimp only <;> omega

theorem exists_at (j : S8192x1536.Idx) : ∃ n h w i d, j = ix2 (sq n i) (col w h d) := by
  have h0 : (j 0).val < 8192 := (j 0).isLt
  have h1 : (j 1).val < 1536 := (j 1).isLt
  refine ⟨⟨(j 0).val / 128, by omega⟩, ⟨(j 1).val % 512 / 128, by omega⟩, ⟨(j 1).val / 512, by omega⟩,
    ⟨(j 0).val % 128, by omega⟩, ⟨(j 1).val % 128, by omega⟩, ?_⟩
  funext a
  fin_cases a
  · apply Fin.ext; show (j 0).val = (j 0).val / 128 * 128 + (j 0).val % 128; omega
  · apply Fin.ext; show (j 1).val = (j 1).val / 512 * 512 + ((j 1).val % 512 / 128 * 128 + (j 1).val % 128); omega

variable (m : (ℓ : Loc nD τ sig) → Buf (Elt Ideal) ℓ)

theorem idx0 : ∀ t : Fin cfg0.N, win0_0.index t = ![t.val, 0] ∧ win0_1.index t = ![t.val, 1] ∧ win0_2.index t = ![t.val, 2]
    ∧ win0_3.index t = ![t.val, 0] ∧ win0_4.index t = ![t.val, 0, 0] ∧ win0_5.index t = ![t.val, 0, 0]
    ∧ win0_6.index t = ![t.val, 0, 0] ∧ win0_7.index t = ![t.val, 0, 0] := by decide +kernel

theorem idx1 : ∀ t : Fin cfg0.N, win0_8.index t = ![0, 0, 0] ∧ win0_9.index t = ![0, 0, 0]
    ∧ win0_10.index t = ![0, 0] ∧ win0_11.index t = ![0, 0] ∧ win0_12.index t = ![0, 0] ∧ win0_13.index t = ![0, 0]
    ∧ win0_14.index t = ![t.val, 0] ∧ win0_15.index t = ![t.val, 0] ∧ win0_16.index t = ![t.val, 0] := by decide +kernel

theorem blk0 (c : Dev nD) (t : Fin 16) (n h : Fin 4) (i d : Fin 128) :
    iblk m c 0 t (ix2 (rr n i) (hd h d)) = V m c main_v58 (ix2 (sq (nn t n) i) (col 0 h d)) := by
  blk_ext [iblk, idx0 t]

theorem blk1 (c : Dev nD) (t : Fin 16) (n h : Fin 4) (i d : Fin 128) :
    iblk m c 1 t (ix2 (rr n i) (hd h d)) = V m c main_v58 (ix2 (sq (nn t n) i) (col 1 h d)) := by
  blk_ext [iblk, idx0 t]

theorem blk2 (c : Dev nD) (t : Fin 16) (n h : Fin 4) (i d : Fin 128) :
    iblk m c 2 t (ix2 (rr n i) (hd h d)) = V m c main_v58 (ix2 (sq (nn t n) i) (col 2 h d)) := by
  blk_ext [iblk, idx0 t]

theorem blk3 (c : Dev nD) (t : Fin 16) (n h : Fin 4) (i d : Fin 128) :
    iblk m c 3 t (ix2 (rr n i) (hd h d)) = V m c main_arg3 (ix2 (sq (nn t n) i) (hd h d)) := by
  blk_ext [iblk, idx0 t]

theorem blk4 (c : Dev nD) (t : Fin 16) (n h : Fin 4) (i d : Fin 128) :
    iblk m c 4 t (ix3 n i (hd h d)) = V m c main_arg4 (ix3 (nn t n) i (hd h d)) := by
  blk_ext [iblk, idx0 t]

theorem blk5 (c : Dev nD) (t : Fin 16) (n h : Fin 4) (i d : Fin 128) :
    iblk m c 5 t (ix3 n i (hd h d)) = V m c main_arg5 (ix3 (nn t n) i (hd h d)) := by
  blk_ext [iblk, idx0 t]

theorem blk6 (c : Dev nD) (t : Fin 16) (n h : Fin 4) (i d : Fin 128) :
    iblk m c 6 t (ix3 n i (hd h d)) = V m c main_arg6 (ix3 (nn t n) i (hd h d)) := by
  blk_ext [iblk, idx0 t]

theorem blk7 (c : Dev nD) (t : Fin 16) (n h : Fin 4) (i d : Fin 128) :
    iblk m c 7 t (ix3 n i (hd h d)) = V m c main_arg7 (ix3 (nn t n) i (hd h d)) := by
  blk_ext [iblk, idx0 t]

theorem blk8 (c : Dev nD) (t : Fin 16) (h : Fin 4) (i d : Fin 128) :
    iblk m c 8 t (ix3 h i d) = V m c main_v150 (ix3 h i d) := by
  blk_ext [iblk, idx1 t]

theorem blk9 (c : Dev nD) (t : Fin 16) (h : Fin 4) (i d : Fin 128) :
    iblk m c 9 t (ix3 h i d) = V m c main_v151 (ix3 h i d) := by
  blk_ext [iblk, idx1 t]

theorem blk10 (c : Dev nD) (t : Fin 16) (h : Fin 4) (i d : Fin 128) :
    iblk m c 10 t (ix2 i (hd h d)) = V m c main_v161 (ix2 i (hd h d)) := by
  blk_ext [iblk, idx1 t]

theorem blk11 (c : Dev nD) (t : Fin 16) (h : Fin 4) (i d : Fin 128) :
    iblk m c 11 t (ix2 i (hd h d)) = V m c main_v181 (ix2 i (hd h d)) := by
  blk_ext [iblk, idx1 t]

theorem blk12 (c : Dev nD) (t : Fin 16) (h : Fin 4) (i d : Fin 128) :
    iblk m c 12 t (ix2 i (hd h d)) = V m c main_v171 (ix2 i (hd h d)) := by
  blk_ext [iblk, idx1 t]

theorem blk13 (c : Dev nD) (t : Fin 16) (h : Fin 4) (i d : Fin 128) :
    iblk m c 13 t (ix2 i (hd h d)) = V m c main_v189 (ix2 i (hd h d)) := by
  blk_ext [iblk, idx1 t]

theorem blk14 (c : Dev nD) (t : Fin 16) (n : Fin 4) (i d : Fin 128) :
    iblk m c 14 t (ix2 (rr n i) d) = V m c main_v103 (ix2 (sq (nn t n) i) d) := by
  blk_ext [iblk, idx1 t]

theorem blk15 (c : Dev nD) (t : Fin 16) (n : Fin 4) (i d : Fin 128) :
    iblk m c 15 t (ix2 (rr n i) d) = V m c main_v105 (ix2 (sq (nn t n) i) d) := by
  blk_ext [iblk, idx1 t]

/-- The entries of the array the launch leaves, from the arrays it reads. -/
def launchK (c : Dev nD) (n : Fin 64) (h : Fin 4) (w : Fin 3) (i d : Fin 128) : EReal :=
  cellK (fun i d => V m c main_v58 (ix2 (sq n i) (col 0 h d))) (fun i d => V m c main_v58 (ix2 (sq n i) (col 1 h d)))
    (fun i d => V m c main_v58 (ix2 (sq n i) (col 2 h d))) (fun i d => V m c main_arg3 (ix2 (sq n i) (hd h d)))
    (fun i d => V m c main_arg4 (ix3 n i (hd h d))) (fun i d => V m c main_arg5 (ix3 n i (hd h d)))
    (fun i d => V m c main_arg6 (ix3 n i (hd h d))) (fun i d => V m c main_arg7 (ix3 n i (hd h d)))
    (fun i d => V m c main_v150 (ix3 h i d)) (fun i d => V m c main_v151 (ix3 h i d))
    (fun i d => V m c main_v161 (ix2 i (hd h d))) (fun i d => V m c main_v181 (ix2 i (hd h d)))
    (fun i d => V m c main_v171 (ix2 i (hd h d))) (fun i d => V m c main_v189 (ix2 i (hd h d)))
    (fun i d => V m c main_v103 (ix2 (sq n i) d)) (fun i d => V m c main_v105 (ix2 (sq n i) d)) w i d

theorem block_launch (c : Dev nD) (t : Fin 16) (n h : Fin 4) (w : Fin 3) (i d : Fin 128) :
    blockK (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      n h w i d = launchK m c (nn t n) h w i d := by
  unfold blockK launchK
  rw [show chunkOf (iblk m c 0 t) n h = _ from funext₂ fun i d => blk0 m c t n h i d,
    show chunkOf (iblk m c 1 t) n h = _ from funext₂ fun i d => blk1 m c t n h i d,
    show chunkOf (iblk m c 2 t) n h = _ from funext₂ fun i d => blk2 m c t n h i d,
    show chunkOf (iblk m c 3 t) n h = _ from funext₂ fun i d => blk3 m c t n h i d,
    show stateOf (iblk m c 4 t) n h = _ from funext₂ fun i d => blk4 m c t n h i d,
    show stateOf (iblk m c 5 t) n h = _ from funext₂ fun i d => blk5 m c t n h i d,
    show stateOf (iblk m c 6 t) n h = _ from funext₂ fun i d => blk6 m c t n h i d,
    show stateOf (iblk m c 7 t) n h = _ from funext₂ fun i d => blk7 m c t n h i d,
    show maskOf (iblk m c 8 t) h = _ from funext₂ fun i d => blk8 m c t h i d,
    show maskOf (iblk m c 9 t) h = _ from funext₂ fun i d => blk9 m c t h i d,
    show decayOf (iblk m c 10 t) h = _ from funext₂ fun i d => blk10 m c t h i d,
    show decayOf (iblk m c 11 t) h = _ from funext₂ fun i d => blk11 m c t h i d,
    show decayOf (iblk m c 12 t) h = _ from funext₂ fun i d => blk12 m c t h i d,
    show decayOf (iblk m c 13 t) h = _ from funext₂ fun i d => blk13 m c t h i d,
    show angleOf (iblk m c 14 t) n = _ from funext₂ fun i d => blk14 m c t n i d,
    show angleOf (iblk m c 15 t) n = _ from funext₂ fun i d => blk15 m c t n i d]

/-- The array the launch leaves. -/
theorem arr_at (c : Dev nD) : (dats m 0 c).arrAt 16 cfg0.N = at6 (launchK m c) := by
  refine (dats m 0 c).arrAt_eq_of_covers 16 _ (by decide +kernel) fun t hf y => ?_
  blk_simp
  rw [after0_16]
  have h0 : (y 0).val < 512 := (y 0).isLt
  have h1 : (y 1).val < 1536 := (y 1).isLt
  refine (out_at _ _ _ _ _ _ _ _ _ _ _ _ _ _ _ _ y).trans ?_
  refine (at5_of _ y ⟨(y 0).val / 128, by omega⟩ ⟨(y 1).val % 512 / 128, by omega⟩ ⟨(y 1).val / 512, by omega⟩
    ⟨(y 0).val % 128, by omega⟩ ⟨(y 1).val % 128, by omega⟩ (by dsimp only; omega) (by dsimp only; omega)).trans ?_
  refine (block_launch m c t _ _ _ _ _).trans (at6_of _ _ _ _ _ _ _ ?_ ?_).symm
  · blk_simp [idx1 t]
    dsimp only [Matrix.cons_val_zero]
    omega
  · blk_simp [idx1 t]
    dsimp only
    omega

end Cert.Ret

end
-- ==== Proof.Ret.Tables.lean ====
/- The retention's tables as real numbers: the decay of a head, its powers, the frequencies of the rotation, its angles. -/
module

public import Idealize.ShloMosaic.PureOps.Ideal.Laws
public import Idealize.ShloMosaic.Lib.Pointwise
public import proofs.«01_k».proof.Proof.Ret.Math

@[expose] public section

noncomputable section

namespace Cert.Ret

open Idealize.ShloMosaic Idealize.SL.Sem

theorem si {k : ℕ} (h : k < 2 ^ 31) : (FloatOps.sitofp (F := Ideal) FTy.f32 (BitVec.ofNat 32 k) : EReal) = ((k : ℝ) : EReal) := by
  have e : (BitVec.ofNat 32 k).toInt = (k : ℤ) := by
    rw [BitVec.toInt_eq_toNat_of_lt (by rw [BitVec.toNat_ofNat]; omega), BitVec.toNat_ofNat, Nat.mod_eq_of_lt (by omega)]
  show (((BitVec.ofNat 32 k).toInt : ℝ) : EReal) = _
  rw [e]; norm_cast

theorem b127 : Ideal.ofBits .f32 1123942400#32 = ((127 : ℝ) : EReal) := by simp [Ideal.ofBits, Ideal.ieee, -EReal.coe_mul]; norm_num
theorem b128 : Ideal.ofBits .f32 1124073472#32 = ((128 : ℝ) : EReal) := by simp [Ideal.ofBits, Ideal.ieee, -EReal.coe_mul]; norm_num
theorem b64 : Ideal.ofBits .f32 1115684864#32 = ((64 : ℝ) : EReal) := by simp [Ideal.ofBits, Ideal.ieee, -EReal.coe_mul]; norm_num
theorem b10000 : Ideal.ofBits .f32 1176256512#32 = ((10000 : ℝ) : EReal) := by simp [Ideal.ofBits, Ideal.ieee, -EReal.coe_mul]; norm_num
theorem bm5 : Ideal.ofBits .f32 3231711232#32 = ((-5 : ℝ) : EReal) := by simp [Ideal.ofBits, Ideal.ieee, -EReal.coe_mul]; norm_num
theorem bln : Ideal.ofBits .f32 1060205080#32 = ((11629080 / 16777216 : ℝ) : EReal) := by
  simp [Ideal.ofBits, Ideal.ieee, -EReal.coe_mul]; norm_num
theorem bsc : ∃ r : ℝ, 0 ≤ r ∧ Ideal.ofBits .f32 1035273459#32 = (r : EReal) := by
  refine ⟨11863283 / 134217728, by norm_num, ?_⟩
  simp [Ideal.ofBits, Ideal.ieee, -EReal.coe_mul]; norm_num

/-- The logarithm of head `h`'s decay. -/
def rl (h : Fin 4) : ℝ := Real.log (1 - Real.exp (11629080 / 16777216 * (-5 - (h.val : ℝ))))

theorem rl_eq (h : Fin 4) :
    Ideal.log (1 - Ideal.exp (Ideal.ofBits FTy.f32 1060205080#32 * (Ideal.ofBits FTy.f32 3231711232#32
      - FloatOps.sitofp (F := Ideal) FTy.f32 (BitVec.ofNat 32 h.val)))) = (rl h : EReal) := by
  rw [si (by omega), bln, bm5]
  rw [← EReal.coe_sub, ← EReal.coe_mul, Ideal.exp_coe, ← EReal.coe_one, ← EReal.coe_sub, Ideal.log_coe, if_neg]
  · rfl
  · have : Real.exp (11629080 / 16777216 * (-5 - (h.val : ℝ))) < 1 := by
      rw [Real.exp_lt_one_iff]
      have : (0 : ℝ) ≤ h.val := Nat.cast_nonneg _
      nlinarith
    linarith

/-- `e` to the power `a x`. -/
def dec (a x : ℝ) : EReal := ((Real.exp (a * x) : ℝ) : EReal)

theorem dec_real (a x : ℝ) : ∃ r : ℝ, 0 ≤ r ∧ dec a x = (r : EReal) := ⟨_, (Real.exp_pos _).le, rfl⟩

theorem dec_eq (a x : ℝ) : Ideal.exp ((a : EReal) * (x : EReal)) = dec a x := by
  rw [← EReal.coe_mul, Ideal.exp_coe]; rfl

/-- The decay between the rows of a chunk, forwards in time. -/
def decF (h : Fin 4) (i j : Fin 128) : EReal := if j.val ≤ i.val then dec (rl h) ((i.val : ℝ) - j.val) else 0
/-- The decay between the rows of a chunk, backwards in time. -/
def decB (h : Fin 4) (i j : Fin 128) : EReal := if i.val < j.val then dec (rl h.rev) ((j.val : ℝ) - i.val) else 0
def xiF (h : Fin 4) (i : Fin 128) : EReal := dec (rl h) ((i.val : ℝ) + 1)
def xiB (h : Fin 4) (i : Fin 128) : EReal := dec (rl h.rev) (128 - (i.val : ℝ))
def zeF (h : Fin 4) (i : Fin 128) : EReal := dec (rl h) (127 - (i.val : ℝ))
def zeB (h : Fin 4) (i : Fin 128) : EReal := dec (rl h.rev) (i.val : ℝ)

theorem dec_disj (h : Fin 4) (i j : Fin 128) : decF h i j = 0 ∨ decB h i j = 0 := by
  unfold decF decB
  by_cases c : j.val ≤ i.val
  · right; rw [if_neg (by omega)]
  · left; rw [if_neg c]

/-- The rotation's frequency `f`. -/
def fr (f : ℕ) : ℝ := Real.rpow 10000 (-(f : ℝ) * (1 / 64))

theorem fr_eq {f : ℕ} (h : f < 2 ^ 31) :
    Ideal.pow (Ideal.ofBits FTy.f32 1176256512#32)
      (Ideal.div (-FloatOps.sitofp (F := Ideal) FTy.f32 (BitVec.ofNat 32 f)) (Ideal.ofBits FTy.f32 1115684864#32)) = (fr f : EReal) := by
  rw [si h, b10000, b64, Ideal.div_coe (by norm_num), ← EReal.coe_neg, ← EReal.coe_mul, Ideal.pow_coe_coe]; rfl

def cosT (s f : ℕ) : EReal := ((Real.cos ((s : ℝ) * fr f) : ℝ) : EReal)
def sinT (s f : ℕ) : EReal := ((Real.sin ((s : ℝ) * fr f) : ℝ) : EReal)

theorem cosT_eq {s f : ℕ} (hs : s < 2 ^ 31) (hf : f < 2 ^ 31) :
    Ideal.cos (FloatOps.sitofp (F := Ideal) FTy.f32 (BitVec.ofNat 32 s) * Ideal.pow (Ideal.ofBits FTy.f32 1176256512#32)
      (Ideal.div (-FloatOps.sitofp (F := Ideal) FTy.f32 (BitVec.ofNat 32 f)) (Ideal.ofBits FTy.f32 1115684864#32))) = cosT s f := by
  rw [fr_eq hf, si hs, ← EReal.coe_mul, Ideal.cos_coe]; rfl

theorem sinT_eq {s f : ℕ} (hs : s < 2 ^ 31) (hf : f < 2 ^ 31) :
    Ideal.sin (FloatOps.sitofp (F := Ideal) FTy.f32 (BitVec.ofNat 32 s) * Ideal.pow (Ideal.ofBits FTy.f32 1176256512#32)
      (Ideal.div (-FloatOps.sitofp (F := Ideal) FTy.f32 (BitVec.ofNat 32 f)) (Ideal.ofBits FTy.f32 1115684864#32))) = sinT s f := by
  rw [fr_eq hf, si hs, ← EReal.coe_mul, Ideal.sin_coe]; rfl

/-- The cosine of an angle split at its chunk. -/
theorem cosT_add {s f : ℕ} (hs : s < 8192) (hf : f < 2 ^ 31) :
    Ideal.cos (FloatOps.sitofp (F := Ideal) FTy.f32 (BitVec.ofNat 32 (s / 128)) * Ideal.ofBits FTy.f32 1124073472#32
        * Ideal.pow (Ideal.ofBits FTy.f32 1176256512#32)
      (Ideal.div (-FloatOps.sitofp (F := Ideal) FTy.f32 (BitVec.ofNat 32 f)) (Ideal.ofBits FTy.f32 1115684864#32)))
      * cosT (s % 128) f
      - Ideal.sin (FloatOps.sitofp (F := Ideal) FTy.f32 (BitVec.ofNat 32 (s / 128)) * Ideal.ofBits FTy.f32 1124073472#32
        * Ideal.pow (Ideal.ofBits FTy.f32 1176256512#32)
      (Ideal.div (-FloatOps.sitofp (F := Ideal) FTy.f32 (BitVec.ofNat 32 f)) (Ideal.ofBits FTy.f32 1115684864#32)))
      * sinT (s % 128) f = cosT s f := by
  rw [fr_eq hf, si (by omega), b128]
  unfold cosT sinT
  rw [← EReal.coe_mul, ← EReal.coe_mul, Ideal.cos_coe, Ideal.sin_coe, ← EReal.coe_mul, ← EReal.coe_mul, ← EReal.coe_sub, ← Real.cos_add,
    ← add_mul]
  have e : ((s / 128 : ℕ) : ℝ) * 128 + ((s % 128 : ℕ) : ℝ) = (s : ℝ) := by exact_mod_cast Nat.div_add_mod' s 128
  rw [e]

theorem sinT_add {s f : ℕ} (hs : s < 8192) (hf : f < 2 ^ 31) :
    Ideal.sin (FloatOps.sitofp (F := Ideal) FTy.f32 (BitVec.ofNat 32 (s / 128)) * Ideal.ofBits FTy.f32 1124073472#32
        * Ideal.pow (Ideal.ofBits FTy.f32 1176256512#32)
      (Ideal.div (-FloatOps.sitofp (F := Ideal) FTy.f32 (BitVec.ofNat 32 f)) (Ideal.ofBits FTy.f32 1115684864#32)))
      * cosT (s % 128) f
      + Ideal.cos (FloatOps.sitofp (F := Ideal) FTy.f32 (BitVec.ofNat 32 (s / 128)) * Ideal.ofBits FTy.f32 1124073472#32
        * Ideal.pow (Ideal.ofBits FTy.f32 1176256512#32)
      (Ideal.div (-FloatOps.sitofp (F := Ideal) FTy.f32 (BitVec.ofNat 32 f)) (Ideal.ofBits FTy.f32 1115684864#32)))
      * sinT (s % 128) f = sinT s f := by
  rw [fr_eq hf, si (by omega), b128]
  unfold cosT sinT
  rw [← EReal.coe_mul, ← EReal.coe_mul, Ideal.cos_coe, Ideal.sin_coe, ← EReal.coe_mul, ← EReal.coe_mul, ← EReal.coe_add, ← Real.sin_add,
    ← add_mul]
  have e : ((s / 128 : ℕ) : ℝ) * 128 + ((s % 128 : ℕ) : ℝ) = (s : ℝ) := by exact_mod_cast Nat.div_add_mod' s 128
  rw [e]

/-- A head's decay, masked forwards in time. -/
theorem decF_eq (h : Fin 4) (i j : Fin 128) :
    (if 0 ≤ (FloatOps.sitofp (F := Ideal) FTy.f32 (BitVec.ofNat 32 i.val) - FloatOps.sitofp (F := Ideal) FTy.f32 (BitVec.ofNat 32 j.val) : EReal) then
      Ideal.exp ((rl h : EReal) * if 0 ≤ (FloatOps.sitofp (F := Ideal) FTy.f32 (BitVec.ofNat 32 i.val) - FloatOps.sitofp (F := Ideal) FTy.f32 (BitVec.ofNat 32 j.val) : EReal) then
        (FloatOps.sitofp (F := Ideal) FTy.f32 (BitVec.ofNat 32 i.val) - FloatOps.sitofp (F := Ideal) FTy.f32 (BitVec.ofNat 32 j.val) : EReal) else 0)
     else (0 : EReal)) = decF h i j := by
  rw [si (by omega), si (by omega), ← EReal.coe_sub]
  unfold decF
  by_cases c : j.val ≤ i.val
  · have c' : (0 : EReal) ≤ (((i.val : ℝ) - j.val : ℝ) : EReal) := by
      have : ((j.val : ℝ)) ≤ i.val := by exact_mod_cast c
      exact_mod_cast (by linarith : (0:ℝ) ≤ (i.val : ℝ) - j.val)
    rw [if_pos c', if_pos c', if_pos c, dec_eq]
  · have c' : ¬ (0 : EReal) ≤ (((i.val : ℝ) - j.val : ℝ) : EReal) := by
      have : ((i.val : ℝ)) < j.val := by exact_mod_cast (not_le.1 c)
      intro hh
      have : (0:ℝ) ≤ (i.val : ℝ) - j.val := by exact_mod_cast hh
      linarith
    rw [if_neg c', if_neg c]

/-- A head's decay, masked backwards in time. -/
theorem decB_eq (h : Fin 4) (i j : Fin 128) :
    (if (FloatOps.sitofp (F := Ideal) FTy.f32 (BitVec.ofNat 32 i.val) - FloatOps.sitofp (F := Ideal) FTy.f32 (BitVec.ofNat 32 j.val) : EReal) < 0 then
      Ideal.exp ((rl h.rev : EReal) * if (FloatOps.sitofp (F := Ideal) FTy.f32 (BitVec.ofNat 32 i.val) - FloatOps.sitofp (F := Ideal) FTy.f32 (BitVec.ofNat 32 j.val) : EReal) < 0 then
        -(FloatOps.sitofp (F := Ideal) FTy.f32 (BitVec.ofNat 32 i.val) - FloatOps.sitofp (F := Ideal) FTy.f32 (BitVec.ofNat 32 j.val) : EReal) else 0)
     else (0 : EReal)) = decB h i j := by
  rw [si (by omega), si (by omega), ← EReal.coe_sub, ← EReal.coe_neg]
  unfold decB
  by_cases c : i.val < j.val
  · have c' : (((i.val : ℝ) - j.val : ℝ) : EReal) < 0 := by
      have : ((i.val : ℝ)) < j.val := by exact_mod_cast c
      exact_mod_cast (by linarith : (i.val : ℝ) - j.val < 0)
    rw [if_pos c', if_pos c', if_pos c, dec_eq, neg_sub]
  · have c' : ¬ (((i.val : ℝ) - j.val : ℝ) : EReal) < 0 := by
      have : ((j.val : ℝ)) ≤ i.val := by exact_mod_cast (not_lt.1 c)
      intro hh
      have : (i.val : ℝ) - j.val < 0 := by exact_mod_cast hh
      linarith
    rw [if_neg c', if_neg c]

/-- The same decay, the rows counted from the chunk's end. -/
theorem decB_rev (h : Fin 4) (i j : Fin 128) :
    (if 0 < (FloatOps.sitofp (F := Ideal) FTy.f32 (BitVec.ofNat 32 i.val) - FloatOps.sitofp (F := Ideal) FTy.f32 (BitVec.ofNat 32 j.val) : EReal) then
      Ideal.exp ((rl h.rev : EReal) * if 0 < (FloatOps.sitofp (F := Ideal) FTy.f32 (BitVec.ofNat 32 i.val) - FloatOps.sitofp (F := Ideal) FTy.f32 (BitVec.ofNat 32 j.val) : EReal) then
        (FloatOps.sitofp (F := Ideal) FTy.f32 (BitVec.ofNat 32 i.val) - FloatOps.sitofp (F := Ideal) FTy.f32 (BitVec.ofNat 32 j.val) : EReal) else 0)
     else (0 : EReal)) = decB h i.rev j.rev := by
  rw [si (by omega), si (by omega), ← EReal.coe_sub]
  unfold decB
  have hi := i.isLt
  have hj := j.isLt
  have e : ((j.rev.val : ℕ) : ℝ) - ((i.rev.val : ℕ) : ℝ) = (i.val : ℝ) - j.val := by
    rw [Fin.val_rev, Fin.val_rev, Nat.cast_sub (by omega), Nat.cast_sub (by omega)]; push_cast; ring
  by_cases c : j.val < i.val
  · have c' : (0 : EReal) < (((i.val : ℝ) - j.val : ℝ) : EReal) := by
      have : ((j.val : ℝ)) < i.val := by exact_mod_cast c
      exact_mod_cast (by linarith : (0:ℝ) < (i.val : ℝ) - j.val)
    rw [if_pos c', if_pos c', if_pos (by rw [Fin.val_rev, Fin.val_rev]; omega), dec_eq, e]
  · have c' : ¬ (0 : EReal) < (((i.val : ℝ) - j.val : ℝ) : EReal) := by
      have : ((i.val : ℝ)) ≤ j.val := by exact_mod_cast (not_lt.1 c)
      intro hh
      have : (0:ℝ) < (i.val : ℝ) - j.val := by exact_mod_cast hh
      linarith
    rw [if_neg c', if_neg (by rw [Fin.val_rev, Fin.val_rev]; omega)]

theorem xiF_eq (h : Fin 4) (i : Fin 128) :
    Ideal.exp ((rl h : EReal) * (FloatOps.sitofp (F := Ideal) FTy.f32 (BitVec.ofNat 32 i.val) + 1)) = xiF h i := by
  rw [si (by omega), ← EReal.coe_one, ← EReal.coe_add, dec_eq]; rfl

theorem zeF_eq (h : Fin 4) (i : Fin 128) :
    Ideal.exp ((rl h : EReal) * (Ideal.ofBits FTy.f32 1123942400#32 - FloatOps.sitofp (F := Ideal) FTy.f32 (BitVec.ofNat 32 i.val))) = zeF h i := by
  rw [si (by omega), b127, ← EReal.coe_sub, dec_eq]; rfl

theorem xiB_eq (h : Fin 4) (i : Fin 128) :
    Ideal.exp ((rl h.rev : EReal) * (Ideal.ofBits FTy.f32 1124073472#32 - FloatOps.sitofp (F := Ideal) FTy.f32 (BitVec.ofNat 32 i.val))) = xiB h i := by
  rw [si (by omega), b128, ← EReal.coe_sub, dec_eq]; rfl

theorem zeB_eq (h : Fin 4) (i : Fin 128) :
    Ideal.exp ((rl h.rev : EReal) * FloatOps.sitofp (F := Ideal) FTy.f32 (BitVec.ofNat 32 i.val)) = zeB h i := by
  rw [si (by omega), dec_eq]; rfl

theorem rev_cast (i : Fin 128) : ((i.rev.val : ℕ) : ℝ) = 127 - (i.val : ℝ) := by
  have hi := i.isLt
  rw [Fin.val_rev, Nat.cast_sub (by omega)]; push_cast; ring

theorem xiB_rev (h : Fin 4) (i : Fin 128) :
    Ideal.exp ((rl h.rev : EReal) * (FloatOps.sitofp (F := Ideal) FTy.f32 (BitVec.ofNat 32 i.val) + 1)) = xiB h i.rev := by
  rw [si (by omega), ← EReal.coe_one, ← EReal.coe_add, dec_eq]; unfold xiB; rw [rev_cast]; congr 1; ring

theorem zeB_rev (h : Fin 4) (i : Fin 128) :
    Ideal.exp ((rl h.rev : EReal) * (Ideal.ofBits FTy.f32 1123942400#32 - FloatOps.sitofp (F := Ideal) FTy.f32 (BitVec.ofNat 32 i.val))) = zeB h i.rev := by
  rw [si (by omega), b127, ← EReal.coe_sub, dec_eq]; unfold zeB; rw [rev_cast]

/-- A vector of a head, turned by its row's angles. -/
def rope (x : Fin 8192 → Fin 512 → EReal) (s : Fin 8192) (h : Fin 4) (d : Fin 128) : EReal :=
  if d.val < 64 then x s (hd h d) * cosT s.val d.val - x s (hd h (opp d)) * sinT s.val d.val
  else x s (hd h (opp d)) * sinT s.val (d.val - 64) + x s (hd h d) * cosT s.val (d.val - 64)

theorem rope_read (x : Fin 8192 → Fin 512 → EReal) (s : Fin 8192) (h : Fin 4) (d : Fin 128) :
    (if c : d.val < 64 then x s ⟨h.val * 128 + d.val, by omega⟩ * Ideal.cos (FloatOps.sitofp (F := Ideal) FTy.f32 (BitVec.ofNat 32 s.val) * Ideal.pow (Ideal.ofBits FTy.f32 1176256512#32) (Ideal.div (-FloatOps.sitofp (F := Ideal) FTy.f32 (BitVec.ofNat 32 d.val)) (Ideal.ofBits FTy.f32 1115684864#32)))
        - x s ⟨h.val * 128 + (64 + d.val), by omega⟩ * Ideal.sin (FloatOps.sitofp (F := Ideal) FTy.f32 (BitVec.ofNat 32 s.val) * Ideal.pow (Ideal.ofBits FTy.f32 1176256512#32) (Ideal.div (-FloatOps.sitofp (F := Ideal) FTy.f32 (BitVec.ofNat 32 d.val)) (Ideal.ofBits FTy.f32 1115684864#32)))
      else x s ⟨h.val * 128 + (d.val - 64), by omega⟩ * Ideal.sin (FloatOps.sitofp (F := Ideal) FTy.f32 (BitVec.ofNat 32 s.val) * Ideal.pow (Ideal.ofBits FTy.f32 1176256512#32) (Ideal.div (-FloatOps.sitofp (F := Ideal) FTy.f32 (BitVec.ofNat 32 (d.val - 64))) (Ideal.ofBits FTy.f32 1115684864#32)))
        + x s ⟨h.val * 128 + (64 + (d.val - 64)), by omega⟩ * Ideal.cos (FloatOps.sitofp (F := Ideal) FTy.f32 (BitVec.ofNat 32 s.val) * Ideal.pow (Ideal.ofBits FTy.f32 1176256512#32) (Ideal.div (-FloatOps.sitofp (F := Ideal) FTy.f32 (BitVec.ofNat 32 (d.val - 64))) (Ideal.ofBits FTy.f32 1115684864#32)))) = rope x s h d := by
  unfold rope
  by_cases c64 : d.val < 64
  · have o : (⟨h.val * 128 + (64 + d.val), by omega⟩ : Fin 512) = hd h (opp d) := Fin.ext (by
      show h.val * 128 + (64 + d.val) = h.val * 128 + (d.val + 128 - 64) % 128; omega)
    rw [dif_pos c64, if_pos c64, cosT_eq (by omega) (by omega), sinT_eq (by omega) (by omega), o]
  · have o : (⟨h.val * 128 + (d.val - 64), by omega⟩ : Fin 512) = hd h (opp d) := Fin.ext (by
      show h.val * 128 + (d.val - 64) = h.val * 128 + (d.val + 128 - 64) % 128; omega)
    have o' : (⟨h.val * 128 + (64 + (d.val - 64)), by omega⟩ : Fin 512) = hd h d := Fin.ext (by
      show h.val * 128 + (64 + (d.val - 64)) = h.val * 128 + d.val; omega)
    rw [dif_neg c64, if_neg c64, cosT_eq (by omega) (by omega), sinT_eq (by omega) (by omega), o, o']

/-- The gradients at row `i` of chunk `n`, lane `d` of head `h`: of q, of k and of v. -/
def gradR (q k v da : Fin 8192 → Fin 4 → Fin 128 → EReal) (sf sb gf gb : Fin 64 → Fin 128 → Fin 4 → Fin 128 → EReal) (n : Fin 64) (h : Fin 4)
    (w : Fin 3) (i d : Fin 128) : EReal :=
  match w with
  | 0 => rotR (fun i e => dqR (fun i d => k (sq n i) h d) (fun i d => v (sq n i) h d) (fun i d => da (sq n i) h d) (decB h)
          (fun i d => sb n i h d) (xiB h) i e
        + dqR (fun i d => k (sq n i) h d) (fun i d => v (sq n i) h d) (fun i d => da (sq n i) h d) (decF h)
          (fun i d => sf n i h d) (xiF h) i e) (fun i f => cosT (sq n i).val f.val) (fun i f => sinT (sq n i).val f.val) i d
  | 1 => rotR (fun i e => (dkR (fun i d => q (sq n i) h d) (fun i d => v (sq n i) h d) (fun i d => da (sq n i) h d) (decB h)
          (fun i d => gb n i h d) (zeB h) i e
        + dkR (fun i d => q (sq n i) h d) (fun i d => v (sq n i) h d) (fun i d => da (sq n i) h d) (decF h)
          (fun i d => gf n i h d) (zeF h) i e) * scale) (fun i f => cosT (sq n i).val f.val) (fun i f => sinT (sq n i).val f.val) i d
  | 2 => dvR (fun i d => q (sq n i) h d) (fun i d => k (sq n i) h d) (fun i d => da (sq n i) h d) (decB h)
          (fun i d => gb n i h d) (zeB h) i d
        + dvR (fun i d => q (sq n i) h d) (fun i d => k (sq n i) h d) (fun i d => da (sq n i) h d) (decF h)
          (fun i d => gf n i h d) (zeF h) i d

end Cert.Ret

end
-- ==== Proof.Ret.Host.lean ====
/- The tables the host builds for the retention's backward pass, and its rotated rows, at an index. -/
module

public import proofs.«01_k».proof.Proof.Gen.KernelIdeal.Frame
public import proofs.«01_k».proof.Proof.Ret.Tables
public import Idealize.ShloMosaic.Lib.Pointwise
public import Idealize.ShloMosaic.Lib.StableHlo.RunRead

@[expose] public section

noncomputable section

namespace Cert.Ret

open Cert.KernelIdeal Cert.KernelIdeal.Gen Idealize.ShloMosaic Idealize.ShloMosaic.Pointwise Idealize.ShloMosaic.Pipeline Idealize.SL.Sem

variable (m : (ℓ : Loc nD τ sig) → Buf (Elt Ideal) ℓ)

theorem v161_at (c : Dev nD) (h : Fin 4) (i d : Fin 128) : V m c main_v161 (ix2 i (hd h d)) = xiF h i := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise []
  have e : (⟨(h.val * 128 + d.val) / 128, by omega⟩ : Fin 4) = h := Fin.ext (by show (h.val * 128 + d.val) / 128 = h.val; omega)
  have e' : (h.val * 128 + d.val) / 128 = h.val := by omega
  rw [e', rl_eq, xiF_eq]

theorem v171_at (c : Dev nD) (h : Fin 4) (i d : Fin 128) : V m c main_v171 (ix2 i (hd h d)) = zeF h i := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise []
  have e : (⟨(h.val * 128 + d.val) / 128, by omega⟩ : Fin 4) = h := Fin.ext (by show (h.val * 128 + d.val) / 128 = h.val; omega)
  have e' : (h.val * 128 + d.val) / 128 = h.val := by omega
  rw [e', rl_eq, zeF_eq]

theorem v181_at (c : Dev nD) (h : Fin 4) (i d : Fin 128) : V m c main_v181 (ix2 i (hd h d)) = xiB h i := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise []
  have e : (⟨(h.val * 128 + d.val) / 128, by omega⟩ : Fin 4) = h := Fin.ext (by show (h.val * 128 + d.val) / 128 = h.val; omega)
  simp only [List.mem_singleton, ↓reduceIte]
  rw [e, rl_eq, xiB_eq]

theorem v189_at (c : Dev nD) (h : Fin 4) (i d : Fin 128) : V m c main_v189 (ix2 i (hd h d)) = zeB h i := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise []
  have e : (⟨(h.val * 128 + d.val) / 128, by omega⟩ : Fin 4) = h := Fin.ext (by show (h.val * 128 + d.val) / 128 = h.val; omega)
  simp only [List.mem_singleton, ↓reduceIte]
  rw [e, rl_eq, zeB_eq]

theorem v103_at (c : Dev nD) (s : Fin 8192) (d : Fin 128) : V m c main_v103 (ix2 s d) = if d.val < 64 then cosT s.val d.val else cosT s.val (d.val - 64) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise []
  rw [cosT_eq (by omega) (by omega), cosT_eq (by omega) (by omega), sinT_eq (by omega) (by omega), sinT_eq (by omega) (by omega),
    cosT_add (by omega) (by omega), cosT_add (by omega) (by omega)]
  rfl

theorem v105_at (c : Dev nD) (s : Fin 8192) (d : Fin 128) : V m c main_v105 (ix2 s d) = if d.val < 64 then -sinT s.val d.val else sinT s.val (d.val - 64) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise []
  rw [cosT_eq (by omega) (by omega), cosT_eq (by omega) (by omega), sinT_eq (by omega) (by omega), sinT_eq (by omega) (by omega),
    sinT_add (by omega) (by omega), sinT_add (by omega) (by omega)]
  rfl

theorem v150_at (c : Dev nD) (h : Fin 4) (i j : Fin 128) : V m c main_v150 (ix3 h i j) = decF h i j + decB h i j := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  simp -implicitDefEqProofs only [StableHlo.TRef.toBuf, StableHlo.TRef.ofBuf, cast_cast, cast_eq]
  pointwise []
  have z : (id (constant (F := Ideal) S_ FTy.f32 0#32) ix0 : EReal) = 0 := Ideal.ofBits_zero_f32
  simp only [List.mem_singleton, ↓reduceIte]
  rw [z, rl_eq, rl_eq, decF_eq, decB_eq]

theorem v151_at (c : Dev nD) (h : Fin 4) (i j : Fin 128) : V m c main_v151 (ix3 h i j) = decF h j i + decB h j i := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  simp -implicitDefEqProofs only [StableHlo.TRef.toBuf, StableHlo.TRef.ofBuf, cast_cast, cast_eq]
  pointwise []
  have z : (id (constant (F := Ideal) S_ FTy.f32 0#32) ix0 : EReal) = 0 := Ideal.ofBits_zero_f32
  simp only [List.mem_singleton, ↓reduceIte]
  rw [z, rl_eq, rl_eq, decF_eq, decB_eq]

theorem v58_q (c : Dev nD) (s : Fin 8192) (h : Fin 4) (d : Fin 128) :
    V m c main_v58 (ix2 s (col 0 h d)) = rope (fun s l => m (c, Proc.tc.devRef main_arg0) (ix3 0 s l)) s h d := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise []
  after_reads_simp
  pointwise []
  after_reads_simp
  pointwise []
  have c1 : h.val * 128 + d.val < 512 := by omega
  rw [dif_pos c1]
  exact rope_read (fun s l => m (c, Proc.tc.devRef main_arg0) (ix3 0 s l)) s h d

theorem v58_k (c : Dev nD) (s : Fin 8192) (h : Fin 4) (d : Fin 128) :
    V m c main_v58 (ix2 s (col 1 h d)) = rope (fun s l => m (c, Proc.tc.devRef main_arg1) (ix3 0 s l)) s h d * scale := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise []
  after_reads_simp
  pointwise []
  after_reads_simp
  pointwise []
  have c2 : h.val * 128 + d.val < 512 := by omega
  rw [dif_pos c2]
  refine congrArg (· * scale) ?_
  exact rope_read (fun s l => m (c, Proc.tc.devRef main_arg1) (ix3 0 s l)) s h d

theorem v58_v (c : Dev nD) (s : Fin 8192) (h : Fin 4) (d : Fin 128) :
    V m c main_v58 (ix2 s (col 2 h d)) = m (c, Proc.tc.devRef main_arg2) (ix3 0 s (hd h d)) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise []
  after_reads_simp
  pointwise []
  after_reads_simp
  pointwise []
  have o : (⟨1024 + (h.val * 128 + d.val) - 512 - 512, by omega⟩ : Fin 512) = hd h d := Fin.ext (by
    show 1024 + (h.val * 128 + d.val) - 512 - 512 = h.val * 128 + d.val; omega)
  have c1 : ¬ 1024 + (h.val * 128 + d.val) < 512 := by omega
  have c2 : ¬ 1024 + (h.val * 128 + d.val) - 512 < 512 := by omega
  rw [dif_neg c1, dif_neg c2, o]

theorem arg3_at (c : Dev nD) : V m c main_arg3 = m (c, Proc.tc.devRef main_arg3) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp

theorem arg4_at (c : Dev nD) : V m c main_arg4 = m (c, Proc.tc.devRef main_arg4) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp

theorem arg5_at (c : Dev nD) : V m c main_arg5 = m (c, Proc.tc.devRef main_arg5) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp

theorem arg6_at (c : Dev nD) : V m c main_arg6 = m (c, Proc.tc.devRef main_arg6) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp

theorem arg7_at (c : Dev nD) : V m c main_arg7 = m (c, Proc.tc.devRef main_arg7) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp

end Cert.Ret

end
-- ==== Proof.Ret.KernelValue.lean ====
/- What the kernel's launch leaves, in the terms of the gradients. -/
module

public import proofs.«01_k».proof.Proof.Ret.Launch
public import proofs.«01_k».proof.Proof.Ret.Host

@[expose] public section

noncomputable section

namespace Cert.Ret

open Cert.KernelIdeal Cert.KernelIdeal.Gen Idealize.ShloMosaic Idealize.ShloMosaic.Pointwise Idealize.ShloMosaic.Pipeline Idealize.SL.Sem

variable (m : (ℓ : Loc nD τ sig) → Buf (Elt Ideal) ℓ)

/-- The gradients of a launch memory's arguments. -/
def gradOf (c : Dev nD) : Fin 64 → Fin 4 → Fin 3 → Fin 128 → Fin 128 → EReal :=
  gradR (fun s h d => rope (fun s l => m (c, Proc.tc.devRef main_arg0) (ix3 0 s l)) s h d)
    (fun s h d => rope (fun s l => m (c, Proc.tc.devRef main_arg1) (ix3 0 s l)) s h d * scale)
    (fun s h d => m (c, Proc.tc.devRef main_arg2) (ix3 0 s (hd h d))) (fun s h d => m (c, Proc.tc.devRef main_arg3) (ix2 s (hd h d)))
    (fun n i h d => m (c, Proc.tc.devRef main_arg4) (ix3 n i (hd h d))) (fun n i h d => m (c, Proc.tc.devRef main_arg5) (ix3 n i (hd h d)))
    (fun n i h d => m (c, Proc.tc.devRef main_arg6) (ix3 n i (hd h d))) (fun n i h d => m (c, Proc.tc.devRef main_arg7) (ix3 n i (hd h d)))

/-- The rotation's tables as the launch reads them. -/
theorem half_cos (s : ℕ) (d : Fin 128) :
    (if d.val < 64 then cosT s d.val else cosT s (d.val - 64)) = cosT s (half d).val := by
  show _ = cosT s (d.val % 64)
  by_cases c : d.val < 64
  · rw [if_pos c, Nat.mod_eq_of_lt c]
  · rw [if_neg c, show d.val % 64 = d.val - 64 from by omega]

theorem half_sin (s : ℕ) (d : Fin 128) :
    (if d.val < 64 then -sinT s d.val else sinT s (d.val - 64)) = if d.val < 64 then -sinT s (half d).val else sinT s (half d).val := by
  show _ = if d.val < 64 then -sinT s (d.val % 64) else sinT s (d.val % 64)
  by_cases c : d.val < 64
  · rw [if_pos c, if_pos c, Nat.mod_eq_of_lt c]
  · rw [if_neg c, if_neg c, show d.val % 64 = d.val - 64 from by omega]

/-- One head of one chunk of the launch, in the terms of the gradients. -/
theorem cell_eq (q k v da : Fin 8192 → Fin 4 → Fin 128 → EReal) (sf sb gf gb : Fin 64 → Fin 128 → Fin 4 → Fin 128 → EReal) (n : Fin 64) (h : Fin 4)
    (w : Fin 3) (i d : Fin 128) :
    cellK (fun i d => q (sq n i) h d) (fun i d => k (sq n i) h d) (fun i d => v (sq n i) h d) (fun i d => da (sq n i) h d)
      (fun i d => sf n i h d) (fun i d => sb n i h d) (fun i d => gf n i h d) (fun i d => gb n i h d)
      (fun i d => decF h i d + decB h i d) (fun i d => decF h d i + decB h d i)
      (fun i _ => xiF h i) (fun i _ => xiB h i) (fun i _ => zeF h i) (fun i _ => zeB h i)
      (fun i d => cosT (sq n i).val (half d).val)
      (fun i d => if d.val < 64 then -sinT (sq n i).val (half d).val else sinT (sq n i).val (half d).val) w i d
      = gradR q k v da sf sb gf gb n h w i d := by
  obtain ⟨r, hr, er⟩ := bsc
  match w with
  | 0 =>
    simp only [cellK, gradR]
    rw [rot_eq _ _ _ (fun i f => cosT (sq n i).val f.val) (fun i f => sinT (sq n i).val f.val) (fun _ _ => rfl) (fun _ _ => rfl)]
    congr 1
    funext i e
    exact dq_eq _ _ _ _ _ _ _ _ (decF h) (decB h) (xiF h) (xiB h) (fun _ _ => rfl) (fun _ _ => dec_disj h _ _) (fun _ _ => rfl) (fun _ _ => rfl)
      (fun _ => dec_real _ _) (fun _ => dec_real _ _) i e
  | 1 =>
    simp only [cellK, gradR]
    rw [rot_eq _ _ _ (fun i f => cosT (sq n i).val f.val) (fun i f => sinT (sq n i).val f.val) (fun _ _ => rfl) (fun _ _ => rfl)]
    have es : scale = (r : EReal) := er
    rw [es, rotR_scale _ _ _ r hr]
    congr 1
    congr 1
    funext i e
    exact dk_eq _ _ _ _ _ _ _ _ (decF h) (decB h) (zeF h) (zeB h) (fun _ _ => rfl) (fun _ _ => dec_disj h _ _) (fun _ _ => rfl) (fun _ _ => rfl) i e
  | 2 =>
    simp only [cellK, gradR]
    exact dv_eq _ _ _ _ _ _ _ _ (decF h) (decB h) (zeF h) (zeB h) (fun _ _ => rfl) (fun _ _ => dec_disj h _ _) (fun _ _ => rfl) (fun _ _ => rfl) i d

theorem launchK_eq (c : Dev nD) : launchK m c = gradOf m c := by
  funext n h w i d
  unfold launchK gradOf
  rw [arg3_at, arg4_at, arg5_at, arg6_at, arg7_at,
    show (fun i d => V m c main_v58 (ix2 (sq n i) (col 0 h d))) = _ from funext₂ fun i d => v58_q m c (sq n i) h d,
    show (fun i d => V m c main_v58 (ix2 (sq n i) (col 1 h d))) = _ from funext₂ fun i d => v58_k m c (sq n i) h d,
    show (fun i d => V m c main_v58 (ix2 (sq n i) (col 2 h d))) = _ from funext₂ fun i d => v58_v m c (sq n i) h d,
    show (fun i d => V m c main_v150 (ix3 h i d)) = _ from funext₂ fun i d => v150_at m c h i d,
    show (fun i d => V m c main_v151 (ix3 h i d)) = _ from funext₂ fun i d => v151_at m c h i d,
    show (fun i d => V m c main_v161 (ix2 i (hd h d))) = _ from funext₂ fun i d => v161_at m c h i d,
    show (fun i d => V m c main_v181 (ix2 i (hd h d))) = _ from funext₂ fun i d => v181_at m c h i d,
    show (fun i d => V m c main_v171 (ix2 i (hd h d))) = _ from funext₂ fun i d => v171_at m c h i d,
    show (fun i d => V m c main_v189 (ix2 i (hd h d))) = _ from funext₂ fun i d => v189_at m c h i d,
    show (fun i d => V m c main_v103 (ix2 (sq n i) d)) = _ from funext₂ fun i d => (v103_at m c (sq n i) d).trans (half_cos _ d),
    show (fun i d => V m c main_v105 (ix2 (sq n i) d)) = _ from funext₂ fun i d => (v105_at m c (sq n i) d).trans (half_sin _ d)]
  exact cell_eq (fun s h d => rope (fun s l => m (c, Proc.tc.devRef main_arg0) (ix3 0 s l)) s h d)
    (fun s h d => rope (fun s l => m (c, Proc.tc.devRef main_arg1) (ix3 0 s l)) s h d * scale)
    (fun s h d => m (c, Proc.tc.devRef main_arg2) (ix3 0 s (hd h d))) (fun s h d => m (c, Proc.tc.devRef main_arg3) (ix2 s (hd h d)))
    (fun n i h d => m (c, Proc.tc.devRef main_arg4) (ix3 n i (hd h d))) (fun n i h d => m (c, Proc.tc.devRef main_arg5) (ix3 n i (hd h d)))
    (fun n i h d => m (c, Proc.tc.devRef main_arg6) (ix3 n i (hd h d))) (fun n i h d => m (c, Proc.tc.devRef main_arg7) (ix3 n i (hd h d))) n h w i d

end Cert.Ret

end
-- ==== Proof.Ret.RefIn.lean ====
/- The reference's arrays, read at an index: the rotated q and k, v, the output's cotangent, the states, their chunks in the two directions, and the
   decays. -/
module

public import proofs.«01_k».proof.Proof.Gen.ReferenceIdeal.Read
public import proofs.«01_k».proof.Proof.Ret.Tables
public import Idealize.ShloMosaic.Lib.Pointwise

@[expose] public section

noncomputable section

namespace Cert.Ret.Ref

open Cert.ReferenceIdeal Cert.ReferenceIdeal.Gen Cert.ReferenceIdeal.Read Idealize.ShloMosaic Idealize.ShloMosaic.Pointwise Idealize.SL.Sem

variable (x0 x1 x2 : (⟨S1x8192x512, .f32⟩ : BufTy).Contents (Elt Ideal)) (x3 : (⟨S8192x512, .bf16⟩ : BufTy).Contents (Elt Ideal))
  (x4 x5 x6 x7 : (⟨S64x128x512, .bf16⟩ : BufTy).Contents (Elt Ideal))

theorem v40_at (s : Fin 8192) (h : Fin 4) (d : Fin 128) :
    val_main_v40 x0 (ix4 0 s h d) = rope (fun s l => x0 (ix3 0 s l)) s h d := by
  pointwise [val_main_v40, val_main_v39, val_main_v35, val_main_v34, val_main_v33, val_main_v22, val_main_v21, val_main_v18, val_main_v17, val_main_v15, val_main_v12, val_main_v11, val_main_cst_0, val_main_v10, val_main_v9, val_main_cst, val_main_v8, val_main_v7, val_main_v16, val_main_v14, val_main_v13, val_main_v24, val_main_v23, val_main_v38, val_main_v25, val_main_v37, val_main_v36, val_main_v20, val_main_v19, val_main_v32, val_main_v28, val_main_v27, val_main_v26, val_main_v31, val_main_v30, val_main_v29]
  exact rope_read (fun s l => x0 (ix3 0 s l)) s h d

theorem v60_at (s : Fin 8192) (h : Fin 4) (d : Fin 128) :
    val_main_v60 x1 (ix4 0 s h d) = rope (fun s l => x1 (ix3 0 s l)) s h d * scale := by
  pointwise [val_main_v60, val_main_v59, val_main_cst_1, val_main_v58, val_main_v57, val_main_v56, val_main_v55, val_main_v54, val_main_v20, val_main_v19, val_main_v18, val_main_v17, val_main_v15, val_main_v12, val_main_v11, val_main_cst_0, val_main_v10, val_main_v9, val_main_cst, val_main_v8, val_main_v7, val_main_v16, val_main_v14, val_main_v13, val_main_v43, val_main_v41, val_main_v53, val_main_v42, val_main_v52, val_main_v51, val_main_v22, val_main_v21, val_main_v50, val_main_v46, val_main_v45, val_main_v44, val_main_v49, val_main_v48, val_main_v47]
  exact congrArg (· * scale) (rope_read (fun s l => x1 (ix3 0 s l)) s h d)

theorem v61_at (s : Fin 8192) (h : Fin 4) (d : Fin 128) :
    val_main_v61 x2 (ix4 0 s h d) = x2 (ix3 0 s (hd h d)) := by
  pointwise [val_main_v61]

theorem sq_rev (n : Fin 64) (i : Fin 128) : (sq n i).rev = sq n.rev i.rev := by
  apply Fin.ext
  have hn := n.isLt
  have hi := i.isLt
  rw [Fin.val_rev]
  show 8192 - (n.val * 128 + i.val + 1) = n.rev.val * 128 + i.rev.val
  rw [Fin.val_rev, Fin.val_rev]; omega

theorem v72_at (h : Fin 4) (n : Fin 64) (i d : Fin 128) :
    val_main_v72 x0 (ix5 0 h n i d) = val_main_v40 x0 (ix4 0 (sq n i) h d) := by
  pointwise [val_main_v72, val_main_v71]

theorem v74_at (h : Fin 4) (n : Fin 64) (i d : Fin 128) :
    val_main_v74 x1 (ix5 0 h n i d) = val_main_v60 x1 (ix4 0 (sq n i) h d) := by
  pointwise [val_main_v74, val_main_v73]

theorem v76_at (h : Fin 4) (n : Fin 64) (i d : Fin 128) :
    val_main_v76 x2 (ix5 0 h n i d) = val_main_v61 x2 (ix4 0 (sq n i) h d) := by
  pointwise [val_main_v76, val_main_v75]

theorem v128_at (h : Fin 4) (n : Fin 64) (i d : Fin 128) :
    val_main_v128 x0 (ix5 0 h n.rev i.rev d) = val_main_v40 x0 (ix4 0 (sq n i) h d) := by
  pointwise [val_main_v128, val_main_v127, val_main_v126]
  simp only [List.mem_singleton, ↓reduceIte, zero_ne_one, OfNat.ofNat_ne_one, Nat.reduceEqDiff]
  rw [show (⟨n.rev.val * 128 + i.rev.val, by omega⟩ : Fin 8192).rev = sq n i from by rw [show (⟨n.rev.val * 128 + i.rev.val, by omega⟩ : Fin 8192) = sq n.rev i.rev from rfl, sq_rev, Fin.rev_rev, Fin.rev_rev]]
  rfl

theorem v131_at (h : Fin 4) (n : Fin 64) (i d : Fin 128) :
    val_main_v131 x1 (ix5 0 h n.rev i.rev d) = val_main_v60 x1 (ix4 0 (sq n i) h d) := by
  pointwise [val_main_v131, val_main_v130, val_main_v129]
  simp only [List.mem_singleton, ↓reduceIte, zero_ne_one, OfNat.ofNat_ne_one, Nat.reduceEqDiff]
  rw [show (⟨n.rev.val * 128 + i.rev.val, by omega⟩ : Fin 8192).rev = sq n i from by rw [show (⟨n.rev.val * 128 + i.rev.val, by omega⟩ : Fin 8192) = sq n.rev i.rev from rfl, sq_rev, Fin.rev_rev, Fin.rev_rev]]
  rfl

theorem v134_at (h : Fin 4) (n : Fin 64) (i d : Fin 128) :
    val_main_v134 x2 (ix5 0 h n.rev i.rev d) = val_main_v61 x2 (ix4 0 (sq n i) h d) := by
  pointwise [val_main_v134, val_main_v133, val_main_v132]
  simp only [List.mem_singleton, ↓reduceIte, zero_ne_one, OfNat.ofNat_ne_one, Nat.reduceEqDiff]
  rw [show (⟨n.rev.val * 128 + i.rev.val, by omega⟩ : Fin 8192).rev = sq n i from by rw [show (⟨n.rev.val * 128 + i.rev.val, by omega⟩ : Fin 8192) = sq n.rev i.rev from rfl, sq_rev, Fin.rev_rev, Fin.rev_rev]]
  rfl

theorem v205_at (h : Fin 4) (n : Fin 64) (i d : Fin 128) :
    val_main_v205 x3 (ix5 0 h n i d) = x3 (ix2 (sq n i) (hd h d)) := by
  pointwise [val_main_v205, val_main_v204, val_main_v200, val_main_v192, val_main_v191]

theorem v203_at (h : Fin 4) (n : Fin 64) (i d : Fin 128) :
    val_main_v203 x3 (ix5 0 h n.rev i.rev d) = x3 (ix2 (sq n i) (hd h d)) := by
  pointwise [val_main_v203, val_main_v202, val_main_v201, val_main_v200, val_main_v192, val_main_v191]
  simp only [List.mem_singleton, ↓reduceIte, zero_ne_one, OfNat.ofNat_ne_one, Nat.reduceEqDiff]
  rw [show (⟨n.rev.val * 128 + i.rev.val, by omega⟩ : Fin 8192).rev = sq n i from by rw [show (⟨n.rev.val * 128 + i.rev.val, by omega⟩ : Fin 8192) = sq n.rev i.rev from rfl, sq_rev, Fin.rev_rev, Fin.rev_rev]]
  rfl

theorem v2_at (h : Fin 4) (n : Fin 64) (i d : Fin 128) :
    val_main_v2 x4 (ix5 n 0 h i d) = x4 (ix3 n i (hd h d)) := by
  pointwise [val_main_v2, val_main_v1, val_main_v0]

theorem v195_at (h : Fin 4) (n : Fin 64) (i d : Fin 128) :
    val_main_v195 x6 (ix5 n 0 h i d) = x6 (ix3 n i (hd h d)) := by
  pointwise [val_main_v195, val_main_v194, val_main_v193]

theorem v6_at (h : Fin 4) (n : Fin 64) (i d : Fin 128) :
    val_main_v6 x5 (ix5 n.rev 0 h i d) = x5 (ix3 n i (hd h d)) := by
  pointwise [val_main_v6, val_main_v5, val_main_v4, val_main_v3]
  simp only [List.mem_singleton, ↓reduceIte, Fin.rev_rev, OfNat.ofNat_ne_zero, one_ne_zero]
  rfl

theorem v199_at (h : Fin 4) (n : Fin 64) (i d : Fin 128) :
    val_main_v199 x7 (ix5 n.rev 0 h i d) = x7 (ix3 n i (hd h d)) := by
  pointwise [val_main_v199, val_main_v198, val_main_v197, val_main_v196]
  simp only [List.mem_singleton, ↓reduceIte, Fin.rev_rev, OfNat.ofNat_ne_zero, one_ne_zero]
  rfl

theorem v94_at (h : Fin 4) (i j : Fin 128) : val_main_v94 (F := Ideal) (ix3 h i j) = decF h i j := by
  pointwise [val_main_v94, val_main_call1_v2, val_main_call1_v0, val_main_cst_7, val_main_call1_v1, val_main_v86, val_main_v84, val_main_v83, val_main_v81, val_main_v77, val_main_v82, val_main_v80, val_main_v85, val_main_cst_5, val_main_v93, val_main_v92, val_main_v91, val_main_v89, val_main_v88, val_main_call0_v1, val_main_call0_v0, val_main_cst_6, val_main_v90, val_main_v87, val_main_v79, val_main_v78, val_main_v69, val_main_v68, val_main_cst_4, val_main_v67, val_main_v66, val_main_v65, val_main_cst_3, val_main_v64, val_main_v62, val_main_v63, val_main_cst_2]
  have z : (id (constant (F := Ideal) S_ FTy.f32 0#32) ix0 : EReal) = 0 := Ideal.ofBits_zero_f32
  rw [z, rl_eq, decF_eq]

theorem v152_at (h : Fin 4) (i j : Fin 128) : val_main_v152 (F := Ideal) (ix3 h i.rev j.rev) = decB h i j := by
  pointwise [val_main_v152, val_main_call6_v2, val_main_call6_v0, val_main_cst_12, val_main_call6_v1, val_main_v144, val_main_v143, val_main_cst_10, val_main_v142, val_main_v140, val_main_v138, val_main_v135, val_main_v141, val_main_v139, val_main_v151, val_main_v150, val_main_v148, val_main_v145, val_main_v137, val_main_v136, val_main_v70, val_main_v69, val_main_v68, val_main_cst_4, val_main_v67, val_main_v66, val_main_v65, val_main_cst_3, val_main_v64, val_main_v62, val_main_v63, val_main_cst_2, val_main_v149, val_main_v147, val_main_v146, val_main_call5_v1, val_main_call5_v0, val_main_cst_11]
  have z : (id (constant (F := Ideal) S_ FTy.f32 0#32) ix0 : EReal) = 0 := Ideal.ofBits_zero_f32
  simp only [List.mem_singleton, ↓reduceIte]
  rw [z, rl_eq, decB_rev, Fin.rev_rev, Fin.rev_rev]

theorem v101_at (h : Fin 4) (i : Fin 128) : val_main_v101 (F := Ideal) (ix2 h i) = zeF h i := by
  pointwise [val_main_v101, val_main_v100, val_main_v99, val_main_v97, val_main_v96, val_main_v95, val_main_cst_8, val_main_v77, val_main_v98, val_main_v79, val_main_v78, val_main_v69, val_main_v68, val_main_cst_4, val_main_v67, val_main_v66, val_main_v65, val_main_cst_3, val_main_v64, val_main_v62, val_main_v63, val_main_cst_2]
  rw [rl_eq, zeF_eq]

theorem v108_at (h : Fin 4) (i : Fin 128) : val_main_v108 (F := Ideal) (ix2 h i) = xiF h i := by
  pointwise [val_main_v108, val_main_v107, val_main_v105, val_main_v79, val_main_v78, val_main_v69, val_main_v68, val_main_cst_4, val_main_v67, val_main_v66, val_main_v65, val_main_cst_3, val_main_v64, val_main_v62, val_main_v63, val_main_cst_2, val_main_v106, val_main_v104, val_main_v103, val_main_v77, val_main_v102, val_main_cst_9]
  rw [rl_eq, xiF_eq]

theorem v159_at (h : Fin 4) (i : Fin 128) : val_main_v159 (F := Ideal) (ix2 h i.rev) = zeB h i := by
  pointwise [val_main_v159, val_main_v158, val_main_v157, val_main_v155, val_main_v154, val_main_v135, val_main_v153, val_main_cst_13, val_main_v156, val_main_v137, val_main_v136, val_main_v70, val_main_v69, val_main_v68, val_main_cst_4, val_main_v67, val_main_v66, val_main_v65, val_main_cst_3, val_main_v64, val_main_v62, val_main_v63, val_main_cst_2]
  simp only [List.mem_singleton, ↓reduceIte]
  rw [rl_eq, zeB_rev, Fin.rev_rev]

theorem v166_at (h : Fin 4) (i : Fin 128) : val_main_v166 (F := Ideal) (ix2 h i.rev) = xiB h i := by
  pointwise [val_main_v166, val_main_v165, val_main_v164, val_main_v162, val_main_v161, val_main_v135, val_main_v160, val_main_cst_14, val_main_v163, val_main_v137, val_main_v136, val_main_v70, val_main_v69, val_main_v68, val_main_cst_4, val_main_v67, val_main_v66, val_main_v65, val_main_cst_3, val_main_v64, val_main_v62, val_main_v63, val_main_cst_2]
  simp only [List.mem_singleton, ↓reduceIte]
  rw [rl_eq, xiB_rev, Fin.rev_rev]

end Cert.Ret.Ref

end
-- ==== Proof.Ret.RefGrad.lean ====
/- The reference's gradients of the chunks, in the two directions. -/
module

public import proofs.«01_k».proof.Proof.Ret.RefIn
public import Idealize.ShloMosaic.Lib.Pointwise

@[expose] public section

noncomputable section

namespace Cert.Ret.Ref

open Cert.ReferenceIdeal Cert.ReferenceIdeal.Gen Cert.ReferenceIdeal.Read Idealize.ShloMosaic Idealize.ShloMosaic.Pointwise Idealize.SL.Sem

variable (x0 x1 x2 : (⟨S1x8192x512, .f32⟩ : BufTy).Contents (Elt Ideal)) (x3 : (⟨S8192x512, .bf16⟩ : BufTy).Contents (Elt Ideal))
  (x4 x5 x6 x7 : (⟨S64x128x512, .bf16⟩ : BufTy).Contents (Elt Ideal))

/-- A sum over the rows of a chunk, the rows counted from its end. -/
theorem sum_rev (f : Fin 128 → EReal) : ∑ x, f x = ∑ x : Fin 128, f x.rev := (Equiv.sum_comp Fin.revPerm f).symm

theorem v245_at (h : Fin 4) (n : Fin 64) (i d : Fin 128) :
    val_main_v245 x0 x1 x3 x6 (ix5 0 h n i d) = dvR (fun i d => rope (fun s l => x0 (ix3 0 s l)) (sq n i) h d) (fun i d => rope (fun s l => x1 (ix3 0 s l)) (sq n i) h d * scale) (fun i d => x3 (ix2 (sq n i) (hd h d))) (decF h) (fun i d => x6 (ix3 n i (hd h d))) (zeF h) i d := by
  pointwise [val_main_v245, val_main_v244, val_main_v243, val_main_v113, val_main_v109, val_main_v112, val_main_v111, val_main_v110, val_main_v242, val_main_v238, val_main_v237, val_main_v241, val_main_v116, val_main_v115]
  simp only [v195_at, v2_at, v205_at, v72_at, v74_at, v76_at, v94_at, v101_at, v108_at, v40_at, v60_at, v61_at]
  rfl

theorem v250_at (h : Fin 4) (n : Fin 64) (i d : Fin 128) :
    val_main_v250 x0 x2 x3 x6 (ix5 0 h n i d) = dkR (fun i d => rope (fun s l => x0 (ix3 0 s l)) (sq n i) h d) (fun i d => x2 (ix3 0 (sq n i) (hd h d))) (fun i d => x3 (ix2 (sq n i) (hd h d))) (decF h) (fun i d => x6 (ix3 n i (hd h d))) (zeF h) i d := by
  pointwise [val_main_v250, val_main_v249, val_main_v248, val_main_v246, val_main_v247, val_main_v111, val_main_v110, val_main_v240, val_main_v239, val_main_v118, val_main_v117, val_main_v116, val_main_v115]
  simp only [v195_at, v2_at, v205_at, v72_at, v74_at, v76_at, v94_at, v101_at, v108_at, v40_at, v60_at, v61_at]
  rfl

theorem v252_at (h : Fin 4) (n : Fin 64) (i d : Fin 128) :
    val_main_v252 x1 x2 x3 x4 (ix5 0 h n i d) = dqR (fun i d => rope (fun s l => x1 (ix3 0 s l)) (sq n i) h d * scale) (fun i d => x2 (ix3 0 (sq n i) (hd h d))) (fun i d => x3 (ix2 (sq n i) (hd h d))) (decF h) (fun i d => x4 (ix3 n i (hd h d))) (xiF h) i d := by
  pointwise [val_main_v252, val_main_v251, val_main_v248, val_main_v246, val_main_v247, val_main_v111, val_main_v110, val_main_v236, val_main_v235, val_main_v234, val_main_v122, val_main_v121]
  simp only [v195_at, v2_at, v205_at, v72_at, v74_at, v76_at, v94_at, v101_at, v108_at, v40_at, v60_at, v61_at]
  rfl

theorem v217_at (h : Fin 4) (n : Fin 64) (i d : Fin 128) :
    val_main_v217 x0 x1 x3 x7 (ix5 0 h n.rev i.rev d) = dvR (fun i d => rope (fun s l => x0 (ix3 0 s l)) (sq n i) h d) (fun i d => rope (fun s l => x1 (ix3 0 s l)) (sq n i) h d * scale) (fun i d => x3 (ix2 (sq n i) (hd h d))) (decB h) (fun i d => x7 (ix3 n i (hd h d))) (zeB h) i d := by
  pointwise [val_main_v217, val_main_v216, val_main_v215, val_main_v171, val_main_v167, val_main_v170, val_main_v169, val_main_v168, val_main_v214, val_main_v210, val_main_v209, val_main_v213, val_main_v174, val_main_v173]
  unfold dvR
  refine congrArg₂ (· + ·) ?_ ((sum_rev _).trans ?_)
  · simp only [v199_at, v6_at, v203_at, v128_at, v131_at, v134_at, v152_at, v159_at, v166_at, v40_at, v60_at, v61_at]
  · simp only [v199_at, v6_at, v203_at, v128_at, v131_at, v134_at, v152_at, v159_at, v166_at, v40_at, v60_at, v61_at]

theorem v222_at (h : Fin 4) (n : Fin 64) (i d : Fin 128) :
    val_main_v222 x0 x2 x3 x7 (ix5 0 h n.rev i.rev d) = dkR (fun i d => rope (fun s l => x0 (ix3 0 s l)) (sq n i) h d) (fun i d => x2 (ix3 0 (sq n i) (hd h d))) (fun i d => x3 (ix2 (sq n i) (hd h d))) (decB h) (fun i d => x7 (ix3 n i (hd h d))) (zeB h) i d := by
  pointwise [val_main_v222, val_main_v212, val_main_v211, val_main_v176, val_main_v175, val_main_v174, val_main_v173, val_main_v221, val_main_v220, val_main_v218, val_main_v219, val_main_v169, val_main_v168]
  unfold dkR
  refine congrArg₂ (· + ·) ?_ ((sum_rev _).trans ?_)
  · simp only [v199_at, v6_at, v203_at, v128_at, v131_at, v134_at, v152_at, v159_at, v166_at, v40_at, v60_at, v61_at]
  · simp only [v199_at, v6_at, v203_at, v128_at, v131_at, v134_at, v152_at, v159_at, v166_at, v40_at, v60_at, v61_at]

theorem v224_at (h : Fin 4) (n : Fin 64) (i d : Fin 128) :
    val_main_v224 x1 x2 x3 x5 (ix5 0 h n.rev i.rev d) = dqR (fun i d => rope (fun s l => x1 (ix3 0 s l)) (sq n i) h d * scale) (fun i d => x2 (ix3 0 (sq n i) (hd h d))) (fun i d => x3 (ix2 (sq n i) (hd h d))) (decB h) (fun i d => x5 (ix3 n i (hd h d))) (xiB h) i d := by
  pointwise [val_main_v224, val_main_v208, val_main_v207, val_main_v206, val_main_v180, val_main_v179, val_main_v223, val_main_v220, val_main_v218, val_main_v219, val_main_v169, val_main_v168]
  unfold dqR
  refine congrArg₂ (· + ·) ?_ ((sum_rev _).trans ?_)
  · simp only [v199_at, v6_at, v203_at, v128_at, v131_at, v134_at, v152_at, v159_at, v166_at, v40_at, v60_at, v61_at]
  · simp only [v199_at, v6_at, v203_at, v128_at, v131_at, v134_at, v152_at, v159_at, v166_at, v40_at, v60_at, v61_at]

end Cert.Ret.Ref

end
-- ==== Proof.Ret.RefOut.lean ====
/- The reference's result at an index. -/
module

public import proofs.«01_k».proof.Proof.Ret.RefGrad
public import Idealize.ShloMosaic.Lib.Pointwise

@[expose] public section

noncomputable section

namespace Cert.Ret.Ref

open Cert.ReferenceIdeal Cert.ReferenceIdeal.Gen Cert.ReferenceIdeal.Read Idealize.ShloMosaic Idealize.ShloMosaic.Pointwise Idealize.SL.Sem

variable (x0 x1 x2 : (⟨S1x8192x512, .f32⟩ : BufTy).Contents (Elt Ideal)) (x3 : (⟨S8192x512, .bf16⟩ : BufTy).Contents (Elt Ideal))
  (x4 x5 x6 x7 : (⟨S64x128x512, .bf16⟩ : BufTy).Contents (Elt Ideal))

theorem rev_chunk (n : Fin 64) (i : Fin 128) (p : (sq n i).rev.val / 128 < 64) : (⟨(sq n i).rev.val / 128, p⟩ : Fin 64) = n.rev := by
  apply Fin.ext
  show (sq n i).rev.val / 128 = n.rev.val
  rw [sq_rev]; show (n.rev.val * 128 + i.rev.val) / 128 = n.rev.val; omega

theorem rev_row (n : Fin 64) (i : Fin 128) (p : (sq n i).rev.val % 128 < 128) : (⟨(sq n i).rev.val % 128, p⟩ : Fin 128) = i.rev := by
  apply Fin.ext
  show (sq n i).rev.val % 128 = i.rev.val
  rw [sq_rev]; show (n.rev.val * 128 + i.rev.val) % 128 = i.rev.val; omega

theorem chunk_of (n : Fin 64) (i : Fin 128) (p : (n.val * 128 + i.val) / 128 < 64) : (⟨(n.val * 128 + i.val) / 128, p⟩ : Fin 64) = n :=
  Fin.ext (by show (n.val * 128 + i.val) / 128 = n.val; omega)

theorem row_of (n : Fin 64) (i : Fin 128) (p : (n.val * 128 + i.val) % 128 < 128) : (⟨(n.val * 128 + i.val) % 128, p⟩ : Fin 128) = i :=
  Fin.ext (by show (n.val * 128 + i.val) % 128 = i.val; omega)

theorem head_of (h : Fin 4) (d : Fin 128) (p : (h.val * 128 + d.val) / 128 < 4) : (⟨(h.val * 128 + d.val) / 128, p⟩ : Fin 4) = h :=
  Fin.ext (by show (h.val * 128 + d.val) / 128 = h.val; omega)

theorem lane_of (h : Fin 4) (d : Fin 128) (p : (h.val * 128 + d.val) % 128 < 128) : (⟨(h.val * 128 + d.val) % 128, p⟩ : Fin 128) = d :=
  Fin.ext (by show (h.val * 128 + d.val) % 128 = d.val; omega)

theorem v255_at (h : Fin 4) (n : Fin 64) (i d : Fin 128) :
    val_main_v255 x0 x1 x3 x6 x7 (ix4 0 (sq n i) h d) = val_main_v217 x0 x1 x3 x7 (ix5 0 h n.rev i.rev d) + val_main_v245 x0 x1 x3 x6 (ix5 0 h n i d) := by
  pointwise [val_main_v255, val_main_v227, val_main_v226, val_main_v225, val_main_v254, val_main_v253]
  rw [chunk_of, row_of]
  simp only [List.mem_singleton, ↓reduceIte, rev_chunk, rev_row]
  rfl

theorem v258_at (h : Fin 4) (n : Fin 64) (i d : Fin 128) :
    val_main_v258 x0 x2 x3 x6 x7 (ix4 0 (sq n i) h d) = val_main_v222 x0 x2 x3 x7 (ix5 0 h n.rev i.rev d) + val_main_v250 x0 x2 x3 x6 (ix5 0 h n i d) := by
  pointwise [val_main_v258, val_main_v257, val_main_v256, val_main_v230, val_main_v229, val_main_v228]
  rw [chunk_of, row_of]
  simp only [List.mem_singleton, ↓reduceIte, rev_chunk, rev_row]
  rfl

theorem v261_at (h : Fin 4) (n : Fin 64) (i d : Fin 128) :
    val_main_v261 x1 x2 x3 x4 x5 (ix4 0 (sq n i) h d) = val_main_v224 x1 x2 x3 x5 (ix5 0 h n.rev i.rev d) + val_main_v252 x1 x2 x3 x4 (ix5 0 h n i d) := by
  pointwise [val_main_v261, val_main_v233, val_main_v232, val_main_v231, val_main_v260, val_main_v259]
  rw [chunk_of, row_of]
  simp only [List.mem_singleton, ↓reduceIte, rev_chunk, rev_row]
  rfl

theorem v26_at (s : Fin 8192) (f : Fin 64) : val_main_v26 (F := Ideal) (ix4 0 s 0 f) = cosT s.val f.val := by
  pointwise [val_main_v26, val_main_v20, val_main_v19, val_main_v18, val_main_v17, val_main_v15, val_main_v12, val_main_v10, val_main_v8, val_main_v7, val_main_v9, val_main_cst, val_main_v11, val_main_cst_0, val_main_v16, val_main_v14, val_main_v13]
  exact cosT_eq (by omega) (by omega)

theorem v33_at (s : Fin 8192) (f : Fin 64) : val_main_v33 (F := Ideal) (ix4 0 s 0 f) = sinT s.val f.val := by
  pointwise [val_main_v33, val_main_v22, val_main_v21, val_main_v18, val_main_v17, val_main_v15, val_main_v12, val_main_v10, val_main_v8, val_main_v7, val_main_v9, val_main_cst, val_main_v11, val_main_cst_0, val_main_v16, val_main_v14, val_main_v13]
  exact sinT_eq (by omega) (by omega)

theorem v29_at (s : Fin 8192) (f : Fin 64) : val_main_v29 (F := Ideal) (ix4 0 s 0 f) = sinT s.val f.val := by
  pointwise [val_main_v29, val_main_v22, val_main_v21, val_main_v18, val_main_v17, val_main_v15, val_main_v12, val_main_v10, val_main_v8, val_main_v7, val_main_v9, val_main_cst, val_main_v11, val_main_cst_0, val_main_v16, val_main_v14, val_main_v13]
  exact sinT_eq (by omega) (by omega)

theorem v36_at (s : Fin 8192) (f : Fin 64) : val_main_v36 (F := Ideal) (ix4 0 s 0 f) = cosT s.val f.val := by
  pointwise [val_main_v36, val_main_v20, val_main_v19, val_main_v18, val_main_v17, val_main_v15, val_main_v12, val_main_v10, val_main_v8, val_main_v7, val_main_v9, val_main_cst, val_main_v11, val_main_cst_0, val_main_v16, val_main_v14, val_main_v13]
  exact cosT_eq (by omega) (by omega)

theorem v47_at (s : Fin 8192) (f : Fin 64) : val_main_v47 (F := Ideal) (ix4 0 s 0 f) = sinT s.val f.val := by
  pointwise [val_main_v47, val_main_v22, val_main_v21, val_main_v18, val_main_v17, val_main_v15, val_main_v12, val_main_v10, val_main_v8, val_main_v7, val_main_v9, val_main_cst, val_main_v11, val_main_cst_0, val_main_v16, val_main_v14, val_main_v13]
  exact sinT_eq (by omega) (by omega)

theorem v54_at (s : Fin 8192) (f : Fin 64) : val_main_v54 (F := Ideal) (ix4 0 s 0 f) = cosT s.val f.val := by
  pointwise [val_main_v54, val_main_v20, val_main_v19, val_main_v18, val_main_v17, val_main_v15, val_main_v12, val_main_v10, val_main_v8, val_main_v7, val_main_v9, val_main_cst, val_main_v11, val_main_cst_0, val_main_v16, val_main_v14, val_main_v13]
  exact cosT_eq (by omega) (by omega)

theorem v44_at (s : Fin 8192) (f : Fin 64) : val_main_v44 (F := Ideal) (ix4 0 s 0 f) = cosT s.val f.val := by
  pointwise [val_main_v44, val_main_v20, val_main_v19, val_main_v18, val_main_v17, val_main_v15, val_main_v12, val_main_v10, val_main_v8, val_main_v7, val_main_v9, val_main_cst, val_main_v11, val_main_cst_0, val_main_v16, val_main_v14, val_main_v13]
  exact cosT_eq (by omega) (by omega)

theorem v51_at (s : Fin 8192) (f : Fin 64) : val_main_v51 (F := Ideal) (ix4 0 s 0 f) = sinT s.val f.val := by
  pointwise [val_main_v51, val_main_v22, val_main_v21, val_main_v18, val_main_v17, val_main_v15, val_main_v12, val_main_v10, val_main_v8, val_main_v7, val_main_v9, val_main_cst, val_main_v11, val_main_cst_0, val_main_v16, val_main_v14, val_main_v13]
  exact sinT_eq (by omega) (by omega)

theorem v278_at (n : Fin 64) (i : Fin 128) (h : Fin 4) (d : Fin 128) :
    val_main_v278 x0 x2 x3 x6 x7 (ix4 0 (sq n i) h d) = rotR (fun i e => val_main_v258 x0 x2 x3 x6 x7 (ix4 0 (sq n i) h e) * scale)
      (fun i f => cosT (sq n i).val f.val) (fun i f => sinT (sq n i).val f.val) i d := by
  pointwise [val_main_v278]
  pointwise [val_main_v277, val_main_v276, val_main_v275, val_main_v265, val_main_v264, val_main_v263, val_main_cst_15, val_main_v270, val_main_v269, val_main_v266, val_main_v274, val_main_v273, val_main_v271, val_main_v272, val_main_v268, val_main_v267]
  simp only [v51_at, v44_at, v54_at, v47_at]
  unfold rotR
  by_cases c : d.val < 64
  · have o : (⟨64 + d.val, by omega⟩ : Fin 128) = opp d := Fin.ext (by show 64 + d.val = (d.val + 128 - 64) % 128; omega)
    have e : half d = ⟨d.val, c⟩ := Fin.ext (by show d.val % 64 = d.val; omega)
    rw [dif_pos c, if_pos c, o, e]
  · have o : (⟨d.val - 64, by omega⟩ : Fin 128) = opp d := Fin.ext (by show d.val - 64 = (d.val + 128 - 64) % 128; omega)
    have o' : (⟨64 + (d.val - 64), by omega⟩ : Fin 128) = d := Fin.ext (by show 64 + (d.val - 64) = d.val; omega)
    have e : half d = ⟨d.val - 64, by omega⟩ := Fin.ext (by show d.val % 64 = d.val - 64; omega)
    rw [dif_neg c, if_neg c, o, o', e]

theorem v279_at (s : Fin 8192) (h : Fin 4) (d : Fin 128) :
    val_main_v279 x0 x2 x3 x6 x7 (ix3 0 s (hd h d)) = val_main_v278 x0 x2 x3 x6 x7 (ix4 0 s h d) := by
  pointwise [val_main_v279]
  rw [head_of, lane_of]

theorem v293_at (n : Fin 64) (i : Fin 128) (h : Fin 4) (d : Fin 128) :
    val_main_v293 x1 x2 x3 x4 x5 (ix4 0 (sq n i) h d) = rotR (fun i e => val_main_v261 x1 x2 x3 x4 x5 (ix4 0 (sq n i) h e))
      (fun i f => cosT (sq n i).val f.val) (fun i f => sinT (sq n i).val f.val) i d := by
  pointwise [val_main_v293]
  pointwise [val_main_v289, val_main_v288, val_main_v286, val_main_v280, val_main_v287, val_main_v283, val_main_v282, val_main_v281, val_main_v292, val_main_v285, val_main_v284, val_main_v291, val_main_v290]
  simp only [v33_at, v26_at, v36_at, v29_at]
  unfold rotR
  by_cases c : d.val < 64
  · have o : (⟨64 + d.val, by omega⟩ : Fin 128) = opp d := Fin.ext (by show 64 + d.val = (d.val + 128 - 64) % 128; omega)
    have e : half d = ⟨d.val, c⟩ := Fin.ext (by show d.val % 64 = d.val; omega)
    rw [dif_pos c, if_pos c, o, e]
  · have o : (⟨d.val - 64, by omega⟩ : Fin 128) = opp d := Fin.ext (by show d.val - 64 = (d.val + 128 - 64) % 128; omega)
    have o' : (⟨64 + (d.val - 64), by omega⟩ : Fin 128) = d := Fin.ext (by show 64 + (d.val - 64) = d.val; omega)
    have e : half d = ⟨d.val - 64, by omega⟩ := Fin.ext (by show d.val % 64 = d.val - 64; omega)
    rw [dif_neg c, if_neg c, o, o', e]

theorem v294_at (s : Fin 8192) (h : Fin 4) (d : Fin 128) :
    val_main_v294 x1 x2 x3 x4 x5 (ix3 0 s (hd h d)) = val_main_v293 x1 x2 x3 x4 x5 (ix4 0 s h d) := by
  pointwise [val_main_v294]
  rw [head_of, lane_of]

theorem v297_0 (s : Fin 8192) (h : Fin 4) (d : Fin 128) :
    val_main_v297 x0 x1 x2 x3 x4 x5 x6 x7 (ix2 s (col 0 h d)) = val_main_v294 x1 x2 x3 x4 x5 (ix3 0 s (hd h d)) := by
  pointwise [val_main_v297, val_main_v296, val_main_v295, val_main_v262]
  have c1 : h.val * 128 + d.val < 512 := by omega
  rw [dif_pos c1]

theorem v297_1 (s : Fin 8192) (h : Fin 4) (d : Fin 128) :
    val_main_v297 x0 x1 x2 x3 x4 x5 x6 x7 (ix2 s (col 1 h d)) = val_main_v279 x0 x2 x3 x6 x7 (ix3 0 s (hd h d)) := by
  pointwise [val_main_v297, val_main_v296, val_main_v295, val_main_v262]
  have c1 : h.val * 128 + d.val < 512 := by omega
  rw [dif_pos c1]

theorem v297_2 (s : Fin 8192) (h : Fin 4) (d : Fin 128) :
    val_main_v297 x0 x1 x2 x3 x4 x5 x6 x7 (ix2 s (col 2 h d)) = val_main_v255 x0 x1 x3 x6 x7 (ix4 0 s h d) := by
  pointwise [val_main_v297, val_main_v296, val_main_v295, val_main_v262]
  have c1 : ¬ 1024 + (h.val * 128 + d.val) < 512 := by omega
  have c2 : ¬ 1024 + (h.val * 128 + d.val) - 512 < 512 := by omega
  have e1 : (⟨(1024 + (h.val * 128 + d.val) - 512 - 512) / 128, by omega⟩ : Fin 4) = h :=
    Fin.ext (by show (1024 + (h.val * 128 + d.val) - 512 - 512) / 128 = h.val; omega)
  have e2 : (⟨(1024 + (h.val * 128 + d.val) - 512 - 512) % 128, by omega⟩ : Fin 128) = d :=
    Fin.ext (by show (1024 + (h.val * 128 + d.val) - 512 - 512) % 128 = d.val; omega)
  rw [dif_neg c1, dif_neg c2, e1, e2]

/-- The reference's result: the gradients. -/
theorem v297_at (n : Fin 64) (h : Fin 4) (w : Fin 3) (i d : Fin 128) :
    val_main_v297 x0 x1 x2 x3 x4 x5 x6 x7 (ix2 (sq n i) (col w h d))
      = gradR (fun s h d => rope (fun s l => x0 (ix3 0 s l)) s h d)
    (fun s h d => rope (fun s l => x1 (ix3 0 s l)) s h d * scale)
    (fun s h d => x2 (ix3 0 s (hd h d))) (fun s h d => x3 (ix2 s (hd h d)))
    (fun n i h d => x4 (ix3 n i (hd h d))) (fun n i h d => x5 (ix3 n i (hd h d)))
    (fun n i h d => x6 (ix3 n i (hd h d))) (fun n i h d => x7 (ix3 n i (hd h d))) n h w i d := by
  match w with
  | 0 =>
    simp only [gradR]
    rw [v297_0, v294_at, v293_at]
    congr 1
    funext i e
    rw [v261_at, v224_at, v252_at]
  | 1 =>
    simp only [gradR]
    rw [v297_1, v279_at, v278_at]
    congr 1
    funext i e
    rw [v258_at, v222_at, v250_at]
  | 2 =>
    simp only [gradR]
    rw [v297_2, v255_at, v217_at, v245_at]

end Cert.Ret.Ref

end
-- ==== Proof.Ret.Agree.lean ====
/- The retention's gradient: the two runs end with the same result. -/
module

public import proofs.«01_k».proof.Defs
public import proofs.«01_k».proof.Proof.Ret.KernelValue
public import proofs.«01_k».proof.Proof.Ret.RefOut
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent
public import Idealize.ShloMosaic.Lib.Claim

@[expose] public section

noncomputable section

namespace Cert.Ret

open Idealize.ShloMosaic Idealize.ShloMosaic.Pointwise Idealize.ShloMosaic.Pipeline Idealize.SL.Sem

/-- The reference's result is the gradients of the memory's arguments. -/
theorem reference_result (m : (ℓ : Loc Cert.KernelIdeal.nD Cert.KernelIdeal.τ Cert.KernelIdeal.sig) → Buf (Elt Ideal) ℓ) (c : Dev Cert.KernelIdeal.nD)
    (x0 x1 x2 : (⟨Cert.ReferenceIdeal.S1x8192x512, .f32⟩ : BufTy).Contents (Elt Ideal))
    (x3 : (⟨Cert.ReferenceIdeal.S8192x512, .bf16⟩ : BufTy).Contents (Elt Ideal))
    (x4 x5 x6 x7 : (⟨Cert.ReferenceIdeal.S64x128x512, .bf16⟩ : BufTy).Contents (Elt Ideal))
    (h0 : x0 = m (c, Proc.tc.devRef Cert.KernelIdeal.main_arg0)) (h1 : x1 = m (c, Proc.tc.devRef Cert.KernelIdeal.main_arg1))
    (h2 : x2 = m (c, Proc.tc.devRef Cert.KernelIdeal.main_arg2)) (h3 : x3 = m (c, Proc.tc.devRef Cert.KernelIdeal.main_arg3))
    (h4 : x4 = m (c, Proc.tc.devRef Cert.KernelIdeal.main_arg4)) (h5 : x5 = m (c, Proc.tc.devRef Cert.KernelIdeal.main_arg5))
    (h6 : x6 = m (c, Proc.tc.devRef Cert.KernelIdeal.main_arg6)) (h7 : x7 = m (c, Proc.tc.devRef Cert.KernelIdeal.main_arg7)) :
    Cert.ReferenceIdeal.Read.val_main_v297 (F := Ideal) x0 x1 x2 x3 x4 x5 x6 x7 = at6 (gradOf m c) := by
  funext j
  obtain ⟨n, h, w, i, d, rfl⟩ := exists_at j
  rw [Ref.v297_at, at6_of (gradOf m c) _ n h w i d rfl rfl]
  subst h0 h1 h2 h3 h4 h5 h6 h7
  rfl

/-- The reference leaves its arguments and every counter as the claim says. -/
theorem reference_frame : Cert.quiescent_ReferenceIdeal := fun m g _ =>
  (θ_run Cert.ReferenceIdeal.defs _ _).mono
    (fun r h => ⟨fun c => (h c).2, sem_eq_zero_of_no_sems rfl _⟩) (Cert.ReferenceIdeal.Value.run m g)

/-- The kernel and the reference end with equal results. -/
theorem agree : Cert.algebraic_KernelIdeal_ReferenceIdeal := by
  intro m g m' g' _ hagree
  refine ⟨fun c => at6 (gradOf m c), ?_, ?_⟩
  · exact (θ_run Cert.KernelIdeal.defs _ _).mono
      (fun r h c => ⟨(h c).1.trans ((arr_at m c).trans (congrArg at6 (launchK_eq m c))), (h c).2⟩) (Cert.KernelIdeal.Value.run_blocks m g)
  · refine (θ_run Cert.ReferenceIdeal.defs _ _).mono
      (fun r h c => ⟨(h c).1.trans ((Cert.ReferenceIdeal.Read.val_main_v297_eq (StableHlo.launchContents m' c)).trans ?_), (h c).2⟩) (Cert.ReferenceIdeal.Value.run m' g')
    obtain ⟨h0, h1, h2, h3, h4, h5, h6, h7⟩ := hagree c
    exact reference_result m c _ _ _ _ _ _ _ _ h0 h1 h2 h3 h4 h5 h6 h7

end Cert.Ret

end
-- ==== Proof.Ffn.OutDw.lean ====
/- The gradient of the SwiGLU layer's output weight: what the kernel leaves, at an index. -/
module

public import proofs.«01_k».proof.Proof.Gen.Kernel2Ideal.Value
public import Idealize.ShloMosaic.Lib.Pointwise
public import Idealize.ShloMosaic.Lib.Pipeline.ValueKit

@[expose] public section

noncomputable section

namespace Cert.OutDw

open Cert.Kernel2Ideal Cert.Kernel2Ideal.Gen Cert.Kernel2Ideal.Value Idealize.ShloMosaic Idealize.ShloMosaic.Pointwise Idealize.ShloMosaic.Pipeline Idealize.SL.Sem

/-- The activation of a gate and its up value. -/
def act (g u : EReal) : EReal := g * Ideal.div 1 (1 + Ideal.exp (-g)) * u

theorem pay1_at (i : S2816x1024.Idx) : k0_pay1 (F := Ideal) i = 0 := by
  pointwise [k0_pay1]

theorem pay2_at (acc : Vec Ideal S2816x1024 .f32) (x : Vec Ideal S512x5632 .bf16) (dy : Vec Ideal S512x1024 .f32) (a : Fin 2816) (e : Fin 1024) :
    k0_pay2 acc x dy (ix2 a e)
      = acc (ix2 a e) + ∑ r : Fin 512, act (x (ix2 r ⟨a.val, by omega⟩)) (x (ix2 r ⟨2816 + a.val, by omega⟩)) * dy (ix2 r e) := by
  pointwise [k0_pay2]
  simp only [act, zero_sub]

theorem pay3_at (acc : Vec Ideal S2816x1024 .f32) : k0_pay3 acc = acc := by
  funext i
  pointwise [k0_pay3]

variable (m : (ℓ : Loc nD τ sig) → Buf (Elt Ideal) ℓ)

theorem idx : ∀ t : Fin cfg0.N, win0_0.index t = ![t.val, 0] ∧ win0_1.index t = ![t.val, 0] := by decide +kernel

/-- Row `r` of block `n`. -/
abbrev row (n : ℕ) (r : Fin 512) : Fin 8192 := ⟨(n * 512 + r.val) % 8192, Nat.mod_lt _ (by decide)⟩

theorem blk0 (c : Dev nD) (t : Fin 16) (r : Fin 512) (a : Fin 5632) :
    iblk m c 0 t (ix2 r a) = V m c main_arg0 (ix2 (row t r) a) := by
  have : (t.val * 512 + r.val) % 8192 = t.val * 512 + r.val := Nat.mod_eq_of_lt (by omega)
  simp only [row, this]
  blk_ext [iblk, idx t]

theorem blk1 (c : Dev nD) (t : Fin 16) (r : Fin 512) (a : Fin 1024) :
    iblk m c 1 t (ix2 r a) = V m c main_arg1 (ix2 (row t r) a) := by
  have : (t.val * 512 + r.val) % 8192 = t.val * 512 + r.val := Nat.mod_eq_of_lt (by omega)
  simp only [row, this]
  blk_ext [iblk, idx t]

/-- One row's part of the gradient. -/
def part (c : Dev nD) (i : S2816x1024.Idx) (s : Fin 8192) : EReal :=
  act (V m c main_arg0 (ix2 s ⟨(i 0).val, by have : (i 0).val < 2816 := (i 0).isLt; omega⟩))
      (V m c main_arg0 (ix2 s ⟨2816 + (i 0).val, by have : (i 0).val < 2816 := (i 0).isLt; omega⟩))
    * V m c main_arg1 (ix2 s (i 1))

/-- One block's part of the gradient. -/
def term (c : Dev nD) (n : ℕ) (i : S2816x1024.Idx) : EReal := ∑ r : Fin 512, part m c i (row n r)

theorem pay2_blk (c : Dev nD) (t : Fin cfg0.N) (acc : Vec Ideal S2816x1024 .f32) (i : S2816x1024.Idx) :
    k0_pay2 acc (iblk m c 0 t) (iblk m c 1 t) i = acc i + term m c t.val i := by
  obtain ⟨a, e, rfl⟩ : ∃ (a : Fin 2816) (e : Fin 1024), i = ix2 a e := ⟨i 0, i 1, by funext b; fin_cases b <;> rfl⟩
  refine (pay2_at _ _ _ a e).trans (congrArg _ (Finset.sum_congr rfl fun r _ => ?_))
  rw [blk0 m c t, blk0 m c t, blk1 m c t]
  rfl

theorem acc_at (c : Dev nD) (t : Fin cfg0.N) (i : S2816x1024.Idx) :
    (outsAt0 m c t.val t.isLt).2 i = 0 + ∑ k ∈ Finset.range (t.val + 1), term m c k i := by
  refine eq_sum_of_reset_step_apply_single (fun n h => (outsAt0 m c n h).2) 16 (fun _ => 0) (term m c)
    (fun t h i => ?_) (fun t h i => ?_) (le_of_eq N_0) t i
  · have h1 : ¬t.val % 16 = 15 := by omega
    rw [outsAt0_A m c t h h1]
    frame_out
    rw [pay2_blk, pay1_at]
  · by_cases h1 : t.val % 16 = 15
    · rw [outsAt0_C m c t h h1]
      frame_out
      rw [pay2_blk]
      exact congrArg (· + _) (congrFun (Memref.IsWhole.read_unread _ _) i)
    · rw [outsAt0_B m c t h h1]
      frame_out
      rw [pay2_blk]
      exact congrArg (· + _) (congrFun (Memref.IsWhole.read_unread _ _) i)

theorem out_at (c : Dev nD) (t : Fin cfg0.N) (h1 : t.val % 16 = 15) : (outsAt0 m c t.val t.isLt).1 = (outsAt0 m c t.val t.isLt).2 := by
  have h0 : ¬t.val % 16 = 0 := by omega
  rw [outsAt0_C m c t h0 h1]
  frame_out
  exact pay3_at _

/-- The array the launch leaves. -/
theorem result (c : Dev nD) (i : S2816x1024.Idx) : G2 m c i = ∑ s : Fin 8192, part m c i s := by
  rw [G2_last, ← outsAt0_sweep m c 15 (lt_of_lt_of_eq (by decide) N_0.symm)]
  rw [out_at m c ⟨15, lt_of_lt_of_eq (by decide) N_0.symm⟩ rfl]
  refine (acc_at m c ⟨15, lt_of_lt_of_eq (by decide) N_0.symm⟩ i).trans ?_
  rw [zero_add, Finset.sum_range]
  refine Fin.sum_mul_add_congr (S := 16) (n := 512) fun s k hl => ?_
  exact congrArg _ (Fin.ext (Nat.mod_eq_of_lt hl))

end Cert.OutDw

end
-- ==== Proof.Ffn.OutDwAgree.lean ====
/- The gradient of the SwiGLU layer's output weight: the kernel's and the reference's are one. -/
module

public import proofs.«01_k».proof.Proof.Ffn.OutDw
public import proofs.«01_k».proof.Proof.Gen.Reference2Ideal.Run
public import proofs.«01_k».proof.Proof.Gen.Reference2Ideal.Read
public import proofs.«01_k».proof.Defs
public import Idealize.ShloMosaic.Lib.Quiescent
public import Idealize.ShloMosaic.Lib.Claim

@[expose] public section

noncomputable section

namespace Cert.OutDw

open Idealize.ShloMosaic Idealize.ShloMosaic.Pointwise Idealize.SL.Sem

section
open Cert.Reference2Ideal Cert.Reference2Ideal.Gen Cert.Reference2Ideal.Read

theorem ref_at (x0 : (⟨S8192x5632, .bf16⟩ : BufTy).Contents (Elt Ideal)) (x1 : (⟨S8192x1024, .f32⟩ : BufTy).Contents (Elt Ideal))
    (a : Fin 2816) (e : Fin 1024) :
    val_main_v9 x0 x1 (ix2 a e) = ∑ s : Fin 8192,
      x1 (ix2 s e) * act (x0 (ix2 s ⟨a.val, by omega⟩)) (x0 (ix2 s ⟨2816 + a.val, by omega⟩)) := by
  pointwise [val_main_v9, val_main_v8, val_main_v7, val_main_v5, val_main_v4, val_main_v3, val_main_v2, val_main_v1,
    val_main_call0_v0, val_main_call0_v1, val_main_call0_v2, val_main_call0_v3, val_main_call0_v4, val_main_call0_v5, val_main_call0_cst, val_main_call0_cst_0]
  rfl

end

theorem reference_frame : Cert.quiescent_Reference2Ideal := by
  intro m g _
  exact (θ_run Cert.Reference2Ideal.defs _ _).mono (fun r h => ⟨fun c => (h c).2, sem_eq_zero_of_no_sems rfl _⟩) (Cert.Reference2Ideal.Value.run m g)

theorem agree : Cert.algebraic_Kernel2Ideal_Reference2Ideal := by
  intro m g m' g' _ hagree
  refine ⟨fun c => Cert.Kernel2Ideal.Value.G2 m c, Cert.Kernel2Ideal.Value.run m g, ?_⟩
  refine (θ_run Cert.Reference2Ideal.defs _ _).mono (fun r h c => ⟨(h c).1.trans ?_, (h c).2⟩) (Cert.Reference2Ideal.Value.run m' g')
  obtain ⟨h0, h1⟩ := hagree c
  rw [Cert.Reference2Ideal.Read.val_main_v9_eq, h0, h1]
  funext i
  obtain ⟨a, e, rfl⟩ : ∃ (a : Fin 2816) (e : Fin 1024), i = ix2 a e := ⟨i 0, i 1, by funext b; fin_cases b <;> rfl⟩
  refine (ref_at _ _ a e).trans ((Finset.sum_congr rfl fun s _ => mul_comm _ _).trans ?_)
  exact (result m c (ix2 a e)).symm

end Cert.OutDw

end
-- ==== Proof.Ffn.InDw.lean ====
/- The gradient of the SwiGLU layer's input weight: what the kernel leaves, at an index. -/
module

public import proofs.«01_k».proof.Proof.Gen.Kernel3Ideal.Value
public import Idealize.ShloMosaic.Lib.Pointwise
public import Idealize.ShloMosaic.Lib.StableHlo.RunRead
public import Idealize.ShloMosaic.Lib.Pipeline.ValueKit

@[expose] public section

noncomputable section

namespace Cert.InDw

open Cert.Kernel3Ideal Cert.Kernel3Ideal.Gen Cert.Kernel3Ideal.Value Idealize.ShloMosaic Idealize.ShloMosaic.Pointwise Idealize.ShloMosaic.Pipeline Idealize.SL.Sem

theorem pay1_at (i : S1024x1408.Idx) : k0_pay1 (F := Ideal) i = 0 := by
  pointwise [k0_pay1]

theorem pay2_at (acc : Vec Ideal S1024x1408 .f32) (x : Vec Ideal S1024x2048 .bf16) (dy : Vec Ideal S2048x1408 .bf16) (a : Fin 1024) (e : Fin 1408) :
    k0_pay2 acc x dy (ix2 a e) = acc (ix2 a e) + ∑ r : Fin 2048, x (ix2 a r) * dy (ix2 r e) := by
  pointwise [k0_pay2]

theorem pay3_at (acc : Vec Ideal S1024x1408 .f32) (a : Fin 1024) (e : Fin 1408) : k0_pay3 acc (ix3 0 a e) = acc (ix2 a e) := by
  pointwise [k0_pay3]

variable (m : (ℓ : Loc nD τ sig) → Buf (Elt Ideal) ℓ)

theorem idx : ∀ t : Fin cfg0.N, win0_0.index t = ![0, t.val % 4] ∧ win0_1.index t = ![t.val % 4, t.val / 4]
    ∧ win0_2.index t = ![t.val / 4, 0, 0] := by decide +kernel

/-- Row `r` of block `n`. -/
abbrev row (n : ℕ) (r : Fin 2048) : Fin 8192 := ⟨(n * 2048 + r.val) % 8192, Nat.mod_lt _ (by decide)⟩

/-- Column `e` of block `n`. -/
abbrev col (n : ℕ) (e : Fin 1408) : Fin 5632 := ⟨(n * 1408 + e.val) % 5632, Nat.mod_lt _ (by decide)⟩

theorem blk0 (c : Dev nD) (t : Fin 16) (r : Fin 2048) (a : Fin 1024) :
    iblk m c 0 t (ix2 a r) = V m c main_v13 (ix2 a (row (t.val % 4) r)) := by
  have : (t.val % 4 * 2048 + r.val) % 8192 = t.val % 4 * 2048 + r.val := Nat.mod_eq_of_lt (by omega)
  simp only [row, this]
  blk_ext [iblk, idx t]

theorem blk1 (c : Dev nD) (t : Fin 16) (r : Fin 2048) (e : Fin 1408) :
    iblk m c 1 t (ix2 r e) = V m c main_arg2 (ix2 (row (t.val % 4) r) (col (t.val / 4) e)) := by
  have : (t.val % 4 * 2048 + r.val) % 8192 = t.val % 4 * 2048 + r.val := Nat.mod_eq_of_lt (by omega)
  have : (t.val / 4 * 1408 + e.val) % 5632 = t.val / 4 * 1408 + e.val := Nat.mod_eq_of_lt (by omega)
  simp only [row, col, *]
  blk_ext [iblk, idx t]

/-- One row's part of the gradient. -/
def part (c : Dev nD) (j : ℕ) (i : S1024x1408.Idx) (s : Fin 8192) : EReal :=
  HMul.hMul (α := EReal) (β := EReal) (V m c main_v13 (ix2 (i 0) s)) (V m c main_arg2 (ix2 s (col j (i 1))))

/-- One block's part of the gradient. -/
def term (c : Dev nD) (j n : ℕ) (i : S1024x1408.Idx) : EReal := ∑ r : Fin 2048, part m c j i (row n r)

theorem pay2_blk (c : Dev nD) (t : Fin cfg0.N) (acc : Vec Ideal S1024x1408 .f32) (i : S1024x1408.Idx) :
    k0_pay2 acc (iblk m c 0 t) (iblk m c 1 t) i = acc i + term m c (t.val / 4) (t.val % 4) i := by
  obtain ⟨a, e, rfl⟩ : ∃ (a : Fin 1024) (e : Fin 1408), i = ix2 a e := ⟨i 0, i 1, by funext b; fin_cases b <;> rfl⟩
  refine (pay2_at _ _ _ a e).trans (congrArg _ (Finset.sum_congr rfl fun r _ => ?_))
  rw [blk0 m c t, blk1 m c t]
  rfl

theorem acc_at (c : Dev nD) (t : Fin cfg0.N) (i : S1024x1408.Idx) :
    (outsAt0 m c t.val t.isLt).2 i = 0 + ∑ k ∈ Finset.range (t.val % 4 + 1), term m c (t.val / 4) k i := by
  refine eq_sum_of_reset_step_apply_divmod (fun n h => (outsAt0 m c n h).2) 4 (fun _ => 0) (term m c)
    (fun t h i => ?_) (fun t h i => ?_) t i
  · have h1 : ¬t.val % 4 = 3 := by omega
    rw [outsAt0_A m c t h h1]
    frame_out
    rw [pay2_blk, pay1_at]
  · by_cases h1 : t.val % 4 = 3
    · rw [outsAt0_C m c t h h1]
      frame_out
      rw [pay2_blk]
      exact congrArg (· + _) (congrFun (Memref.IsWhole.read_unread _ _) i)
    · rw [outsAt0_B m c t h h1]
      frame_out
      rw [pay2_blk]
      exact congrArg (· + _) (congrFun (Memref.IsWhole.read_unread _ _) i)

theorem out_at (c : Dev nD) (t : Fin cfg0.N) (h1 : t.val % 4 = 3) (a : Fin 1024) (e : Fin 1408) :
    (outsAt0 m c t.val t.isLt).1 (ix3 0 a e) = (outsAt0 m c t.val t.isLt).2 (ix2 a e) := by
  have h0 : ¬t.val % 4 = 0 := by omega
  rw [outsAt0_C m c t h0 h1]
  frame_out
  exact pay3_at _ a e

/-- The array the launch leaves. -/
theorem result (c : Dev nD) (j : Fin 4) (a : Fin 1024) (e : Fin 1408) :
    @Eq EReal (G2 m c (ix3 j a e)) (∑ s : Fin 8192, part m c j.val (ix2 a e) s) := by
  have hN : 4 * j.val + 3 < cfg0.N := lt_of_lt_of_eq (by omega) N_0.symm
  have hp : pt2Of (ix3 j a e) = 4 * j.val + 3 := by
    show 4 * (1 * (j.val / 1 - 0) + 1 * (a.val / 1024 - 0) + 1 * (e.val / 1408 - 0)) + 3 = _
    omega
  have hl : loc2Of (ix3 j a e) = ix3 0 a e := by
    funext b; apply Fin.ext
    fin_cases b
    · exact Nat.mod_one _
    · exact Nat.mod_eq_of_lt a.isLt
    · exact Nat.mod_eq_of_lt e.isLt
  unfold G2
  rw [dif_pos (hp ▸ hN), hl, fold0_congr m c _ _ (4 * j.val + 3) (by omega) hp, ← outsAt0_sweep m c (4 * j.val + 3) hN]
  have e3 : (4 * j.val + 3) % 4 = 3 := by omega
  have e4 : (4 * j.val + 3) / 4 = j.val := by omega
  rw [out_at m c ⟨4 * j.val + 3, hN⟩ e3]
  refine (acc_at m c ⟨4 * j.val + 3, hN⟩ _).trans ?_
  dsimp only
  rw [e3, e4, zero_add, Finset.sum_range]
  refine Fin.sum_mul_add_congr (S := 4) (n := 2048) fun s k hl => ?_
  exact congrArg _ (Fin.ext (Nat.mod_eq_of_lt hl))

/-- A row divided by its root mean square and scaled. -/
def norm (x : Fin 8192 → Fin 1024 → EReal) (g : Fin 1024 → EReal) (s : Fin 8192) (a : Fin 1024) : EReal :=
  x s a * Ideal.rsqrt (Ideal.div (∑ k, x s k * x s k) (Ideal.ofBits FTy.f32 0x44800000#32) + Ideal.ofBits FTy.f32 0x358637BD#32) * g a

/-- The rows the host passes. -/
theorem host_at (c : Dev nD) (s : Fin 8192) (a : Fin 1024) :
    @Eq EReal (V m c main_v13 (ix2 a s))
      (norm (fun s a => m ((c.tc : Thread nD τ).loc main_arg0) (ix2 s a)) (fun a => m ((c.tc : Thread nD τ).loc main_arg1) (ix2 0 a)) s a) := by
  simp only [V, hostOps0, List.flatten_cons, List.flatten_nil, List.append_nil, List.cons_append, List.nil_append]
  after_reads_simp
  pointwise []
  rfl

/-- The array the launch leaves, from the arguments. -/
theorem result_args (c : Dev nD) (j : Fin 4) (a : Fin 1024) (e : Fin 1408) :
    @Eq EReal (G2 m c (ix3 j a e)) (∑ s : Fin 8192,
      norm (fun s a => m ((c.tc : Thread nD τ).loc main_arg0) (ix2 s a)) (fun a => m ((c.tc : Thread nD τ).loc main_arg1) (ix2 0 a)) s a
        * HMul.hMul (α := EReal) (β := EReal) 1 (m ((c.tc : Thread nD τ).loc main_arg2) (ix2 s ⟨j.val * 1408 + e.val, by omega⟩))) := by
  refine (result m c j a e).trans (Finset.sum_congr rfl fun s _ => ?_)
  unfold part
  rw [one_mul, V_main_arg2]
  refine congrArg₂ (α := EReal) (β := EReal) (· * ·) (host_at m c s a) (congrArg _ ?_)
  have : (j.val * 1408 + e.val) % 5632 = j.val * 1408 + e.val := Nat.mod_eq_of_lt (by omega)
  simp only [col]
  exact congrArg (ix2 s) (Fin.ext this)

end Cert.InDw

end
-- ==== Proof.Ffn.InDwAgree.lean ====
/- The gradient of the SwiGLU layer's input weight: the kernel's and the reference's are one. -/
module

public import proofs.«01_k».proof.Proof.Ffn.InDw
public import proofs.«01_k».proof.Proof.Gen.Reference3Ideal.Run
public import proofs.«01_k».proof.Proof.Gen.Reference3Ideal.Read
public import proofs.«01_k».proof.Defs
public import Idealize.ShloMosaic.Lib.Quiescent
public import Idealize.ShloMosaic.Lib.Claim

@[expose] public section

noncomputable section

namespace Cert.InDw

open Idealize.ShloMosaic Idealize.ShloMosaic.Pointwise Idealize.SL.Sem

section
open Cert.Reference3Ideal Cert.Reference3Ideal.Gen Cert.Reference3Ideal.Read

theorem ref_at (x0 : (⟨S8192x1024, .f32⟩ : BufTy).Contents (Elt Ideal)) (x1 : (⟨S1x1024, .f32⟩ : BufTy).Contents (Elt Ideal))
    (x2 : (⟨S8192x5632, .bf16⟩ : BufTy).Contents (Elt Ideal)) (j : Fin 4) (a : Fin 1024) (e : Fin 1408) :
    val_main_v19 x0 x1 x2 (ix3 j a e) = ∑ s : Fin 8192,
      x2 (ix2 s ⟨j.val * 1408 + e.val, by omega⟩) * norm (fun s a => x0 (ix2 s a)) (fun a => x1 (ix2 0 a)) s a := by
  pointwise [val_main_v19, val_main_v18, val_main_v17, val_main_v16, val_main_v15, val_main_v14, val_main_v12, val_main_v11, val_main_v10, val_main_v9, val_main_v8, val_main_v7, val_main_v6, val_main_v5, val_main_v4, val_main_v3, val_main_v2, val_main_v1, val_main_cst_0, val_main_cst_1, val_main_cst_2]
  simp only [norm]

end

theorem reference_frame : Cert.quiescent_Reference3Ideal := by
  intro m g _
  exact (θ_run Cert.Reference3Ideal.defs _ _).mono (fun r h => ⟨fun c => (h c).2, sem_eq_zero_of_no_sems rfl _⟩) (Cert.Reference3Ideal.Value.run m g)

theorem agree : Cert.algebraic_Kernel3Ideal_Reference3Ideal := by
  intro m g m' g' _ hagree
  refine ⟨fun c => Cert.Kernel3Ideal.Value.G2 m c, Cert.Kernel3Ideal.Value.run m g, ?_⟩
  refine (θ_run Cert.Reference3Ideal.defs _ _).mono (fun r h c => ⟨(h c).1.trans ?_, (h c).2⟩) (Cert.Reference3Ideal.Value.run m' g')
  obtain ⟨h0, h1, h2⟩ := hagree c
  rw [Cert.Reference3Ideal.Read.val_main_v19_eq, h0, h1, h2]
  funext i
  obtain ⟨j, a, e, rfl⟩ : ∃ (j : Fin 4) (a : Fin 1024) (e : Fin 1408), i = ix3 j a e := ⟨i 0, i 1, i 2, by funext b; fin_cases b <;> rfl⟩
  refine (ref_at _ _ _ j a e).trans (Eq.trans ?_ (result_args m c j a e).symm)
  exact Finset.sum_congr rfl fun s _ => (mul_comm _ _).trans (congrArg _ (one_mul (M := EReal) _).symm)

end Cert.InDw

end
-- ==== Proof.Ffn.PreFacts.lean ====
/- The shapes the two preconditions broadcast to. -/
module

public import proofs.«01_k».proof.Pre_finite4
public import proofs.«01_k».proof.Pre_finite5

@[expose] public section

namespace Cert.Fin

theorem facts4 : Cert.Pre_finite4.Facts where
  bcast_S_S8192x5632 := by decide
  bcast_S_S4x1024x1408 := by decide
  bcast_S_S8192x1024 := by decide
  bcast_S_S1x1024 := by decide

theorem facts5 : Cert.Pre_finite5.Facts where
  bcast_S_S8192x1024 := by decide
  bcast_S_S2816x1024 := by decide
  bcast_S_S8192x5632 := by decide

attribute [instance] facts4 facts5

end Cert.Fin
-- ==== Proof.Ffn.InDx.lean ====
/- The gradient of the SwiGLU layer's input and of its norm's weight: what the kernel leaves, at an index. -/
module

public import proofs.«01_k».proof.Proof.Gen.Kernel4Ideal.Value
public import Idealize.ShloMosaic.Lib.Pointwise
public import Idealize.ShloMosaic.Lib.Pipeline.ValueKit

@[expose] public section

noncomputable section

namespace Cert.InDx

open Cert.Kernel4Ideal Cert.Kernel4Ideal.Gen Cert.Kernel4Ideal.Value Idealize.ShloMosaic Idealize.ShloMosaic.Pointwise Idealize.ShloMosaic.Pipeline Idealize.SL.Sem

/-- A row's mean square with the norm's small constant. -/
def ms (x : Fin 1024 → EReal) : EReal :=
  Ideal.div (∑ k, x k * x k) (Ideal.ofBits .f32 0x44800000#32) + Ideal.ofBits .f32 0x358637BD#32

/-- The column of a part's lane. -/
abbrev pcol (p : Fin 4) (a : Fin 1408) : Fin 5632 := ⟨p.val * 1408 + a.val, by omega⟩

/-- The gradient of one entry of a row's norm. -/
def dh (dff : Fin 5632 → EReal) (w : Fin 4 → Fin 1024 → Fin 1408 → EReal) (e : Fin 1024) : EReal :=
  ∑ p, ∑ a, dff (pcol p a) * w p e a

/-- One entry of a row of the input's gradient, from the norm's. -/
def dxOf (d x g dres : Fin 1024 → EReal) (v : EReal) (e : Fin 1024) : EReal :=
  dres e + (Ideal.rsqrt v * (d e * g e)
    - x e * (Ideal.rsqrt v * Ideal.rsqrt v * Ideal.rsqrt v) * Ideal.div (∑ k, d k * g k * x k) (Ideal.ofBits .f32 0x44800000#32))

/-- One entry of a row of the input's gradient. -/
def dx (dff : Fin 5632 → EReal) (w : Fin 4 → Fin 1024 → Fin 1408 → EReal) (x g dres : Fin 1024 → EReal) (e : Fin 1024) : EReal :=
  dxOf (dh dff w) x g dres (ms x) e

/-- One row's part of the norm's weight's gradient. -/
def dg (dff : Fin 5632 → EReal) (w : Fin 4 → Fin 1024 → Fin 1408 → EReal) (x : Fin 1024 → EReal) (e : Fin 1024) : EReal :=
  dh dff w e * x e * Ideal.rsqrt (ms x)

theorem pay6_at (x : Vec Ideal S512x1024 .f32) (r : Fin 512) : k0_pay6 (F := Ideal) x (ix2 r 0) = ms (fun k => x (ix2 r k)) := by
  pointwise [k0_pay6]
  rfl

theorem pay5_at (f0 f1 f2 f3 : Vec Ideal S512x1408 .bf16) (w0 w1 w2 w3 : Vec Ideal S1x1024x1408 .bf16) (r : Fin 512) (e : Fin 1024) :
    k0_pay5 (F := Ideal) f0 w0 f1 w1 f2 w2 f3 w3 (ix2 r e)
      = 0 + (∑ a : Fin 1408, HMul.hMul (α := EReal) (β := EReal) (f0 (ix2 r a)) (w0 (ix3 0 e a)))
        + (∑ a : Fin 1408, HMul.hMul (α := EReal) (β := EReal) (f1 (ix2 r a)) (w1 (ix3 0 e a)))
        + (∑ a : Fin 1408, HMul.hMul (α := EReal) (β := EReal) (f2 (ix2 r a)) (w2 (ix3 0 e a)))
        + (∑ a : Fin 1408, HMul.hMul (α := EReal) (β := EReal) (f3 (ix2 r a)) (w3 (ix3 0 e a))) := by
  pointwise [k0_pay5]

theorem pay2_at (d x : Vec Ideal S512x1024 .f32) (v : Vec Ideal S512x1 .f32) (g : Vec Ideal S1x1024 .f32) (dres : Vec Ideal S512x1024 .f32)
    (r : Fin 512) (e : Fin 1024) :
    k0_pay2 (F := Ideal) d x v g dres (ix2 r e)
      = dxOf (fun k => d (ix2 r k)) (fun k => x (ix2 r k)) (fun k => g (ix2 0 k)) (fun k => dres (ix2 r k)) (v (ix2 r 0)) e := by
  pointwise [k0_pay2, k0_pay1]
  rfl

theorem pay3_at (d x : Vec Ideal S512x1024 .f32) (v : Vec Ideal S512x1 .f32) (e : Fin 1024) :
    k0_pay3 (F := Ideal) d x v (ix2 0 e)
      = ∑ r : Fin 512, HMul.hMul (α := EReal) (β := EReal) (HMul.hMul (α := EReal) (β := EReal) (d (ix2 r e)) (x (ix2 r e))) (Ideal.rsqrt (v (ix2 r 0))) := by
  pointwise [k0_pay3, k0_pay1]

theorem pay4_eq (d x : Vec Ideal S512x1024 .f32) (v : Vec Ideal S512x1 .f32) (acc : Vec Ideal S1x1024 .f32) (e : Fin 1024) :
    k0_pay4 (F := Ideal) d x v acc (ix2 0 e) = HAdd.hAdd (α := EReal) (β := EReal) (acc (ix2 0 e)) (k0_pay3 (F := Ideal) d x v (ix2 0 e)) := by
  pointwise [k0_pay4, k0_pay3, k0_pay1]

section
variable (x0 : Vec Ideal S512x5632 .bf16) (x1 : Vec Ideal S4x1024x1408 .bf16)

theorem ldf (p : Fin 4) (o : Nat) (inb) (ho : o = p.val * 1408) (r : Fin 512) (a : Fin 1408) :
    View.ld x0 (Rect.unit (s := S512x5632) ![0, o] ![512, 1408] inb) (ix2 r a) = x0 (ix2 r (pcol p a)) := by
  refine View.ld_unit_apply_of x0 _ _ _ _ (ix2 r (pcol p a)) fun b => ?_
  fin_cases b
  · exact (Nat.zero_add _).symm
  · exact congrArg (· + a.val) ho.symm

theorem ldw (p : Fin 4) (o : Nat) (inb) (ho : o = p.val) (k : Fin 1024) (a : Fin 1408) :
    View.ld x1 (Rect.unit (s := S4x1024x1408) ![o, 0, 0] ![1, 1024, 1408] inb) (ix3 0 k a) = x1 (ix3 p k a) := by
  refine View.ld_unit_apply_of x1 _ _ _ _ (ix3 p k a) fun b => ?_
  fin_cases b
  · exact ho.symm
  · exact (Nat.zero_add _).symm
  · exact (Nat.zero_add _).symm

/-- The gradient of a block of rows of the norm, as the body forms it. -/
abbrev dhBlk : FVec Ideal S512x1024 .f32 :=
  k0_pay5 (View.ld x0 (Rect.unit (s := S512x5632) ![0, 0] ![512, 1408] inb_S512x5632_S512x1408_0_0))
    (View.ld x1 (Rect.unit (s := S4x1024x1408) ![0, 0, 0] ![1, 1024, 1408] inb_S4x1024x1408_S1x1024x1408_0_0_0))
    (View.ld x0 (Rect.unit (s := S512x5632) ![0, 1408] ![512, 1408] inb_S512x5632_S512x1408_0_1408))
    (View.ld x1 (Rect.unit (s := S4x1024x1408) ![1, 0, 0] ![1, 1024, 1408] inb_S4x1024x1408_S1x1024x1408_1_0_0))
    (View.ld x0 (Rect.unit (s := S512x5632) ![0, 2816] ![512, 1408] inb_S512x5632_S512x1408_0_2816))
    (View.ld x1 (Rect.unit (s := S4x1024x1408) ![2, 0, 0] ![1, 1024, 1408] inb_S4x1024x1408_S1x1024x1408_2_0_0))
    (View.ld x0 (Rect.unit (s := S512x5632) ![0, 4224] ![512, 1408] inb_S512x5632_S512x1408_0_4224))
    (View.ld x1 (Rect.unit (s := S4x1024x1408) ![3, 0, 0] ![1, 1024, 1408] inb_S4x1024x1408_S1x1024x1408_3_0_0))

theorem dh_part (p : Fin 4) (o q : Nat) (inb inb1) (ho : o = p.val * 1408) (hq : q = p.val) (r : Fin 512) (e : Fin 1024) :
    (∑ a : Fin 1408, HMul.hMul (α := EReal) (β := EReal) (View.ld x0 (Rect.unit (s := S512x5632) ![0, o] ![512, 1408] inb) (ix2 r a))
        (View.ld x1 (Rect.unit (s := S4x1024x1408) ![q, 0, 0] ![1, 1024, 1408] inb1) (ix3 0 e a)))
      = ∑ a : Fin 1408, HMul.hMul (α := EReal) (β := EReal) (x0 (ix2 r (pcol p a))) (x1 (ix3 p e a)) :=
  Finset.sum_congr rfl fun a _ => congrArg₂ (HMul.hMul (α := EReal) (β := EReal)) (ldf x0 p o inb ho r a) (ldw x1 p q inb1 hq e a)

theorem dhBlk_at (r : Fin 512) (e : Fin 1024) : dhBlk x0 x1 (ix2 r e) = dh (fun b => x0 (ix2 r b)) (fun p k a => x1 (ix3 p k a)) e := by
  refine (pay5_at _ _ _ _ _ _ _ _ r e).trans ?_
  rw [zero_add, dh, Fin.sum_univ_four]
  rw [dh_part x0 x1 0 0 0 _ _ rfl rfl, dh_part x0 x1 1 1408 1 _ _ rfl rfl, dh_part x0 x1 2 2816 2 _ _ rfl rfl,
    dh_part x0 x1 3 4224 3 _ _ rfl rfl]

end

variable (m : (ℓ : Loc nD τ sig) → Buf (Elt Ideal) ℓ)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] := by decide +kernel

/-- Row `r` of block `n`. -/
abbrev row (n : ℕ) (r : Fin 512) : Fin 8192 := ⟨(n * 512 + r.val) % 8192, Nat.mod_lt _ (by decide)⟩

theorem blk0 (c : Dev nD) (t : Fin 16) (r : Fin 512) (b : Fin 5632) :
    iblk m c 0 t (ix2 r b) = V m c main_arg0 (ix2 (row t r) b) := by
  have : (t.val * 512 + r.val) % 8192 = t.val * 512 + r.val := Nat.mod_eq_of_lt (by omega)
  simp only [row, this]
  blk_ext [iblk, idx t]

theorem blk1 (c : Dev nD) (t : Fin 16) (p : Fin 4) (k : Fin 1024) (a : Fin 1408) :
    iblk m c 1 t (ix3 p k a) = V m c main_arg1 (ix3 p k a) := by
  blk_ext [iblk, idx t]

theorem blk2 (c : Dev nD) (t : Fin 16) (r : Fin 512) (k : Fin 1024) :
    iblk m c 2 t (ix2 r k) = V m c main_arg2 (ix2 (row t r) k) := by
  have : (t.val * 512 + r.val) % 8192 = t.val * 512 + r.val := Nat.mod_eq_of_lt (by omega)
  simp only [row, this]
  blk_ext [iblk, idx t]

theorem blk3 (c : Dev nD) (t : Fin 16) (k : Fin 1024) :
    iblk m c 3 t (ix2 0 k) = V m c main_arg3 (ix2 0 k) := by
  blk_ext [iblk, idx t]

theorem blk4 (c : Dev nD) (t : Fin 16) (r : Fin 512) (k : Fin 1024) :
    iblk m c 4 t (ix2 r k) = V m c main_arg4 (ix2 (row t r) k) := by
  have : (t.val * 512 + r.val) % 8192 = t.val * 512 + r.val := Nat.mod_eq_of_lt (by omega)
  simp only [row, this]
  blk_ext [iblk, idx t]

/-- A place of the input's gradient. -/
def grad (dff : S8192x5632.Idx → EReal) (w : S4x1024x1408.Idx → EReal) (x : S8192x1024.Idx → EReal) (g : S1x1024.Idx → EReal)
    (dres : S8192x1024.Idx → EReal) (j : S8192x1024.Idx) : EReal :=
  dx (fun b => dff (ix2 (j 0) b)) (fun p k a => w (ix3 p k a)) (fun k => x (ix2 (j 0) k)) (fun k => g (ix2 0 k))
    (fun k => dres (ix2 (j 0) k)) (j 1)

/-- One row's part of a place of the weight's gradient. -/
def part (dff : S8192x5632.Idx → EReal) (w : S4x1024x1408.Idx → EReal) (x : S8192x1024.Idx → EReal) (e : Fin 1024) (s : Fin 8192) : EReal :=
  dg (fun b => dff (ix2 s b)) (fun p k a => w (ix3 p k a)) (fun k => x (ix2 s k)) e

/-- A place of the weight's gradient. -/
def gradG (dff : S8192x5632.Idx → EReal) (w : S4x1024x1408.Idx → EReal) (x : S8192x1024.Idx → EReal) (j : S1x1024.Idx) : EReal :=
  ∑ s : Fin 8192, part dff w x (j 1) s

theorem dh_row (c : Dev nD) (t : Fin 16) (r : Fin 512) :
    (fun k => dhBlk (iblk m c 0 t) (iblk m c 1 t) (ix2 r k))
      = dh (fun b => V m c main_arg0 (ix2 (row t r) b)) (fun p k a => V m c main_arg1 (ix3 p k a)) := by
  funext k
  refine (dhBlk_at _ _ r k).trans ?_
  rw [funext fun b => blk0 m c t r b, funext₃ fun p k a => blk1 m c t p k a]

theorem pay2_blk (c : Dev nD) (t : Fin 16) (r : Fin 512) (e : Fin 1024) :
    k0_pay2 (F := Ideal) (dhBlk (iblk m c 0 t) (iblk m c 1 t)) (iblk m c 2 t) (k0_pay6 (iblk m c 2 t)) (iblk m c 3 t) (iblk m c 4 t) (ix2 r e)
      = grad (V m c main_arg0) (V m c main_arg1) (V m c main_arg2) (V m c main_arg3) (V m c main_arg4) (ix2 (row t r) e) := by
  refine (pay2_at _ _ _ _ _ r e).trans ?_
  rw [dh_row, pay6_at, funext fun k => blk2 m c t r k, funext fun k => blk3 m c t k, funext fun k => blk4 m c t r k]
  rfl

/-- One block's part of the weight's gradient. -/
def term (c : Dev nD) (n : ℕ) (i : S1x1024.Idx) : EReal :=
  ∑ r : Fin 512, part (V m c main_arg0) (V m c main_arg1) (V m c main_arg2) (i 1) (row n r)

theorem pay3_blk (c : Dev nD) (t : Fin 16) (e : Fin 1024) :
    k0_pay3 (F := Ideal) (dhBlk (iblk m c 0 t) (iblk m c 1 t)) (iblk m c 2 t) (k0_pay6 (iblk m c 2 t)) (ix2 0 e) = term m c t.val (ix2 0 e) := by
  refine (pay3_at _ _ _ e).trans (Finset.sum_congr rfl fun r _ => ?_)
  rw [pay6_at, funext fun k => blk2 m c t r k, congrFun (dh_row m c t r) e, blk2 m c t r e]
  rfl

theorem dx_at (c : Dev nD) (t : Fin cfg0.N) (r : Fin 512) (e : Fin 1024) :
    (outsAt0 m c t.val t.isLt).1 (ix2 r e)
      = grad (V m c main_arg0) (V m c main_arg1) (V m c main_arg2) (V m c main_arg3) (V m c main_arg4) (ix2 (row t r) e) := by
  by_cases h0 : t.val % 16 = 0
  · have h1 : ¬1 ≤ t.val := by have : t.val < 16 := lt_of_lt_of_eq t.isLt N_0; omega
    rw [outsAt0_A m c t h0 h1]
    frame_out
    exact pay2_blk m c t r e
  · rw [outsAt0_B m c t h0 (by omega)]
    frame_out
    exact pay2_blk m c t r e

theorem acc_at (c : Dev nD) (t : Fin cfg0.N) (i : S1x1024.Idx) :
    (outsAt0 m c t.val t.isLt).2 i = 0 + ∑ k ∈ Finset.range (t.val + 1), term m c k i := by
  refine eq_sum_of_reset_step_apply_single (fun n h => (outsAt0 m c n h).2) 16 (fun _ => 0) (term m c)
    (fun t h i => ?_) (fun t h i => ?_) (le_of_eq N_0) t i
  · have h1 : ¬1 ≤ t.val := by have : t.val < 16 := lt_of_lt_of_eq t.isLt N_0; omega
    rw [outsAt0_A m c t h h1]
    frame_out
    obtain ⟨e, rfl⟩ : ∃ e : Fin 1024, i = ix2 0 e := ⟨i 1, by funext b; fin_cases b; exact Subsingleton.elim (α := Fin 1) _ _; rfl⟩
    exact (pay3_blk m c t e).trans (zero_add _).symm
  · rw [outsAt0_B m c t h (by omega)]
    frame_out
    obtain ⟨e, rfl⟩ : ∃ e : Fin 1024, i = ix2 0 e := ⟨i 1, by funext b; fin_cases b; exact Subsingleton.elim (α := Fin 1) _ _; rfl⟩
    exact (pay4_eq _ _ _ _ e).trans (congrArg _ (pay3_blk m c t e))

/-- The input's gradient the launch leaves. -/
theorem arr_at (c : Dev nD) : (dats m 0 c).arrAt 5 cfg0.N
    = grad (V m c main_arg0) (V m c main_arg1) (V m c main_arg2) (V m c main_arg3) (V m c main_arg4) := by
  refine (dats m 0 c).arrAt_eq_of_covers 5 _ (by decide +kernel) fun t hf y => ?_
  blk_simp
  rw [after0_5]
  obtain ⟨r, e, rfl⟩ : ∃ (r : Fin 512) (e : Fin 1024), y = ix2 r e := ⟨y 0, y 1, by funext b; fin_cases b <;> rfl⟩
  refine (dx_at m c t r e).trans ?_
  have ht : t.val < 16 := lt_of_lt_of_eq t.isLt N_0
  have hr : (t.val * 512 + r.val) % 8192 = t.val * 512 + r.val := Nat.mod_eq_of_lt (by omega)
  refine congrArg (grad _ _ _ _ _) (funext fun a => Fin.ext ?_)
  fin_cases a
  · blk_simp [idx t]
    exact hr
  · blk_simp [idx t]
    rfl

theorem last : ∀ t : Fin cfg0.N, (cfg0.win 6).flush t = true → t.val = 15 := by decide +kernel

theorem total (c : Dev nD) (e : Fin 1024) : (∑ k ∈ Finset.range 16, term m c k (ix2 0 e))
    = gradG (V m c main_arg0) (V m c main_arg1) (V m c main_arg2) (ix2 0 e) := by
  rw [Finset.sum_range]
  refine Fin.sum_mul_add_congr (S := 16) (n := 512) (f := part (V m c main_arg0) (V m c main_arg1) (V m c main_arg2) e) fun s k hl => ?_
  exact congrArg _ (Fin.ext (Nat.mod_eq_of_lt hl))

/-- The weight's gradient the launch leaves. -/
theorem arrG_at (c : Dev nD) : (dats m 0 c).arrAt 6 cfg0.N = gradG (V m c main_arg0) (V m c main_arg1) (V m c main_arg2) := by
  refine (dats m 0 c).arrAt_eq_of_covers 6 _ (by decide +kernel) fun t hf y => ?_
  blk_simp
  rw [after0_6]
  obtain ⟨e, rfl⟩ : ∃ e : Fin 1024, y = ix2 0 e := ⟨y 1, by funext b; fin_cases b; exact Subsingleton.elim (α := Fin 1) _ _; rfl⟩
  refine (acc_at m c t (ix2 0 e)).trans ?_
  rw [last t hf, zero_add]
  refine (total m c e).trans (congrArg (gradG _ _ _) (funext fun a => Fin.ext ?_))
  fin_cases a
  · blk_simp [idx t]
  · blk_simp [idx t]

end Cert.InDx

end
-- ==== Proof.Ffn.Finite.lean ====
/- Extended reals that are finite, and the two gradient formulas over them. -/
module

public import Idealize.ShloMosaic.Lib.Pointwise

@[expose] public section

noncomputable section

namespace Cert.Fin

open Idealize.ShloMosaic

/-- The value is a real number. -/
def Real? (x : EReal) : Prop := ∃ r : ℝ, x = r

theorem inf32 : Ideal.ofBits FTy.f32 0x7F800000#32 = ⊤ := by simp [Ideal.ofBits, Ideal.ieee]
theorem inf16 : Ideal.ofBits FTy.bf16 0x7F80#16 = ⊤ := by simp [Ideal.ofBits, Ideal.ieee]

/-- What the comparison of a magnitude with infinity says. -/
theorem of_cmp {x : EReal} (h : Ideal.cmp .olt (max x (-x)) ⊤ = 1#1) : Real? x := by
  induction x using EReal.rec with
  | bot => simp [Ideal.cmp] at h
  | coe r => exact ⟨r, rfl⟩
  | top => simp [Ideal.cmp] at h

theorem Real?.coe (r : ℝ) : Real? (r : EReal) := ⟨r, rfl⟩
theorem Real?.mul {x y : EReal} : Real? x → Real? y → Real? (x * y) := by
  rintro ⟨a, rfl⟩ ⟨b, rfl⟩; exact ⟨a * b, (EReal.coe_mul a b).symm⟩
theorem Real?.add {x y : EReal} : Real? x → Real? y → Real? (x + y) := by
  rintro ⟨a, rfl⟩ ⟨b, rfl⟩; exact ⟨a + b, (EReal.coe_add a b).symm⟩

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem Real?.sum {ι : Type} {s : Finset ι} {f : ι → EReal} (h : ∀ k, Real? (f k)) : Real? (∑ k ∈ s, f k) := by
  choose g hg using h
  exact ⟨∑ k ∈ s, g k, by rw [← coe_sum]; exact Finset.sum_congr rfl fun k _ => hg k⟩

/-- The gate's gradient: the kernel's form and the derivative of `gate * logistic gate`. -/
theorem gate_eq {d g s : EReal} (hd : Real? d) (hg : Real? g) (hs : Real? s) :
    d * ((s + g * s) - (g * s) * s) = d * s + (g * d) * (s * (1 - s)) := by
  obtain ⟨d, rfl⟩ := hd; obtain ⟨g, rfl⟩ := hg; obtain ⟨s, rfl⟩ := hs
  rw [← EReal.coe_one]
  simp only [← EReal.coe_mul, ← EReal.coe_add, ← EReal.coe_sub]
  exact congrArg _ (by ring)

/-- The norm's gradient: the kernel's form and the derivative's, from the reciprocal root `r` of `v`. -/
theorem norm_eq {u x r v p n : ℝ} (h : r * r * v = 1) (hv : v ≠ 0) :
    r * u - x * (r * r * r) * (p / n) = u * r + x * (p * (-(1 / 2) * (r / v)) / n) + (p * (-(1 / 2) * (r / v)) / n) * x := by
  have : r / v = r * r * r := by rw [div_eq_iff hv]; linear_combination -r * h
  rw [this]; ring

theorem rsqrt_pos {v : ℝ} (h : 0 < v) : Ideal.rsqrt (v : EReal) = (((Real.sqrt v)⁻¹ : ℝ) : EReal) := by
  rw [Ideal.rsqrt_coe, if_neg (not_lt.mpr h.le), if_neg h.ne']

theorem rsqrt_sq {v : ℝ} (h : 0 < v) : (Real.sqrt v)⁻¹ * (Real.sqrt v)⁻¹ * v = 1 := by
  rw [← mul_inv, Real.mul_self_sqrt h.le, inv_mul_cancel₀ h.ne']

theorem div_real {y : ℝ} (h : y ≠ 0) (x : ℝ) : Ideal.div (x : EReal) (y : EReal) = ((x / y : ℝ) : EReal) := by
  rw [Ideal.div_coe h, ← EReal.coe_mul, mul_one_div]

theorem k1024 : Ideal.ofBits FTy.f32 0x44800000#32 = ((1024 : ℝ) : EReal) := by
  simp [Ideal.ofBits, Ideal.ieee, -EReal.coe_mul]; norm_num

theorem keps : ∃ e : ℝ, 0 < e ∧ Ideal.ofBits FTy.f32 0x358637BD#32 = (e : EReal) := by
  refine ⟨_, ?_, by simp [Ideal.ofBits, Ideal.ieee, -EReal.coe_mul]; rfl⟩
  norm_num

theorem khalf : Ideal.ofBits FTy.f32 0xBF000000#32 = ((-(1 / 2) : ℝ) : EReal) := by
  simp [Ideal.ofBits, Ideal.ieee, -EReal.coe_mul]; norm_num

end Cert.Fin

end
-- ==== Proof.Ffn.InDxAgree.lean ====
/- The gradient of the SwiGLU layer's input and of its norm's weight: the kernel's and the reference's are one where the
   arguments are finite. -/
module

public import proofs.«01_k».proof.Proof.Ffn.InDx
public import proofs.«01_k».proof.Proof.Ffn.Finite
public import proofs.«01_k».proof.Proof.Ffn.PreFacts
public import proofs.«01_k».proof.Proof.Gen.Reference4Ideal.Run
public import proofs.«01_k».proof.Proof.Gen.Reference4Ideal.Read
public import proofs.«01_k».proof.Defs
public import Idealize.ShloMosaic.Lib.Quiescent
public import Idealize.ShloMosaic.Lib.Claim

@[expose] public section

noncomputable section

namespace Cert.InDx

open Idealize.ShloMosaic Idealize.ShloMosaic.Pointwise Idealize.SL.Sem Cert.Fin

/-- The reference's gradient of a row's mean square, doubled by the two factors of the square. -/
def cR (d x g : Fin 1024 → EReal) (v : EReal) : EReal :=
  Ideal.div ((∑ k, x k * (d k * g k)) * (Ideal.ofBits .f32 0xBF000000#32 * Ideal.div (Ideal.rsqrt v) v)) (Ideal.ofBits .f32 0x44800000#32)

/-- The reference's entry of a row of the input's gradient. -/
def dxR (d x g dres : Fin 1024 → EReal) (v : EReal) (e : Fin 1024) : EReal :=
  dres e + (d e * g e * Ideal.rsqrt v + x e * cR d x g v + cR d x g v * x e)

section
open Cert.Reference4Ideal Cert.Reference4Ideal.Gen Cert.Reference4Ideal.Read

variable (x0 : (⟨S8192x5632, .bf16⟩ : BufTy).Contents (Elt Ideal)) (x1 : (⟨S4x1024x1408, .bf16⟩ : BufTy).Contents (Elt Ideal))
    (x2 : (⟨S8192x1024, .f32⟩ : BufTy).Contents (Elt Ideal)) (x3 : (⟨S1x1024, .f32⟩ : BufTy).Contents (Elt Ideal))
    (x4 : (⟨S8192x1024, .f32⟩ : BufTy).Contents (Elt Ideal)) (s : Fin 8192)

theorem ref_w (k : Fin 1024) (p : Fin 4) (a : Fin 1408) : val_main_v2 x1 (ix2 k (pcol p a)) = x1 (ix3 p k a) := by
  pointwise [val_main_v2, val_main_v1, val_main_v0]
  exact congrArg₂ (fun p a => x1 (ix3 p k a)) (Fin.ext (by dsimp only; omega)) (Fin.ext (by dsimp only; omega))

theorem ref_v20 (e : Fin 1024) : val_main_v20 x0 x1 (ix2 s e)
    = ∑ b : Fin 5632, HMul.hMul (α := EReal) (β := EReal) (x0 (ix2 s b)) (val_main_v2 x1 (ix2 e b)) := by
  pointwise [val_main_v20, val_main_v19]

theorem ref_dh (e : Fin 1024) : val_main_v20 x0 x1 (ix2 s e) = dh (fun b => x0 (ix2 s b)) (fun p k a => x1 (ix3 p k a)) e := by
  refine (ref_v20 x0 x1 s e).trans (Eq.symm ?_)
  refine Fin.sum_mul_add_congr (S := 4) (n := 1408) fun p a hl => ?_
  exact congrArg (HMul.hMul (α := EReal) (β := EReal) _) (ref_w x1 e p a).symm

theorem ref_v9 : val_main_v9 x2 (ix2 s 0) = ms (fun k => x2 (ix2 s k)) := by
  pointwise [val_main_v9, val_main_v8, val_main_v7, val_main_v6, val_main_v5, val_main_v4, val_main_v3, val_main_cst, val_main_cst_0, val_main_cst_1]
  rfl

theorem ref_v35 (e : Fin 1024) : val_main_v35 x0 x1 x2 x3 (ix2 s e)
    = cR (fun k => val_main_v20 x0 x1 (ix2 s k)) (fun k => x2 (ix2 s k)) (fun k => x3 (ix2 0 k)) (val_main_v9 x2 (ix2 s 0)) := by
  pointwise [val_main_v35, val_main_v34, val_main_v33, val_main_v32, val_main_v31, val_main_v28, val_main_v27, val_main_v26, val_main_v25,
    val_main_v24, val_main_v13, val_main_v12, val_main_v11, val_main_v10, val_main_cst_2, val_main_cst_3, val_main_cst_4, val_main_cst_5, val_main_cst_6]
  exact Fin.sum_univ_one _

theorem ref_v40 (e : Fin 1024) : val_main_v40 x0 x1 x2 x3 x4 (ix2 s e)
    = dxR (fun k => val_main_v20 x0 x1 (ix2 s k)) (fun k => x2 (ix2 s k)) (fun k => x3 (ix2 0 k)) (fun k => x4 (ix2 s k)) (val_main_v9 x2 (ix2 s 0)) e := by
  have h := ref_v35 x0 x1 x2 x3 s e
  pointwise [val_main_v40, val_main_v39, val_main_v38, val_main_v37, val_main_v36, val_main_v30, val_main_v29, val_main_v25, val_main_v24, val_main_v10]
  rw [h]
  rfl

theorem ref_v23 (e : Fin 1024) : val_main_v23 x0 x1 x2 (ix2 0 e)
    = ∑ s : Fin 8192, HMul.hMul (α := EReal) (β := EReal) (HMul.hMul (α := EReal) (β := EReal) (x2 (ix2 s e)) (Ideal.rsqrt (val_main_v9 x2 (ix2 s 0)))) (val_main_v20 x0 x1 (ix2 s e)) := by
  pointwise [val_main_v23, val_main_v22, val_main_v21, val_main_v15, val_main_v14, val_main_v10, val_main_cst_3]

theorem ref_dx (e : Fin 1024) : val_main_v40 x0 x1 x2 x3 x4 (ix2 s e)
    = dxR (dh (fun b => x0 (ix2 s b)) (fun p k a => x1 (ix3 p k a))) (fun k => x2 (ix2 s k)) (fun k => x3 (ix2 0 k)) (fun k => x4 (ix2 s k)) (ms (fun k => x2 (ix2 s k))) e := by
  rw [ref_v40, ref_v9, show (fun k => val_main_v20 x0 x1 (ix2 s k)) = dh (fun b => x0 (ix2 s b)) (fun p k a => x1 (ix3 p k a)) from funext fun k => ref_dh x0 x1 s k]

theorem ref_dg (e : Fin 1024) : val_main_v23 x0 x1 x2 (ix2 0 e) = gradG x0 x1 x2 (ix2 0 e) := by
  refine (ref_v23 x0 x1 x2 e).trans (Finset.sum_congr rfl fun s _ => ?_)
  rw [ref_v9, ref_dh]
  exact (mul_comm (G := EReal) _ _).trans (mul_assoc (G := EReal) _ _ _).symm

end

theorem ms_real (X : Fin 1024 → ℝ) : ∃ v : ℝ, 0 < v ∧ ms (fun k => (X k : EReal)) = (v : EReal) := by
  obtain ⟨e, he, hk⟩ := keps
  refine ⟨(∑ k, X k * X k) / 1024 + e, add_pos_of_nonneg_of_pos (div_nonneg (Finset.sum_nonneg fun k _ => mul_self_nonneg _) (by norm_num)) he, ?_⟩
  rw [ms, hk, k1024, Finset.sum_congr rfl fun k _ => (EReal.coe_mul (X k) (X k)).symm, coe_sum, div_real (by norm_num), EReal.coe_add]

theorem dx_eq {d x g : Fin 1024 → EReal} (hd : ∀ k, Real? (d k)) (hx : ∀ k, Real? (x k)) (hg : ∀ k, Real? (g k)) (dres : Fin 1024 → EReal) (e : Fin 1024) :
    dxR d x g dres (ms x) e = dxOf d x g dres (ms x) e := by
  choose D hD using hd
  choose X hX using hx
  choose G hG using hg
  obtain rfl : d = fun k => (D k : EReal) := funext hD
  obtain rfl : x = fun k => (X k : EReal) := funext hX
  obtain rfl : g = fun k => (G k : EReal) := funext hG
  obtain ⟨v, hv, hm⟩ := ms_real X
  rw [hm]
  have hp : (∑ k, (D k : EReal) * G k * X k) = ((∑ k, D k * G k * X k : ℝ) : EReal) := by
    rw [← coe_sum]
    exact Finset.sum_congr rfl fun k _ => by rw [EReal.coe_mul, EReal.coe_mul]
  have hp' : (∑ k, (X k : EReal) * ((D k : EReal) * G k)) = ((∑ k, D k * G k * X k : ℝ) : EReal) := by
    rw [← hp]
    exact Finset.sum_congr rfl fun k _ => mul_comm _ _
  unfold dxR dxOf cR
  rw [hp, hp', rsqrt_pos hv, k1024, khalf, div_real hv.ne', div_real (by norm_num : (1024 : ℝ) ≠ 0)]
  simp only [← EReal.coe_mul]
  rw [div_real (by norm_num : (1024 : ℝ) ≠ 0)]
  simp only [← EReal.coe_mul, ← EReal.coe_add, ← EReal.coe_sub]
  refine congrArg (fun r : ℝ => dres e + (r : EReal)) ?_
  exact (norm_eq (rsqrt_sq hv) hv.ne').symm

theorem cell_eq (x0 : Cert.Kernel4Ideal.S8192x5632.Idx → EReal) (x1 : Cert.Kernel4Ideal.S4x1024x1408.Idx → EReal) (x2 : Cert.Kernel4Ideal.S8192x1024.Idx → EReal)
    (x3 : Cert.Kernel4Ideal.S1x1024.Idx → EReal) (x4 : Cert.Kernel4Ideal.S8192x1024.Idx → EReal)
    (h0 : ∀ i, Real? (x0 i)) (h1 : ∀ i, Real? (x1 i)) (h2 : ∀ i, Real? (x2 i)) (h3 : ∀ i, Real? (x3 i)) (i : Cert.Kernel4Ideal.S8192x1024.Idx) :
    Cert.Reference4Ideal.Read.val_main_v40 (F := Ideal) x0 x1 x2 x3 x4 i = grad x0 x1 x2 x3 x4 i := by
  obtain ⟨s, e, rfl⟩ : ∃ (s : Fin 8192) (e : Fin 1024), i = ix2 s e := ⟨i 0, i 1, by funext b; fin_cases b <;> rfl⟩
  refine (ref_dx x0 x1 x2 x3 x4 s e).trans ?_
  exact dx_eq (fun k => Real?.sum fun p => Real?.sum fun a => (h0 _).mul (h1 _)) (fun k => h2 _) (fun k => h3 _) _ e

theorem reference_frame : Cert.quiescent_Reference4Ideal := by
  intro m g _
  exact (θ_run Cert.Reference4Ideal.defs _ _).mono (fun r h => ⟨fun c => (h c).2.2, sem_eq_zero_of_no_sems rfl _⟩) (Cert.Reference4Ideal.Value.run m g)

theorem agree : Cert.algebraic_Kernel4Ideal_Reference4Ideal_pre_finite4 := by
  intro m g m' g' hpre hagree
  refine ⟨fun c => grad (Cert.Kernel4Ideal.Gen.V m c Cert.Kernel4Ideal.main_arg0) (Cert.Kernel4Ideal.Gen.V m c Cert.Kernel4Ideal.main_arg1) (Cert.Kernel4Ideal.Gen.V m c Cert.Kernel4Ideal.main_arg2)
      (Cert.Kernel4Ideal.Gen.V m c Cert.Kernel4Ideal.main_arg3) (Cert.Kernel4Ideal.Gen.V m c Cert.Kernel4Ideal.main_arg4),
    fun c => gradG (Cert.Kernel4Ideal.Gen.V m c Cert.Kernel4Ideal.main_arg0) (Cert.Kernel4Ideal.Gen.V m c Cert.Kernel4Ideal.main_arg1) (Cert.Kernel4Ideal.Gen.V m c Cert.Kernel4Ideal.main_arg2), ?_, ?_⟩
  · exact (θ_run Cert.Kernel4Ideal.defs _ _).mono (fun r h c => ⟨(h c).1.trans (arr_at m c), (h c).2.1.trans (arrG_at m c), (h c).2.2⟩) (Cert.Kernel4Ideal.Value.run_blocks m g)
  refine (θ_run Cert.Reference4Ideal.defs _ _).mono (fun r h c => ⟨(h c).1.trans ?_, (h c).2.1.trans ?_, (h c).2.2⟩) (Cert.Reference4Ideal.Value.run m' g')
  · obtain ⟨h0, h1, h2, h3, h4⟩ := hagree c
    obtain ⟨p0, p1, p2, p3⟩ := hpre c
    rw [Cert.Reference4Ideal.Read.val_main_v40_eq, h0, h1, h2, h3, h4]
    funext i
    exact cell_eq _ _ _ _ _ (fun i => of_cmp ((congrArg (Ideal.cmp .olt _) inf16.symm).trans (congrFun p0 i)))
      (fun i => of_cmp ((congrArg (Ideal.cmp .olt _) inf16.symm).trans (congrFun p1 i)))
      (fun i => of_cmp ((congrArg (Ideal.cmp .olt _) inf32.symm).trans (congrFun p2 i)))
      (fun i => of_cmp ((congrArg (Ideal.cmp .olt _) inf32.symm).trans (congrFun p3 i))) i
  · obtain ⟨h0, h1, h2, h3, h4⟩ := hagree c
    rw [Cert.Reference4Ideal.Read.val_main_v23_eq, h0, h1, h2]
    funext i
    obtain ⟨e, rfl⟩ : ∃ e : Fin 1024, i = ix2 0 e := ⟨i 1, by funext b; fin_cases b; exact Subsingleton.elim (α := Fin 1) _ _; rfl⟩
    exact ref_dg _ _ _ e

end Cert.InDx

end
-- ==== Proof.Ffn.OutDx.lean ====
/- The gradient of the SwiGLU layer's gate and up values: what the kernel leaves, at an index. -/
module

public import proofs.«01_k».proof.Proof.Gen.Kernel5Ideal.Value
public import Idealize.ShloMosaic.Lib.Pointwise
public import Idealize.ShloMosaic.Lib.Pipeline.ValueKit

@[expose] public section

noncomputable section

namespace Cert.OutDx

open Cert.Kernel5Ideal Cert.Kernel5Ideal.Gen Cert.Kernel5Ideal.Value Idealize.ShloMosaic Idealize.ShloMosaic.Pointwise Idealize.ShloMosaic.Pipeline Idealize.SL.Sem

/-- The logistic function. -/
def sg (g : EReal) : EReal := Ideal.div 1 (1 + Ideal.exp (-g))

/-- The gradient of a gate value, as the kernel has it. -/
def dGate (d g u : EReal) : EReal := d * u * (sg g + g * sg g - g * sg g * sg g)

/-- The gradient of an up value, as the kernel has it. -/
def dUp (d g : EReal) : EReal := d * (g * sg g)

/-- The gradient of an activation: a row of the output's gradient times a row of the weight. -/
def dAct (dy : Fin 1024 → EReal) (w : Fin 2816 → Fin 1024 → EReal) (a : Fin 2816) : EReal := ∑ k, dy k * w a k

/-- A lane's gate column. -/
abbrev gateCol (a : Fin 2816) : Fin 5632 := ⟨a.val, by omega⟩

/-- A lane's up column. -/
abbrev upCol (a : Fin 2816) : Fin 5632 := ⟨2816 + a.val, by omega⟩

/-- One entry of a row of the gradient. -/
def cell (dy : Fin 1024 → EReal) (w : Fin 2816 → Fin 1024 → EReal) (ff : Fin 5632 → EReal) (b : Fin 5632) : EReal :=
  if h : b.val < 2816 then dGate (dAct dy w ⟨b.val, h⟩) (ff b) (ff (upCol ⟨b.val, h⟩))
  else dUp (dAct dy w ⟨b.val - 2816, by omega⟩) (ff (gateCol ⟨b.val - 2816, by omega⟩))

theorem cell_gate (dy : Fin 1024 → EReal) (w : Fin 2816 → Fin 1024 → EReal) (ff : Fin 5632 → EReal) (a : Fin 2816) :
    cell dy w ff (gateCol a) = dGate (dAct dy w a) (ff (gateCol a)) (ff (upCol a)) := by
  rw [cell, dif_pos (show (gateCol a).val < 2816 from a.isLt)]

theorem cell_up (dy : Fin 1024 → EReal) (w : Fin 2816 → Fin 1024 → EReal) (ff : Fin 5632 → EReal) (a : Fin 2816) :
    cell dy w ff (upCol a) = dUp (dAct dy w a) (ff (gateCol a)) := by
  have h : (⟨(upCol a).val - 2816, by have := a.isLt; simp only [upCol]; omega⟩ : Fin 2816) = a :=
    Fin.ext (by simp only [upCol]; omega)
  rw [cell, dif_neg (by simp only [upCol]; omega), h]

theorem pay1_at (dy : Vec Ideal S512x1024 .f32) (w : Vec Ideal S2816x1024 .bf16) (r : Fin 512) (a : Fin 2816) :
    k0_pay1 dy w (ix2 r a) = dAct (fun k => dy (ix2 r k)) (fun a k => w (ix2 a k)) a := by
  pointwise [k0_pay1]
  rfl

theorem pay3_at (g : Vec Ideal S512x2816 .bf16) (r : Fin 512) (a : Fin 2816) : k0_pay3 g (ix2 r a) = sg (g (ix2 r a)) := by
  pointwise [k0_pay3, k0_pay2]
  simp only [sg, zero_sub]

theorem pay5_at (dy : Vec Ideal S512x1024 .f32) (w : Vec Ideal S2816x1024 .bf16) (g u : Vec Ideal S512x2816 .bf16) (r : Fin 512) (a : Fin 2816) :
    k0_pay5 dy w g u (ix2 r a) = dGate (dAct (fun k => dy (ix2 r k)) (fun a k => w (ix2 a k)) a) (g (ix2 r a)) (u (ix2 r a)) := by
  pointwise [k0_pay5, k0_pay4, k0_pay3, k0_pay2, k0_pay1]
  simp only [dGate, dAct, sg, zero_sub]

theorem pay6_at (dy : Vec Ideal S512x1024 .f32) (w : Vec Ideal S2816x1024 .bf16) (g : Vec Ideal S512x2816 .bf16) (r : Fin 512) (a : Fin 2816) :
    k0_pay6 dy w g (ix2 r a) = dUp (dAct (fun k => dy (ix2 r k)) (fun a k => w (ix2 a k)) a) (g (ix2 r a)) := by
  pointwise [k0_pay6, k0_pay4, k0_pay3, k0_pay2, k0_pay1]
  simp only [dUp, dAct, sg, zero_sub]

section
variable (x0 : Vec Ideal S512x1024 .f32) (x1 : Vec Ideal S2816x1024 .bf16) (x2 : Vec Ideal S512x5632 .bf16)

/-- A place of the block a grid point writes. -/
def block (y : S512x5632.Idx) : EReal :=
  cell (fun k => x0 (ix2 (y 0) k)) (fun a k => x1 (ix2 a k)) (fun b => x2 (ix2 (y 0) b)) (y 1)

theorem ld0 : View.ld x0 r0_0 = x0 := by
  funext i
  refine View.ld_unit_apply_of x0 _ _ _ _ i fun a => ?_
  fin_cases a <;> exact (Nat.zero_add _).symm

theorem ld1 : View.ld x1 r0_1 = x1 := by
  funext i
  refine View.ld_unit_apply_of x1 _ _ _ _ i fun a => ?_
  fin_cases a <;> exact (Nat.zero_add _).symm

theorem emb_gate (r : Fin 512) (a : Fin 2816) : r0_2.emb (ix2 r a) = ix2 r (gateCol a) := by
  funext b
  apply Fin.ext
  refine (Rect.idx_unit_val _ _ _ _ b).trans ?_
  fin_cases b <;> exact Nat.zero_add _

theorem emb_up (r : Fin 512) (a : Fin 2816) : r0_3.emb (ix2 r a) = ix2 r (upCol a) := by
  funext b
  apply Fin.ext
  refine (Rect.idx_unit_val _ _ _ _ b).trans ?_
  fin_cases b
  · exact Nat.zero_add _
  · rfl

theorem ld_gate (r : Fin 512) (a : Fin 2816) : View.ld x2 r0_2 (ix2 r a) = x2 (ix2 r (gateCol a)) := congrArg x2 (emb_gate r a)

theorem ld_up (r : Fin 512) (a : Fin 2816) : View.ld x2 r0_3 (ix2 r a) = x2 (ix2 r (upCol a)) := congrArg x2 (emb_up r a)

theorem piece_up (x : S512x2816.Idx) : k0_pay6 (View.ld x0 r0_0) (View.ld x1 r0_1) (View.ld x2 r0_2) x = block x0 x1 x2 (r0_3.emb x) := by
  obtain ⟨r, a, rfl⟩ : ∃ (r : Fin 512) (a : Fin 2816), x = ix2 r a := ⟨x 0, x 1, by funext b; fin_cases b <;> rfl⟩
  refine Eq.trans ?_ (congrArg (block x0 x1 x2) (emb_up r a)).symm
  refine (pay6_at _ _ _ r a).trans (Eq.trans ?_ (cell_up _ _ _ a).symm)
  rw [ld0, ld1, ld_gate]
  rfl

theorem piece_gate (x : S512x2816.Idx) :
    k0_pay5 (View.ld x0 r0_0) (View.ld x1 r0_1) (View.ld x2 r0_2) (View.ld x2 r0_3) x = block x0 x1 x2 (r0_2.emb x) := by
  obtain ⟨r, a, rfl⟩ : ∃ (r : Fin 512) (a : Fin 2816), x = ix2 r a := ⟨x 0, x 1, by funext b; fin_cases b <;> rfl⟩
  refine Eq.trans ?_ (congrArg (block x0 x1 x2) (emb_gate r a)).symm
  refine (pay5_at _ _ _ _ r a).trans (Eq.trans ?_ (cell_gate _ _ _ a).symm)
  rw [ld0, ld1, ld_gate, ld_up]
  rfl

theorem out_at (y : S512x5632.Idx) : out0_3 x0 x1 x2 y = block x0 x1 x2 y := by
  refine View.canon_apply_of_pieces (Val := Elt Ideal) (e := .bf16) (block x0 x1 x2) _ ?_ y ?_
  swap
  · exact cover0_3 _ _ y
  refine List.forall_mem_cons.mpr ⟨piece_up x0 x1 x2, ?_⟩
  refine List.forall_mem_cons.mpr ⟨piece_gate x0 x1 x2, ?_⟩
  exact fun _ h => absurd h List.not_mem_nil

end

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] := by decide +kernel

/-- Row `r` of block `t`. -/
abbrev row (t : Fin 16) (r : Fin 512) : Fin 8192 := ⟨t.val * 512 + r.val, by omega⟩

theorem blk0 (c : Dev nD) (t : Fin 16) (r : Fin 512) (k : Fin 1024) :
    iblk m c 0 t (ix2 r k) = V m c main_arg0 (ix2 (row t r) k) := by
  blk_ext [iblk, idx t]

theorem blk1 (c : Dev nD) (t : Fin 16) (a : Fin 2816) (k : Fin 1024) :
    iblk m c 1 t (ix2 a k) = V m c main_arg1 (ix2 a k) := by
  blk_ext [iblk, idx t]

theorem blk2 (c : Dev nD) (t : Fin 16) (r : Fin 512) (b : Fin 5632) :
    iblk m c 2 t (ix2 r b) = V m c main_arg2 (ix2 (row t r) b) := by
  blk_ext [iblk, idx t]

/-- A place of the gradient. -/
def grad (dy : S8192x1024.Idx → EReal) (w : S2816x1024.Idx → EReal) (ff : S8192x5632.Idx → EReal) (j : S8192x5632.Idx) : EReal :=
  cell (fun k => dy (ix2 (j 0) k)) (fun a k => w (ix2 a k)) (fun b => ff (ix2 (j 0) b)) (j 1)

theorem block_launch (c : Dev nD) (t : Fin 16) (r : Fin 512) (b : Fin 5632) :
    block (iblk m c 0 t) (iblk m c 1 t) (iblk m c 2 t) (ix2 r b)
      = grad (V m c main_arg0) (V m c main_arg1) (V m c main_arg2) (ix2 (row t r) b) := by
  show cell (fun k => iblk m c 0 t (ix2 r k)) (fun a k => iblk m c 1 t (ix2 a k)) (fun b => iblk m c 2 t (ix2 r b)) b = _
  rw [funext fun k => blk0 m c t r k, funext₂ fun a k => blk1 m c t a k, funext fun b => blk2 m c t r b]
  rfl

/-- The array the launch leaves. -/
theorem arr_at (c : Dev nD) : (dats m 0 c).arrAt 3 cfg0.N = grad (V m c main_arg0) (V m c main_arg1) (V m c main_arg2) := by
  refine (dats m 0 c).arrAt_eq_of_covers 3 _ (by decide +kernel) fun t hf y => ?_
  blk_simp
  rw [after0_3]
  obtain ⟨r, b, rfl⟩ : ∃ (r : Fin 512) (b : Fin 5632), y = ix2 r b := ⟨y 0, y 1, by funext b; fin_cases b <;> rfl⟩
  refine (out_at _ _ _ _).trans ((block_launch m c t r b).trans ?_)
  refine congrArg (grad _ _ _) (funext fun a => Fin.ext ?_)
  fin_cases a
  · blk_simp [idx t]
    rfl
  · blk_simp [idx t]
    rfl

end Cert.OutDx

end
-- ==== Proof.Ffn.OutDxAgree.lean ====
/- The gradient of the SwiGLU layer's gate and up values: the kernel's and the reference's are one where the arguments are
   finite. -/
module

public import proofs.«01_k».proof.Proof.Ffn.OutDx
public import proofs.«01_k».proof.Proof.Ffn.Finite
public import proofs.«01_k».proof.Proof.Ffn.PreFacts
public import proofs.«01_k».proof.Proof.Gen.Reference5Ideal.Run
public import proofs.«01_k».proof.Proof.Gen.Reference5Ideal.Read
public import proofs.«01_k».proof.Defs
public import Idealize.ShloMosaic.Lib.Quiescent
public import Idealize.ShloMosaic.Lib.Claim

@[expose] public section

noncomputable section

namespace Cert.OutDx

open Idealize.ShloMosaic Idealize.ShloMosaic.Pointwise Idealize.SL.Sem Cert.Fin

/-- The reference's gradient of a gate value. -/
def dGateR (d g u : EReal) : EReal := d * u * sg g + g * (d * u) * (sg g * (1 - sg g))

/-- The reference's gradient of an up value. -/
def dUpR (d g : EReal) : EReal := g * sg g * d

section
open Cert.Reference5Ideal Cert.Reference5Ideal.Gen Cert.Reference5Ideal.Read

variable (x0 : (⟨S8192x1024, .f32⟩ : BufTy).Contents (Elt Ideal)) (x1 : (⟨S2816x1024, .bf16⟩ : BufTy).Contents (Elt Ideal))
    (x2 : (⟨S8192x5632, .bf16⟩ : BufTy).Contents (Elt Ideal)) (s : Fin 8192) (a : Fin 2816)

theorem ref_v10 : val_main_v10 x0 x1 x2 (ix2 s a)
    = dGateR (dAct (fun k => x0 (ix2 s k)) (fun a k => x1 (ix2 a k)) a) (x2 (ix2 s (gateCol a))) (x2 (ix2 s (upCol a))) := by
  pointwise [val_main_v10, val_main_call1_v2, val_main_call1_v1, val_main_call1_v0, val_main_v9, val_main_v7, val_main_v4_2, val_main_v4_1,
    val_main_v3, val_main_v2, val_main_v1, val_main_v0,
    val_main_call0_v0, val_main_call0_v1, val_main_call0_v2, val_main_call0_v3, val_main_call0_v4, val_main_call0_v6, val_main_call0_v7,
    val_main_call0_cst, val_main_call0_cst_0, val_main_call0_cst_1]
  rfl

theorem ref_v8 : val_main_v8 x0 x1 x2 (ix2 s a)
    = dUpR (dAct (fun k => x0 (ix2 s k)) (fun a k => x1 (ix2 a k)) a) (x2 (ix2 s (gateCol a))) := by
  pointwise [val_main_v8, val_main_v7, val_main_v4_2, val_main_v4_0,
    val_main_v2, val_main_v1, val_main_v0,
    val_main_call0_v0, val_main_call0_v1, val_main_call0_v2, val_main_call0_v3, val_main_call0_v4,
    val_main_call0_cst, val_main_call0_cst_0]
  rfl

theorem ref_gate : val_main_v12 x0 x1 x2 (ix2 s (gateCol a)) = val_main_v10 x0 x1 x2 (ix2 s a) := by
  have h : (gateCol a).val < 2816 := a.isLt
  pointwise [val_main_v12, val_main_v11]

theorem ref_up : val_main_v12 x0 x1 x2 (ix2 s (upCol a)) = val_main_v8 x0 x1 x2 (ix2 s a) := by
  have h : ¬(upCol a).val < 2816 := by simp only [upCol]; omega
  pointwise [val_main_v12, val_main_v11]

end

theorem sg_real {g : EReal} : Real? g → Real? (sg g) := by
  rintro ⟨r, rfl⟩
  exact ⟨_, Ideal.logistic_coe r⟩

theorem cell_eq (x0 : Cert.Kernel5Ideal.S8192x1024.Idx → EReal) (x1 : Cert.Kernel5Ideal.S2816x1024.Idx → EReal) (x2 : Cert.Kernel5Ideal.S8192x5632.Idx → EReal)
    (h0 : ∀ i, Real? (x0 i)) (h1 : ∀ i, Real? (x1 i)) (h2 : ∀ i, Real? (x2 i)) (i : Cert.Kernel5Ideal.S8192x5632.Idx) :
    Cert.Reference5Ideal.Read.val_main_v12 (F := Ideal) x0 x1 x2 i = grad x0 x1 x2 i := by
  obtain ⟨s, b, rfl⟩ : ∃ (s : Fin 8192) (b : Fin 5632), i = ix2 s b := ⟨i 0, i 1, by funext b; fin_cases b <;> rfl⟩
  by_cases hb : b.val < 2816
  · obtain ⟨a, rfl⟩ : ∃ a : Fin 2816, b = gateCol a := ⟨⟨b.val, hb⟩, rfl⟩
    refine (ref_gate x0 x1 x2 s a).trans ((ref_v10 x0 x1 x2 s a).trans (Eq.trans ?_ (cell_gate _ _ _ a).symm))
    exact (gate_eq (Real?.mul (Real?.sum fun k => (h0 _).mul (h1 _)) (h2 _)) (h2 _) (sg_real (h2 _))).symm
  · obtain ⟨a, rfl⟩ : ∃ a : Fin 2816, b = upCol a := ⟨⟨b.val - 2816, by omega⟩, Fin.ext (by simp only [upCol]; omega)⟩
    refine (ref_up x0 x1 x2 s a).trans ((ref_v8 x0 x1 x2 s a).trans (Eq.trans ?_ (cell_up _ _ _ a).symm))
    exact mul_comm _ _

theorem reference_frame : Cert.quiescent_Reference5Ideal := by
  intro m g _
  exact (θ_run Cert.Reference5Ideal.defs _ _).mono (fun r h => ⟨fun c => (h c).2, sem_eq_zero_of_no_sems rfl _⟩) (Cert.Reference5Ideal.Value.run m g)

theorem agree : Cert.algebraic_Kernel5Ideal_Reference5Ideal_pre_finite5 := by
  intro m g m' g' hpre hagree
  refine ⟨fun c => grad (Cert.Kernel5Ideal.Gen.V m c Cert.Kernel5Ideal.main_arg0) (Cert.Kernel5Ideal.Gen.V m c Cert.Kernel5Ideal.main_arg1) (Cert.Kernel5Ideal.Gen.V m c Cert.Kernel5Ideal.main_arg2), ?_, ?_⟩
  · exact (θ_run Cert.Kernel5Ideal.defs _ _).mono (fun r h c => ⟨(h c).1.trans (arr_at m c), (h c).2⟩) (Cert.Kernel5Ideal.Value.run_blocks m g)
  refine (θ_run Cert.Reference5Ideal.defs _ _).mono (fun r h c => ⟨(h c).1.trans ?_, (h c).2⟩) (Cert.Reference5Ideal.Value.run m' g')
  obtain ⟨h0, h1, h2⟩ := hagree c
  obtain ⟨p0, p1, p2⟩ := hpre c
  rw [Cert.Reference5Ideal.Read.val_main_v12_eq, h0, h1, h2]
  funext i
  exact cell_eq _ _ _ (fun i => of_cmp ((congrArg (Ideal.cmp .olt _) inf32.symm).trans (congrFun p0 i)))
    (fun i => of_cmp ((congrArg (Ideal.cmp .olt _) inf16.symm).trans (congrFun p1 i)))
    (fun i => of_cmp ((congrArg (Ideal.cmp .olt _) inf16.symm).trans (congrFun p2 i))) i

end Cert.OutDx

end
-- ==== Proof.Ffn.InFwd.lean ====
/- The SwiGLU layer's input product and its transposed norm: what the kernel leaves, at an index. -/
module

public import proofs.«01_k».proof.Proof.Gen.Kernel6Ideal.Value
public import Idealize.ShloMosaic.Lib.Pointwise
public import Idealize.ShloMosaic.Lib.Pipeline.ValueKit

@[expose] public section

noncomputable section

namespace Cert.InFwd

open Cert.Kernel6Ideal Cert.Kernel6Ideal.Gen Cert.Kernel6Ideal.Value Idealize.ShloMosaic Idealize.ShloMosaic.Pointwise Idealize.ShloMosaic.Pipeline Idealize.SL.Sem

/-- The reciprocal root of a row's mean square. -/
def rms (x : Fin 1024 → EReal) : EReal :=
  Ideal.rsqrt (Ideal.div (∑ k, x k * x k) (Ideal.ofBits .f32 0x44800000#32) + Ideal.ofBits .f32 0x358637BD#32)

/-- One entry of a row's norm. -/
def nrm (x g : Fin 1024 → EReal) (e : Fin 1024) : EReal := x e * rms x * g e

/-- One entry of a row of the product, by part and lane. -/
def prod (x g : Fin 1024 → EReal) (w : Fin 4 → Fin 1024 → Fin 1408 → EReal) (p : Fin 4) (a : Fin 1408) : EReal :=
  ∑ k, nrm x g k * w p k a

/-- The column of a part's lane. -/
abbrev pcol (p : Fin 4) (a : Fin 1408) : Fin 5632 := ⟨p.val * 1408 + a.val, by omega⟩

/-- One entry of a row of the product. -/
def cell (x g : Fin 1024 → EReal) (w : Fin 4 → Fin 1024 → Fin 1408 → EReal) (b : Fin 5632) : EReal :=
  prod x g w ⟨b.val / 1408, by omega⟩ ⟨b.val % 1408, by omega⟩

theorem cell_at (x g : Fin 1024 → EReal) (w : Fin 4 → Fin 1024 → Fin 1408 → EReal) (p : Fin 4) (a : Fin 1408) :
    cell x g w (pcol p a) = prod x g w p a := by
  have h1 : (⟨(pcol p a).val / 1408, by omega⟩ : Fin 4) = p := Fin.ext (by simp only [pcol]; omega)
  have h2 : (⟨(pcol p a).val % 1408, by omega⟩ : Fin 1408) = a := Fin.ext (by simp only [pcol]; omega)
  rw [cell, h1, h2]

theorem pay3_at (x : Vec Ideal S512x1024 .f32) (g : Vec Ideal S1x1024 .f32) (r : Fin 512) (e : Fin 1024) :
    k0_pay3 x g (ix2 r e) = nrm (fun k => x (ix2 r k)) (fun k => g (ix2 0 k)) e := by
  pointwise [k0_pay3]
  rfl

theorem pay4_at (x : Vec Ideal S512x1024 .f32) (g : Vec Ideal S1x1024 .f32) (r : Fin 512) (e : Fin 1024) :
    k0_pay4 x g (ix2 r e) = nrm (fun k => x (ix2 r k)) (fun k => g (ix2 0 k)) e := pay3_at x g r e

theorem pay2_at (h : Vec Ideal S512x1024 .f32) (e : Fin 1024) (r : Fin 512) : @Eq EReal (k0_pay2 (F := Ideal) h (ix2 e r)) (h (ix2 r e)) := by
  pointwise [k0_pay2]

theorem pay1_at (h : Vec Ideal S512x1024 .bf16) (w : Vec Ideal S1x1024x1408 .bf16) (r : Fin 512) (a : Fin 1408) :
    k0_pay1 h w (ix2 r a) = ∑ k : Fin 1024, h (ix2 r k) * w (ix3 0 k a) := by
  pointwise [k0_pay1]

theorem pay5_eq (x : Vec Ideal S512x1024 .f32) (g : Vec Ideal S1x1024 .f32) (w : Vec Ideal S1x1024x1408 .bf16) :
    k0_pay5 x g w = k0_pay1 (k0_pay4 x g) w := rfl
theorem pay6_eq (x : Vec Ideal S512x1024 .f32) (g : Vec Ideal S1x1024 .f32) (w : Vec Ideal S1x1024x1408 .bf16) :
    k0_pay6 x g w = k0_pay1 (k0_pay4 x g) w := rfl
theorem pay7_eq (x : Vec Ideal S512x1024 .f32) (g : Vec Ideal S1x1024 .f32) (w : Vec Ideal S1x1024x1408 .bf16) :
    k0_pay7 x g w = k0_pay1 (k0_pay4 x g) w := rfl

section
variable (x0 : Vec Ideal S512x1024 .f32) (x1 : Vec Ideal S1x1024 .f32) (x2 : Vec Ideal S4x1024x1408 .bf16)

/-- A place of the product's block. -/
def block (y : S512x5632.Idx) : EReal :=
  cell (fun k => x0 (ix2 (y 0) k)) (fun k => x1 (ix2 0 k)) (fun p k a => x2 (ix3 p k a)) (y 1)

/-- A place of the transposed norm's block. -/
def blockT (y : S1024x512.Idx) : EReal := nrm (fun k => x0 (ix2 (y 1) k)) (fun k => x1 (ix2 0 k)) (y 0)

theorem ld0 : View.ld x0 r0_0 = x0 := by
  funext i
  refine View.ld_unit_apply_of x0 _ _ _ _ i fun a => ?_
  fin_cases a <;> exact (Nat.zero_add _).symm

theorem ld1 : View.ld x1 r0_1 = x1 := by
  funext i
  refine View.ld_unit_apply_of x1 _ _ _ _ i fun a => ?_
  fin_cases a <;> exact (Nat.zero_add _).symm

theorem ldw (p : Fin 4) (o : Nat) (inb) (ho : o = p.val) (k : Fin 1024) (a : Fin 1408) :
    View.ld x2 (Rect.unit (s := S4x1024x1408) ![o, 0, 0] S1x1024x1408.size inb) (ix3 0 k a) = x2 (ix3 p k a) := by
  refine View.ld_unit_apply_of x2 _ _ _ _ (ix3 p k a) fun b => ?_
  fin_cases b
  · exact ho.symm
  · exact (Nat.zero_add _).symm
  · exact (Nat.zero_add _).symm

theorem emb_col (p : Fin 4) (o : Nat) (inb) (ho : o = p.val * 1408) (r : Fin 512) (a : Fin 1408) :
    (Rect.unit (s := S512x5632) ![0, o] S512x1408.size inb).emb (ix2 r a) = ix2 r (pcol p a) := by
  funext b
  apply Fin.ext
  refine (Rect.idx_unit_val _ _ _ _ b).trans ?_
  fin_cases b
  · exact Nat.zero_add _
  · exact congrArg (· + a.val) ho

theorem emb_t (e : Fin 1024) (r : Fin 512) : r0_10.emb (ix2 e r) = ix2 e r := by
  funext b
  apply Fin.ext
  refine (Rect.idx_unit_val _ _ _ _ b).trans ?_
  fin_cases b <;> exact Nat.zero_add _

theorem piece (p : Fin 4) (o q : Nat) (inb inb1) (ho : o = p.val * 1408) (hq : q = p.val) (x : S512x1408.Idx) :
    k0_pay1 (k0_pay4 (View.ld x0 r0_0) (View.ld x1 r0_1)) (View.ld x2 (Rect.unit (s := S4x1024x1408) ![q, 0, 0] S1x1024x1408.size inb1)) x
      = block x0 x1 x2 ((Rect.unit (s := S512x5632) ![0, o] S512x1408.size inb).emb x) := by
  obtain ⟨r, a, rfl⟩ : ∃ (r : Fin 512) (a : Fin 1408), x = ix2 r a := ⟨x 0, x 1, by funext b; fin_cases b <;> rfl⟩
  refine Eq.trans ?_ (congrArg (block x0 x1 x2) (emb_col p o inb ho r a)).symm
  refine Eq.trans ?_ (cell_at _ _ _ p a).symm
  rw [ld0, ld1]
  refine (pay1_at _ _ r a).trans (Finset.sum_congr rfl fun k _ => ?_)
  rw [ldw x2 p q inb1 hq, pay4_at]
  rfl

theorem piece_t (x : S1024x512.Idx) : k0_pay2 (k0_pay3 (View.ld x0 r0_0) (View.ld x1 r0_1)) x = blockT x0 x1 (r0_10.emb x) := by
  obtain ⟨e, r, rfl⟩ : ∃ (e : Fin 1024) (r : Fin 512), x = ix2 e r := ⟨x 0, x 1, by funext b; fin_cases b <;> rfl⟩
  refine Eq.trans ?_ (congrArg (blockT x0 x1) (emb_t e r)).symm
  rw [ld0, ld1]
  exact (pay2_at _ e r).trans (pay3_at _ _ r e)

theorem out_at (y : S512x5632.Idx) : out0_3 x0 x1 x2 y = block x0 x1 x2 y := by
  refine View.canon_apply_of_pieces (Val := Elt Ideal) (e := .bf16) (block x0 x1 x2) _ ?_ y ?_
  swap
  · exact cover0_3 _ _ _ _ y
  refine List.forall_mem_cons.mpr ⟨piece x0 x1 x2 3 4224 3 inb_S512x5632_S512x1408_0_4224 inb_S4x1024x1408_S1x1024x1408_3_0_0 rfl rfl, ?_⟩
  refine List.forall_mem_cons.mpr ⟨piece x0 x1 x2 2 2816 2 inb_S512x5632_S512x1408_0_2816 inb_S4x1024x1408_S1x1024x1408_2_0_0 rfl rfl, ?_⟩
  refine List.forall_mem_cons.mpr ⟨piece x0 x1 x2 1 1408 1 inb_S512x5632_S512x1408_0_1408 inb_S4x1024x1408_S1x1024x1408_1_0_0 rfl rfl, ?_⟩
  refine List.forall_mem_cons.mpr ⟨piece x0 x1 x2 0 0 0 inb_S512x5632_S512x1408_0_0 inb_S4x1024x1408_S1x1024x1408_0_0_0 rfl rfl, ?_⟩
  exact fun _ h => absurd h List.not_mem_nil

theorem outT_at (y : S1024x512.Idx) : out0_4 x0 x1 x2 y = blockT x0 x1 y := by
  refine View.canon_apply_of_pieces (Val := Elt Ideal) (e := .bf16) (blockT x0 x1) _ ?_ y ?_
  swap
  · exact cover0_4 _ y
  refine List.forall_mem_cons.mpr ⟨piece_t x0 x1, ?_⟩
  exact fun _ h => absurd h List.not_mem_nil

end

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] ∧ win0_4.index t = ![0, t.val] := by decide +kernel

/-- Row `r` of block `t`. -/
abbrev row (t : Fin 16) (r : Fin 512) : Fin 8192 := ⟨t.val * 512 + r.val, by omega⟩

theorem blk0 (c : Dev nD) (t : Fin 16) (r : Fin 512) (k : Fin 1024) :
    iblk m c 0 t (ix2 r k) = V m c main_arg0 (ix2 (row t r) k) := by
  blk_ext [iblk, idx t]

theorem blk1 (c : Dev nD) (t : Fin 16) (k : Fin 1024) :
    iblk m c 1 t (ix2 0 k) = V m c main_arg1 (ix2 0 k) := by
  blk_ext [iblk, idx t]

theorem blk2 (c : Dev nD) (t : Fin 16) (p : Fin 4) (k : Fin 1024) (a : Fin 1408) :
    iblk m c 2 t (ix3 p k a) = V m c main_arg2 (ix3 p k a) := by
  blk_ext [iblk, idx t]

/-- A place of the product. -/
def out (x : S8192x1024.Idx → EReal) (g : S1x1024.Idx → EReal) (w : S4x1024x1408.Idx → EReal) (j : S8192x5632.Idx) : EReal :=
  cell (fun k => x (ix2 (j 0) k)) (fun k => g (ix2 0 k)) (fun p k a => w (ix3 p k a)) (j 1)

/-- A place of the transposed norm. -/
def outT (x : S8192x1024.Idx → EReal) (g : S1x1024.Idx → EReal) (j : S1024x8192.Idx) : EReal :=
  nrm (fun k => x (ix2 (j 1) k)) (fun k => g (ix2 0 k)) (j 0)

theorem block_launch (c : Dev nD) (t : Fin 16) (r : Fin 512) (b : Fin 5632) :
    block (iblk m c 0 t) (iblk m c 1 t) (iblk m c 2 t) (ix2 r b)
      = out (V m c main_arg0) (V m c main_arg1) (V m c main_arg2) (ix2 (row t r) b) := by
  show cell (fun k => iblk m c 0 t (ix2 r k)) (fun k => iblk m c 1 t (ix2 0 k)) (fun p k a => iblk m c 2 t (ix3 p k a)) b = _
  rw [funext fun k => blk0 m c t r k, funext fun k => blk1 m c t k, funext₃ fun p k a => blk2 m c t p k a]
  rfl

theorem blockT_launch (c : Dev nD) (t : Fin 16) (r : Fin 512) (e : Fin 1024) :
    blockT (iblk m c 0 t) (iblk m c 1 t) (ix2 e r) = outT (V m c main_arg0) (V m c main_arg1) (ix2 e (row t r)) := by
  show nrm (fun k => iblk m c 0 t (ix2 r k)) (fun k => iblk m c 1 t (ix2 0 k)) e = _
  rw [funext fun k => blk0 m c t r k, funext fun k => blk1 m c t k]
  rfl

/-- The product the launch leaves. -/
theorem arr_at (c : Dev nD) : (dats m 0 c).arrAt 3 cfg0.N = out (V m c main_arg0) (V m c main_arg1) (V m c main_arg2) := by
  refine (dats m 0 c).arrAt_eq_of_covers 3 _ (by decide +kernel) fun t hf y => ?_
  blk_simp
  rw [after0_3]
  obtain ⟨r, b, rfl⟩ : ∃ (r : Fin 512) (b : Fin 5632), y = ix2 r b := ⟨y 0, y 1, by funext b; fin_cases b <;> rfl⟩
  refine (out_at _ _ _ _).trans ((block_launch m c t r b).trans ?_)
  refine congrArg (out _ _ _) (funext fun a => Fin.ext ?_)
  fin_cases a
  · blk_simp [idx t]
    rfl
  · blk_simp [idx t]
    rfl

/-- The transposed norm the launch leaves. -/
theorem arrT_at (c : Dev nD) : (dats m 0 c).arrAt 4 cfg0.N = outT (V m c main_arg0) (V m c main_arg1) := by
  refine (dats m 0 c).arrAt_eq_of_covers 4 _ (by decide +kernel) fun t hf y => ?_
  blk_simp
  rw [after0_4]
  obtain ⟨e, r, rfl⟩ : ∃ (e : Fin 1024) (r : Fin 512), y = ix2 e r := ⟨y 0, y 1, by funext b; fin_cases b <;> rfl⟩
  refine (outT_at _ _ _ _).trans ((blockT_launch m c t r e).trans ?_)
  refine congrArg (outT _ _) (funext fun a => Fin.ext ?_)
  fin_cases a
  · blk_simp [idx t]
    rfl
  · blk_simp [idx t]
    rfl

end Cert.InFwd

end
-- ==== Proof.Ffn.InFwdAgree.lean ====
/- The SwiGLU layer's input product and its transposed norm: the kernel's and the reference's are one. -/
module

public import proofs.«01_k».proof.Proof.Ffn.InFwd
public import proofs.«01_k».proof.Proof.Gen.Reference6Ideal.Run
public import proofs.«01_k».proof.Proof.Gen.Reference6Ideal.Read
public import proofs.«01_k».proof.Defs
public import Idealize.ShloMosaic.Lib.Quiescent
public import Idealize.ShloMosaic.Lib.Claim

@[expose] public section

noncomputable section

namespace Cert.InFwd

open Idealize.ShloMosaic Idealize.ShloMosaic.Pointwise Idealize.SL.Sem

section
open Cert.Reference6Ideal Cert.Reference6Ideal.Gen Cert.Reference6Ideal.Read

variable (x0 : (⟨S8192x1024, .f32⟩ : BufTy).Contents (Elt Ideal)) (x1 : (⟨S1x1024, .f32⟩ : BufTy).Contents (Elt Ideal))
    (x2 : (⟨S4x1024x1408, .bf16⟩ : BufTy).Contents (Elt Ideal)) (s : Fin 8192)

theorem ref_nrm (e : Fin 1024) :
    val_main_v11 x0 x1 (ix2 s e) = nrm (fun k => x0 (ix2 s k)) (fun k => x1 (ix2 0 k)) e := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

theorem ref_w (k : Fin 1024) (p : Fin 4) (a : Fin 1408) : val_main_v14 x2 (ix2 k (pcol p a)) = x2 (ix3 p k a) := by
  pointwise [val_main_v14, val_main_v13, val_main_v12]
  exact congrArg₂ (fun p a => x2 (ix3 p k a)) (Fin.ext (by dsimp only; omega)) (Fin.ext (by dsimp only; omega))

theorem ref_v16 (b : Fin 5632) : val_main_v16 x0 x1 x2 (ix2 s b) = ∑ k : Fin 1024, HMul.hMul (α := EReal) (β := EReal) (val_main_v11 x0 x1 (ix2 s k)) (val_main_v14 x2 (ix2 k b)) := by
  pointwise [val_main_v16, val_main_v15]

theorem ref_v18 (e : Fin 1024) : @Eq EReal (val_main_v18 x0 x1 (ix2 e s)) (val_main_v11 x0 x1 (ix2 s e)) := by
  pointwise [val_main_v18, val_main_v17]

theorem ref_at (p : Fin 4) (a : Fin 1408) : val_main_v16 x0 x1 x2 (ix2 s (pcol p a))
    = cell (fun k => x0 (ix2 s k)) (fun k => x1 (ix2 0 k)) (fun p k a => x2 (ix3 p k a)) (pcol p a) := by
  refine (ref_v16 x0 x1 x2 s _).trans (Eq.trans ?_ (cell_at _ _ _ p a).symm)
  refine Finset.sum_congr rfl fun k _ => ?_
  rw [ref_nrm, ref_w]

theorem ref_t (e : Fin 1024) : val_main_v18 x0 x1 (ix2 e s) = nrm (fun k => x0 (ix2 s k)) (fun k => x1 (ix2 0 k)) e :=
  (ref_v18 x0 x1 s e).trans (ref_nrm x0 x1 s e)

end

theorem reference_frame : Cert.quiescent_Reference6Ideal := by
  intro m g _
  exact (θ_run Cert.Reference6Ideal.defs _ _).mono (fun r h => ⟨fun c => (h c).2.2, sem_eq_zero_of_no_sems rfl _⟩) (Cert.Reference6Ideal.Value.run m g)

theorem agree : Cert.algebraic_Kernel6Ideal_Reference6Ideal := by
  intro m g m' g' _ hagree
  refine ⟨fun c => out (Cert.Kernel6Ideal.Gen.V m c Cert.Kernel6Ideal.main_arg0) (Cert.Kernel6Ideal.Gen.V m c Cert.Kernel6Ideal.main_arg1) (Cert.Kernel6Ideal.Gen.V m c Cert.Kernel6Ideal.main_arg2),
    fun c => outT (Cert.Kernel6Ideal.Gen.V m c Cert.Kernel6Ideal.main_arg0) (Cert.Kernel6Ideal.Gen.V m c Cert.Kernel6Ideal.main_arg1), ?_, ?_⟩
  · exact (θ_run Cert.Kernel6Ideal.defs _ _).mono (fun r h c => ⟨(h c).1.trans (arr_at m c), (h c).2.1.trans (arrT_at m c), (h c).2.2⟩) (Cert.Kernel6Ideal.Value.run_blocks m g)
  refine (θ_run Cert.Reference6Ideal.defs _ _).mono (fun r h c => ⟨(h c).1.trans ?_, (h c).2.1.trans ?_, (h c).2.2⟩) (Cert.Reference6Ideal.Value.run m' g')
  · obtain ⟨h0, h1, h2⟩ := hagree c
    rw [Cert.Reference6Ideal.Read.val_main_v16_eq, h0, h1, h2]
    funext i
    obtain ⟨s, b, rfl⟩ : ∃ (s : Fin 8192) (b : Fin 5632), i = ix2 s b := ⟨i 0, i 1, by funext b; fin_cases b <;> rfl⟩
    obtain ⟨p, a, rfl⟩ : ∃ (p : Fin 4) (a : Fin 1408), b = pcol p a :=
      ⟨⟨b.val / 1408, by omega⟩, ⟨b.val % 1408, by omega⟩, Fin.ext (by simp only [pcol]; omega)⟩
    exact ref_at _ _ _ s p a
  · obtain ⟨h0, h1, h2⟩ := hagree c
    rw [Cert.Reference6Ideal.Read.val_main_v18_eq, h0, h1]
    funext i
    obtain ⟨e, s, rfl⟩ : ∃ (e : Fin 1024) (s : Fin 8192), i = ix2 e s := ⟨i 0, i 1, by funext b; fin_cases b <;> rfl⟩
    exact ref_t _ _ s e

end Cert.InFwd

end
-- ==== Proof.Ffn.OutFwd.lean ====
/- The SwiGLU layer's output with its residual: what the kernel leaves, at an index. -/
module

public import proofs.«01_k».proof.Proof.Gen.Kernel7Ideal.Value
public import Idealize.ShloMosaic.Lib.Pointwise
public import Idealize.ShloMosaic.Lib.Pipeline.ValueKit

@[expose] public section

noncomputable section

namespace Cert.OutFwd

open Cert.Kernel7Ideal Cert.Kernel7Ideal.Gen Cert.Kernel7Ideal.Value Idealize.ShloMosaic Idealize.ShloMosaic.Pointwise Idealize.ShloMosaic.Pipeline Idealize.SL.Sem

/-- The activation of a gate and its up value. -/
def act (g u : EReal) : EReal := g * Ideal.div 1 (1 + Ideal.exp (-g)) * u

/-- One entry of a row of the output. -/
def cell (ff : Fin 5632 → EReal) (w : Fin 2816 → Fin 1024 → EReal) (x : Fin 1024 → EReal) (e : Fin 1024) : EReal :=
  x e + ∑ a : Fin 2816, act (ff ⟨a.val, by omega⟩) (ff ⟨2816 + a.val, by omega⟩) * w a e

theorem pay1_at (x : Vec Ideal S512x1024 .f32) (ff : Vec Ideal S512x5632 .bf16) (w : Vec Ideal S2816x1024 .bf16) (r : Fin 512) (e : Fin 1024) :
    k0_pay1 x ff w (ix2 r e) = cell (fun b => ff (ix2 r b)) (fun a e => w (ix2 a e)) (fun e => x (ix2 r e)) e := by
  pointwise [k0_pay1]
  simp only [cell, act, zero_sub]

section
variable (x0 : Vec Ideal S512x5632 .bf16) (x1 : Vec Ideal S2816x1024 .bf16) (x2 : Vec Ideal S512x1024 .f32)

/-- A place of the block a grid point writes. -/
def block (y : S512x1024.Idx) : EReal :=
  cell (fun b => x0 (ix2 (y 0) b)) (fun a e => x1 (ix2 a e)) (fun e => x2 (ix2 (y 0) e)) (y 1)

theorem ld0 : View.ld x0 r0_1 = x0 := by
  funext i
  refine View.ld_unit_apply_of x0 _ _ _ _ i fun a => ?_
  fin_cases a <;> exact (Nat.zero_add _).symm

theorem ld1 : View.ld x1 r0_2 = x1 := by
  funext i
  refine View.ld_unit_apply_of x1 _ _ _ _ i fun a => ?_
  fin_cases a <;> exact (Nat.zero_add _).symm

theorem ld2 : View.ld x2 r0_0 = x2 := by
  funext i
  refine View.ld_unit_apply_of x2 _ _ _ _ i fun a => ?_
  fin_cases a <;> exact (Nat.zero_add _).symm

theorem emb_out (r : Fin 512) (e : Fin 1024) : r0_0.emb (ix2 r e) = ix2 r e := by
  funext b
  apply Fin.ext
  refine (Rect.idx_unit_val _ _ _ _ b).trans ?_
  fin_cases b <;> exact Nat.zero_add _

theorem piece (x : S512x1024.Idx) : k0_pay1 (View.ld x2 r0_0) (View.ld x0 r0_1) (View.ld x1 r0_2) x = block x0 x1 x2 (r0_0.emb x) := by
  obtain ⟨r, e, rfl⟩ : ∃ (r : Fin 512) (e : Fin 1024), x = ix2 r e := ⟨x 0, x 1, by funext b; fin_cases b <;> rfl⟩
  refine Eq.trans ?_ (congrArg (block x0 x1 x2) (emb_out r e)).symm
  rw [ld0, ld1, ld2]
  exact pay1_at _ _ _ r e

theorem out_at (y : S512x1024.Idx) : out0_3 x0 x1 x2 y = block x0 x1 x2 y := by
  refine View.canon_apply_of_pieces (Val := Elt Ideal) (e := .f32) (block x0 x1 x2) _ ?_ y ?_
  swap
  · exact cover0_3 _ y
  refine List.forall_mem_cons.mpr ⟨piece x0 x1 x2, ?_⟩
  exact fun _ h => absurd h List.not_mem_nil

end

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] := by decide +kernel

/-- Row `r` of block `t`. -/
abbrev row (t : Fin 16) (r : Fin 512) : Fin 8192 := ⟨t.val * 512 + r.val, by omega⟩

theorem blk0 (c : Dev nD) (t : Fin 16) (r : Fin 512) (b : Fin 5632) :
    iblk m c 0 t (ix2 r b) = V m c main_arg0 (ix2 (row t r) b) := by
  blk_ext [iblk, idx t]

theorem blk1 (c : Dev nD) (t : Fin 16) (a : Fin 2816) (e : Fin 1024) :
    iblk m c 1 t (ix2 a e) = V m c main_arg1 (ix2 a e) := by
  blk_ext [iblk, idx t]

theorem blk2 (c : Dev nD) (t : Fin 16) (r : Fin 512) (e : Fin 1024) :
    iblk m c 2 t (ix2 r e) = V m c main_arg2 (ix2 (row t r) e) := by
  blk_ext [iblk, idx t]

/-- A place of the output. -/
def out (ff : S8192x5632.Idx → EReal) (w : S2816x1024.Idx → EReal) (x : S8192x1024.Idx → EReal) (j : S8192x1024.Idx) : EReal :=
  cell (fun b => ff (ix2 (j 0) b)) (fun a e => w (ix2 a e)) (fun e => x (ix2 (j 0) e)) (j 1)

theorem block_launch (c : Dev nD) (t : Fin 16) (r : Fin 512) (e : Fin 1024) :
    block (iblk m c 0 t) (iblk m c 1 t) (iblk m c 2 t) (ix2 r e)
      = out (V m c main_arg0) (V m c main_arg1) (V m c main_arg2) (ix2 (row t r) e) := by
  show cell (fun b => iblk m c 0 t (ix2 r b)) (fun a e => iblk m c 1 t (ix2 a e)) (fun e => iblk m c 2 t (ix2 r e)) e = _
  rw [funext fun b => blk0 m c t r b, funext₂ fun a e => blk1 m c t a e, funext fun e => blk2 m c t r e]
  rfl

/-- The array the launch leaves. -/
theorem arr_at (c : Dev nD) : (dats m 0 c).arrAt 3 cfg0.N = out (V m c main_arg0) (V m c main_arg1) (V m c main_arg2) := by
  refine (dats m 0 c).arrAt_eq_of_covers 3 _ (by decide +kernel) fun t hf y => ?_
  blk_simp
  rw [after0_3]
  obtain ⟨r, e, rfl⟩ : ∃ (r : Fin 512) (e : Fin 1024), y = ix2 r e := ⟨y 0, y 1, by funext b; fin_cases b <;> rfl⟩
  refine (out_at _ _ _ _).trans ((block_launch m c t r e).trans ?_)
  refine congrArg (out _ _ _) (funext fun a => Fin.ext ?_)
  fin_cases a
  · blk_simp [idx t]
    rfl
  · blk_simp [idx t]
    rfl

end Cert.OutFwd

end
-- ==== Proof.Ffn.OutFwdAgree.lean ====
/- The SwiGLU layer's output with its residual: the kernel's and the reference's are one. -/
module

public import proofs.«01_k».proof.Proof.Ffn.OutFwd
public import proofs.«01_k».proof.Proof.Gen.Reference7Ideal.Run
public import proofs.«01_k».proof.Proof.Gen.Reference7Ideal.Read
public import proofs.«01_k».proof.Defs
public import Idealize.ShloMosaic.Lib.Quiescent
public import Idealize.ShloMosaic.Lib.Claim

@[expose] public section

noncomputable section

namespace Cert.OutFwd

open Idealize.ShloMosaic Idealize.ShloMosaic.Pointwise Idealize.SL.Sem

section
open Cert.Reference7Ideal Cert.Reference7Ideal.Gen Cert.Reference7Ideal.Read

theorem ref_at (x0 : (⟨S8192x5632, .bf16⟩ : BufTy).Contents (Elt Ideal)) (x1 : (⟨S2816x1024, .bf16⟩ : BufTy).Contents (Elt Ideal))
    (x2 : (⟨S8192x1024, .f32⟩ : BufTy).Contents (Elt Ideal)) (s : Fin 8192) (e : Fin 1024) :
    val_main_v7 x0 x1 x2 (ix2 s e) = cell (fun b => x0 (ix2 s b)) (fun a e => x1 (ix2 a e)) (fun e => x2 (ix2 s e)) e := by
  pointwise [val_main_v7, val_main_v6, val_main_v5, val_main_v4, val_main_v3, val_main_v2, val_main_v1, val_main_v0,
    val_main_call0_v0, val_main_call0_v1, val_main_call0_v2, val_main_call0_v3, val_main_call0_v4, val_main_call0_v5, val_main_call0_cst, val_main_call0_cst_0]
  rfl

end

theorem reference_frame : Cert.quiescent_Reference7Ideal := by
  intro m g _
  exact (θ_run Cert.Reference7Ideal.defs _ _).mono (fun r h => ⟨fun c => (h c).2, sem_eq_zero_of_no_sems rfl _⟩) (Cert.Reference7Ideal.Value.run m g)

theorem agree : Cert.algebraic_Kernel7Ideal_Reference7Ideal := by
  intro m g m' g' _ hagree
  refine ⟨fun c => out (Cert.Kernel7Ideal.Gen.V m c Cert.Kernel7Ideal.main_arg0) (Cert.Kernel7Ideal.Gen.V m c Cert.Kernel7Ideal.main_arg1) (Cert.Kernel7Ideal.Gen.V m c Cert.Kernel7Ideal.main_arg2), ?_, ?_⟩
  · exact (θ_run Cert.Kernel7Ideal.defs _ _).mono (fun r h c => ⟨(h c).1.trans (arr_at m c), (h c).2⟩) (Cert.Kernel7Ideal.Value.run_blocks m g)
  refine (θ_run Cert.Reference7Ideal.defs _ _).mono (fun r h c => ⟨(h c).1.trans ?_, (h c).2⟩) (Cert.Reference7Ideal.Value.run m' g')
  obtain ⟨h0, h1, h2⟩ := hagree c
  rw [Cert.Reference7Ideal.Read.val_main_v7_eq, h0, h1, h2]
  funext i
  obtain ⟨s, e, rfl⟩ : ∃ (s : Fin 8192) (e : Fin 1024), i = ix2 s e := ⟨i 0, i 1, by funext b; fin_cases b <;> rfl⟩
  exact ref_at _ _ _ s e

end Cert.OutFwd

end
-- ==== Proof.Proj.PreFacts.lean ====
/- The shapes the preconditions of the two projections' gradients broadcast to. -/
module

public import proofs.«01_k».proof.Pre_finite8
public import proofs.«01_k».proof.Pre_finite13

@[expose] public section

namespace Cert.Fin

theorem facts8 : Cert.Pre_finite8.Facts where
  bcast_S_S8192x512 := by decide
  bcast_S_S8192x1536 := by decide
  bcast_S_S4x1024x768 := by decide
  bcast_S_S8192x1024 := by decide
  bcast_S_S1x1024 := by decide

theorem facts13 : Cert.Pre_finite13.Facts where
  bcast_S_S8192x1024 := by decide
  bcast_S_S1024x1024 := by decide
  bcast_S_S8192x512 := by decide
  bcast_S_S8192x3072 := by decide

attribute [instance] facts8 facts13

end Cert.Fin
-- ==== Proof.Proj.Split.lean ====
/- Sums over an axis that several arrays share, as the sum over each array's part. -/
module

public import Idealize.ShloMosaic.Lib.Pointwise

@[expose] public section

noncomputable section

namespace Cert.Split

/-- A sum in two parts. -/
theorem two {n : ℕ} (a b : ℕ) (h : n = a + b) (f : Fin n → EReal) :
    ∑ k, f k = (∑ i : Fin a, f ⟨i.val, by omega⟩) + ∑ i : Fin b, f ⟨a + i.val, by omega⟩ := by
  subst h
  exact Fin.sum_univ_add f

/-- The three mixers' rows, one beside the other. -/
def mix {α : Type} (gm : Fin 256 → α) (ret : Fin 512 → α) (cv : Fin 256 → α) (k : Fin 1024) : α :=
  if h : k.val < 256 then gm ⟨k.val, h⟩
  else if h' : k.val - 256 < 512 then ret ⟨k.val - 256, h'⟩ else cv ⟨k.val - 256 - 512, by omega⟩

section
variable {α : Type} (gm : Fin 256 → α) (ret : Fin 512 → α) (cv : Fin 256 → α)

theorem mix_gm (a : Fin 256) (h) : mix gm ret cv ⟨a.val, h⟩ = gm a := dif_pos a.isLt
theorem mix_ret (a : Fin 512) (h) : mix gm ret cv ⟨256 + a.val, h⟩ = ret a := by
  unfold mix
  rw [dif_neg (by dsimp only; omega), dif_pos (by dsimp only; omega)]
  exact congrArg ret (Fin.ext (by dsimp only; omega))
theorem mix_cv (a : Fin 256) (h) : mix gm ret cv ⟨768 + a.val, h⟩ = cv a := by
  unfold mix
  rw [dif_neg (by dsimp only; omega), dif_neg (by dsimp only; omega)]
  exact congrArg cv (Fin.ext (by dsimp only; omega))

end

theorem mix_sum (gm : Fin 256 → EReal) (ret : Fin 512 → EReal) (cv : Fin 256 → EReal) (w : Fin 1024 → EReal) :
    ∑ k, mix gm ret cv k * w k = (∑ a : Fin 256, gm a * w ⟨a.val, by omega⟩) + (∑ a : Fin 512, ret a * w ⟨256 + a.val, by omega⟩)
      + ∑ a : Fin 256, cv a * w ⟨768 + a.val, by omega⟩ := by
  rw [two 768 256 rfl, two 256 512 rfl]
  simp only [mix_gm, mix_ret, mix_cv]

/-- The four arrays of gradients, one beside the other. -/
def cat {α : Type} (gm : Fin 512 → α) (qkv : Fin 1536 → α) (gt : Fin 512 → α) (cv : Fin 512 → α) (k : Fin 3072) : α :=
  if h : k.val < 512 then gm ⟨k.val, h⟩
  else if h' : k.val - 512 < 1536 then qkv ⟨k.val - 512, h'⟩
  else if h'' : k.val - 512 - 1536 < 512 then gt ⟨k.val - 512 - 1536, h''⟩ else cv ⟨k.val - 512 - 1536 - 512, by omega⟩

section
variable {α : Type} (gm : Fin 512 → α) (qkv : Fin 1536 → α) (gt : Fin 512 → α) (cv : Fin 512 → α)

theorem cat_gm (k : Fin 3072) (a : Fin 512) (h : k.val = a.val) : cat gm qkv gt cv k = gm a := by
  unfold cat
  rw [dif_pos (by omega)]
  exact congrArg gm (Fin.ext h)
theorem cat_qkv (k : Fin 3072) (a : Fin 1536) (h : k.val = 512 + a.val) : cat gm qkv gt cv k = qkv a := by
  unfold cat
  rw [dif_neg (by omega), dif_pos (by omega)]
  exact congrArg qkv (Fin.ext (by dsimp only; omega))
theorem cat_gt (k : Fin 3072) (a : Fin 512) (h : k.val = 2048 + a.val) : cat gm qkv gt cv k = gt a := by
  unfold cat
  rw [dif_neg (by omega), dif_neg (by omega), dif_pos (by omega)]
  exact congrArg gt (Fin.ext (by dsimp only; omega))
theorem cat_cv (k : Fin 3072) (a : Fin 512) (h : k.val = 2560 + a.val) : cat gm qkv gt cv k = cv a := by
  unfold cat
  rw [dif_neg (by omega), dif_neg (by omega), dif_neg (by omega)]
  exact congrArg cv (Fin.ext (by dsimp only; omega))

end

/-- The seven parts into which the arrays' and the devices' columns cut the axis. -/
theorem seven (f : Fin 3072 → EReal) :
    ∑ k, f k = (∑ a : Fin 512, f ⟨a.val, by omega⟩) + (∑ a : Fin 256, f ⟨512 + a.val, by omega⟩) + (∑ a : Fin 768, f ⟨768 + a.val, by omega⟩)
      + (∑ a : Fin 512, f ⟨1536 + a.val, by omega⟩) + (∑ a : Fin 256, f ⟨2048 + a.val, by omega⟩) + (∑ a : Fin 256, f ⟨2304 + a.val, by omega⟩)
      + ∑ a : Fin 512, f ⟨2560 + a.val, by omega⟩ := by
  rw [two 2560 512 rfl, two 2304 256 rfl, two 2048 256 rfl, two 1536 512 rfl, two 768 768 rfl, two 512 256 rfl]

end Cert.Split

end
-- ==== Proof.Proj.ProjDx.lean ====
/- The gradient of the first projection's input and of its norm's weight: what the kernel leaves, at an index. -/
module

public import proofs.«01_k».proof.Proof.Gen.Kernel8Ideal.Value
public import proofs.«01_k».proof.Proof.Ffn.InDx
public import proofs.«01_k».proof.Proof.Proj.Split
public import Idealize.ShloMosaic.Lib.Pointwise
public import Idealize.ShloMosaic.Lib.Pipeline.ValueKit

@[expose] public section

noncomputable section

namespace Cert.ProjDx

open Cert.Kernel8Ideal Cert.Kernel8Ideal.Gen Cert.Kernel8Ideal.Value Idealize.ShloMosaic Idealize.ShloMosaic.Pointwise Idealize.ShloMosaic.Pipeline Idealize.SL.Sem
open Cert.InDx (ms dxOf)

/-- The gradient of one entry of a row of the norm. -/
def dh (d : Fin 3072 → EReal) (w : Fin 4 → Fin 1024 → Fin 768 → EReal) (e : Fin 1024) : EReal :=
  ∑ b : Fin 3072, d b * w ⟨b.val / 768, by omega⟩ e ⟨b.val % 768, Nat.mod_lt _ (by decide)⟩

/-- One entry of a row of the input's gradient. -/
def dx (d : Fin 3072 → EReal) (w : Fin 4 → Fin 1024 → Fin 768 → EReal) (x g dres : Fin 1024 → EReal) (e : Fin 1024) : EReal :=
  dxOf (dh d w) x g dres (ms x) e

/-- One row's part of the norm's weight's gradient. -/
def dg (d : Fin 3072 → EReal) (w : Fin 4 → Fin 1024 → Fin 768 → EReal) (x : Fin 1024 → EReal) (e : Fin 1024) : EReal :=
  dh d w e * x e * Ideal.rsqrt (ms x)

theorem pay6_at (x : Vec Ideal S512x1024 .f32) (r : Fin 512) : k0_pay6 (F := Ideal) x (ix2 r 0) = Ideal.rsqrt (ms (fun k => x (ix2 r k))) := by
  pointwise [k0_pay6]
  rfl

theorem pay4_at (f0 : Vec Ideal S512x512 .bf16) (w0 : Vec Ideal S1x1024x512 .bf16) (f1 : Vec Ideal S512x256 .bf16) (w1 : Vec Ideal S1x1024x256 .bf16) (f2 : Vec Ideal S512x768 .bf16) (w2 : Vec Ideal S1x1024x768 .bf16) (f3 : Vec Ideal S512x512 .bf16) (w3 : Vec Ideal S1x1024x512 .bf16) (f4 : Vec Ideal S512x256 .bf16) (w4 : Vec Ideal S1x1024x256 .bf16) (r : Fin 512) (e : Fin 1024) :
    k0_pay4 (F := Ideal) f0 w0 f1 w1 f2 w2 f3 w3 f4 w4 (ix2 r e) = 0 + (∑ a : Fin 512, HMul.hMul (α := EReal) (β := EReal) (f0 (ix2 r a)) (w0 (ix3 0 e a)))
      + (∑ a : Fin 256, HMul.hMul (α := EReal) (β := EReal) (f1 (ix2 r a)) (w1 (ix3 0 e a)))
      + (∑ a : Fin 768, HMul.hMul (α := EReal) (β := EReal) (f2 (ix2 r a)) (w2 (ix3 0 e a)))
      + (∑ a : Fin 512, HMul.hMul (α := EReal) (β := EReal) (f3 (ix2 r a)) (w3 (ix3 0 e a)))
      + (∑ a : Fin 256, HMul.hMul (α := EReal) (β := EReal) (f4 (ix2 r a)) (w4 (ix3 0 e a))) := by
  pointwise [k0_pay4]

theorem pay5_at (d : FVec Ideal S512x1024 .f32) (f5 : Vec Ideal S512x256 .bf16) (w5 : Vec Ideal S1x1024x256 .bf16) (f6 : Vec Ideal S512x512 .bf16) (w6 : Vec Ideal S1x1024x512 .bf16) (r : Fin 512) (e : Fin 1024) :
    k0_pay5 (F := Ideal) d f5 w5 f6 w6 (ix2 r e) = HAdd.hAdd (α := EReal) (β := EReal) (d (ix2 r e)) (∑ a : Fin 256, HMul.hMul (α := EReal) (β := EReal) (f5 (ix2 r a)) (w5 (ix3 0 e a)))
      + (∑ a : Fin 512, HMul.hMul (α := EReal) (β := EReal) (f6 (ix2 r a)) (w6 (ix3 0 e a))) := by
  pointwise [k0_pay5]

theorem pay_dx (d : FVec Ideal S512x1024 .f32) (f5 : Vec Ideal S512x256 .bf16) (w5 : Vec Ideal S1x1024x256 .bf16) (f6 : Vec Ideal S512x512 .bf16) (w6 : Vec Ideal S1x1024x512 .bf16) (x : Vec Ideal S512x1024 .f32)
    (g : Vec Ideal S1x1024 .f32) (dres : Vec Ideal S512x1024 .f32) (r : Fin 512) (e : Fin 1024) :
    k0_pay1 (F := Ideal) (k0_pay7 d f5 w5 f6 w6 x g) dres (ix2 r e)
      = dxOf (fun k => k0_pay5 (F := Ideal) d f5 w5 f6 w6 (ix2 r k)) (fun k => x (ix2 r k)) (fun k => g (ix2 0 k)) (fun k => dres (ix2 r k))
        (ms (fun k => x (ix2 r k))) e := by
  pointwise [k0_pay1, k0_pay7, k0_pay6]
  rfl

theorem pay8_at (d : FVec Ideal S512x1024 .f32) (f5 : Vec Ideal S512x256 .bf16) (w5 : Vec Ideal S1x1024x256 .bf16) (f6 : Vec Ideal S512x512 .bf16) (w6 : Vec Ideal S1x1024x512 .bf16) (x : Vec Ideal S512x1024 .f32) (r : Fin 512) (e : Fin 1024) :
    k0_pay8 (F := Ideal) d f5 w5 f6 w6 x (ix2 r e)
      = HMul.hMul (α := EReal) (β := EReal) (HMul.hMul (α := EReal) (β := EReal) (k0_pay5 (F := Ideal) d f5 w5 f6 w6 (ix2 r e)) (x (ix2 r e)))
        (Ideal.rsqrt (ms (fun k => x (ix2 r k)))) := by
  pointwise [k0_pay8, k0_pay6]
  rfl

theorem pay2_at (v : FVec Ideal S512x1024 .f32) (e : Fin 1024) :
    k0_pay2 (F := Ideal) v (ix2 0 e) = @Finset.sum (Fin 512) EReal _ Finset.univ fun r => v (ix2 r e) := by
  pointwise [k0_pay2]

theorem pay3_eq (v : FVec Ideal S512x1024 .f32) (acc : Vec Ideal S1x1024 .f32) (e : Fin 1024) :
    k0_pay3 (F := Ideal) v acc (ix2 0 e) = HAdd.hAdd (α := EReal) (β := EReal) (acc (ix2 0 e)) (k0_pay2 (F := Ideal) v (ix2 0 e)) := by
  pointwise [k0_pay3, k0_pay2]

section
variable (x0 : Vec Ideal S512x512 .bf16) (x1 : Vec Ideal S512x1536 .bf16) (x2 x3 : Vec Ideal S512x512 .bf16) (x4 : Vec Ideal S4x1024x768 .bf16)

theorem ldf {n wd : ℕ} (x : Vec Ideal ⟨2, ![512, n]⟩ .bf16) (o : ℕ) (inb) (r : Fin 512) (a : Fin wd) (b : Fin n) (h : b.val = o + a.val) :
    View.ld x (Rect.unit (s := ⟨2, ![512, n]⟩) ![0, o] ![512, wd] inb) (ix2 r a) = x (ix2 r b) := by
  refine View.ld_unit_apply_of x _ _ _ _ (ix2 r b) fun i => ?_
  fin_cases i
  · exact (Nat.zero_add _).symm
  · exact h

theorem ldw {wd : ℕ} (p : Fin 4) (j o : ℕ) (inb) (k : Fin 1024) (a : Fin wd) (q : Fin 768) (hp : p.val = j) (hq : q.val = o + a.val) :
    View.ld x4 (Rect.unit (s := S4x1024x768) ![j, 0, o] ![1, 1024, wd] inb) (ix3 0 k a) = x4 (ix3 p k q) := by
  refine View.ld_unit_apply_of x4 _ _ _ _ (ix3 p k q) fun i => ?_
  fin_cases i
  · exact hp
  · exact (Nat.zero_add _).symm
  · exact hq

/-- The first five parts of the norm's gradient, as the body forms them. -/
abbrev dhA : FVec Ideal S512x1024 .f32 :=
  k0_pay4 x0 (View.ld x4 (Rect.unit (s := S4x1024x768) ![0, 0, 0] ![1, 1024, 512] inb_S4x1024x768_S1x1024x512_0_0_0))
    (View.ld x1 (Rect.unit (s := S512x1536) ![0, 0] ![512, 256] inb_S512x1536_S512x256_0_0)) (View.ld x4 (Rect.unit (s := S4x1024x768) ![0, 0, 512] ![1, 1024, 256] inb_S4x1024x768_S1x1024x256_0_0_512))
    (View.ld x1 (Rect.unit (s := S512x1536) ![0, 256] ![512, 768] inb_S512x1536_S512x768_0_256)) (View.ld x4 (Rect.unit (s := S4x1024x768) ![1, 0, 0] ![1, 1024, 768] inb_S4x1024x768_S1x1024x768_1_0_0))
    (View.ld x1 (Rect.unit (s := S512x1536) ![0, 1024] ![512, 512] inb_S512x1536_S512x512_0_1024)) (View.ld x4 (Rect.unit (s := S4x1024x768) ![2, 0, 0] ![1, 1024, 512] inb_S4x1024x768_S1x1024x512_2_0_0))
    (View.ld x2 (Rect.unit (s := S512x512) ![0, 0] ![512, 256] inb_S512x512_S512x256_0_0)) (View.ld x4 (Rect.unit (s := S4x1024x768) ![2, 0, 512] ![1, 1024, 256] inb_S4x1024x768_S1x1024x256_2_0_512))

/-- The gradient of a block of rows of the norm, as the body forms it. -/
abbrev dhBlk : FVec Ideal S512x1024 .f32 :=
  k0_pay5 (dhA x0 x1 x2 x4) (View.ld x2 (Rect.unit (s := S512x512) ![0, 256] ![512, 256] inb_S512x512_S512x256_0_256)) (View.ld x4 (Rect.unit (s := S4x1024x768) ![3, 0, 0] ![1, 1024, 256] inb_S4x1024x768_S1x1024x256_3_0_0))
    x3 (View.ld x4 (Rect.unit (s := S4x1024x768) ![3, 0, 256] ![1, 1024, 512] inb_S4x1024x768_S1x1024x512_3_0_256))

/-- A row of the four arrays of gradients. -/
def line (r : Fin 512) : Fin 3072 → EReal :=
  Cert.Split.cat (fun a => x0 (ix2 r a)) (fun a => x1 (ix2 r a)) (fun a => x2 (ix2 r a)) (fun a => x3 (ix2 r a))

theorem dhBlk_at (r : Fin 512) (e : Fin 1024) : dhBlk x0 x1 x2 x3 x4 (ix2 r e) = dh (line x0 x1 x2 x3 r) (fun p k a => x4 (ix3 p k a)) e := by
  refine (pay5_at _ _ _ _ _ r e).trans ?_
  refine Eq.trans (congrArg (fun v : EReal => v + _ + _) (pay4_at _ _ _ _ _ _ _ _ _ _ r e)) ?_
  rw [zero_add, dh, Cert.Split.seven]
  unfold line
  refine (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (Finset.sum_congr rfl fun a _ => ?_) (Finset.sum_congr rfl fun a _ => ?_)) (Finset.sum_congr rfl fun a _ => ?_)) (Finset.sum_congr rfl fun a _ => ?_)) (Finset.sum_congr rfl fun a _ => ?_)) (Finset.sum_congr rfl fun a _ => ?_)) (Finset.sum_congr rfl fun a _ => ?_))
  · refine congrArg₂ (fun u v : EReal => u * v) ?_ (ldw x4 _ 0 0 _ e a _ (by (try dsimp only); omega) (by (try dsimp only); omega))
    exact Eq.symm (Cert.Split.cat_gm _ _ _ _ _ a (by first | rfl | (dsimp only; omega)))
  · refine congrArg₂ (fun u v : EReal => u * v) ?_ (ldw x4 _ 0 512 _ e a _ (by (try dsimp only); omega) (by (try dsimp only); omega))
    refine (ldf x1 0 _ r a ⟨0 + a.val, by omega⟩ rfl).trans ?_
    exact Eq.symm (Cert.Split.cat_qkv _ _ _ _ _ ⟨0 + a.val, by omega⟩ (by first | rfl | (dsimp only; omega)))
  · refine congrArg₂ (fun u v : EReal => u * v) ?_ (ldw x4 _ 1 0 _ e a _ (by (try dsimp only); omega) (by (try dsimp only); omega))
    refine (ldf x1 256 _ r a ⟨256 + a.val, by omega⟩ rfl).trans ?_
    exact Eq.symm (Cert.Split.cat_qkv _ _ _ _ _ ⟨256 + a.val, by omega⟩ (by first | rfl | (dsimp only; omega)))
  · refine congrArg₂ (fun u v : EReal => u * v) ?_ (ldw x4 _ 2 0 _ e a _ (by (try dsimp only); omega) (by (try dsimp only); omega))
    refine (ldf x1 1024 _ r a ⟨1024 + a.val, by omega⟩ rfl).trans ?_
    exact Eq.symm (Cert.Split.cat_qkv _ _ _ _ _ ⟨1024 + a.val, by omega⟩ (by first | rfl | (dsimp only; omega)))
  · refine congrArg₂ (fun u v : EReal => u * v) ?_ (ldw x4 _ 2 512 _ e a _ (by (try dsimp only); omega) (by (try dsimp only); omega))
    refine (ldf x2 0 _ r a ⟨0 + a.val, by omega⟩ rfl).trans ?_
    exact Eq.symm (Cert.Split.cat_gt _ _ _ _ _ ⟨0 + a.val, by omega⟩ (by first | rfl | (dsimp only; omega)))
  · refine congrArg₂ (fun u v : EReal => u * v) ?_ (ldw x4 _ 3 0 _ e a _ (by (try dsimp only); omega) (by (try dsimp only); omega))
    refine (ldf x2 256 _ r a ⟨256 + a.val, by omega⟩ rfl).trans ?_
    exact Eq.symm (Cert.Split.cat_gt _ _ _ _ _ ⟨256 + a.val, by omega⟩ (by first | rfl | (dsimp only; omega)))
  · refine congrArg₂ (fun u v : EReal => u * v) ?_ (ldw x4 _ 3 256 _ e a _ (by (try dsimp only); omega) (by (try dsimp only); omega))
    exact Eq.symm (Cert.Split.cat_cv _ _ _ _ _ a (by first | rfl | (dsimp only; omega)))

end

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![t.val, 0] ∧ win0_6.index t = ![0, 0]
    ∧ win0_7.index t = ![t.val, 0] ∧ win0_8.index t = ![t.val, 0] ∧ win0_9.index t = ![0, 0] := by decide +kernel

/-- Row `r` of block `n`. -/
abbrev row (n : ℕ) (r : Fin 512) : Fin 8192 := ⟨(n * 512 + r.val) % 8192, Nat.mod_lt _ (by decide)⟩

theorem row_eq (t : Fin 16) (r : Fin 512) : row t.val r = ⟨t.val * 512 + r.val, by omega⟩ := Fin.ext (Nat.mod_eq_of_lt (by omega))

theorem blk0 (c : Dev nD) (t : Fin 16) (r : Fin 512) (a : Fin 512) : iblk m c 0 t (ix2 r a) = V m c main_arg0 (ix2 (row t r) a) := by
  rw [row_eq]
  blk_ext [iblk, idx t]

theorem blk1 (c : Dev nD) (t : Fin 16) (r : Fin 512) (a : Fin 1536) : iblk m c 1 t (ix2 r a) = V m c main_arg1 (ix2 (row t r) a) := by
  rw [row_eq]
  blk_ext [iblk, idx t]

theorem blk2 (c : Dev nD) (t : Fin 16) (r : Fin 512) (a : Fin 512) : iblk m c 2 t (ix2 r a) = V m c main_arg2 (ix2 (row t r) a) := by
  rw [row_eq]
  blk_ext [iblk, idx t]

theorem blk3 (c : Dev nD) (t : Fin 16) (r : Fin 512) (a : Fin 512) : iblk m c 3 t (ix2 r a) = V m c main_arg3 (ix2 (row t r) a) := by
  rw [row_eq]
  blk_ext [iblk, idx t]

theorem blk5 (c : Dev nD) (t : Fin 16) (r : Fin 512) (a : Fin 1024) : iblk m c 5 t (ix2 r a) = V m c main_arg5 (ix2 (row t r) a) := by
  rw [row_eq]
  blk_ext [iblk, idx t]

theorem blk7 (c : Dev nD) (t : Fin 16) (r : Fin 512) (a : Fin 1024) : iblk m c 7 t (ix2 r a) = V m c main_arg7 (ix2 (row t r) a) := by
  rw [row_eq]
  blk_ext [iblk, idx t]

theorem blk4 (c : Dev nD) (t : Fin 16) (p : Fin 4) (k : Fin 1024) (a : Fin 768) : iblk m c 4 t (ix3 p k a) = V m c main_arg4 (ix3 p k a) := by
  blk_ext [iblk, idx t]

theorem blk6 (c : Dev nD) (t : Fin 16) (k : Fin 1024) : iblk m c 6 t (ix2 0 k) = V m c main_arg6 (ix2 0 k) := by
  blk_ext [iblk, idx t]

/-- A row of the four arrays of gradients. -/
def cot (x0 : S8192x512.Idx → EReal) (x1 : S8192x1536.Idx → EReal) (x2 x3 : S8192x512.Idx → EReal) (s : Fin 8192) : Fin 3072 → EReal :=
  Cert.Split.cat (fun a => x0 (ix2 s a)) (fun a => x1 (ix2 s a)) (fun a => x2 (ix2 s a)) (fun a => x3 (ix2 s a))

/-- A place of the input's gradient. -/
def grad (d : Fin 8192 → Fin 3072 → EReal) (w : S4x1024x768.Idx → EReal) (x : S8192x1024.Idx → EReal) (g : S1x1024.Idx → EReal)
    (dres : S8192x1024.Idx → EReal) (j : S8192x1024.Idx) : EReal :=
  dx (d (j 0)) (fun p k a => w (ix3 p k a)) (fun k => x (ix2 (j 0) k)) (fun k => g (ix2 0 k)) (fun k => dres (ix2 (j 0) k)) (j 1)

/-- One row's part of a place of the weight's gradient. -/
def part (d : Fin 8192 → Fin 3072 → EReal) (w : S4x1024x768.Idx → EReal) (x : S8192x1024.Idx → EReal) (e : Fin 1024) (s : Fin 8192) : EReal :=
  dg (d s) (fun p k a => w (ix3 p k a)) (fun k => x (ix2 s k)) e

/-- A place of the weight's gradient. -/
def gradG (d : Fin 8192 → Fin 3072 → EReal) (w : S4x1024x768.Idx → EReal) (x : S8192x1024.Idx → EReal) (j : S1x1024.Idx) : EReal :=
  ∑ s : Fin 8192, part d w x (j 1) s

/-- The rows of gradients at the launch. -/
abbrev D (c : Dev nD) : Fin 8192 → Fin 3072 → EReal := cot (V m c main_arg0) (V m c main_arg1) (V m c main_arg2) (V m c main_arg3)

theorem dh_row (c : Dev nD) (t : Fin 16) (r : Fin 512) :
    (fun k => dhBlk (iblk m c 0 t) (iblk m c 1 t) (iblk m c 2 t) (iblk m c 3 t) (iblk m c 4 t) (ix2 r k))
      = dh (D m c (row t r)) (fun p k a => V m c main_arg4 (ix3 p k a)) := by
  funext k
  refine (dhBlk_at _ _ _ _ _ r k).trans ?_
  unfold line
  rw [funext fun a => blk0 m c t r a, funext fun a => blk1 m c t r a, funext fun a => blk2 m c t r a, funext fun a => blk3 m c t r a,
    funext₃ fun p k a => blk4 m c t p k a]
  rfl

theorem dx_blk (c : Dev nD) (t : Fin 16) (r : Fin 512) (e : Fin 1024) :
    k0_pay1 (F := Ideal) (k0_pay7 (dhA (iblk m c 0 t) (iblk m c 1 t) (iblk m c 2 t) (iblk m c 4 t)) (View.ld (iblk m c 2 t) (Rect.unit (s := S512x512) ![0, 256] ![512, 256] inb_S512x512_S512x256_0_256)) (View.ld (iblk m c 4 t) (Rect.unit (s := S4x1024x768) ![3, 0, 0] ![1, 1024, 256] inb_S4x1024x768_S1x1024x256_3_0_0)) (iblk m c 3 t) (View.ld (iblk m c 4 t) (Rect.unit (s := S4x1024x768) ![3, 0, 256] ![1, 1024, 512] inb_S4x1024x768_S1x1024x512_3_0_256)) (iblk m c 5 t) (iblk m c 6 t)) (iblk m c 7 t) (ix2 r e)
      = grad (D m c) (V m c main_arg4) (V m c main_arg5) (V m c main_arg6) (V m c main_arg7) (ix2 (row t r) e) := by
  refine (pay_dx _ _ _ _ _ _ _ _ r e).trans ?_
  refine Eq.trans (congrArg (fun d => dxOf d _ _ _ _ e) (dh_row m c t r)) ?_
  rw [funext fun k => blk5 m c t r k, funext fun k => blk6 m c t k, funext fun k => blk7 m c t r k]
  rfl

/-- One block's part of the weight's gradient. -/
def term (c : Dev nD) (n : ℕ) (i : S1x1024.Idx) : EReal :=
  ∑ r : Fin 512, part (D m c) (V m c main_arg4) (V m c main_arg5) (i 1) (row n r)

theorem pay2_blk (c : Dev nD) (t : Fin 16) (e : Fin 1024) :
    k0_pay2 (F := Ideal) (k0_pay8 (dhA (iblk m c 0 t) (iblk m c 1 t) (iblk m c 2 t) (iblk m c 4 t)) (View.ld (iblk m c 2 t) (Rect.unit (s := S512x512) ![0, 256] ![512, 256] inb_S512x512_S512x256_0_256)) (View.ld (iblk m c 4 t) (Rect.unit (s := S4x1024x768) ![3, 0, 0] ![1, 1024, 256] inb_S4x1024x768_S1x1024x256_3_0_0)) (iblk m c 3 t) (View.ld (iblk m c 4 t) (Rect.unit (s := S4x1024x768) ![3, 0, 256] ![1, 1024, 512] inb_S4x1024x768_S1x1024x512_3_0_256)) (iblk m c 5 t)) (ix2 0 e) = term m c t.val (ix2 0 e) := by
  refine (pay2_at _ e).trans (Finset.sum_congr rfl fun r _ => ?_)
  refine (pay8_at _ _ _ _ _ _ r e).trans ?_
  refine Eq.trans (congrArg (fun d : EReal => d * _ * _) (congrFun (dh_row m c t r) e)) ?_
  rw [funext fun k => blk5 m c t r k]
  exact congrArg (fun v : EReal => _ * v * _) (blk5 m c t r e)

theorem dx_at (c : Dev nD) (t : Fin cfg0.N) (r : Fin 512) (e : Fin 1024) :
    (outsAt0 m c t.val t.isLt).1 (ix2 r e)
      = grad (D m c) (V m c main_arg4) (V m c main_arg5) (V m c main_arg6) (V m c main_arg7) (ix2 (row t r) e) := by
  by_cases h0 : t.val % 16 = 0
  · have h1 : ¬1 ≤ t.val := by have : t.val < 16 := lt_of_lt_of_eq t.isLt N_0; omega
    rw [outsAt0_A m c t h0 h1]
    frame_out
    exact dx_blk m c t r e
  · rw [outsAt0_B m c t h0 (by omega)]
    frame_out
    exact dx_blk m c t r e

theorem acc_at (c : Dev nD) (t : Fin cfg0.N) (i : S1x1024.Idx) :
    (outsAt0 m c t.val t.isLt).2 i = 0 + ∑ k ∈ Finset.range (t.val + 1), term m c k i := by
  refine eq_sum_of_reset_step_apply_single (fun n h => (outsAt0 m c n h).2) 16 (fun _ => 0) (term m c)
    (fun t h i => ?_) (fun t h i => ?_) (le_of_eq N_0) t i
  · have h1 : ¬1 ≤ t.val := by have : t.val < 16 := lt_of_lt_of_eq t.isLt N_0; omega
    rw [outsAt0_A m c t h h1]
    frame_out
    obtain ⟨e, rfl⟩ : ∃ e : Fin 1024, i = ix2 0 e := ⟨i 1, by funext b; fin_cases b; exact Subsingleton.elim (α := Fin 1) _ _; rfl⟩
    exact (pay2_blk m c t e).trans (zero_add _).symm
  · rw [outsAt0_B m c t h (by omega)]
    frame_out
    obtain ⟨e, rfl⟩ : ∃ e : Fin 1024, i = ix2 0 e := ⟨i 1, by funext b; fin_cases b; exact Subsingleton.elim (α := Fin 1) _ _; rfl⟩
    exact (pay3_eq _ _ e).trans (congrArg _ (pay2_blk m c t e))

/-- The input's gradient the launch leaves. -/
theorem arr_at (c : Dev nD) : (dats m 0 c).arrAt 8 cfg0.N
    = grad (D m c) (V m c main_arg4) (V m c main_arg5) (V m c main_arg6) (V m c main_arg7) := by
  refine (dats m 0 c).arrAt_eq_of_covers 8 _ (by decide +kernel) fun t hf y => ?_
  blk_simp
  rw [after0_8]
  obtain ⟨r, e, rfl⟩ : ∃ (r : Fin 512) (e : Fin 1024), y = ix2 r e := ⟨y 0, y 1, by funext b; fin_cases b <;> rfl⟩
  refine (dx_at m c t r e).trans ?_
  have ht : t.val < 16 := lt_of_lt_of_eq t.isLt N_0
  have hr : (t.val * 512 + r.val) % 8192 = t.val * 512 + r.val := Nat.mod_eq_of_lt (by omega)
  refine congrArg (grad _ _ _ _ _) (funext fun a => Fin.ext ?_)
  fin_cases a
  · blk_simp [idx t]
    exact hr
  · blk_simp [idx t]
    rfl

theorem last : ∀ t : Fin cfg0.N, (cfg0.win 9).flush t = true → t.val = 15 := by decide +kernel

theorem total (c : Dev nD) (e : Fin 1024) : (∑ k ∈ Finset.range 16, term m c k (ix2 0 e))
    = gradG (D m c) (V m c main_arg4) (V m c main_arg5) (ix2 0 e) := by
  rw [Finset.sum_range]
  refine Fin.sum_mul_add_congr (S := 16) (n := 512) (f := part (D m c) (V m c main_arg4) (V m c main_arg5) e) fun s k hl => ?_
  exact congrArg _ (Fin.ext (Nat.mod_eq_of_lt hl))

/-- The weight's gradient the launch leaves. -/
theorem arrG_at (c : Dev nD) : (dats m 0 c).arrAt 9 cfg0.N = gradG (D m c) (V m c main_arg4) (V m c main_arg5) := by
  refine (dats m 0 c).arrAt_eq_of_covers 9 _ (by decide +kernel) fun t hf y => ?_
  blk_simp
  rw [after0_9]
  obtain ⟨e, rfl⟩ : ∃ e : Fin 1024, y = ix2 0 e := ⟨y 1, by funext b; fin_cases b; exact Subsingleton.elim (α := Fin 1) _ _; rfl⟩
  refine (acc_at m c t (ix2 0 e)).trans ?_
  rw [last t hf, zero_add]
  refine (total m c e).trans (congrArg (gradG _ _ _) (funext fun a => Fin.ext ?_))
  fin_cases a
  · blk_simp [idx t]
  · blk_simp [idx t]

end Cert.ProjDx

end
-- ==== Proof.Proj.ProjDxAgree.lean ====
/- The gradient of the first projection's input and of its norm's weight: the kernel's and the reference's are one where the
   arguments are finite. -/
module

public import proofs.«01_k».proof.Proof.Proj.ProjDx
public import proofs.«01_k».proof.Proof.Ffn.InDxAgree
public import proofs.«01_k».proof.Proof.Proj.PreFacts
public import proofs.«01_k».proof.Proof.Gen.Reference8Ideal.Run
public import proofs.«01_k».proof.Proof.Gen.Reference8Ideal.Read
public import proofs.«01_k».proof.Defs
public import Idealize.ShloMosaic.Lib.Quiescent
public import Idealize.ShloMosaic.Lib.Claim

@[expose] public section

noncomputable section

namespace Cert.ProjDx

open Idealize.ShloMosaic Idealize.ShloMosaic.Pointwise Idealize.SL.Sem Cert.Fin
open Cert.InDx (ms dxOf cR dxR ms_real dx_eq)

section
open Cert.Reference8Ideal Cert.Reference8Ideal.Gen Cert.Reference8Ideal.Read

variable (x0 : (⟨S8192x512, .bf16⟩ : BufTy).Contents (Elt Ideal)) (x1 : (⟨S8192x1536, .bf16⟩ : BufTy).Contents (Elt Ideal))
    (x2 x3 : (⟨S8192x512, .bf16⟩ : BufTy).Contents (Elt Ideal)) (x4 : (⟨S4x1024x768, .bf16⟩ : BufTy).Contents (Elt Ideal))
    (x5 : (⟨S8192x1024, .f32⟩ : BufTy).Contents (Elt Ideal)) (x6 : (⟨S1x1024, .f32⟩ : BufTy).Contents (Elt Ideal))
    (x7 : (⟨S8192x1024, .f32⟩ : BufTy).Contents (Elt Ideal)) (s : Fin 8192)

theorem ref_w (k : Fin 1024) (b : Fin 3072) : val_main_v19 x4 (ix2 k b) = x4 (ix3 ⟨b.val / 768, by omega⟩ k ⟨b.val % 768, Nat.mod_lt _ (by decide)⟩) := by
  pointwise [val_main_v19, val_main_v18, val_main_v17]

theorem ref_d (b : Fin 3072) : val_main_v1 x0 x1 x2 x3 (ix2 s b) = cot x0 x1 x2 x3 s b := by
  pointwise [val_main_v1, val_main_v0]
  rfl

theorem ref_v21 (e : Fin 1024) : val_main_v21 x0 x1 x2 x3 x4 (ix2 s e)
    = ∑ b : Fin 3072, HMul.hMul (α := EReal) (β := EReal) (val_main_v1 x0 x1 x2 x3 (ix2 s b)) (val_main_v19 x4 (ix2 e b)) := by
  pointwise [val_main_v21]

theorem ref_dh (e : Fin 1024) : val_main_v21 x0 x1 x2 x3 x4 (ix2 s e) = dh (cot x0 x1 x2 x3 s) (fun p k a => x4 (ix3 p k a)) e := by
  refine (ref_v21 x0 x1 x2 x3 x4 s e).trans (Finset.sum_congr rfl fun b _ => ?_)
  exact congrArg₂ (HMul.hMul (α := EReal) (β := EReal)) (ref_d x0 x1 x2 x3 s b) (ref_w x4 e b)

theorem ref_v8 : val_main_v8 x5 (ix2 s 0) = ms (fun k => x5 (ix2 s k)) := by
  pointwise [val_main_v8, val_main_v7, val_main_v6, val_main_v5, val_main_v4, val_main_v3, val_main_v2, val_main_cst, val_main_cst_0, val_main_cst_1]
  rfl

theorem ref_v36 (e : Fin 1024) : val_main_v36 x0 x1 x2 x3 x4 x5 x6 (ix2 s e)
    = cR (fun k => val_main_v21 x0 x1 x2 x3 x4 (ix2 s k)) (fun k => x5 (ix2 s k)) (fun k => x6 (ix2 0 k)) (val_main_v8 x5 (ix2 s 0)) := by
  pointwise [val_main_v36, val_main_v35, val_main_v34, val_main_v33, val_main_v32, val_main_v29, val_main_v28, val_main_v27, val_main_v26,
    val_main_v25, val_main_v12, val_main_v11, val_main_v10, val_main_v9, val_main_cst_2, val_main_cst_3, val_main_cst_4, val_main_cst_5, val_main_cst_6]
  exact Fin.sum_univ_one _

theorem ref_v41 (e : Fin 1024) : val_main_v41 x0 x1 x2 x3 x4 x5 x6 x7 (ix2 s e)
    = dxR (fun k => val_main_v21 x0 x1 x2 x3 x4 (ix2 s k)) (fun k => x5 (ix2 s k)) (fun k => x6 (ix2 0 k)) (fun k => x7 (ix2 s k)) (val_main_v8 x5 (ix2 s 0)) e := by
  have h := ref_v36 x0 x1 x2 x3 x4 x5 x6 s e
  pointwise [val_main_v41, val_main_v40, val_main_v39, val_main_v38, val_main_v37, val_main_v31, val_main_v30, val_main_v26, val_main_v25, val_main_v9]
  rw [h]
  rfl

theorem ref_v24 (e : Fin 1024) : val_main_v24 x0 x1 x2 x3 x4 x5 (ix2 0 e)
    = ∑ s : Fin 8192, HMul.hMul (α := EReal) (β := EReal) (HMul.hMul (α := EReal) (β := EReal) (x5 (ix2 s e)) (Ideal.rsqrt (val_main_v8 x5 (ix2 s 0)))) (val_main_v21 x0 x1 x2 x3 x4 (ix2 s e)) := by
  pointwise [val_main_v24, val_main_v23, val_main_v22, val_main_v14, val_main_v13, val_main_v9, val_main_cst_3]

theorem ref_dx (e : Fin 1024) : val_main_v41 x0 x1 x2 x3 x4 x5 x6 x7 (ix2 s e)
    = dxR (dh (cot x0 x1 x2 x3 s) (fun p k a => x4 (ix3 p k a))) (fun k => x5 (ix2 s k)) (fun k => x6 (ix2 0 k)) (fun k => x7 (ix2 s k)) (ms (fun k => x5 (ix2 s k))) e := by
  rw [ref_v41, ref_v8, show (fun k => val_main_v21 x0 x1 x2 x3 x4 (ix2 s k)) = dh (cot x0 x1 x2 x3 s) (fun p k a => x4 (ix3 p k a)) from funext fun k => ref_dh x0 x1 x2 x3 x4 s k]

theorem ref_dg (e : Fin 1024) : val_main_v24 x0 x1 x2 x3 x4 x5 (ix2 0 e) = gradG (cot x0 x1 x2 x3) x4 x5 (ix2 0 e) := by
  refine (ref_v24 x0 x1 x2 x3 x4 x5 e).trans (Finset.sum_congr rfl fun s _ => ?_)
  rw [ref_v8, ref_dh]
  exact (mul_comm (G := EReal) _ _).trans (mul_assoc (G := EReal) _ _ _).symm

end

theorem cell_eq (x0 : Cert.Kernel8Ideal.S8192x512.Idx → EReal) (x1 : Cert.Kernel8Ideal.S8192x1536.Idx → EReal) (x2 x3 : Cert.Kernel8Ideal.S8192x512.Idx → EReal)
    (x4 : Cert.Kernel8Ideal.S4x1024x768.Idx → EReal) (x5 : Cert.Kernel8Ideal.S8192x1024.Idx → EReal) (x6 : Cert.Kernel8Ideal.S1x1024.Idx → EReal)
    (x7 : Cert.Kernel8Ideal.S8192x1024.Idx → EReal) (h0 : ∀ i, Real? (x0 i)) (h1 : ∀ i, Real? (x1 i)) (h2 : ∀ i, Real? (x2 i)) (h3 : ∀ i, Real? (x3 i))
    (h4 : ∀ i, Real? (x4 i)) (h5 : ∀ i, Real? (x5 i)) (h6 : ∀ i, Real? (x6 i)) (i : Cert.Kernel8Ideal.S8192x1024.Idx) :
    Cert.Reference8Ideal.Read.val_main_v41 (F := Ideal) x0 x1 x2 x3 x4 x5 x6 x7 i = grad (cot x0 x1 x2 x3) x4 x5 x6 x7 i := by
  obtain ⟨s, e, rfl⟩ : ∃ (s : Fin 8192) (e : Fin 1024), i = ix2 s e := ⟨i 0, i 1, by funext b; fin_cases b <;> rfl⟩
  refine (ref_dx x0 x1 x2 x3 x4 x5 x6 x7 s e).trans ?_
  refine dx_eq (fun k => Real?.sum fun b => Real?.mul ?_ (h4 _)) (fun k => h5 _) (fun k => h6 _) _ e
  unfold cot Cert.Split.cat
  split_ifs
  exacts [h0 _, h1 _, h2 _, h3 _]

theorem reference_frame : Cert.quiescent_Reference8Ideal := by
  intro m g _
  exact (θ_run Cert.Reference8Ideal.defs _ _).mono (fun r h => ⟨fun c => (h c).2.2, sem_eq_zero_of_no_sems rfl _⟩) (Cert.Reference8Ideal.Value.run m g)

theorem agree : Cert.algebraic_Kernel8Ideal_Reference8Ideal_pre_finite8 := by
  intro m g m' g' hpre hagree
  refine ⟨fun c => grad (cot (Cert.Kernel8Ideal.Gen.V m c Cert.Kernel8Ideal.main_arg0) (Cert.Kernel8Ideal.Gen.V m c Cert.Kernel8Ideal.main_arg1) (Cert.Kernel8Ideal.Gen.V m c Cert.Kernel8Ideal.main_arg2) (Cert.Kernel8Ideal.Gen.V m c Cert.Kernel8Ideal.main_arg3))
      (Cert.Kernel8Ideal.Gen.V m c Cert.Kernel8Ideal.main_arg4) (Cert.Kernel8Ideal.Gen.V m c Cert.Kernel8Ideal.main_arg5) (Cert.Kernel8Ideal.Gen.V m c Cert.Kernel8Ideal.main_arg6) (Cert.Kernel8Ideal.Gen.V m c Cert.Kernel8Ideal.main_arg7),
    fun c => gradG (cot (Cert.Kernel8Ideal.Gen.V m c Cert.Kernel8Ideal.main_arg0) (Cert.Kernel8Ideal.Gen.V m c Cert.Kernel8Ideal.main_arg1) (Cert.Kernel8Ideal.Gen.V m c Cert.Kernel8Ideal.main_arg2) (Cert.Kernel8Ideal.Gen.V m c Cert.Kernel8Ideal.main_arg3)) (Cert.Kernel8Ideal.Gen.V m c Cert.Kernel8Ideal.main_arg4) (Cert.Kernel8Ideal.Gen.V m c Cert.Kernel8Ideal.main_arg5), ?_, ?_⟩
  · exact (θ_run Cert.Kernel8Ideal.defs _ _).mono (fun r h c => ⟨(h c).1.trans (arr_at m c), (h c).2.1.trans (arrG_at m c), (h c).2.2⟩) (Cert.Kernel8Ideal.Value.run_blocks m g)
  refine (θ_run Cert.Reference8Ideal.defs _ _).mono (fun r h c => ⟨(h c).1.trans ?_, (h c).2.1.trans ?_, (h c).2.2⟩) (Cert.Reference8Ideal.Value.run m' g')
  · obtain ⟨h0, h1, h2, h3, h4, h5, h6, h7⟩ := hagree c
    obtain ⟨p0, p1, p2, p3, p4, p5, p6⟩ := hpre c
    rw [Cert.Reference8Ideal.Read.val_main_v41_eq, h0, h1, h2, h3, h4, h5, h6, h7]
    funext i
    exact cell_eq _ _ _ _ _ _ _ _ (fun i => of_cmp ((congrArg (Ideal.cmp .olt _) inf16.symm).trans (congrFun p0 i)))
      (fun i => of_cmp ((congrArg (Ideal.cmp .olt _) inf16.symm).trans (congrFun p1 i)))
      (fun i => of_cmp ((congrArg (Ideal.cmp .olt _) inf16.symm).trans (congrFun p2 i)))
      (fun i => of_cmp ((congrArg (Ideal.cmp .olt _) inf16.symm).trans (congrFun p3 i)))
      (fun i => of_cmp ((congrArg (Ideal.cmp .olt _) inf16.symm).trans (congrFun p4 i)))
      (fun i => of_cmp ((congrArg (Ideal.cmp .olt _) inf32.symm).trans (congrFun p5 i)))
      (fun i => of_cmp ((congrArg (Ideal.cmp .olt _) inf32.symm).trans (congrFun p6 i))) i
  · obtain ⟨h0, h1, h2, h3, h4, h5, h6, h7⟩ := hagree c
    rw [Cert.Reference8Ideal.Read.val_main_v24_eq, h0, h1, h2, h3, h4, h5]
    funext i
    obtain ⟨e, rfl⟩ : ∃ e : Fin 1024, i = ix2 0 e := ⟨i 1, by funext b; fin_cases b; exact Subsingleton.elim (α := Fin 1) _ _; rfl⟩
    exact ref_dg _ _ _ _ _ _ e

end Cert.ProjDx

end
-- ==== Proof.Proj.Pieces.lean ====
/- Contents written piece by piece over older contents: what is read of them. -/
module

public import Idealize.ShloMosaic.Lib.Pipeline.ValueKit

@[expose] public section

noncomputable section

namespace Cert.Pieces

open Idealize.ShloMosaic

variable {s : Shape} {e : EltTy} {Val : EltTy → Type} [∀ e, Nonempty (Val e)] {sig : RefSig} {κ : Kind} {sp : Space}

/-- Where the newest pieces agree with `G` and hold a place, the place reads `G`, whatever is older. -/
theorem canon_append (G : s.Idx → Val e) (M : List (View.Piece Val s e)) : ∀ L : List (View.Piece Val s e),
    (∀ p ∈ L, ∀ x, p.2 x = G (p.1.emb x)) → ∀ y, (∃ p ∈ L, y ∈ p.1.set) → View.canon (L ++ M) y = G y
  | [], _, _, h => by obtain ⟨_, hm, _⟩ := h; exact absurd hm List.not_mem_nil
  | p :: L, hG, y, h => by
    by_cases hy : y ∈ p.1.set
    · obtain ⟨x, rfl⟩ : ∃ x, p.1.emb x = y := p.1.exists_idx_of_mem hy
      exact (View.canon_cons_emb p.1 p.2 (L ++ M) x).trans (hG p List.mem_cons_self x)
    · refine (View.canon_cons_of_not_mem p (L ++ M) hy).trans (canon_append G M L (fun q hq => hG q (List.mem_cons_of_mem _ hq)) y ?_)
      obtain ⟨q, hq, hy'⟩ := h
      rcases List.mem_cons.mp hq with rfl | hq
      · exact absurd hy' hy
      · exact ⟨q, hq, hy'⟩

/-- A load apart from the newest piece along axis `a` reads the older ones. -/
theorem skip (v : View sig κ sp s e) {off size off' size' : Fin s.rank → ℕ} {inb : ∀ a, off a + size a ≤ s.size a}
    {inb' : ∀ a, off' a + size' a ≤ s.size a} (w : (Rect.unit off size inb).shape.Idx → Val e) (p : View.Piece Val s e) (L : List (View.Piece Val s e))
    (a : Fin s.rank) (h : off a + size a ≤ off' a ∨ off' a + size' a ≤ off a) :
    v.readCov (⟨Rect.unit off size inb, w⟩ :: p :: L) (Rect.unit off' size' inb').toLoadRect = v.readCov (p :: L) (Rect.unit off' size' inb').toLoadRect :=
  View.readCov_cons_of_disjoint v ⟨Rect.unit off size inb, w⟩ (p :: L) (Rect.unit off' size' inb').toLoadRect (Rect.unit_disjoint (inb := inb) (inb' := inb') a h)

/-- A load of an array stored whole. -/
theorem whole (v : View sig κ sp s e) {off : Fin s.rank → ℕ} {inb : ∀ a, off a + s.size a ≤ s.size a}
    (w : (Rect.unit off s.size inb).shape.Idx → Val e) (r : Rect s) (h : ∀ a, off a = 0) :
    v.readCov [⟨Rect.unit off s.size inb, w⟩] r.toLoadRect = View.ld (S := s) (e' := e) w r := by
  rw [View.readCov_eq_canon']
  funext j
  exact congrFun (View.canon_cons_unit_zero (funext h) inb w []) _

/-- A load of the whole array. -/
theorem all (v : View sig κ sp s e) {off : Fin s.rank → ℕ} {inb : ∀ a, off a + s.size a ≤ s.size a} (L : List (View.Piece Val s e))
    (h : ∀ a, off a = 0) : v.readCov L (Rect.unit off s.size inb).toLoadRect = View.canon L := by
  rw [View.readCov_eq_canon']
  funext j
  refine congrArg (View.canon L) (funext fun a => Fin.ext ?_)
  refine (Rect.idx_unit_val off s.size inb j a).trans ?_
  rw [h a, Nat.zero_add]

end Cert.Pieces

end
-- ==== Proof.Proj.ProjDw.lean ====
/- The gradient of the first projection's weight: what the kernel leaves, at an index. -/
module

public import proofs.«01_k».proof.Proof.Gen.Kernel9Ideal.Value
public import proofs.«01_k».proof.Proof.Proj.Split
public import proofs.«01_k».proof.Proof.Proj.Pieces
public import Idealize.ShloMosaic.Lib.Pointwise
public import Idealize.ShloMosaic.Lib.StableHlo.RunRead
public import Idealize.ShloMosaic.Lib.Pipeline.ValueKit

@[expose] public section

noncomputable section

namespace Cert.ProjDw

open Cert.Kernel9Ideal Cert.Kernel9Ideal.Gen Cert.Kernel9Ideal.Value Idealize.ShloMosaic Idealize.ShloMosaic.Pointwise Idealize.ShloMosaic.Pipeline Idealize.SL.Sem

theorem pay4_at (i : S4x1024x768.Idx) : k0_pay4 (F := Ideal) i = 0 := by
  pointwise [k0_pay4]

theorem pay2_at (acc : Vec Ideal S4x1024x768 .f32) : k0_pay2 (F := Ideal) acc = acc := by
  funext i
  pointwise [k0_pay2]

theorem form1 (h : Vec Ideal S1024x1024 .bf16) (acc : Vec Ideal S1x1024x512 .f32) (x : Vec Ideal S1024x512 .bf16) (k : Fin 1024) (a : Fin 512) :
    k0_pay5 h acc x (ix3 0 k a) = HAdd.hAdd (α := EReal) (β := EReal) (acc (ix3 0 k a))
      (∑ r : Fin 1024, HMul.hMul (α := EReal) (β := EReal) (h (ix2 k r)) (x (ix2 r a))) := by
  pointwise [k0_pay5, k0_pay3]

theorem form2 (h : Vec Ideal S1024x1024 .bf16) (acc : Vec Ideal S1x1024x256 .f32) (x : Vec Ideal S1024x256 .bf16) (k : Fin 1024) (a : Fin 256) :
    k0_pay6 h acc x (ix3 0 k a) = HAdd.hAdd (α := EReal) (β := EReal) (acc (ix3 0 k a))
      (∑ r : Fin 1024, HMul.hMul (α := EReal) (β := EReal) (h (ix2 k r)) (x (ix2 r a))) := by
  pointwise [k0_pay6, k0_pay3]

theorem form3 (h : Vec Ideal S1024x1024 .bf16) (acc : Vec Ideal S1x1024x768 .f32) (x : Vec Ideal S1024x768 .bf16) (k : Fin 1024) (a : Fin 768) :
    k0_pay8 (k0_pay7 h acc x) (ix3 0 k a) = HAdd.hAdd (α := EReal) (β := EReal) (acc (ix3 0 k a))
      (∑ r : Fin 1024, HMul.hMul (α := EReal) (β := EReal) (h (ix2 k r)) (x (ix2 r a))) := by
  pointwise [k0_pay8, k0_pay7, k0_pay3]

theorem form4 (h : Vec Ideal S1024x1024 .bf16) (acc : Vec Ideal S1x1024x512 .f32) (x : Vec Ideal S1024x512 .bf16) (k : Fin 1024) (a : Fin 512) :
    k0_pay9 (k0_pay3 h) acc x (ix3 0 k a) = HAdd.hAdd (α := EReal) (β := EReal) (acc (ix3 0 k a))
      (∑ r : Fin 1024, HMul.hMul (α := EReal) (β := EReal) (h (ix2 k r)) (x (ix2 r a))) := by
  pointwise [k0_pay9, k0_pay3]

theorem form5 (h : Vec Ideal S1024x1024 .bf16) (acc : Vec Ideal S1x1024x256 .f32) (x : Vec Ideal S1024x256 .bf16) (k : Fin 1024) (a : Fin 256) :
    k0_pay10 (k0_pay3 h) acc x (ix3 0 k a) = HAdd.hAdd (α := EReal) (β := EReal) (acc (ix3 0 k a))
      (∑ r : Fin 1024, HMul.hMul (α := EReal) (β := EReal) (h (ix2 k r)) (x (ix2 r a))) := by
  pointwise [k0_pay10, k0_pay3]

theorem form6 (h : Vec Ideal S1024x1024 .bf16) (acc : Vec Ideal S1x1024x256 .f32) (x : Vec Ideal S1024x256 .bf16) (k : Fin 1024) (a : Fin 256) :
    k0_pay11 (k0_pay3 h) acc x (ix3 0 k a) = HAdd.hAdd (α := EReal) (β := EReal) (acc (ix3 0 k a))
      (∑ r : Fin 1024, HMul.hMul (α := EReal) (β := EReal) (h (ix2 k r)) (x (ix2 r a))) := by
  pointwise [k0_pay11, k0_pay3]

theorem form7 (h : Vec Ideal S1024x1024 .bf16) (acc : Vec Ideal S1x1024x512 .f32) (x : Vec Ideal S1024x512 .bf16) (k : Fin 1024) (a : Fin 512) :
    k0_pay1 (k0_pay3 h) acc x (ix3 0 k a) = HAdd.hAdd (α := EReal) (β := EReal) (acc (ix3 0 k a))
      (∑ r : Fin 1024, HMul.hMul (α := EReal) (β := EReal) (h (ix2 k r)) (x (ix2 r a))) := by
  pointwise [k0_pay1, k0_pay3]

section
abbrev q1 : Rect S4x1024x768 := Rect.unit (s := S4x1024x768) ![0, 0, 0] ![1, 1024, 512] inb_S4x1024x768_S1x1024x512_0_0_0
abbrev q2 : Rect S4x1024x768 := Rect.unit (s := S4x1024x768) ![0, 0, 512] ![1, 1024, 256] inb_S4x1024x768_S1x1024x256_0_0_512
abbrev q3 : Rect S4x1024x768 := Rect.unit (s := S4x1024x768) ![1, 0, 0] ![1, 1024, 768] inb_S4x1024x768_S1x1024x768_1_0_0
abbrev q4 : Rect S4x1024x768 := Rect.unit (s := S4x1024x768) ![2, 0, 0] ![1, 1024, 512] inb_S4x1024x768_S1x1024x512_2_0_0
abbrev q5 : Rect S4x1024x768 := Rect.unit (s := S4x1024x768) ![2, 0, 512] ![1, 1024, 256] inb_S4x1024x768_S1x1024x256_2_0_512
abbrev q6 : Rect S4x1024x768 := Rect.unit (s := S4x1024x768) ![3, 0, 0] ![1, 1024, 256] inb_S4x1024x768_S1x1024x256_3_0_0
abbrev q7 : Rect S4x1024x768 := Rect.unit (s := S4x1024x768) ![3, 0, 256] ![1, 1024, 512] inb_S4x1024x768_S1x1024x512_3_0_256

variable (h : Vec Ideal S1024x1024 .bf16) (x0 : Vec Ideal S1024x512 .bf16) (x1 : Vec Ideal S1024x1536 .bf16) (x2 x3 : Vec Ideal S1024x512 .bf16)
  (acc : Vec Ideal S4x1024x768 .f32)

/-- A row of the four arrays of gradients. -/
def line (r : Fin 1024) : Fin 3072 → EReal :=
  Cert.Split.cat (fun a => x0 (ix2 r a)) (fun a => x1 (ix2 r a)) (fun a => x2 (ix2 r a)) (fun a => x3 (ix2 r a))

/-- The joined column of a place of the weight. -/
def col (p : Fin 4) (q : Fin 768) : Fin 3072 := ⟨p.val * 768 + q.val, by omega⟩

/-- What a block adds at a place. -/
def gain (p : Fin 4) (k : Fin 1024) (q : Fin 768) : EReal := ∑ r : Fin 1024, h (ix2 k r) * line x0 x1 x2 x3 r (col p q)

/-- The accumulator after a block. -/
def next (y : S4x1024x768.Idx) : EReal := acc y + gain h x0 x1 x2 x3 (y 0) (y 1) (y 2)

theorem ldf {n wd : ℕ} (x : Vec Ideal ⟨2, ![1024, n]⟩ .bf16) (o : ℕ) (inb) (r : Fin 1024) (a : Fin wd) (b : Fin n) (e : b.val = o + a.val) :
    View.ld x (Rect.unit (s := ⟨2, ![1024, n]⟩) ![0, o] ![1024, wd] inb) (ix2 r a) = x (ix2 r b) := by
  refine View.ld_unit_apply_of x _ _ _ _ (ix2 r b) fun i => ?_
  fin_cases i
  · exact (Nat.zero_add _).symm
  · exact e

theorem emb {wd : ℕ} (p : Fin 4) (j jo : ℕ) (inb) (k : Fin 1024) (a : Fin wd) (q : Fin 768) (hp : p.val = j) (hq : q.val = jo + a.val) :
    (Rect.unit (s := S4x1024x768) ![j, 0, jo] ![1, 1024, wd] inb).emb (ix3 0 k a) = ix3 p k q := by
  funext b
  refine Fin.ext ((Rect.idx_unit_val _ _ _ _ b).trans ?_)
  fin_cases b
  · exact hp.symm
  · exact Nat.zero_add _
  · exact hq.symm

theorem inside {wd : ℕ} (j jo : ℕ) (inb) (y : S4x1024x768.Idx) (hp : (y 0).val = j) (hq : jo ≤ (y 2).val) (hq' : (y 2).val < jo + wd) :
    y ∈ (Rect.unit (s := S4x1024x768) ![j, 0, jo] ![1, 1024, wd] inb).set := by
  have h1 : (y 1).val < 1024 := (y 1).isLt
  refine Rect.mem_set_unit.mpr fun a => ?_
  fin_cases a
  · exact ⟨le_of_eq hp.symm, lt_of_eq_of_lt hp (Nat.lt_succ_self _)⟩
  · exact ⟨Nat.zero_le _, lt_of_lt_of_eq h1 (Nat.zero_add _).symm⟩
  · exact ⟨hq, hq'⟩

theorem piece1 (x : q1.shape.Idx) : k0_pay5 h (View.ld acc q1) x0 x = next h x0 x1 x2 x3 acc (q1.emb x) := by
  obtain ⟨k, a, rfl⟩ : ∃ (k : Fin 1024) (a : Fin 512), x = ix3 (0 : Fin 1) k a :=
    ⟨x 1, x 2, by funext b; fin_cases b; exact Subsingleton.elim (α := Fin 1) _ _; rfl; rfl⟩
  refine (form1 _ _ _ k a).trans ?_
  refine Eq.trans (congrArg₂ (fun (u v : EReal) => u + v) (congrArg acc (emb 0 0 0 inb_S4x1024x768_S1x1024x512_0_0_0 k a (⟨0 + a.val, by omega⟩ : Fin 768) rfl rfl)) (Finset.sum_congr rfl fun r _ => congrArg (fun v : EReal => _ * v) ?_)) (congrArg (next h x0 x1 x2 x3 acc) (emb 0 0 0 inb_S4x1024x768_S1x1024x512_0_0_0 k a (⟨0 + a.val, by omega⟩ : Fin 768) rfl rfl)).symm
  exact Eq.symm (Cert.Split.cat_gm _ _ _ _ _ a (by simp only [col, ix3_0, ix3_2]; omega))

theorem piece2 (x : q2.shape.Idx) : k0_pay6 h (View.ld acc q2) (View.ld x1 (Rect.unit (s := S1024x1536) ![0, 0] ![1024, 256] inb_S1024x1536_S1024x256_0_0)) x = next h x0 x1 x2 x3 acc (q2.emb x) := by
  obtain ⟨k, a, rfl⟩ : ∃ (k : Fin 1024) (a : Fin 256), x = ix3 (0 : Fin 1) k a :=
    ⟨x 1, x 2, by funext b; fin_cases b; exact Subsingleton.elim (α := Fin 1) _ _; rfl; rfl⟩
  refine (form2 _ _ _ k a).trans ?_
  refine Eq.trans (congrArg₂ (fun (u v : EReal) => u + v) (congrArg acc (emb 0 0 512 inb_S4x1024x768_S1x1024x256_0_0_512 k a (⟨512 + a.val, by omega⟩ : Fin 768) rfl rfl)) (Finset.sum_congr rfl fun r _ => congrArg (fun v : EReal => _ * v) ?_)) (congrArg (next h x0 x1 x2 x3 acc) (emb 0 0 512 inb_S4x1024x768_S1x1024x256_0_0_512 k a (⟨512 + a.val, by omega⟩ : Fin 768) rfl rfl)).symm
  refine (ldf x1 0 _ r a ⟨0 + a.val, by omega⟩ rfl).trans ?_
  exact Eq.symm (Cert.Split.cat_qkv _ _ _ _ _ ⟨0 + a.val, by omega⟩ (by simp only [col, ix3_0, ix3_2]; omega))

theorem piece3 (x : q3.shape.Idx) : k0_pay8 (k0_pay7 h (View.ld acc q3) (View.ld x1 (Rect.unit (s := S1024x1536) ![0, 256] ![1024, 768] inb_S1024x1536_S1024x768_0_256))) x = next h x0 x1 x2 x3 acc (q3.emb x) := by
  obtain ⟨k, a, rfl⟩ : ∃ (k : Fin 1024) (a : Fin 768), x = ix3 (0 : Fin 1) k a :=
    ⟨x 1, x 2, by funext b; fin_cases b; exact Subsingleton.elim (α := Fin 1) _ _; rfl; rfl⟩
  refine (form3 _ _ _ k a).trans ?_
  refine Eq.trans (congrArg₂ (fun (u v : EReal) => u + v) (congrArg acc (emb 1 1 0 inb_S4x1024x768_S1x1024x768_1_0_0 k a (⟨0 + a.val, by omega⟩ : Fin 768) rfl rfl)) (Finset.sum_congr rfl fun r _ => congrArg (fun v : EReal => _ * v) ?_)) (congrArg (next h x0 x1 x2 x3 acc) (emb 1 1 0 inb_S4x1024x768_S1x1024x768_1_0_0 k a (⟨0 + a.val, by omega⟩ : Fin 768) rfl rfl)).symm
  refine (ldf x1 256 _ r a ⟨256 + a.val, by omega⟩ rfl).trans ?_
  exact Eq.symm (Cert.Split.cat_qkv _ _ _ _ _ ⟨256 + a.val, by omega⟩ (by simp only [col, ix3_0, ix3_2]; omega))

theorem piece4 (x : q4.shape.Idx) : k0_pay9 (k0_pay3 h) (View.ld acc q4) (View.ld x1 (Rect.unit (s := S1024x1536) ![0, 1024] ![1024, 512] inb_S1024x1536_S1024x512_0_1024)) x = next h x0 x1 x2 x3 acc (q4.emb x) := by
  obtain ⟨k, a, rfl⟩ : ∃ (k : Fin 1024) (a : Fin 512), x = ix3 (0 : Fin 1) k a :=
    ⟨x 1, x 2, by funext b; fin_cases b; exact Subsingleton.elim (α := Fin 1) _ _; rfl; rfl⟩
  refine (form4 _ _ _ k a).trans ?_
  refine Eq.trans (congrArg₂ (fun (u v : EReal) => u + v) (congrArg acc (emb 2 2 0 inb_S4x1024x768_S1x1024x512_2_0_0 k a (⟨0 + a.val, by omega⟩ : Fin 768) rfl rfl)) (Finset.sum_congr rfl fun r _ => congrArg (fun v : EReal => _ * v) ?_)) (congrArg (next h x0 x1 x2 x3 acc) (emb 2 2 0 inb_S4x1024x768_S1x1024x512_2_0_0 k a (⟨0 + a.val, by omega⟩ : Fin 768) rfl rfl)).symm
  refine (ldf x1 1024 _ r a ⟨1024 + a.val, by omega⟩ rfl).trans ?_
  exact Eq.symm (Cert.Split.cat_qkv _ _ _ _ _ ⟨1024 + a.val, by omega⟩ (by simp only [col, ix3_0, ix3_2]; omega))

theorem piece5 (x : q5.shape.Idx) : k0_pay10 (k0_pay3 h) (View.ld acc q5) (View.ld x2 (Rect.unit (s := S1024x512) ![0, 0] ![1024, 256] inb_S1024x512_S1024x256_0_0)) x = next h x0 x1 x2 x3 acc (q5.emb x) := by
  obtain ⟨k, a, rfl⟩ : ∃ (k : Fin 1024) (a : Fin 256), x = ix3 (0 : Fin 1) k a :=
    ⟨x 1, x 2, by funext b; fin_cases b; exact Subsingleton.elim (α := Fin 1) _ _; rfl; rfl⟩
  refine (form5 _ _ _ k a).trans ?_
  refine Eq.trans (congrArg₂ (fun (u v : EReal) => u + v) (congrArg acc (emb 2 2 512 inb_S4x1024x768_S1x1024x256_2_0_512 k a (⟨512 + a.val, by omega⟩ : Fin 768) rfl rfl)) (Finset.sum_congr rfl fun r _ => congrArg (fun v : EReal => _ * v) ?_)) (congrArg (next h x0 x1 x2 x3 acc) (emb 2 2 512 inb_S4x1024x768_S1x1024x256_2_0_512 k a (⟨512 + a.val, by omega⟩ : Fin 768) rfl rfl)).symm
  refine (ldf x2 0 _ r a ⟨0 + a.val, by omega⟩ rfl).trans ?_
  exact Eq.symm (Cert.Split.cat_gt _ _ _ _ _ ⟨0 + a.val, by omega⟩ (by simp only [col, ix3_0, ix3_2]; omega))

theorem piece6 (x : q6.shape.Idx) : k0_pay11 (k0_pay3 h) (View.ld acc q6) (View.ld x2 (Rect.unit (s := S1024x512) ![0, 256] ![1024, 256] inb_S1024x512_S1024x256_0_256)) x = next h x0 x1 x2 x3 acc (q6.emb x) := by
  obtain ⟨k, a, rfl⟩ : ∃ (k : Fin 1024) (a : Fin 256), x = ix3 (0 : Fin 1) k a :=
    ⟨x 1, x 2, by funext b; fin_cases b; exact Subsingleton.elim (α := Fin 1) _ _; rfl; rfl⟩
  refine (form6 _ _ _ k a).trans ?_
  refine Eq.trans (congrArg₂ (fun (u v : EReal) => u + v) (congrArg acc (emb 3 3 0 inb_S4x1024x768_S1x1024x256_3_0_0 k a (⟨0 + a.val, by omega⟩ : Fin 768) rfl rfl)) (Finset.sum_congr rfl fun r _ => congrArg (fun v : EReal => _ * v) ?_)) (congrArg (next h x0 x1 x2 x3 acc) (emb 3 3 0 inb_S4x1024x768_S1x1024x256_3_0_0 k a (⟨0 + a.val, by omega⟩ : Fin 768) rfl rfl)).symm
  refine (ldf x2 256 _ r a ⟨256 + a.val, by omega⟩ rfl).trans ?_
  exact Eq.symm (Cert.Split.cat_gt _ _ _ _ _ ⟨256 + a.val, by omega⟩ (by simp only [col, ix3_0, ix3_2]; omega))

theorem piece7 (x : q7.shape.Idx) : k0_pay1 (k0_pay3 h) (View.ld acc q7) x3 x = next h x0 x1 x2 x3 acc (q7.emb x) := by
  obtain ⟨k, a, rfl⟩ : ∃ (k : Fin 1024) (a : Fin 512), x = ix3 (0 : Fin 1) k a :=
    ⟨x 1, x 2, by funext b; fin_cases b; exact Subsingleton.elim (α := Fin 1) _ _; rfl; rfl⟩
  refine (form7 _ _ _ k a).trans ?_
  refine Eq.trans (congrArg₂ (fun (u v : EReal) => u + v) (congrArg acc (emb 3 3 256 inb_S4x1024x768_S1x1024x512_3_0_256 k a (⟨256 + a.val, by omega⟩ : Fin 768) rfl rfl)) (Finset.sum_congr rfl fun r _ => congrArg (fun v : EReal => _ * v) ?_)) (congrArg (next h x0 x1 x2 x3 acc) (emb 3 3 256 inb_S4x1024x768_S1x1024x512_3_0_256 k a (⟨256 + a.val, by omega⟩ : Fin 768) rfl rfl)).symm
  exact Eq.symm (Cert.Split.cat_cv _ _ _ _ _ a (by simp only [col, ix3_0, ix3_2]; omega))

theorem rows (M : List (View.Piece (Elt Ideal) S4x1024x768 .f32)) (y : S4x1024x768.Idx) :
    View.canon ((⟨q7, k0_pay1 (k0_pay3 h) (View.ld acc q7) x3⟩ : View.Piece (Elt Ideal) S4x1024x768 .f32)
      :: ⟨q6, k0_pay11 (k0_pay3 h) (View.ld acc q6) (View.ld x2 (Rect.unit (s := S1024x512) ![0, 256] ![1024, 256] inb_S1024x512_S1024x256_0_256))⟩
      :: ⟨q5, k0_pay10 (k0_pay3 h) (View.ld acc q5) (View.ld x2 (Rect.unit (s := S1024x512) ![0, 0] ![1024, 256] inb_S1024x512_S1024x256_0_0))⟩
      :: ⟨q4, k0_pay9 (k0_pay3 h) (View.ld acc q4) (View.ld x1 (Rect.unit (s := S1024x1536) ![0, 1024] ![1024, 512] inb_S1024x1536_S1024x512_0_1024))⟩
      :: ⟨q3, k0_pay8 (k0_pay7 h (View.ld acc q3) (View.ld x1 (Rect.unit (s := S1024x1536) ![0, 256] ![1024, 768] inb_S1024x1536_S1024x768_0_256)))⟩
      :: ⟨q2, k0_pay6 h (View.ld acc q2) (View.ld x1 (Rect.unit (s := S1024x1536) ![0, 0] ![1024, 256] inb_S1024x1536_S1024x256_0_0))⟩
      :: ⟨q1, k0_pay5 h (View.ld acc q1) x0⟩
      :: M) y = next h x0 x1 x2 x3 acc y := by
  refine Cert.Pieces.canon_append (Val := Elt Ideal) (e := .f32) (next h x0 x1 x2 x3 acc) M [⟨q7, _⟩, ⟨q6, _⟩, ⟨q5, _⟩, ⟨q4, _⟩, ⟨q3, _⟩, ⟨q2, _⟩, ⟨q1, _⟩] ?_ y ?_
  · refine List.forall_mem_cons.mpr ⟨piece7 h x0 x1 x2 x3 acc, List.forall_mem_cons.mpr ⟨piece6 h x0 x1 x2 x3 acc, List.forall_mem_cons.mpr ⟨piece5 h x0 x1 x2 x3 acc, List.forall_mem_cons.mpr ⟨piece4 h x0 x1 x2 x3 acc, List.forall_mem_cons.mpr ⟨piece3 h x0 x1 x2 x3 acc, List.forall_mem_cons.mpr ⟨piece2 h x0 x1 x2 x3 acc, List.forall_mem_cons.mpr ⟨piece1 h x0 x1 x2 x3 acc, ?_⟩⟩⟩⟩⟩⟩⟩
    exact fun _ h => absurd h List.not_mem_nil
  · have h0 : (y 0).val < 4 := (y 0).isLt
    have h2 : (y 2).val < 768 := (y 2).isLt
    obtain e | e | e | e : (y 0).val = 0 ∨ (y 0).val = 1 ∨ (y 0).val = 2 ∨ (y 0).val = 3 := by omega
    · rcases Nat.lt_or_ge (y 2).val 512 with f | f
      · exact ⟨_, (List.mem_cons_of_mem _ (List.mem_cons_of_mem _ (List.mem_cons_of_mem _ (List.mem_cons_of_mem _ (List.mem_cons_of_mem _ (List.mem_cons_of_mem _ List.mem_cons_self)))))), inside 0 0 inb_S4x1024x768_S1x1024x512_0_0_0 y e (Nat.zero_le _) (by omega)⟩
      · exact ⟨_, (List.mem_cons_of_mem _ (List.mem_cons_of_mem _ (List.mem_cons_of_mem _ (List.mem_cons_of_mem _ (List.mem_cons_of_mem _ List.mem_cons_self))))), inside 0 512 inb_S4x1024x768_S1x1024x256_0_0_512 y e f (by omega)⟩
    · exact ⟨_, (List.mem_cons_of_mem _ (List.mem_cons_of_mem _ (List.mem_cons_of_mem _ (List.mem_cons_of_mem _ List.mem_cons_self)))), inside 1 0 inb_S4x1024x768_S1x1024x768_1_0_0 y e (Nat.zero_le _) (by omega)⟩
    · rcases Nat.lt_or_ge (y 2).val 512 with f | f
      · exact ⟨_, (List.mem_cons_of_mem _ (List.mem_cons_of_mem _ (List.mem_cons_of_mem _ List.mem_cons_self))), inside 2 0 inb_S4x1024x768_S1x1024x512_2_0_0 y e (Nat.zero_le _) (by omega)⟩
      · exact ⟨_, (List.mem_cons_of_mem _ (List.mem_cons_of_mem _ List.mem_cons_self)), inside 2 512 inb_S4x1024x768_S1x1024x256_2_0_512 y e f (by omega)⟩
    · rcases Nat.lt_or_ge (y 2).val 256 with f | f
      · exact ⟨_, (List.mem_cons_of_mem _ List.mem_cons_self), inside 3 0 inb_S4x1024x768_S1x1024x256_3_0_0 y e (Nat.zero_le _) (by omega)⟩
      · exact ⟨_, List.mem_cons_self, inside 3 256 inb_S4x1024x768_S1x1024x512_3_0_256 y e f (by omega)⟩

end

variable (m : (ℓ : Loc nD τ sig) → Buf (Elt Ideal) ℓ)

theorem idx : ∀ t : Fin cfg0.N, win0_0.index t = ![0, t.val] ∧ win0_1.index t = ![t.val, 0] ∧ win0_2.index t = ![t.val, 0]
    ∧ win0_3.index t = ![t.val, 0] ∧ win0_4.index t = ![t.val, 0] := by decide +kernel

/-- Row `r` of block `n`. -/
abbrev row (n : ℕ) (r : Fin 1024) : Fin 8192 := ⟨(n * 1024 + r.val) % 8192, Nat.mod_lt _ (by decide)⟩

theorem row_eq (t : Fin 8) (r : Fin 1024) : row t.val r = ⟨t.val * 1024 + r.val, by omega⟩ := Fin.ext (Nat.mod_eq_of_lt (by omega))

theorem blk0 (c : Dev nD) (t : Fin 8) (k : Fin 1024) (r : Fin 1024) : iblk m c 0 t (ix2 k r) = V m c main_v13 (ix2 k (row t r)) := by
  rw [row_eq]
  blk_ext [iblk, idx t]

theorem blk1 (c : Dev nD) (t : Fin 8) (r : Fin 1024) (a : Fin 512) : iblk m c 1 t (ix2 r a) = V m c main_arg2 (ix2 (row t r) a) := by
  rw [row_eq]
  blk_ext [iblk, idx t]

theorem blk2 (c : Dev nD) (t : Fin 8) (r : Fin 1024) (a : Fin 1536) : iblk m c 2 t (ix2 r a) = V m c main_arg3 (ix2 (row t r) a) := by
  rw [row_eq]
  blk_ext [iblk, idx t]

theorem blk3 (c : Dev nD) (t : Fin 8) (r : Fin 1024) (a : Fin 512) : iblk m c 3 t (ix2 r a) = V m c main_arg4 (ix2 (row t r) a) := by
  rw [row_eq]
  blk_ext [iblk, idx t]

theorem blk4 (c : Dev nD) (t : Fin 8) (r : Fin 1024) (a : Fin 512) : iblk m c 4 t (ix2 r a) = V m c main_arg5 (ix2 (row t r) a) := by
  rw [row_eq]
  blk_ext [iblk, idx t]

/-- A row of the four arrays of gradients. -/
def cot (x0 : S8192x512.Idx → EReal) (x1 : S8192x1536.Idx → EReal) (x2 x3 : S8192x512.Idx → EReal) (s : Fin 8192) : Fin 3072 → EReal :=
  Cert.Split.cat (fun a => x0 (ix2 s a)) (fun a => x1 (ix2 s a)) (fun a => x2 (ix2 s a)) (fun a => x3 (ix2 s a))

/-- One row's part of the gradient. -/
def part (ht : S1024x8192.Idx → EReal) (d : Fin 8192 → Fin 3072 → EReal) (i : S4x1024x768.Idx) (s : Fin 8192) : EReal :=
  ht (ix2 (i 1) s) * d s (col (i 0) (i 2))

/-- One row's part at the launch. -/
abbrev here (c : Dev nD) : S4x1024x768.Idx → Fin 8192 → EReal :=
  part (V m c main_v13) (cot (V m c main_arg2) (V m c main_arg3) (V m c main_arg4) (V m c main_arg5))

/-- One block's part of the gradient. -/
def term (c : Dev nD) (n : ℕ) (i : S4x1024x768.Idx) : EReal := ∑ r : Fin 1024, here m c i (row n r)

theorem next_blk (c : Dev nD) (t : Fin cfg0.N) (acc : Vec Ideal S4x1024x768 .f32) (i : S4x1024x768.Idx) :
    next (iblk m c 0 t) (iblk m c 1 t) (iblk m c 2 t) (iblk m c 3 t) (iblk m c 4 t) acc i = acc i + term m c t.val i := by
  refine congrArg (acc i + ·) (Finset.sum_congr rfl fun r _ => ?_)
  unfold line
  rw [funext fun a => blk1 m c t r a, funext fun a => blk2 m c t r a, funext fun a => blk3 m c t r a, funext fun a => blk4 m c t r a]
  exact congrArg (fun v : EReal => v * _) (blk0 m c t (i 1) r)

/-- A piece of the accumulator. -/
abbrev Pc := View.Piece (Elt Ideal) S4x1024x768 .f32

theorem apart12 (w : q1.shape.Idx → Elt Ideal .f32) (p : Pc) (L : List Pc) :
    (View.whole cc0_scratch0).readCov (⟨q1, w⟩ :: p :: L) q2.toLoadRect = (View.whole cc0_scratch0).readCov (p :: L) q2.toLoadRect :=
  Cert.Pieces.skip _ w p L 2 (by decide)

theorem apart13 (w : q1.shape.Idx → Elt Ideal .f32) (p : Pc) (L : List Pc) :
    (View.whole cc0_scratch0).readCov (⟨q1, w⟩ :: p :: L) q3.toLoadRect = (View.whole cc0_scratch0).readCov (p :: L) q3.toLoadRect :=
  Cert.Pieces.skip _ w p L 0 (by decide)

theorem apart23 (w : q2.shape.Idx → Elt Ideal .f32) (p : Pc) (L : List Pc) :
    (View.whole cc0_scratch0).readCov (⟨q2, w⟩ :: p :: L) q3.toLoadRect = (View.whole cc0_scratch0).readCov (p :: L) q3.toLoadRect :=
  Cert.Pieces.skip _ w p L 0 (by decide)

theorem apart14 (w : q1.shape.Idx → Elt Ideal .f32) (p : Pc) (L : List Pc) :
    (View.whole cc0_scratch0).readCov (⟨q1, w⟩ :: p :: L) q4.toLoadRect = (View.whole cc0_scratch0).readCov (p :: L) q4.toLoadRect :=
  Cert.Pieces.skip _ w p L 0 (by decide)

theorem apart24 (w : q2.shape.Idx → Elt Ideal .f32) (p : Pc) (L : List Pc) :
    (View.whole cc0_scratch0).readCov (⟨q2, w⟩ :: p :: L) q4.toLoadRect = (View.whole cc0_scratch0).readCov (p :: L) q4.toLoadRect :=
  Cert.Pieces.skip _ w p L 0 (by decide)

theorem apart34 (w : q3.shape.Idx → Elt Ideal .f32) (p : Pc) (L : List Pc) :
    (View.whole cc0_scratch0).readCov (⟨q3, w⟩ :: p :: L) q4.toLoadRect = (View.whole cc0_scratch0).readCov (p :: L) q4.toLoadRect :=
  Cert.Pieces.skip _ w p L 0 (by decide)

theorem apart15 (w : q1.shape.Idx → Elt Ideal .f32) (p : Pc) (L : List Pc) :
    (View.whole cc0_scratch0).readCov (⟨q1, w⟩ :: p :: L) q5.toLoadRect = (View.whole cc0_scratch0).readCov (p :: L) q5.toLoadRect :=
  Cert.Pieces.skip _ w p L 0 (by decide)

theorem apart25 (w : q2.shape.Idx → Elt Ideal .f32) (p : Pc) (L : List Pc) :
    (View.whole cc0_scratch0).readCov (⟨q2, w⟩ :: p :: L) q5.toLoadRect = (View.whole cc0_scratch0).readCov (p :: L) q5.toLoadRect :=
  Cert.Pieces.skip _ w p L 0 (by decide)

theorem apart35 (w : q3.shape.Idx → Elt Ideal .f32) (p : Pc) (L : List Pc) :
    (View.whole cc0_scratch0).readCov (⟨q3, w⟩ :: p :: L) q5.toLoadRect = (View.whole cc0_scratch0).readCov (p :: L) q5.toLoadRect :=
  Cert.Pieces.skip _ w p L 0 (by decide)

theorem apart45 (w : q4.shape.Idx → Elt Ideal .f32) (p : Pc) (L : List Pc) :
    (View.whole cc0_scratch0).readCov (⟨q4, w⟩ :: p :: L) q5.toLoadRect = (View.whole cc0_scratch0).readCov (p :: L) q5.toLoadRect :=
  Cert.Pieces.skip _ w p L 2 (by decide)

theorem apart16 (w : q1.shape.Idx → Elt Ideal .f32) (p : Pc) (L : List Pc) :
    (View.whole cc0_scratch0).readCov (⟨q1, w⟩ :: p :: L) q6.toLoadRect = (View.whole cc0_scratch0).readCov (p :: L) q6.toLoadRect :=
  Cert.Pieces.skip _ w p L 0 (by decide)

theorem apart26 (w : q2.shape.Idx → Elt Ideal .f32) (p : Pc) (L : List Pc) :
    (View.whole cc0_scratch0).readCov (⟨q2, w⟩ :: p :: L) q6.toLoadRect = (View.whole cc0_scratch0).readCov (p :: L) q6.toLoadRect :=
  Cert.Pieces.skip _ w p L 0 (by decide)

theorem apart36 (w : q3.shape.Idx → Elt Ideal .f32) (p : Pc) (L : List Pc) :
    (View.whole cc0_scratch0).readCov (⟨q3, w⟩ :: p :: L) q6.toLoadRect = (View.whole cc0_scratch0).readCov (p :: L) q6.toLoadRect :=
  Cert.Pieces.skip _ w p L 0 (by decide)

theorem apart46 (w : q4.shape.Idx → Elt Ideal .f32) (p : Pc) (L : List Pc) :
    (View.whole cc0_scratch0).readCov (⟨q4, w⟩ :: p :: L) q6.toLoadRect = (View.whole cc0_scratch0).readCov (p :: L) q6.toLoadRect :=
  Cert.Pieces.skip _ w p L 0 (by decide)

theorem apart56 (w : q5.shape.Idx → Elt Ideal .f32) (p : Pc) (L : List Pc) :
    (View.whole cc0_scratch0).readCov (⟨q5, w⟩ :: p :: L) q6.toLoadRect = (View.whole cc0_scratch0).readCov (p :: L) q6.toLoadRect :=
  Cert.Pieces.skip _ w p L 0 (by decide)

theorem apart17 (w : q1.shape.Idx → Elt Ideal .f32) (p : Pc) (L : List Pc) :
    (View.whole cc0_scratch0).readCov (⟨q1, w⟩ :: p :: L) q7.toLoadRect = (View.whole cc0_scratch0).readCov (p :: L) q7.toLoadRect :=
  Cert.Pieces.skip _ w p L 0 (by decide)

theorem apart27 (w : q2.shape.Idx → Elt Ideal .f32) (p : Pc) (L : List Pc) :
    (View.whole cc0_scratch0).readCov (⟨q2, w⟩ :: p :: L) q7.toLoadRect = (View.whole cc0_scratch0).readCov (p :: L) q7.toLoadRect :=
  Cert.Pieces.skip _ w p L 0 (by decide)

theorem apart37 (w : q3.shape.Idx → Elt Ideal .f32) (p : Pc) (L : List Pc) :
    (View.whole cc0_scratch0).readCov (⟨q3, w⟩ :: p :: L) q7.toLoadRect = (View.whole cc0_scratch0).readCov (p :: L) q7.toLoadRect :=
  Cert.Pieces.skip _ w p L 0 (by decide)

theorem apart47 (w : q4.shape.Idx → Elt Ideal .f32) (p : Pc) (L : List Pc) :
    (View.whole cc0_scratch0).readCov (⟨q4, w⟩ :: p :: L) q7.toLoadRect = (View.whole cc0_scratch0).readCov (p :: L) q7.toLoadRect :=
  Cert.Pieces.skip _ w p L 0 (by decide)

theorem apart57 (w : q5.shape.Idx → Elt Ideal .f32) (p : Pc) (L : List Pc) :
    (View.whole cc0_scratch0).readCov (⟨q5, w⟩ :: p :: L) q7.toLoadRect = (View.whole cc0_scratch0).readCov (p :: L) q7.toLoadRect :=
  Cert.Pieces.skip _ w p L 0 (by decide)

theorem apart67 (w : q6.shape.Idx → Elt Ideal .f32) (p : Pc) (L : List Pc) :
    (View.whole cc0_scratch0).readCov (⟨q6, w⟩ :: p :: L) q7.toLoadRect = (View.whole cc0_scratch0).readCov (p :: L) q7.toLoadRect :=
  Cert.Pieces.skip _ w p L 2 (by decide)

theorem zero_read (r : Rect S4x1024x768) : (View.whole cc0_scratch0).readCov
    [(⟨Rect.unit ![0, 0, 0] ![4, 1024, 768] inb_S4x1024x768_S4x1024x768_0_0_0, k0_pay4 (F := Ideal)⟩ : Pc)] r.toLoadRect
    = View.ld (k0_pay4 (F := Ideal)) r := Cert.Pieces.whole _ _ r (by decide)

theorem acc_at (c : Dev nD) (t : Fin cfg0.N) (i : S4x1024x768.Idx) :
    (outsAt0 m c t.val t.isLt).2 i = 0 + ∑ k ∈ Finset.range (t.val + 1), term m c k i := by
  refine eq_sum_of_reset_step_apply_single (fun n h => (outsAt0 m c n h).2) 8 (fun _ => 0) (term m c)
    (fun t h i => ?_) (fun t h i => ?_) (le_of_eq N_0) t i
  · have h1 : ¬t.val % 8 = 7 := by omega
    rw [outsAt0_A m c t h h1]
    frame_out
    rw [zero_read q1,
      apart12, zero_read q2,
      apart23, apart13, zero_read q3,
      apart34, apart24, apart14, zero_read q4,
      apart45, apart35, apart25, apart15, zero_read q5,
      apart56, apart46, apart36, apart26, apart16, zero_read q6,
      apart67, apart57, apart47, apart37, apart27, apart17, zero_read q7]
    refine (rows _ _ _ _ _ _ _ i).trans ((next_blk m c t _ i).trans ?_)
    rw [pay4_at]
  · by_cases h1 : t.val % 8 = 7
    · rw [outsAt0_C m c t h h1]
      frame_out
      refine (rows _ _ _ _ _ _ _ i).trans ((next_blk m c t _ i).trans ?_)
      exact congrArg (· + _) (congrFun (Memref.IsWhole.read_unread _ _) i)
    · rw [outsAt0_B m c t h h1]
      frame_out
      refine (rows _ _ _ _ _ _ [] i).trans ((next_blk m c t _ i).trans ?_)
      exact congrArg (· + _) (congrFun (Memref.IsWhole.read_unread _ _) i)

theorem out_at (c : Dev nD) (t : Fin cfg0.N) (h1 : t.val % 8 = 7) : (outsAt0 m c t.val t.isLt).1 = (outsAt0 m c t.val t.isLt).2 := by
  have h0 : ¬t.val % 8 = 0 := by omega
  rw [outsAt0_C m c t h0 h1]
  frame_out
  exact (pay2_at _).trans (Cert.Pieces.all _ _ (by decide))

/-- The array the launch leaves. -/
theorem result (c : Dev nD) (i : S4x1024x768.Idx) : @Eq EReal (G5 m c i) (∑ s : Fin 8192, here m c i s) := by
  rw [G5_last, ← outsAt0_sweep m c 7 (lt_of_lt_of_eq (by decide) N_0.symm)]
  rw [out_at m c ⟨7, lt_of_lt_of_eq (by decide) N_0.symm⟩ rfl]
  refine (acc_at m c ⟨7, lt_of_lt_of_eq (by decide) N_0.symm⟩ i).trans ?_
  rw [zero_add, Finset.sum_range]
  refine Fin.sum_mul_add_congr (S := 8) (n := 1024) fun s k hl => ?_
  exact congrArg _ (Fin.ext (Nat.mod_eq_of_lt hl))

/-- A row divided by its root mean square and scaled. -/
def norm (x : Fin 8192 → Fin 1024 → EReal) (g : Fin 1024 → EReal) (s : Fin 8192) (a : Fin 1024) : EReal :=
  x s a * Ideal.rsqrt (Ideal.div (∑ k, x s k * x s k) (Ideal.ofBits FTy.f32 0x44800000#32) + Ideal.ofBits FTy.f32 0x358637BD#32) * g a

/-- The rows the host passes. -/
theorem host_at (c : Dev nD) (s : Fin 8192) (a : Fin 1024) :
    @Eq EReal (V m c main_v13 (ix2 a s))
      (norm (fun s a => m ((c.tc : Thread nD τ).loc main_arg0) (ix2 s a)) (fun a => m ((c.tc : Thread nD τ).loc main_arg1) (ix2 0 a)) s a) := by
  simp only [V, hostOps0, List.flatten_cons, List.flatten_nil, List.append_nil, List.cons_append, List.nil_append]
  after_reads_simp
  pointwise []
  rfl

/-- The array the launch leaves, from the arguments. -/
theorem result_args (c : Dev nD) (p : Fin 4) (k : Fin 1024) (q : Fin 768) :
    @Eq EReal (G5 m c (ix3 p k q)) (∑ s : Fin 8192,
      norm (fun s a => m ((c.tc : Thread nD τ).loc main_arg0) (ix2 s a)) (fun a => m ((c.tc : Thread nD τ).loc main_arg1) (ix2 0 a)) s k
        * cot (m ((c.tc : Thread nD τ).loc main_arg2)) (m ((c.tc : Thread nD τ).loc main_arg3)) (m ((c.tc : Thread nD τ).loc main_arg4))
          (m ((c.tc : Thread nD τ).loc main_arg5)) s (col p q)) := by
  refine (result m c (ix3 p k q)).trans (Finset.sum_congr rfl fun s _ => ?_)
  unfold here part
  rw [V_main_arg2, V_main_arg3, V_main_arg4, V_main_arg5]
  exact congrArg (fun v : EReal => v * _) (host_at m c s k)

end Cert.ProjDw

end
-- ==== Proof.Proj.ProjDwAgree.lean ====
/- The gradient of the first projection's weight: the kernel's and the reference's are one. -/
module

public import proofs.«01_k».proof.Proof.Proj.ProjDw
public import proofs.«01_k».proof.Proof.Gen.Reference9Ideal.Run
public import proofs.«01_k».proof.Proof.Gen.Reference9Ideal.Read
public import proofs.«01_k».proof.Defs
public import Idealize.ShloMosaic.Lib.Quiescent
public import Idealize.ShloMosaic.Lib.Claim

@[expose] public section

noncomputable section

namespace Cert.ProjDw

open Idealize.ShloMosaic Idealize.ShloMosaic.Pointwise Idealize.SL.Sem

section
open Cert.Reference9Ideal Cert.Reference9Ideal.Gen Cert.Reference9Ideal.Read

variable (x0 : (⟨S8192x1024, .f32⟩ : BufTy).Contents (Elt Ideal)) (x1 : (⟨S1x1024, .f32⟩ : BufTy).Contents (Elt Ideal))
    (x2 : (⟨S8192x512, .bf16⟩ : BufTy).Contents (Elt Ideal)) (x3 : (⟨S8192x1536, .bf16⟩ : BufTy).Contents (Elt Ideal))
    (x4 x5 : (⟨S8192x512, .bf16⟩ : BufTy).Contents (Elt Ideal))

theorem ref_d (s : Fin 8192) (b : Fin 3072) : val_main_v2 x2 x3 x4 x5 (ix2 s b) = cot x2 x3 x4 x5 s b := by
  pointwise [val_main_v2, val_main_v1]
  rfl

theorem ref_h (s : Fin 8192) (k : Fin 1024) : val_main_v14 x0 x1 (ix2 s k) = norm (fun s a => x0 (ix2 s a)) (fun a => x1 (ix2 0 a)) s k := by
  pointwise [val_main_v14, val_main_v13, val_main_v12, val_main_v11, val_main_v10, val_main_v9, val_main_v8, val_main_v7, val_main_v6,
    val_main_v5, val_main_v4, val_main_v3, val_main_cst_0, val_main_cst_1, val_main_cst_2]
  rfl

theorem ref_v20 (p : Fin 4) (k : Fin 1024) (q : Fin 768) :
    val_main_v20 x0 x1 x2 x3 x4 x5 (ix3 p k q) = ∑ s : Fin 8192,
      HMul.hMul (α := EReal) (β := EReal) (val_main_v2 x2 x3 x4 x5 (ix2 s (col p q))) (val_main_v14 x0 x1 (ix2 s k)) := by
  pointwise [val_main_v20, val_main_v19, val_main_v18, val_main_v17, val_main_v16]
  rfl

theorem ref_at (p : Fin 4) (k : Fin 1024) (q : Fin 768) :
    val_main_v20 x0 x1 x2 x3 x4 x5 (ix3 p k q) = ∑ s : Fin 8192,
      cot x2 x3 x4 x5 s (col p q) * norm (fun s a => x0 (ix2 s a)) (fun a => x1 (ix2 0 a)) s k :=
  (ref_v20 x0 x1 x2 x3 x4 x5 p k q).trans (Finset.sum_congr rfl fun s _ =>
    congrArg₂ (HMul.hMul (α := EReal) (β := EReal)) (ref_d x2 x3 x4 x5 s (col p q)) (ref_h x0 x1 s k))

end

theorem reference_frame : Cert.quiescent_Reference9Ideal := by
  intro m g _
  exact (θ_run Cert.Reference9Ideal.defs _ _).mono (fun r h => ⟨fun c => (h c).2, sem_eq_zero_of_no_sems rfl _⟩) (Cert.Reference9Ideal.Value.run m g)

theorem agree : Cert.algebraic_Kernel9Ideal_Reference9Ideal := by
  intro m g m' g' _ hagree
  refine ⟨fun c => Cert.Kernel9Ideal.Value.G5 m c, Cert.Kernel9Ideal.Value.run m g, ?_⟩
  refine (θ_run Cert.Reference9Ideal.defs _ _).mono (fun r h c => ⟨(h c).1.trans ?_, (h c).2⟩) (Cert.Reference9Ideal.Value.run m' g')
  obtain ⟨h0, h1, h2, h3, h4, h5⟩ := hagree c
  rw [Cert.Reference9Ideal.Read.val_main_v20_eq, h0, h1, h2, h3, h4, h5]
  funext i
  obtain ⟨p, k, q, rfl⟩ : ∃ (p : Fin 4) (k : Fin 1024) (q : Fin 768), i = ix3 p k q := ⟨i 0, i 1, i 2, by funext b; fin_cases b <;> rfl⟩
  refine (ref_at _ _ _ _ _ _ p k q).trans ((Finset.sum_congr rfl fun s _ => mul_comm _ _).trans ?_)
  exact (result_args m c p k q).symm

end Cert.ProjDw

end
-- ==== Proof.Proj.MixDw.lean ====
/- The gradient of the mixers' projection weight: what the kernel leaves, at an index. -/
module

public import proofs.«01_k».proof.Proof.Gen.Kernel10Ideal.Value
public import proofs.«01_k».proof.Proof.Proj.Split
public import proofs.«01_k».proof.Proof.Proj.Pieces
public import Idealize.ShloMosaic.Lib.Pointwise
public import Idealize.ShloMosaic.Lib.Pipeline.ValueKit

@[expose] public section

noncomputable section

namespace Cert.MixDw

open Cert.Kernel10Ideal Cert.Kernel10Ideal.Gen Cert.Kernel10Ideal.Value Idealize.ShloMosaic Idealize.ShloMosaic.Pointwise Idealize.ShloMosaic.Pipeline Idealize.SL.Sem

theorem pay2_at (i : S1024x1024.Idx) : k0_pay2 (F := Ideal) i = 0 := by
  pointwise [k0_pay2]

theorem pay1_at (acc : Vec Ideal S1024x1024 .f32) : k0_pay1 acc = acc := by
  funext i
  pointwise [k0_pay1]

theorem pay4_at (dy : Vec Ideal S1024x1024 .f32) (acc : Vec Ideal S256x1024 .f32) (x : Vec Ideal S1024x256 .bf16) (a : Fin 256) (e : Fin 1024) :
    k0_pay4 dy acc x (ix2 a e) = HAdd.hAdd (α := EReal) (β := EReal) (acc (ix2 a e))
      (∑ r : Fin 1024, HMul.hMul (α := EReal) (β := EReal) (x (ix2 r a)) (dy (ix2 r e))) := by
  pointwise [k0_pay4, k0_pay3]

theorem pay5_at (dy : Vec Ideal S1024x1024 .f32) (acc : Vec Ideal S512x1024 .f32) (x : Vec Ideal S1024x512 .bf16) (a : Fin 512) (e : Fin 1024) :
    k0_pay5 dy acc x (ix2 a e) = HAdd.hAdd (α := EReal) (β := EReal) (acc (ix2 a e))
      (∑ r : Fin 1024, HMul.hMul (α := EReal) (β := EReal) (x (ix2 r a)) (dy (ix2 r e))) := by
  pointwise [k0_pay5, k0_pay3]

theorem pay6_at (dy : Vec Ideal S1024x1024 .f32) (acc : Vec Ideal S256x1024 .f32) (x : Vec Ideal S1024x256 .bf16) (a : Fin 256) (e : Fin 1024) :
    k0_pay6 dy acc x (ix2 a e) = HAdd.hAdd (α := EReal) (β := EReal) (acc (ix2 a e))
      (∑ r : Fin 1024, HMul.hMul (α := EReal) (β := EReal) (x (ix2 r a)) (dy (ix2 r e))) := by
  pointwise [k0_pay6, k0_pay3]

section
abbrev q1 : Rect S1024x1024 := Rect.unit (s := S1024x1024) ![0, 0] S256x1024.size inb_S1024x1024_S256x1024_0_0
abbrev q2 : Rect S1024x1024 := Rect.unit (s := S1024x1024) ![256, 0] S512x1024.size inb_S1024x1024_S512x1024_256_0
abbrev q3 : Rect S1024x1024 := Rect.unit (s := S1024x1024) ![768, 0] S256x1024.size inb_S1024x1024_S256x1024_768_0

variable (x0 : Vec Ideal S1024x256 .bf16) (x1 : Vec Ideal S1024x512 .bf16) (x2 : Vec Ideal S1024x256 .bf16) (x3 : Vec Ideal S1024x1024 .f32)
  (acc : Vec Ideal S1024x1024 .f32)

/-- What a block adds at a place. -/
def gain (k e : Fin 1024) : EReal :=
  ∑ r : Fin 1024, Cert.Split.mix (fun a => x0 (ix2 r a)) (fun a => x1 (ix2 r a)) (fun a => x2 (ix2 r a)) k * x3 (ix2 r e)

/-- The accumulator after a block. -/
def next (y : S1024x1024.Idx) : EReal := acc y + gain x0 x1 x2 x3 (y 0) (y 1)

theorem emb1 (a : Fin 256) (e : Fin 1024) : q1.emb (ix2 a e) = ix2 (⟨a.val, by omega⟩ : Fin 1024) e := by
  funext b
  refine Fin.ext ((Rect.idx_unit_val _ _ _ _ b).trans ?_)
  fin_cases b <;> exact Nat.zero_add _

theorem emb2 (a : Fin 512) (e : Fin 1024) : q2.emb (ix2 a e) = ix2 (⟨256 + a.val, by omega⟩ : Fin 1024) e := by
  funext b
  refine Fin.ext ((Rect.idx_unit_val _ _ _ _ b).trans ?_)
  fin_cases b
  · rfl
  · exact Nat.zero_add _

theorem emb3 (a : Fin 256) (e : Fin 1024) : q3.emb (ix2 a e) = ix2 (⟨768 + a.val, by omega⟩ : Fin 1024) e := by
  funext b
  refine Fin.ext ((Rect.idx_unit_val _ _ _ _ b).trans ?_)
  fin_cases b
  · rfl
  · exact Nat.zero_add _

theorem piece1 (x : q1.shape.Idx) : k0_pay4 x3 (View.ld acc q1) x0 x = next x0 x1 x2 x3 acc (q1.emb x) := by
  obtain ⟨a, e, rfl⟩ : ∃ (a : Fin 256) (e : Fin 1024), x = ix2 a e := ⟨x 0, x 1, by funext b; fin_cases b <;> rfl⟩
  refine (pay4_at _ _ _ a e).trans ?_
  refine Eq.trans (congrArg₂ (fun (u v : EReal) => u + v) (congrArg acc (emb1 a e)) (Finset.sum_congr rfl fun r _ => ?_)) (congrArg (next x0 x1 x2 x3 acc) (emb1 a e)).symm
  exact congrArg (· * _) (Cert.Split.mix_gm (fun a => x0 (ix2 r a)) (fun a => x1 (ix2 r a)) (fun a => x2 (ix2 r a)) a _).symm

theorem piece2 (x : q2.shape.Idx) : k0_pay5 x3 (View.ld acc q2) x1 x = next x0 x1 x2 x3 acc (q2.emb x) := by
  obtain ⟨a, e, rfl⟩ : ∃ (a : Fin 512) (e : Fin 1024), x = ix2 a e := ⟨x 0, x 1, by funext b; fin_cases b <;> rfl⟩
  refine (pay5_at _ _ _ a e).trans ?_
  refine Eq.trans (congrArg₂ (fun (u v : EReal) => u + v) (congrArg acc (emb2 a e)) (Finset.sum_congr rfl fun r _ => ?_)) (congrArg (next x0 x1 x2 x3 acc) (emb2 a e)).symm
  exact congrArg (· * _) (Cert.Split.mix_ret (fun a => x0 (ix2 r a)) (fun a => x1 (ix2 r a)) (fun a => x2 (ix2 r a)) a _).symm

theorem piece3 (x : q3.shape.Idx) : k0_pay6 x3 (View.ld acc q3) x2 x = next x0 x1 x2 x3 acc (q3.emb x) := by
  obtain ⟨a, e, rfl⟩ : ∃ (a : Fin 256) (e : Fin 1024), x = ix2 a e := ⟨x 0, x 1, by funext b; fin_cases b <;> rfl⟩
  refine (pay6_at _ _ _ a e).trans ?_
  refine Eq.trans (congrArg₂ (fun (u v : EReal) => u + v) (congrArg acc (emb3 a e)) (Finset.sum_congr rfl fun r _ => ?_)) (congrArg (next x0 x1 x2 x3 acc) (emb3 a e)).symm
  exact congrArg (· * _) (Cert.Split.mix_cv (fun a => x0 (ix2 r a)) (fun a => x1 (ix2 r a)) (fun a => x2 (ix2 r a)) a _).symm

theorem in1 (y : S1024x1024.Idx) (h : (y 0).val < 256) : y ∈ q1.set := by
  have h1 : (y 1).val < 1024 := (y 1).isLt
  refine Rect.mem_set_unit.mpr fun a => ?_
  fin_cases a
  · exact ⟨Nat.zero_le _, lt_of_lt_of_eq h (Nat.zero_add _).symm⟩
  · exact ⟨Nat.zero_le _, lt_of_lt_of_eq h1 (Nat.zero_add _).symm⟩

theorem in2 (y : S1024x1024.Idx) (h : 256 ≤ (y 0).val) (h' : (y 0).val < 768) : y ∈ q2.set := by
  have h1 : (y 1).val < 1024 := (y 1).isLt
  refine Rect.mem_set_unit.mpr fun a => ?_
  fin_cases a
  · exact ⟨h, h'⟩
  · exact ⟨Nat.zero_le _, lt_of_lt_of_eq h1 (Nat.zero_add _).symm⟩

theorem in3 (y : S1024x1024.Idx) (h : 768 ≤ (y 0).val) : y ∈ q3.set := by
  have h0 : (y 0).val < 1024 := (y 0).isLt
  have h1 : (y 1).val < 1024 := (y 1).isLt
  refine Rect.mem_set_unit.mpr fun a => ?_
  fin_cases a
  · exact ⟨h, h0⟩
  · exact ⟨Nat.zero_le _, lt_of_lt_of_eq h1 (Nat.zero_add _).symm⟩

theorem rows (M : List (View.Piece (Elt Ideal) S1024x1024 .f32)) (y : S1024x1024.Idx) :
    View.canon ((⟨q3, k0_pay6 x3 (View.ld acc q3) x2⟩ : View.Piece (Elt Ideal) S1024x1024 .f32) :: ⟨q2, k0_pay5 x3 (View.ld acc q2) x1⟩
      :: ⟨q1, k0_pay4 x3 (View.ld acc q1) x0⟩ :: M) y = next x0 x1 x2 x3 acc y := by
  refine Cert.Pieces.canon_append (Val := Elt Ideal) (e := .f32) (next x0 x1 x2 x3 acc) M [⟨q3, _⟩, ⟨q2, _⟩, ⟨q1, _⟩] ?_ y ?_
  · refine List.forall_mem_cons.mpr ⟨piece3 x0 x1 x2 x3 acc, List.forall_mem_cons.mpr ⟨piece2 x0 x1 x2 x3 acc, List.forall_mem_cons.mpr ⟨piece1 x0 x1 x2 x3 acc, ?_⟩⟩⟩
    exact fun _ h => absurd h List.not_mem_nil
  · have h0 : (y 0).val < 1024 := (y 0).isLt
    have h1 : (y 1).val < 1024 := (y 1).isLt
    rcases Nat.lt_or_ge (y 0).val 256 with h | h
    · exact ⟨_, List.mem_cons_of_mem _ (List.mem_cons_of_mem _ List.mem_cons_self), in1 y h⟩
    rcases Nat.lt_or_ge (y 0).val 768 with h' | h'
    · exact ⟨_, List.mem_cons_of_mem _ List.mem_cons_self, in2 y h h'⟩
    · exact ⟨_, List.mem_cons_self, in3 y h'⟩

end

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] := by decide +kernel

/-- Row `r` of block `n`. -/
abbrev row (n : ℕ) (r : Fin 1024) : Fin 8192 := ⟨(n * 1024 + r.val) % 8192, Nat.mod_lt _ (by decide)⟩

theorem row_eq (t : Fin 8) (r : Fin 1024) : row t.val r = ⟨t.val * 1024 + r.val, by omega⟩ := Fin.ext (Nat.mod_eq_of_lt (by omega))

theorem blk0 (c : Dev nD) (t : Fin 8) (r : Fin 1024) (a : Fin 256) : iblk m c 0 t (ix2 r a) = V m c main_arg0 (ix2 (row t r) a) := by
  rw [row_eq]
  blk_ext [iblk, idx t]

theorem blk1 (c : Dev nD) (t : Fin 8) (r : Fin 1024) (a : Fin 512) : iblk m c 1 t (ix2 r a) = V m c main_arg1 (ix2 (row t r) a) := by
  rw [row_eq]
  blk_ext [iblk, idx t]

theorem blk2 (c : Dev nD) (t : Fin 8) (r : Fin 1024) (a : Fin 256) : iblk m c 2 t (ix2 r a) = V m c main_arg2 (ix2 (row t r) a) := by
  rw [row_eq]
  blk_ext [iblk, idx t]

theorem blk3 (c : Dev nD) (t : Fin 8) (r : Fin 1024) (a : Fin 1024) : iblk m c 3 t (ix2 r a) = V m c main_arg3 (ix2 (row t r) a) := by
  rw [row_eq]
  blk_ext [iblk, idx t]

/-- One row's part of the gradient. -/
def part (gm : S8192x256.Idx → EReal) (ret : S8192x512.Idx → EReal) (cv : S8192x256.Idx → EReal) (dy : S8192x1024.Idx → EReal)
    (i : S1024x1024.Idx) (s : Fin 8192) : EReal :=
  Cert.Split.mix (fun a => gm (ix2 s a)) (fun a => ret (ix2 s a)) (fun a => cv (ix2 s a)) (i 0) * dy (ix2 s (i 1))

/-- One row's part at the launch. -/
abbrev here (c : Dev nD) : S1024x1024.Idx → Fin 8192 → EReal := part (V m c main_arg0) (V m c main_arg1) (V m c main_arg2) (V m c main_arg3)

/-- One block's part of the gradient. -/
def term (c : Dev nD) (n : ℕ) (i : S1024x1024.Idx) : EReal := ∑ r : Fin 1024, here m c i (row n r)

theorem next_blk (c : Dev nD) (t : Fin cfg0.N) (acc : Vec Ideal S1024x1024 .f32) (i : S1024x1024.Idx) :
    next (iblk m c 0 t) (iblk m c 1 t) (iblk m c 2 t) (iblk m c 3 t) acc i = acc i + term m c t.val i := by
  refine congrArg (acc i + ·) (Finset.sum_congr rfl fun r _ => ?_)
  rw [funext fun a => blk0 m c t r a, funext fun a => blk1 m c t r a, funext fun a => blk2 m c t r a]
  exact congrArg _ (blk3 m c t r (i 1))

theorem acc_at (c : Dev nD) (t : Fin cfg0.N) (i : S1024x1024.Idx) :
    (outsAt0 m c t.val t.isLt).2 i = 0 + ∑ k ∈ Finset.range (t.val + 1), term m c k i := by
  refine eq_sum_of_reset_step_apply_single (fun n h => (outsAt0 m c n h).2) 8 (fun _ => 0) (term m c)
    (fun t h i => ?_) (fun t h i => ?_) (le_of_eq N_0) t i
  · have h1 : ¬t.val % 8 = 7 := by omega
    rw [outsAt0_A m c t h h1]
    frame_out
    have z : ∀ r : Rect S1024x1024, (View.whole cc0_scratch0).readCov
        [(⟨Rect.unit ![0, 0] ![1024, 1024] inb_S1024x1024_S1024x1024_0_0, k0_pay2 (F := Ideal)⟩ : View.Piece (Elt Ideal) S1024x1024 .f32)] r.toLoadRect
        = View.ld (k0_pay2 (F := Ideal)) r := fun r => Cert.Pieces.whole _ _ r (by decide)
    rw [Cert.Pieces.skip (a := 0), Cert.Pieces.skip (a := 0), Cert.Pieces.skip (a := 0), z, z, z]
    · refine (rows _ _ _ _ _ _ i).trans ((next_blk m c t _ i).trans ?_)
      rw [pay2_at]
    all_goals decide
  · by_cases h1 : t.val % 8 = 7
    · rw [outsAt0_C m c t h h1]
      frame_out
      refine (rows _ _ _ _ _ _ i).trans ((next_blk m c t _ i).trans ?_)
      exact congrArg (· + _) (congrFun (Memref.IsWhole.read_unread _ _) i)
    · rw [outsAt0_B m c t h h1]
      frame_out
      refine (rows _ _ _ _ _ [] i).trans ((next_blk m c t _ i).trans ?_)
      exact congrArg (· + _) (congrFun (Memref.IsWhole.read_unread _ _) i)

theorem out_at (c : Dev nD) (t : Fin cfg0.N) (h1 : t.val % 8 = 7) : (outsAt0 m c t.val t.isLt).1 = (outsAt0 m c t.val t.isLt).2 := by
  have h0 : ¬t.val % 8 = 0 := by omega
  rw [outsAt0_C m c t h0 h1]
  frame_out
  exact (pay1_at _).trans (Cert.Pieces.all _ _ (by decide))

/-- The array the launch leaves. -/
theorem result (c : Dev nD) (i : S1024x1024.Idx) : G4 m c i = ∑ s : Fin 8192, here m c i s := by
  rw [G4_last, ← outsAt0_sweep m c 7 (lt_of_lt_of_eq (by decide) N_0.symm)]
  rw [out_at m c ⟨7, lt_of_lt_of_eq (by decide) N_0.symm⟩ rfl]
  refine (acc_at m c ⟨7, lt_of_lt_of_eq (by decide) N_0.symm⟩ i).trans ?_
  rw [zero_add, Finset.sum_range]
  refine Fin.sum_mul_add_congr (S := 8) (n := 1024) fun s k hl => ?_
  exact congrArg _ (Fin.ext (Nat.mod_eq_of_lt hl))

end Cert.MixDw

end
-- ==== Proof.Proj.MixDwAgree.lean ====
/- The gradient of the mixers' projection weight: the kernel's and the reference's are one. -/
module

public import proofs.«01_k».proof.Proof.Proj.MixDw
public import proofs.«01_k».proof.Proof.Gen.Reference10Ideal.Run
public import proofs.«01_k».proof.Proof.Gen.Reference10Ideal.Read
public import proofs.«01_k».proof.Defs
public import Idealize.ShloMosaic.Lib.Quiescent
public import Idealize.ShloMosaic.Lib.Claim

@[expose] public section

noncomputable section

namespace Cert.MixDw

open Idealize.ShloMosaic Idealize.ShloMosaic.Pointwise Idealize.SL.Sem

section
open Cert.Reference10Ideal Cert.Reference10Ideal.Gen Cert.Reference10Ideal.Read

theorem ref_at (x0 : (⟨S8192x256, .bf16⟩ : BufTy).Contents (Elt Ideal)) (x1 : (⟨S8192x512, .bf16⟩ : BufTy).Contents (Elt Ideal))
    (x2 : (⟨S8192x256, .bf16⟩ : BufTy).Contents (Elt Ideal)) (x3 : (⟨S8192x1024, .f32⟩ : BufTy).Contents (Elt Ideal)) (k e : Fin 1024) :
    val_main_v8 x0 x1 x2 x3 (ix2 k e) = ∑ s : Fin 8192, HMul.hMul (α := EReal) (β := EReal) (x3 (ix2 s e))
      (Cert.Split.mix (fun a => x0 (ix2 s a)) (fun a => x1 (ix2 s a)) (fun a => x2 (ix2 s a)) k) := by
  pointwise [val_main_v8, val_main_v7, val_main_v6, val_main_v4, val_main_v3, val_main_v2, val_main_v1]
  rfl

end

theorem reference_frame : Cert.quiescent_Reference10Ideal := by
  intro m g _
  exact (θ_run Cert.Reference10Ideal.defs _ _).mono (fun r h => ⟨fun c => (h c).2, sem_eq_zero_of_no_sems rfl _⟩) (Cert.Reference10Ideal.Value.run m g)

theorem agree : Cert.algebraic_Kernel10Ideal_Reference10Ideal := by
  intro m g m' g' _ hagree
  refine ⟨fun c => Cert.Kernel10Ideal.Value.G4 m c, Cert.Kernel10Ideal.Value.run m g, ?_⟩
  refine (θ_run Cert.Reference10Ideal.defs _ _).mono (fun r h c => ⟨(h c).1.trans ?_, (h c).2⟩) (Cert.Reference10Ideal.Value.run m' g')
  obtain ⟨h0, h1, h2, h3⟩ := hagree c
  rw [Cert.Reference10Ideal.Read.val_main_v8_eq, h0, h1, h2, h3]
  funext i
  obtain ⟨a, e, rfl⟩ : ∃ (a : Fin 1024) (e : Fin 1024), i = ix2 a e := ⟨i 0, i 1, by funext b; fin_cases b <;> rfl⟩
  refine (ref_at _ _ _ _ a e).trans ((Finset.sum_congr rfl fun s _ => mul_comm _ _).trans ?_)
  exact (result m c (ix2 a e)).symm

end Cert.MixDw

end
-- ==== Proof.Proj.MixFwd.lean ====
/- The mixers' projection with its residual: what the kernel leaves, at an index. -/
module

public import proofs.«01_k».proof.Proof.Gen.Kernel11Ideal.Value
public import proofs.«01_k».proof.Proof.Proj.Split
public import Idealize.ShloMosaic.Lib.Pointwise
public import Idealize.ShloMosaic.Lib.Pipeline.ValueKit

@[expose] public section

noncomputable section

namespace Cert.MixFwd

open Cert.Kernel11Ideal Cert.Kernel11Ideal.Gen Cert.Kernel11Ideal.Value Idealize.ShloMosaic Idealize.ShloMosaic.Pointwise Idealize.ShloMosaic.Pipeline Idealize.SL.Sem

/-- One entry of a row of the output. -/
def cell (gm : Fin 256 → EReal) (ret : Fin 512 → EReal) (cv : Fin 256 → EReal) (w : Fin 1024 → Fin 1024 → EReal) (x : Fin 1024 → EReal)
    (e : Fin 1024) : EReal :=
  x e + (∑ a : Fin 256, gm a * w ⟨a.val, by omega⟩ e) + (∑ a : Fin 512, ret a * w ⟨256 + a.val, by omega⟩ e)
    + ∑ a : Fin 256, cv a * w ⟨768 + a.val, by omega⟩ e

theorem cell_eq (gm : Fin 256 → EReal) (ret : Fin 512 → EReal) (cv : Fin 256 → EReal) (w : Fin 1024 → Fin 1024 → EReal) (x : Fin 1024 → EReal)
    (e : Fin 1024) : cell gm ret cv w x e = x e + ∑ k, Cert.Split.mix gm ret cv k * w k e := by
  rw [Cert.Split.mix_sum gm ret cv (fun k => w k e), cell]
  simp only [add_assoc]

theorem pay1_at (x : Vec Ideal S512x1024 .f32) (gm : Vec Ideal S512x256 .bf16) (w1 : Vec Ideal S256x1024 .bf16) (ret : Vec Ideal S512x512 .bf16)
    (w2 : Vec Ideal S512x1024 .bf16) (cv : Vec Ideal S512x256 .bf16) (w3 : Vec Ideal S256x1024 .bf16) (r : Fin 512) (e : Fin 1024) :
    k0_pay1 x gm w1 ret w2 cv w3 (ix2 r e)
      = ((x (ix2 r e) + (∑ a : Fin 256, HMul.hMul (α := EReal) (β := EReal) (gm (ix2 r a)) (w1 (ix2 a e)))
        + (∑ a : Fin 512, HMul.hMul (α := EReal) (β := EReal) (ret (ix2 r a)) (w2 (ix2 a e)))
        + ∑ a : Fin 256, HMul.hMul (α := EReal) (β := EReal) (cv (ix2 r a)) (w3 (ix2 a e)) : EReal)) := by
  pointwise [k0_pay1]

section
variable (x0 : Vec Ideal S512x256 .bf16) (x1 : Vec Ideal S512x512 .bf16) (x2 : Vec Ideal S512x256 .bf16) (x3 : Vec Ideal S1024x1024 .bf16)
  (x4 : Vec Ideal S512x1024 .f32)

/-- A place of the block a grid point writes. -/
def block (y : S512x1024.Idx) : EReal :=
  cell (fun b => x0 (ix2 (y 0) b)) (fun b => x1 (ix2 (y 0) b)) (fun b => x2 (ix2 (y 0) b)) (fun a e => x3 (ix2 a e)) (fun e => x4 (ix2 (y 0) e)) (y 1)

theorem ld0 : View.ld x0 r0_1 = x0 := by
  funext i
  refine View.ld_unit_apply_of x0 _ _ _ _ i fun a => ?_
  fin_cases a <;> exact (Nat.zero_add _).symm

theorem ld1 : View.ld x1 r0_3 = x1 := by
  funext i
  refine View.ld_unit_apply_of x1 _ _ _ _ i fun a => ?_
  fin_cases a <;> exact (Nat.zero_add _).symm

theorem ld4 : View.ld x4 r0_0 = x4 := by
  funext i
  refine View.ld_unit_apply_of x4 _ _ _ _ i fun a => ?_
  fin_cases a <;> exact (Nat.zero_add _).symm

theorem w1_at (a : Fin 256) (e : Fin 1024) : View.ld x3 r0_2 (ix2 a e) = x3 (ix2 ⟨a.val, by omega⟩ e) := by
  refine View.ld_unit_apply_of x3 _ _ _ _ _ fun b => ?_
  fin_cases b <;> exact (Nat.zero_add _).symm

theorem w2_at (a : Fin 512) (e : Fin 1024) : View.ld x3 r0_4 (ix2 a e) = x3 (ix2 ⟨256 + a.val, by omega⟩ e) := by
  refine View.ld_unit_apply_of x3 _ _ _ _ _ fun b => ?_
  fin_cases b
  · rfl
  · exact (Nat.zero_add _).symm

theorem w3_at (a : Fin 256) (e : Fin 1024) : View.ld x3 r0_5 (ix2 a e) = x3 (ix2 ⟨768 + a.val, by omega⟩ e) := by
  refine View.ld_unit_apply_of x3 _ _ _ _ _ fun b => ?_
  fin_cases b
  · rfl
  · exact (Nat.zero_add _).symm

theorem emb_out (r : Fin 512) (e : Fin 1024) : r0_0.emb (ix2 r e) = ix2 r e := by
  funext b
  apply Fin.ext
  refine (Rect.idx_unit_val _ _ _ _ b).trans ?_
  fin_cases b <;> exact Nat.zero_add _

theorem piece (x : S512x1024.Idx) :
    k0_pay1 (View.ld x4 r0_0) (View.ld x0 r0_1) (View.ld x3 r0_2) (View.ld x1 r0_3) (View.ld x3 r0_4) (View.ld x2 r0_1) (View.ld x3 r0_5) x
      = block x0 x1 x2 x3 x4 (r0_0.emb x) := by
  obtain ⟨r, e, rfl⟩ : ∃ (r : Fin 512) (e : Fin 1024), x = ix2 r e := ⟨x 0, x 1, by funext b; fin_cases b <;> rfl⟩
  refine Eq.trans ?_ (congrArg (block x0 x1 x2 x3 x4) (emb_out r e)).symm
  rw [ld0, ld0, ld1, ld4]
  refine (pay1_at _ _ _ _ _ _ _ r e).trans ?_
  exact congrArg₂ (· + ·) (congrArg₂ (· + ·) (congrArg _ (Finset.sum_congr rfl fun a _ => congrArg _ (w1_at x3 a e)))
    (Finset.sum_congr rfl fun a _ => congrArg _ (w2_at x3 a e))) (Finset.sum_congr rfl fun a _ => congrArg _ (w3_at x3 a e))

theorem out_at (y : S512x1024.Idx) : out0_5 x0 x1 x2 x3 x4 y = block x0 x1 x2 x3 x4 y := by
  refine View.canon_apply_of_pieces (Val := Elt Ideal) (e := .f32) (block x0 x1 x2 x3 x4) _ ?_ y ?_
  swap
  · exact cover0_5 _ y
  refine List.forall_mem_cons.mpr ⟨piece x0 x1 x2 x3 x4, ?_⟩
  exact fun _ h => absurd h List.not_mem_nil

end

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] := by decide +kernel

/-- Row `r` of block `t`. -/
abbrev row (t : Fin 16) (r : Fin 512) : Fin 8192 := ⟨t.val * 512 + r.val, by omega⟩

theorem blk0 (c : Dev nD) (t : Fin 16) (r : Fin 512) (b : Fin 256) :
    iblk m c 0 t (ix2 r b) = V m c main_arg0 (ix2 (row t r) b) := by
  blk_ext [iblk, idx t]

theorem blk1 (c : Dev nD) (t : Fin 16) (r : Fin 512) (b : Fin 512) :
    iblk m c 1 t (ix2 r b) = V m c main_arg1 (ix2 (row t r) b) := by
  blk_ext [iblk, idx t]

theorem blk2 (c : Dev nD) (t : Fin 16) (r : Fin 512) (b : Fin 256) :
    iblk m c 2 t (ix2 r b) = V m c main_arg2 (ix2 (row t r) b) := by
  blk_ext [iblk, idx t]

theorem blk3 (c : Dev nD) (t : Fin 16) (a : Fin 1024) (e : Fin 1024) :
    iblk m c 3 t (ix2 a e) = V m c main_arg3 (ix2 a e) := by
  blk_ext [iblk, idx t]

theorem blk4 (c : Dev nD) (t : Fin 16) (r : Fin 512) (e : Fin 1024) :
    iblk m c 4 t (ix2 r e) = V m c main_arg4 (ix2 (row t r) e) := by
  blk_ext [iblk, idx t]

/-- A place of the output. -/
def out (gm : S8192x256.Idx → EReal) (ret : S8192x512.Idx → EReal) (cv : S8192x256.Idx → EReal) (w : S1024x1024.Idx → EReal)
    (x : S8192x1024.Idx → EReal) (j : S8192x1024.Idx) : EReal :=
  cell (fun b => gm (ix2 (j 0) b)) (fun b => ret (ix2 (j 0) b)) (fun b => cv (ix2 (j 0) b)) (fun a e => w (ix2 a e)) (fun e => x (ix2 (j 0) e)) (j 1)

theorem block_launch (c : Dev nD) (t : Fin 16) (r : Fin 512) (e : Fin 1024) :
    block (iblk m c 0 t) (iblk m c 1 t) (iblk m c 2 t) (iblk m c 3 t) (iblk m c 4 t) (ix2 r e)
      = out (V m c main_arg0) (V m c main_arg1) (V m c main_arg2) (V m c main_arg3) (V m c main_arg4) (ix2 (row t r) e) := by
  show cell (fun b => iblk m c 0 t (ix2 r b)) (fun b => iblk m c 1 t (ix2 r b)) (fun b => iblk m c 2 t (ix2 r b)) (fun a e => iblk m c 3 t (ix2 a e))
    (fun e => iblk m c 4 t (ix2 r e)) e = _
  rw [funext fun b => blk0 m c t r b, funext fun b => blk1 m c t r b, funext fun b => blk2 m c t r b, funext₂ fun a e => blk3 m c t a e,
    funext fun e => blk4 m c t r e]
  rfl

/-- The array the launch leaves. -/
theorem arr_at (c : Dev nD) : (dats m 0 c).arrAt 5 cfg0.N
    = out (V m c main_arg0) (V m c main_arg1) (V m c main_arg2) (V m c main_arg3) (V m c main_arg4) := by
  refine (dats m 0 c).arrAt_eq_of_covers 5 _ (by decide +kernel) fun t hf y => ?_
  blk_simp
  rw [after0_5]
  obtain ⟨r, e, rfl⟩ : ∃ (r : Fin 512) (e : Fin 1024), y = ix2 r e := ⟨y 0, y 1, by funext b; fin_cases b <;> rfl⟩
  refine (out_at _ _ _ _ _ _).trans ((block_launch m c t r e).trans ?_)
  refine congrArg (out _ _ _ _ _) (funext fun a => Fin.ext ?_)
  fin_cases a
  · blk_simp [idx t]
    rfl
  · blk_simp [idx t]
    rfl

end Cert.MixFwd

end
-- ==== Proof.Proj.MixFwdAgree.lean ====
/- The mixers' projection with its residual: the kernel's and the reference's are one. -/
module

public import proofs.«01_k».proof.Proof.Proj.MixFwd
public import proofs.«01_k».proof.Proof.Gen.Reference11Ideal.Run
public import proofs.«01_k».proof.Proof.Gen.Reference11Ideal.Read
public import proofs.«01_k».proof.Defs
public import Idealize.ShloMosaic.Lib.Quiescent
public import Idealize.ShloMosaic.Lib.Claim

@[expose] public section

noncomputable section

namespace Cert.MixFwd

open Idealize.ShloMosaic Idealize.ShloMosaic.Pointwise Idealize.SL.Sem

section
open Cert.Reference11Ideal Cert.Reference11Ideal.Gen Cert.Reference11Ideal.Read

theorem ref_at (x0 : (⟨S8192x256, .bf16⟩ : BufTy).Contents (Elt Ideal)) (x1 : (⟨S8192x512, .bf16⟩ : BufTy).Contents (Elt Ideal))
    (x2 : (⟨S8192x256, .bf16⟩ : BufTy).Contents (Elt Ideal)) (x3 : (⟨S1024x1024, .bf16⟩ : BufTy).Contents (Elt Ideal))
    (x4 : (⟨S8192x1024, .f32⟩ : BufTy).Contents (Elt Ideal)) (s : Fin 8192) (e : Fin 1024) :
    val_main_v6 x0 x1 x2 x3 x4 (ix2 s e)
      = cell (fun b => x0 (ix2 s b)) (fun b => x1 (ix2 s b)) (fun b => x2 (ix2 s b)) (fun a e => x3 (ix2 a e)) (fun e => x4 (ix2 s e)) e := by
  rw [cell_eq]
  pointwise [val_main_v6, val_main_v5, val_main_v4, val_main_v3, val_main_v2, val_main_v1, val_main_v0]
  rfl

end

theorem reference_frame : Cert.quiescent_Reference11Ideal := by
  intro m g _
  exact (θ_run Cert.Reference11Ideal.defs _ _).mono (fun r h => ⟨fun c => (h c).2, sem_eq_zero_of_no_sems rfl _⟩) (Cert.Reference11Ideal.Value.run m g)

theorem agree : Cert.algebraic_Kernel11Ideal_Reference11Ideal := by
  intro m g m' g' _ hagree
  refine ⟨fun c => out (Cert.Kernel11Ideal.Gen.V m c Cert.Kernel11Ideal.main_arg0) (Cert.Kernel11Ideal.Gen.V m c Cert.Kernel11Ideal.main_arg1) (Cert.Kernel11Ideal.Gen.V m c Cert.Kernel11Ideal.main_arg2) (Cert.Kernel11Ideal.Gen.V m c Cert.Kernel11Ideal.main_arg3) (Cert.Kernel11Ideal.Gen.V m c Cert.Kernel11Ideal.main_arg4), ?_, ?_⟩
  · exact (θ_run Cert.Kernel11Ideal.defs _ _).mono (fun r h c => ⟨(h c).1.trans (arr_at m c), (h c).2⟩) (Cert.Kernel11Ideal.Value.run_blocks m g)
  refine (θ_run Cert.Reference11Ideal.defs _ _).mono (fun r h c => ⟨(h c).1.trans ?_, (h c).2⟩) (Cert.Reference11Ideal.Value.run m' g')
  obtain ⟨h0, h1, h2, h3, h4⟩ := hagree c
  rw [Cert.Reference11Ideal.Read.val_main_v6_eq, h0, h1, h2, h3, h4]
  funext i
  obtain ⟨s, e, rfl⟩ : ∃ (s : Fin 8192) (e : Fin 1024), i = ix2 s e := ⟨i 0, i 1, by funext b; fin_cases b <;> rfl⟩
  exact ref_at _ _ _ _ _ s e

end Cert.MixFwd

end
-- ==== Proof.Proj.ProjFwd.lean ====
/- The first projection with its rotated columns and its transposed norm: what the kernel leaves, at an index. -/
module

public import proofs.«01_k».proof.Proof.Gen.Kernel12Ideal.Value
public import proofs.«01_k».proof.Proof.Ffn.InFwd
public import proofs.«01_k».proof.Proof.Ret.Tables
public import proofs.«01_k».proof.Proof.Proj.Pieces
public import Idealize.ShloMosaic.Lib.Pointwise
public import Idealize.ShloMosaic.Lib.StableHlo.RunRead
public import Idealize.ShloMosaic.Lib.Pipeline.ValueKit

@[expose] public section

noncomputable section

namespace Cert.ProjFwd

open Cert.Kernel12Ideal Cert.Kernel12Ideal.Gen Cert.Kernel12Ideal.Value Idealize.ShloMosaic Idealize.ShloMosaic.Pointwise Idealize.ShloMosaic.Pipeline Idealize.SL.Sem
open Cert.InFwd (nrm)
open Cert.Ret (scale opp cosT sinT)

/-- One entry of a row of the product, by part and lane. -/
def prod (x g : Fin 1024 → EReal) (w : Fin 4 → Fin 1024 → Fin 768 → EReal) (p : Fin 4) (a : Fin 768) : EReal :=
  ∑ k, nrm x g k * w p k a

/-- The column of a part's lane. -/
abbrev pcol (p : Fin 4) (a : Fin 768) : Fin 3072 := ⟨p.val * 768 + a.val, by omega⟩

/-- One entry of a row of the product. -/
def cell (x g : Fin 1024 → EReal) (w : Fin 4 → Fin 1024 → Fin 768 → EReal) (b : Fin 3072) : EReal :=
  prod x g w ⟨b.val / 768, by omega⟩ ⟨b.val % 768, by omega⟩

theorem cell_at (x g : Fin 1024 → EReal) (w : Fin 4 → Fin 1024 → Fin 768 → EReal) (p : Fin 4) (a : Fin 768) :
    cell x g w (pcol p a) = prod x g w p a := by
  have h1 : (⟨(pcol p a).val / 768, by omega⟩ : Fin 4) = p := Fin.ext (by simp only [pcol]; omega)
  have h2 : (⟨(pcol p a).val % 768, by omega⟩ : Fin 768) = a := Fin.ext (by simp only [pcol]; omega)
  rw [cell, h1, h2]

/-- One entry of the rotated columns `j`, from 128 columns of a row and the tables' rows. -/
def turn (j : ℕ) (x C S : Fin 128 → EReal) (d : Fin 128) : EReal :=
  if j < 4 then x d * C d + x (opp d) * S d else (x d * C d + x (opp d) * S d) * scale

/-- One entry of a row whose first `n` blocks of rotated columns are in place. -/
def turned (n : ℕ) (b : Fin 3072 → EReal) (C S : Fin 128 → EReal) (k : Fin 3072) : EReal :=
  if 512 ≤ k.val ∧ k.val < 512 + 128 * n then
    turn ((k.val - 512) / 128) (fun e => b ⟨(512 + 128 * ((k.val - 512) / 128) + e.val) % 3072, Nat.mod_lt _ (by decide)⟩) C S ⟨(k.val - 512) % 128, Nat.mod_lt _ (by decide)⟩
  else b k

theorem turned_in (n : ℕ) (b : Fin 3072 → EReal) (C S : Fin 128 → EReal) (j : ℕ) (hj : j < n) (hj8 : j < 8) (d : Fin 128) (k : Fin 3072) (hk : k.val = 512 + 128 * j + d.val) :
    turned n b C S k = turn j (fun e => b ⟨512 + 128 * j + e.val, by omega⟩) C S d := by
  have h1 : (k.val - 512) / 128 = j := by omega
  have h2 : (⟨(k.val - 512) % 128, Nat.mod_lt _ (by decide)⟩ : Fin 128) = d := Fin.ext (by dsimp only; omega)
  rw [turned, if_pos (by omega), h2]
  simp only [h1]
  exact congrArg (fun f => turn j f C S d) (funext fun e => congrArg b (Fin.ext (by dsimp only; omega)))

theorem turned_out (n : ℕ) (b : Fin 3072 → EReal) (C S : Fin 128 → EReal) (k : Fin 3072) (hk : k.val < 512 ∨ 512 + 128 * n ≤ k.val) :
    turned n b C S k = b k := by
  rw [turned, if_neg (by omega)]

theorem turned_succ (n : ℕ) (b : Fin 3072 → EReal) (C S : Fin 128 → EReal) (k : Fin 3072) (hk : k.val < 512 + 128 * n ∨ 512 + 128 * n + 128 ≤ k.val) :
    turned (n + 1) b C S k = turned n b C S k := by
  unfold turned
  by_cases h : 512 ≤ k.val ∧ k.val < 512 + 128 * n
  · rw [if_pos h, if_pos (by omega)]
  · rw [if_neg h, if_neg (by omega)]

theorem emb2 {n wd : ℕ} (o : ℕ) (inb) (r : Fin 512) (a : Fin wd) (b : Fin n) (h : b.val = o + a.val) :
    (Rect.unit (s := ⟨2, ![512, n]⟩) ![0, o] ![512, wd] inb).emb (ix2 r a) = ix2 r b := by
  funext i
  apply Fin.ext
  refine (Rect.idx_unit_val _ _ _ _ i).trans ?_
  fin_cases i
  · exact Nat.zero_add _
  · exact h.symm

/-- Storing one more block of rotated columns, formed from what is read of them. -/
theorem step {κ : Kind} {sp : Space} (v : View sig κ sp S512x3072 .f32) (b : Fin 512 → Fin 3072 → EReal) (C S : Fin 512 → Fin 128 → EReal) (n o : ℕ) (hn : n < 8) (ho : o = 512 + 128 * n)
    (L : List (View.Piece (Elt Ideal) S512x3072 .f32)) (inb) (w : (Rect.unit (s := S512x3072) ![0, o] ![512, 128] inb).shape.Idx → EReal)
    (hL : ∀ r k, View.canon L (ix2 r k) = turned n (b r) (C r) (S r) k)
    (hw : ∀ r d, w (ix2 r d) = turn n (fun e => v.readCov L (Rect.unit (s := S512x3072) ![0, o] ![512, 128] inb).toLoadRect (ix2 r e)) (C r) (S r) d) (r : Fin 512) (k : Fin 3072) :
    View.canon ((⟨Rect.unit (s := S512x3072) ![0, o] ![512, 128] inb, w⟩ : View.Piece (Elt Ideal) S512x3072 .f32) :: L) (ix2 r k) = turned (n + 1) (b r) (C r) (S r) k := by
  by_cases h : o ≤ k.val ∧ k.val < o + 128
  · obtain ⟨d, hd⟩ : ∃ d : Fin 128, k.val = o + d.val := ⟨⟨k.val - o, by omega⟩, by dsimp only; omega⟩
    have e1 := View.canon_cons_emb (Rect.unit (s := S512x3072) ![0, o] ![512, 128] inb) w L (ix2 r d)
    rw [emb2 (n := 3072) (wd := 128) o inb r d k hd] at e1
    refine e1.trans ((hw r d).trans ?_)
    rw [turned_in (n + 1) _ _ _ n (by omega) hn d k (by omega)]
    refine congrArg (fun f => turn n f (C r) (S r) d) (funext fun e => ?_)
    rw [View.readCov_eq_canon']
    refine Eq.trans (congrArg (View.canon L) (emb2 (n := 3072) (wd := 128) o inb r e ⟨512 + 128 * n + e.val, by omega⟩ (by dsimp only; omega))) ?_
    refine (hL r _).trans (turned_out n _ _ _ _ (by dsimp only; omega))
  · refine Eq.trans (View.canon_cons_of_not_mem _ L ?_) ((hL r k).trans (turned_succ n _ _ _ k (by omega)).symm)
    intro hm
    exact h ((Rect.mem_set_unit (inb := inb)).mp hm 1)

theorem pay5_at (x : Vec Ideal S512x1024 .f32) (g : Vec Ideal S1x1024 .f32) (r : Fin 512) (e : Fin 1024) :
    k0_pay5 (F := Ideal) x g (ix2 r e) = nrm (fun k => x (ix2 r k)) (fun k => g (ix2 0 k)) e := by
  pointwise [k0_pay5]
  rfl

theorem pay6_at (x : Vec Ideal S512x1024 .f32) (g : Vec Ideal S1x1024 .f32) (r : Fin 512) (e : Fin 1024) :
    k0_pay6 (F := Ideal) x g (ix2 r e) = nrm (fun k => x (ix2 r k)) (fun k => g (ix2 0 k)) e := pay5_at x g r e

theorem pay4_at (h : FVec Ideal S512x1024 .f32) (e : Fin 1024) (r : Fin 512) : @Eq EReal (k0_pay4 (F := Ideal) h (ix2 e r)) (h (ix2 r e)) := by
  pointwise [k0_pay4]

theorem pay3_at (h : Vec Ideal S512x1536 .f32) (r : Fin 512) (a : Fin 1536) : @Eq EReal (k0_pay3 (F := Ideal) h (ix2 r a)) (h (ix2 r a)) := by
  pointwise [k0_pay3]

theorem pay10_at (h : FVec Ideal S512x1024 .bf16) (w : Vec Ideal S1x1024x768 .bf16) (r : Fin 512) (a : Fin 768) :
    k0_pay10 (F := Ideal) h w (ix2 r a) = ∑ k : Fin 1024, HMul.hMul (α := EReal) (β := EReal) (h (ix2 r k)) (w (ix3 0 k a)) := by
  pointwise [k0_pay10]

section
variable (x : Vec Ideal S512x1024 .f32) (g : Vec Ideal S1x1024 .f32) (w : Vec Ideal S1x1024x768 .bf16)
theorem pay7_eq : k0_pay7 (F := Ideal) x g w = k0_pay10 (k0_pay6 x g) w := rfl
theorem pay8_eq : k0_pay8 (F := Ideal) x g w = k0_pay10 (k0_pay6 x g) w := rfl
theorem pay9_eq : k0_pay9 (F := Ideal) x g w = k0_pay10 (k0_pay6 x g) w := rfl
end

section
variable (C S : Vec Ideal S512x128 .f32) (x : Vec Ideal S512x128 .f32) (r : Fin 512) (d : Fin 128)
theorem turn0 : k0_pay13 (F := Ideal) C S x (ix2 r d) = turn 0 (fun e => x (ix2 r e)) (fun e => C (ix2 r e)) (fun e => S (ix2 r e)) d := by
  pointwise [k0_pay13, k0_pay11, k0_pay12]
  rfl
theorem turn1 : k0_pay14 (F := Ideal) C S x (ix2 r d) = turn 1 (fun e => x (ix2 r e)) (fun e => C (ix2 r e)) (fun e => S (ix2 r e)) d := by
  pointwise [k0_pay14, k0_pay11, k0_pay12]
  rfl
theorem turn2 : k0_pay15 (F := Ideal) C S x (ix2 r d) = turn 2 (fun e => x (ix2 r e)) (fun e => C (ix2 r e)) (fun e => S (ix2 r e)) d := by
  pointwise [k0_pay15, k0_pay11, k0_pay12]
  rfl
theorem turn3 : k0_pay16 (F := Ideal) (k0_pay11 C) (k0_pay12 S) x (ix2 r d) = turn 3 (fun e => x (ix2 r e)) (fun e => C (ix2 r e)) (fun e => S (ix2 r e)) d := by
  pointwise [k0_pay16, k0_pay11, k0_pay12]
  rfl
theorem turn4 : k0_pay17 (F := Ideal) (k0_pay11 C) (k0_pay12 S) x (ix2 r d) = turn 4 (fun e => x (ix2 r e)) (fun e => C (ix2 r e)) (fun e => S (ix2 r e)) d := by
  pointwise [k0_pay17, k0_pay11, k0_pay12]
  rfl
theorem turn5 : k0_pay18 (F := Ideal) (k0_pay11 C) (k0_pay12 S) x (ix2 r d) = turn 5 (fun e => x (ix2 r e)) (fun e => C (ix2 r e)) (fun e => S (ix2 r e)) d := by
  pointwise [k0_pay18, k0_pay11, k0_pay12]
  rfl
theorem turn6 : k0_pay1 (F := Ideal) (k0_pay19 (k0_pay11 C) (k0_pay12 S) x) (ix2 r d) = turn 6 (fun e => x (ix2 r e)) (fun e => C (ix2 r e)) (fun e => S (ix2 r e)) d := by
  pointwise [k0_pay1, k0_pay19, k0_pay11, k0_pay12]
  rfl
theorem turn7 : k0_pay2 (F := Ideal) (k0_pay11 C) (k0_pay12 S) x (ix2 r d) = turn 7 (fun e => x (ix2 r e)) (fun e => C (ix2 r e)) (fun e => S (ix2 r e)) d := by
  pointwise [k0_pay2, k0_pay11, k0_pay12]
  rfl
end

section
variable (x0 : Vec Ideal S512x1024 .f32) (x1 : Vec Ideal S1x1024 .f32) (x2 : Vec Ideal S4x1024x768 .bf16) (x3 x4 : Vec Ideal S512x128 .f32)
variable {κ : Kind} {sp : Space} (v : View sig κ sp S512x3072 .f32)

theorem ldw (p : Fin 4) (o : Nat) (inb) (ho : o = p.val) (k : Fin 1024) (a : Fin 768) :
    View.ld x2 (Rect.unit (s := S4x1024x768) ![o, 0, 0] ![1, 1024, 768] inb) (ix3 0 k a) = x2 (ix3 p k a) := by
  refine View.ld_unit_apply_of x2 _ _ _ _ (ix3 p k a) fun b => ?_
  fin_cases b
  · exact ho.symm
  · exact (Nat.zero_add _).symm
  · exact (Nat.zero_add _).symm

/-- A row of the product. -/
def line (r : Fin 512) : Fin 3072 → EReal := cell (fun k => x0 (ix2 r k)) (fun k => x1 (ix2 0 k)) (fun p k a => x2 (ix3 p k a))

theorem piece (p : Fin 4) (o q : Nat) (inb inb1) (ho : o = p.val * 768) (hq : q = p.val) (y : S512x768.Idx) :
    k0_pay10 (F := Ideal) (k0_pay6 x0 x1) (View.ld x2 (Rect.unit (s := S4x1024x768) ![q, 0, 0] ![1, 1024, 768] inb1)) y
      = (fun z : S512x3072.Idx => line x0 x1 x2 (z 0) (z 1)) ((Rect.unit (s := S512x3072) ![0, o] ![512, 768] inb).emb y) := by
  obtain ⟨r, a, rfl⟩ : ∃ (r : Fin 512) (a : Fin 768), y = ix2 r a := ⟨y 0, y 1, by funext b; fin_cases b <;> rfl⟩
  refine Eq.trans ?_ (congrArg (fun z : S512x3072.Idx => line x0 x1 x2 (z 0) (z 1)) (emb2 o inb r a (pcol p a) (by simp only [pcol]; omega))).symm
  refine Eq.trans ?_ (cell_at _ _ _ p a).symm
  refine (pay10_at _ _ r a).trans (Finset.sum_congr rfl fun k _ => ?_)
  rw [ldw x2 p q inb1 hq, pay6_at]
  rfl

/-- The product's four pieces. -/
abbrev L0 : List (View.Piece (Elt Ideal) S512x3072 .f32) :=
  [⟨Rect.unit (s := S512x3072) ![0, 2304] ![512, 768] inb_S512x3072_S512x768_0_2304, k0_pay10 (k0_pay6 x0 x1) (View.ld x2 (Rect.unit (s := S4x1024x768) ![3, 0, 0] ![1, 1024, 768] inb_S4x1024x768_S1x1024x768_3_0_0))⟩,
   ⟨Rect.unit (s := S512x3072) ![0, 1536] ![512, 768] inb_S512x3072_S512x768_0_1536, k0_pay9 x0 x1 (View.ld x2 (Rect.unit (s := S4x1024x768) ![2, 0, 0] ![1, 1024, 768] inb_S4x1024x768_S1x1024x768_2_0_0))⟩,
   ⟨Rect.unit (s := S512x3072) ![0, 768] ![512, 768] inb_S512x3072_S512x768_0_768, k0_pay8 x0 x1 (View.ld x2 (Rect.unit (s := S4x1024x768) ![1, 0, 0] ![1, 1024, 768] inb_S4x1024x768_S1x1024x768_1_0_0))⟩,
   ⟨Rect.unit (s := S512x3072) ![0, 0] ![512, 768] inb_S512x3072_S512x768_0_0, k0_pay7 x0 x1 (View.ld x2 (Rect.unit (s := S4x1024x768) ![0, 0, 0] ![1, 1024, 768] inb_S4x1024x768_S1x1024x768_0_0_0))⟩]

theorem canon0 (r : Fin 512) (k : Fin 3072) : View.canon (L0 x0 x1 x2) (ix2 r k) = turned 0 (line x0 x1 x2 r) (fun e => x3 (ix2 r e)) (fun e => x4 (ix2 r e)) k := by
  rw [turned_out 0 _ _ _ k (by omega)]
  refine View.canon_apply_of_pieces (Val := Elt Ideal) (e := .f32) (fun z : S512x3072.Idx => line x0 x1 x2 (z 0) (z 1)) _ ?_ (ix2 r k) ?_
  swap
  · exact View.cover_of_tiledL (L0 x0 x1 x2) S512x768.size (by rfl) (ix2 r k)
  refine List.forall_mem_cons.mpr ⟨piece x0 x1 x2 3 2304 3 inb_S512x3072_S512x768_0_2304 inb_S4x1024x768_S1x1024x768_3_0_0 rfl rfl, ?_⟩
  refine List.forall_mem_cons.mpr ⟨piece x0 x1 x2 2 1536 2 inb_S512x3072_S512x768_0_1536 inb_S4x1024x768_S1x1024x768_2_0_0 rfl rfl, ?_⟩
  refine List.forall_mem_cons.mpr ⟨piece x0 x1 x2 1 768 1 inb_S512x3072_S512x768_0_768 inb_S4x1024x768_S1x1024x768_1_0_0 rfl rfl, ?_⟩
  refine List.forall_mem_cons.mpr ⟨piece x0 x1 x2 0 0 0 inb_S512x3072_S512x768_0_0 inb_S4x1024x768_S1x1024x768_0_0_0 rfl rfl, ?_⟩
  exact fun _ h => absurd h List.not_mem_nil

/-- The pieces once 1 block of rotated columns is in place. -/
abbrev L1 : List (View.Piece (Elt Ideal) S512x3072 .f32) :=
  ⟨Rect.unit (s := S512x3072) ![0, 512] ![512, 128] inb_S512x3072_S512x128_0_512, k0_pay13 x3 x4 (v.readCov (L0 x0 x1 x2) (Rect.unit (s := S512x3072) ![0, 512] ![512, 128] inb_S512x3072_S512x128_0_512).toLoadRect)⟩ :: L0 x0 x1 x2

theorem canon1 (r : Fin 512) (k : Fin 3072) : View.canon (L1 x0 x1 x2 x3 x4 v) (ix2 r k) = turned 1 (line x0 x1 x2 r) (fun e => x3 (ix2 r e)) (fun e => x4 (ix2 r e)) k :=
  step v (line x0 x1 x2) (fun r e => x3 (ix2 r e)) (fun r e => x4 (ix2 r e)) 0 512 (by decide) rfl (L0 x0 x1 x2) inb_S512x3072_S512x128_0_512 _ (canon0 x0 x1 x2 x3 x4)
    (fun r d => turn0 x3 x4 _ r d) r k

/-- The pieces once 2 blocks of rotated columns are in place. -/
abbrev L2 : List (View.Piece (Elt Ideal) S512x3072 .f32) :=
  ⟨Rect.unit (s := S512x3072) ![0, 640] ![512, 128] inb_S512x3072_S512x128_0_640, k0_pay14 x3 x4 (v.readCov (L1 x0 x1 x2 x3 x4 v) (Rect.unit (s := S512x3072) ![0, 640] ![512, 128] inb_S512x3072_S512x128_0_640).toLoadRect)⟩ :: L1 x0 x1 x2 x3 x4 v

theorem canon2 (r : Fin 512) (k : Fin 3072) : View.canon (L2 x0 x1 x2 x3 x4 v) (ix2 r k) = turned 2 (line x0 x1 x2 r) (fun e => x3 (ix2 r e)) (fun e => x4 (ix2 r e)) k :=
  step v (line x0 x1 x2) (fun r e => x3 (ix2 r e)) (fun r e => x4 (ix2 r e)) 1 640 (by decide) rfl (L1 x0 x1 x2 x3 x4 v) inb_S512x3072_S512x128_0_640 _ (canon1 x0 x1 x2 x3 x4 v)
    (fun r d => turn1 x3 x4 _ r d) r k

/-- The pieces once 3 blocks of rotated columns are in place. -/
abbrev L3 : List (View.Piece (Elt Ideal) S512x3072 .f32) :=
  ⟨Rect.unit (s := S512x3072) ![0, 768] ![512, 128] inb_S512x3072_S512x128_0_768, k0_pay15 x3 x4 (v.readCov (L2 x0 x1 x2 x3 x4 v) (Rect.unit (s := S512x3072) ![0, 768] ![512, 128] inb_S512x3072_S512x128_0_768).toLoadRect)⟩ :: L2 x0 x1 x2 x3 x4 v

theorem canon3 (r : Fin 512) (k : Fin 3072) : View.canon (L3 x0 x1 x2 x3 x4 v) (ix2 r k) = turned 3 (line x0 x1 x2 r) (fun e => x3 (ix2 r e)) (fun e => x4 (ix2 r e)) k :=
  step v (line x0 x1 x2) (fun r e => x3 (ix2 r e)) (fun r e => x4 (ix2 r e)) 2 768 (by decide) rfl (L2 x0 x1 x2 x3 x4 v) inb_S512x3072_S512x128_0_768 _ (canon2 x0 x1 x2 x3 x4 v)
    (fun r d => turn2 x3 x4 _ r d) r k

/-- The pieces once 4 blocks of rotated columns are in place. -/
abbrev L4 : List (View.Piece (Elt Ideal) S512x3072 .f32) :=
  ⟨Rect.unit (s := S512x3072) ![0, 896] ![512, 128] inb_S512x3072_S512x128_0_896, k0_pay16 (k0_pay11 x3) (k0_pay12 x4) (v.readCov (L3 x0 x1 x2 x3 x4 v) (Rect.unit (s := S512x3072) ![0, 896] ![512, 128] inb_S512x3072_S512x128_0_896).toLoadRect)⟩ :: L3 x0 x1 x2 x3 x4 v

theorem canon4 (r : Fin 512) (k : Fin 3072) : View.canon (L4 x0 x1 x2 x3 x4 v) (ix2 r k) = turned 4 (line x0 x1 x2 r) (fun e => x3 (ix2 r e)) (fun e => x4 (ix2 r e)) k :=
  step v (line x0 x1 x2) (fun r e => x3 (ix2 r e)) (fun r e => x4 (ix2 r e)) 3 896 (by decide) rfl (L3 x0 x1 x2 x3 x4 v) inb_S512x3072_S512x128_0_896 _ (canon3 x0 x1 x2 x3 x4 v)
    (fun r d => turn3 x3 x4 _ r d) r k

/-- The pieces once 5 blocks of rotated columns are in place. -/
abbrev L5 : List (View.Piece (Elt Ideal) S512x3072 .f32) :=
  ⟨Rect.unit (s := S512x3072) ![0, 1024] ![512, 128] inb_S512x3072_S512x128_0_1024, k0_pay17 (k0_pay11 x3) (k0_pay12 x4) (v.readCov (L4 x0 x1 x2 x3 x4 v) (Rect.unit (s := S512x3072) ![0, 1024] ![512, 128] inb_S512x3072_S512x128_0_1024).toLoadRect)⟩ :: L4 x0 x1 x2 x3 x4 v

theorem canon5 (r : Fin 512) (k : Fin 3072) : View.canon (L5 x0 x1 x2 x3 x4 v) (ix2 r k) = turned 5 (line x0 x1 x2 r) (fun e => x3 (ix2 r e)) (fun e => x4 (ix2 r e)) k :=
  step v (line x0 x1 x2) (fun r e => x3 (ix2 r e)) (fun r e => x4 (ix2 r e)) 4 1024 (by decide) rfl (L4 x0 x1 x2 x3 x4 v) inb_S512x3072_S512x128_0_1024 _ (canon4 x0 x1 x2 x3 x4 v)
    (fun r d => turn4 x3 x4 _ r d) r k

/-- The pieces once 6 blocks of rotated columns are in place. -/
abbrev L6 : List (View.Piece (Elt Ideal) S512x3072 .f32) :=
  ⟨Rect.unit (s := S512x3072) ![0, 1152] ![512, 128] inb_S512x3072_S512x128_0_1152, k0_pay18 (k0_pay11 x3) (k0_pay12 x4) (v.readCov (L5 x0 x1 x2 x3 x4 v) (Rect.unit (s := S512x3072) ![0, 1152] ![512, 128] inb_S512x3072_S512x128_0_1152).toLoadRect)⟩ :: L5 x0 x1 x2 x3 x4 v

theorem canon6 (r : Fin 512) (k : Fin 3072) : View.canon (L6 x0 x1 x2 x3 x4 v) (ix2 r k) = turned 6 (line x0 x1 x2 r) (fun e => x3 (ix2 r e)) (fun e => x4 (ix2 r e)) k :=
  step v (line x0 x1 x2) (fun r e => x3 (ix2 r e)) (fun r e => x4 (ix2 r e)) 5 1152 (by decide) rfl (L5 x0 x1 x2 x3 x4 v) inb_S512x3072_S512x128_0_1152 _ (canon5 x0 x1 x2 x3 x4 v)
    (fun r d => turn5 x3 x4 _ r d) r k

/-- The pieces once 7 blocks of rotated columns are in place. -/
abbrev L7 : List (View.Piece (Elt Ideal) S512x3072 .f32) :=
  ⟨Rect.unit (s := S512x3072) ![0, 1280] ![512, 128] inb_S512x3072_S512x128_0_1280, k0_pay1 (k0_pay19 (k0_pay11 x3) (k0_pay12 x4) (v.readCov (L6 x0 x1 x2 x3 x4 v) (Rect.unit (s := S512x3072) ![0, 1280] ![512, 128] inb_S512x3072_S512x128_0_1280).toLoadRect))⟩ :: L6 x0 x1 x2 x3 x4 v

theorem canon7 (r : Fin 512) (k : Fin 3072) : View.canon (L7 x0 x1 x2 x3 x4 v) (ix2 r k) = turned 7 (line x0 x1 x2 r) (fun e => x3 (ix2 r e)) (fun e => x4 (ix2 r e)) k :=
  step v (line x0 x1 x2) (fun r e => x3 (ix2 r e)) (fun r e => x4 (ix2 r e)) 6 1280 (by decide) rfl (L6 x0 x1 x2 x3 x4 v) inb_S512x3072_S512x128_0_1280 _ (canon6 x0 x1 x2 x3 x4 v)
    (fun r d => turn6 x3 x4 _ r d) r k

/-- The pieces once 8 blocks of rotated columns are in place. -/
abbrev L8 : List (View.Piece (Elt Ideal) S512x3072 .f32) :=
  ⟨Rect.unit (s := S512x3072) ![0, 1408] ![512, 128] inb_S512x3072_S512x128_0_1408, k0_pay2 (k0_pay11 x3) (k0_pay12 x4) (v.readCov (L7 x0 x1 x2 x3 x4 v) (Rect.unit (s := S512x3072) ![0, 1408] ![512, 128] inb_S512x3072_S512x128_0_1408).toLoadRect)⟩ :: L7 x0 x1 x2 x3 x4 v

theorem canon8 (r : Fin 512) (k : Fin 3072) : View.canon (L8 x0 x1 x2 x3 x4 v) (ix2 r k) = turned 8 (line x0 x1 x2 r) (fun e => x3 (ix2 r e)) (fun e => x4 (ix2 r e)) k :=
  step v (line x0 x1 x2) (fun r e => x3 (ix2 r e)) (fun r e => x4 (ix2 r e)) 7 1408 (by decide) rfl (L7 x0 x1 x2 x3 x4 v) inb_S512x3072_S512x128_0_1408 _ (canon7 x0 x1 x2 x3 x4 v)
    (fun r d => turn7 x3 x4 _ r d) r k

end

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] ∧ win0_6.index t = ![0, t.val]
    ∧ win0_7.index t = ![t.val, 0] := by decide +kernel

/-- A row of the cosines. -/
def cs (s : Fin 8192) (d : Fin 128) : EReal := if d.val < 64 then cosT s.val d.val else cosT s.val (d.val - 64)

/-- A row of the sines, the first half negated. -/
def sn (s : Fin 8192) (d : Fin 128) : EReal := if d.val < 64 then -sinT s.val d.val else sinT s.val (d.val - 64)

theorem v44_at (c : Dev nD) (s : Fin 8192) (d : Fin 128) : V m c main_v44 (ix2 s d) = cs s d := by
  unfold cs
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise []
  rw [Ret.cosT_eq (by omega) (by omega), Ret.cosT_eq (by omega) (by omega), Ret.sinT_eq (by omega) (by omega), Ret.sinT_eq (by omega) (by omega),
    Ret.cosT_add (by omega) (by omega), Ret.cosT_add (by omega) (by omega)]
  rfl

theorem v46_at (c : Dev nD) (s : Fin 8192) (d : Fin 128) : V m c main_v46 (ix2 s d) = sn s d := by
  unfold sn
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  pointwise []
  rw [Ret.cosT_eq (by omega) (by omega), Ret.cosT_eq (by omega) (by omega), Ret.sinT_eq (by omega) (by omega), Ret.sinT_eq (by omega) (by omega),
    Ret.sinT_add (by omega) (by omega), Ret.sinT_add (by omega) (by omega)]
  rfl

theorem arg0_at (c : Dev nD) : V m c main_arg0 = m (c, Proc.tc.devRef main_arg0) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp

theorem arg1_at (c : Dev nD) : V m c main_arg1 = m (c, Proc.tc.devRef main_arg1) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp

theorem arg2_at (c : Dev nD) : V m c main_arg2 = m (c, Proc.tc.devRef main_arg2) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp

/-- Row `r` of block `t`. -/
abbrev row (t : Fin 16) (r : Fin 512) : Fin 8192 := ⟨t.val * 512 + r.val, by omega⟩

theorem blk0 (c : Dev nD) (t : Fin 16) (r : Fin 512) (k : Fin 1024) : iblk m c 0 t (ix2 r k) = V m c main_arg0 (ix2 (row t r) k) := by
  blk_ext [iblk, idx t]

theorem blk1 (c : Dev nD) (t : Fin 16) (k : Fin 1024) : iblk m c 1 t (ix2 0 k) = V m c main_arg1 (ix2 0 k) := by
  blk_ext [iblk, idx t]

theorem blk2 (c : Dev nD) (t : Fin 16) (p : Fin 4) (k : Fin 1024) (a : Fin 768) : iblk m c 2 t (ix3 p k a) = V m c main_arg2 (ix3 p k a) := by
  blk_ext [iblk, idx t]

theorem blk3 (c : Dev nD) (t : Fin 16) (r : Fin 512) (d : Fin 128) : iblk m c 3 t (ix2 r d) = cs (row t r) d := by
  refine Eq.trans ?_ (v44_at m c (row t r) d)
  blk_ext [iblk, idx t]

theorem blk4 (c : Dev nD) (t : Fin 16) (r : Fin 512) (d : Fin 128) : iblk m c 4 t (ix2 r d) = sn (row t r) d := by
  refine Eq.trans ?_ (v46_at m c (row t r) d)
  blk_ext [iblk, idx t]

/-- A row of the projection, its columns rotated. -/
def proj (x : S8192x1024.Idx → EReal) (g : S1x1024.Idx → EReal) (w : S4x1024x768.Idx → EReal) (s : Fin 8192) (k : Fin 3072) : EReal :=
  turned 8 (cell (fun k => x (ix2 s k)) (fun k => g (ix2 0 k)) (fun p k a => w (ix3 p k a))) (cs s) (sn s) k

/-- A place of the projection. -/
def out (x : S8192x1024.Idx → EReal) (g : S1x1024.Idx → EReal) (w : S4x1024x768.Idx → EReal) (j : S8192x3072.Idx) : EReal := proj x g w (j 0) (j 1)

/-- A place of the transposed norm. -/
def outT (x : S8192x1024.Idx → EReal) (g : S1x1024.Idx → EReal) (j : S1024x8192.Idx) : EReal :=
  nrm (fun k => x (ix2 (j 1) k)) (fun k => g (ix2 0 k)) (j 0)

/-- A place of the projection's columns for the retention. -/
def outQ (x : S8192x1024.Idx → EReal) (g : S1x1024.Idx → EReal) (w : S4x1024x768.Idx → EReal) (j : S8192x1536.Idx) : EReal :=
  proj x g w (j 0) ⟨512 + (j 1).val, by have : (j 1).val < 1536 := (j 1).isLt; omega⟩

theorem row_launch (c : Dev nD) (t : Fin 16) (r : Fin 512) (k : Fin 3072) :
    turned 8 (line (iblk m c 0 t) (iblk m c 1 t) (iblk m c 2 t) r) (fun e => iblk m c 3 t (ix2 r e)) (fun e => iblk m c 4 t (ix2 r e)) k
      = proj (V m c main_arg0) (V m c main_arg1) (V m c main_arg2) (row t r) k := by
  unfold line
  rw [funext fun k => blk0 m c t r k, funext fun k => blk1 m c t k, funext₃ fun p k a => blk2 m c t p k a,
    funext fun e => blk3 m c t r e, funext fun e => blk4 m c t r e]
  rfl

theorem out_at (c : Dev nD) (t : Fin cfg0.N) (r : Fin 512) (k : Fin 3072) :
    (outsAt0 m c t).1 (ix2 r k) = proj (V m c main_arg0) (V m c main_arg1) (V m c main_arg2) (row t r) k := by
  unfold outsAt0
  frame_out
  exact (canon8 _ _ _ _ _ (ms0_5 t).view r k).trans (row_launch m c t r k)

theorem outT_at (c : Dev nD) (t : Fin cfg0.N) (e : Fin 1024) (r : Fin 512) :
    (outsAt0 m c t).2.1 (ix2 e r) = outT (V m c main_arg0) (V m c main_arg1) (ix2 e (row t r)) := by
  unfold outsAt0
  frame_out
  refine (pay4_at _ e r).trans ((pay5_at _ _ r e).trans ?_)
  rw [funext fun k => blk0 m c t r k, funext fun k => blk1 m c t k]
  rfl

theorem outQ_at (c : Dev nD) (t : Fin cfg0.N) (r : Fin 512) (a : Fin 1536) :
    (outsAt0 m c t).2.2 (ix2 r a) = outQ (V m c main_arg0) (V m c main_arg1) (V m c main_arg2) (ix2 (row t r) a) := by
  unfold outsAt0
  frame_out
  refine (pay3_at _ r a).trans ?_
  rw [View.readCov_eq_canon']
  refine Eq.trans (congrArg (View.canon _) (emb2 512 inb_S512x3072_S512x1536_0_512 r a ⟨512 + a.val, by omega⟩ rfl)) ?_
  exact (canon8 _ _ _ _ _ (ms0_5 t).view r _).trans (row_launch m c t r _)

theorem arr_at (c : Dev nD) : (dats m 0 c).arrAt 5 cfg0.N = out (V m c main_arg0) (V m c main_arg1) (V m c main_arg2) := by
  refine (dats m 0 c).arrAt_eq_of_covers 5 _ (by decide +kernel) fun t hf y => ?_
  blk_simp
  rw [after0_5]
  obtain ⟨r, k, rfl⟩ : ∃ (r : Fin 512) (k : Fin 3072), y = ix2 r k := ⟨y 0, y 1, by funext b; fin_cases b <;> rfl⟩
  refine (out_at m c t r k).trans ?_
  refine Eq.trans (b := out (V m c main_arg0) (V m c main_arg1) (V m c main_arg2) (ix2 (row t r) k)) rfl ?_
  refine congrArg (out _ _ _) (funext fun a => Fin.ext ?_)
  fin_cases a
  · blk_simp [idx t]
    rfl
  · blk_simp [idx t]
    rfl

theorem arrT_at (c : Dev nD) : (dats m 0 c).arrAt 6 cfg0.N = outT (V m c main_arg0) (V m c main_arg1) := by
  refine (dats m 0 c).arrAt_eq_of_covers 6 _ (by decide +kernel) fun t hf y => ?_
  blk_simp
  rw [after0_6]
  obtain ⟨e, r, rfl⟩ : ∃ (e : Fin 1024) (r : Fin 512), y = ix2 e r := ⟨y 0, y 1, by funext b; fin_cases b <;> rfl⟩
  refine (outT_at m c t e r).trans ?_
  show _ = _
  refine congrArg (outT _ _) (funext fun a => Fin.ext ?_)
  fin_cases a
  · blk_simp [idx t]
    rfl
  · blk_simp [idx t]
    rfl

theorem arrQ_at (c : Dev nD) : (dats m 0 c).arrAt 7 cfg0.N = outQ (V m c main_arg0) (V m c main_arg1) (V m c main_arg2) := by
  refine (dats m 0 c).arrAt_eq_of_covers 7 _ (by decide +kernel) fun t hf y => ?_
  blk_simp
  rw [after0_7]
  obtain ⟨r, a, rfl⟩ : ∃ (r : Fin 512) (a : Fin 1536), y = ix2 r a := ⟨y 0, y 1, by funext b; fin_cases b <;> rfl⟩
  refine (outQ_at m c t r a).trans ?_
  show _ = _
  refine congrArg (outQ _ _ _) (funext fun a => Fin.ext ?_)
  fin_cases a
  · blk_simp [idx t]
    rfl
  · blk_simp [idx t]
    rfl

end Cert.ProjFwd

end
-- ==== Proof.Proj.ProjFwdAgree.lean ====
/- The first projection with its rotated columns and its transposed norm: the kernel's and the reference's are one. -/
module

public import proofs.«01_k».proof.Proof.Proj.ProjFwd
public import proofs.«01_k».proof.Proof.Gen.Reference12Ideal.Run
public import proofs.«01_k».proof.Proof.Gen.Reference12Ideal.Read
public import proofs.«01_k».proof.Defs
public import Idealize.ShloMosaic.Lib.Quiescent
public import Idealize.ShloMosaic.Lib.Claim

@[expose] public section

noncomputable section

namespace Cert.ProjFwd

open Idealize.ShloMosaic Idealize.ShloMosaic.Pointwise Idealize.SL.Sem
open Cert.InFwd (nrm)
open Cert.Ret (scale opp cosT sinT hd rope)

/-- A table's row turns a row of a head as the rotation does. -/
theorem rope_turn (x : Fin 8192 → Fin 512 → EReal) (s : Fin 8192) (h : Fin 4) (d : Fin 128) :
    rope x s h d = x s (hd h d) * cs s d + x s (hd h (opp d)) * sn s d := by
  unfold rope cs sn
  by_cases c : d.val < 64
  · rw [if_pos c, if_pos c, if_pos c, mul_neg, ← sub_eq_add_neg]
  · rw [if_neg c, if_neg c, if_neg c, add_comm]

section
open Cert.Reference12Ideal Cert.Reference12Ideal.Gen Cert.Reference12Ideal.Read

variable (x0 : (⟨S8192x1024, .f32⟩ : BufTy).Contents (Elt Ideal)) (x1 : (⟨S1x1024, .f32⟩ : BufTy).Contents (Elt Ideal))
    (x2 : (⟨S4x1024x768, .bf16⟩ : BufTy).Contents (Elt Ideal)) (s : Fin 8192)

theorem ref_nrm (e : Fin 1024) :
    val_main_v11 x0 x1 (ix2 s e) = nrm (fun k => x0 (ix2 s k)) (fun k => x1 (ix2 0 k)) e := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

theorem ref_w (k : Fin 1024) (p : Fin 4) (a : Fin 768) : val_main_v14 x2 (ix2 k (pcol p a)) = x2 (ix3 p k a) := by
  pointwise [val_main_v14, val_main_v13, val_main_v12]
  exact congrArg₂ (fun p a => x2 (ix3 p k a)) (Fin.ext (by dsimp only; omega)) (Fin.ext (by dsimp only; omega))

theorem ref_v15 (b : Fin 3072) : val_main_v15 x0 x1 x2 (ix2 s b) = ∑ k : Fin 1024, HMul.hMul (α := EReal) (β := EReal) (val_main_v11 x0 x1 (ix2 s k)) (val_main_v14 x2 (ix2 k b)) := by
  pointwise [val_main_v15]

theorem ref_t (e : Fin 1024) : val_main_v80 x0 x1 (ix2 e s) = nrm (fun k => x0 (ix2 s k)) (fun k => x1 (ix2 0 k)) e := by
  refine Eq.trans ?_ (ref_nrm x0 x1 s e)
  pointwise [val_main_v80, val_main_v79]

theorem ref_line (b : Fin 3072) : val_main_v15 x0 x1 x2 (ix2 s b) = cell (fun k => x0 (ix2 s k)) (fun k => x1 (ix2 0 k)) (fun p k a => x2 (ix3 p k a)) b := by
  obtain ⟨p, a, rfl⟩ : ∃ (p : Fin 4) (a : Fin 768), b = pcol p a :=
    ⟨⟨b.val / 768, by omega⟩, ⟨b.val % 768, by omega⟩, Fin.ext (by simp only [pcol]; omega)⟩
  refine (ref_v15 x0 x1 x2 s _).trans (Eq.trans ?_ (cell_at _ _ _ p a).symm)
  refine Finset.sum_congr rfl fun k _ => ?_
  rw [ref_nrm, ref_w]

theorem ref_q (h : Fin 4) (d : Fin 128) : val_main_v55 x0 x1 x2 (ix4 0 s h d)
    = rope (fun s l => val_main_v15 x0 x1 x2 (ix2 s ⟨512 + l.val, by omega⟩)) s h d := by
  refine Eq.trans ?_ (Ret.rope_read (fun s l => val_main_v15 x0 x1 x2 (ix2 s ⟨512 + l.val, by omega⟩)) s h d)
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v20, val_main_v17, val_main_cst_2, val_main_cst_3]

theorem ref_k (h : Fin 4) (d : Fin 128) : val_main_v73 x0 x1 x2 (ix4 0 s h d)
    = rope (fun s l => val_main_v15 x0 x1 x2 (ix2 s ⟨1024 + l.val, by omega⟩)) s h d := by
  refine Eq.trans ?_ (Ret.rope_read (fun s l => val_main_v15 x0 x1 x2 (ix2 s ⟨1024 + l.val, by omega⟩)) s h d)
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v18, val_main_cst_2, val_main_cst_3]

/-- The four groups of columns, one beside the other. -/
theorem ref_cat (k : Fin 3072) : val_main_v78 x0 x1 x2 (ix2 s k)
    = if h : k.val < 512 then val_main_v16 x0 x1 x2 (ix2 s ⟨k.val, h⟩)
      else if h' : k.val - 512 < 512 then val_main_v76 x0 x1 x2 (ix2 s ⟨k.val - 512, h'⟩)
      else if h'' : k.val - 512 - 512 < 512 then val_main_v77 x0 x1 x2 (ix2 s ⟨k.val - 512 - 512, h''⟩)
      else val_main_v19 x0 x1 x2 (ix2 s ⟨k.val - 512 - 512 - 512, by omega⟩) := by
  pointwise [val_main_v78]

theorem ref_16 (k : Fin 512) : val_main_v16 x0 x1 x2 (ix2 s k) = val_main_v15 x0 x1 x2 (ix2 s ⟨k.val, by omega⟩) := by
  pointwise [val_main_v16]

theorem ref_19 (k : Fin 1536) : val_main_v19 x0 x1 x2 (ix2 s k) = val_main_v15 x0 x1 x2 (ix2 s ⟨1536 + k.val, by omega⟩) := by
  pointwise [val_main_v19]

theorem ref_76 (h : Fin 4) (d : Fin 128) : val_main_v76 x0 x1 x2 (ix2 s (hd h d)) = val_main_v55 x0 x1 x2 (ix4 0 s h d) := by
  pointwise [val_main_v76]
  exact congrArg₂ (fun (a : Fin 4) (b : Fin 128) => val_main_v55 x0 x1 x2 (ix4 0 s a b)) (Fin.ext (by dsimp only; omega)) (Fin.ext (by dsimp only; omega))

theorem ref_77 (h : Fin 4) (d : Fin 128) : val_main_v77 x0 x1 x2 (ix2 s (hd h d)) = HMul.hMul (α := EReal) (β := EReal) (val_main_v73 x0 x1 x2 (ix4 0 s h d)) scale := by
  pointwise [val_main_v77, val_main_v75, val_main_v74, val_main_cst_4]
  exact congrArg₂ (fun (a : Fin 4) (b : Fin 128) => HMul.hMul (α := EReal) (β := EReal) (val_main_v73 x0 x1 x2 (ix4 0 s a b)) scale) (Fin.ext (by dsimp only; omega)) (Fin.ext (by dsimp only; omega))

theorem ref_at (k : Fin 3072) : val_main_v78 x0 x1 x2 (ix2 s k) = proj x0 x1 x2 s k := by
  unfold proj
  rw [ref_cat]
  have hl := fun b => ref_line x0 x1 x2 s b
  by_cases h1 : k.val < 512
  · rw [dif_pos h1, turned_out _ _ _ _ _ (by omega), ref_16, hl]
  rw [dif_neg h1]
  by_cases h2 : k.val - 512 < 512
  · rw [dif_pos h2]
    obtain ⟨h, d, e⟩ : ∃ (h : Fin 4) (d : Fin 128), (⟨k.val - 512, h2⟩ : Fin 512) = hd h d :=
      ⟨⟨(k.val - 512) / 128, by omega⟩, ⟨(k.val - 512) % 128, by omega⟩, Fin.ext (by show k.val - 512 = (k.val - 512) / 128 * 128 + (k.val - 512) % 128; omega)⟩
    have ev : k.val - 512 = h.val * 128 + d.val := congrArg Fin.val e
    rw [e, ref_76, ref_q, rope_turn, turned_in 8 _ _ _ h.val (by omega) (by omega) d k (by omega)]
    unfold turn
    rw [if_pos h.isLt, hl, hl]
    refine congrArg₂ (fun a b : EReal => a * _ + b * _) (congrArg _ (Fin.ext ?_)) (congrArg _ (Fin.ext ?_))
    · show 512 + (h.val * 128 + d.val) = 512 + 128 * h.val + d.val; omega
    · show 512 + (h.val * 128 + (opp d).val) = 512 + 128 * h.val + (opp d).val; omega
  rw [dif_neg h2]
  by_cases h3 : k.val - 512 - 512 < 512
  · rw [dif_pos h3]
    obtain ⟨h, d, e⟩ : ∃ (h : Fin 4) (d : Fin 128), (⟨k.val - 512 - 512, h3⟩ : Fin 512) = hd h d :=
      ⟨⟨(k.val - 512 - 512) / 128, by omega⟩, ⟨(k.val - 512 - 512) % 128, by omega⟩, Fin.ext (by show k.val - 512 - 512 = (k.val - 512 - 512) / 128 * 128 + (k.val - 512 - 512) % 128; omega)⟩
    have ev : k.val - 512 - 512 = h.val * 128 + d.val := congrArg Fin.val e
    rw [e, ref_77, ref_k, rope_turn, turned_in 8 _ _ _ (4 + h.val) (by omega) (by omega) d k (by omega)]
    unfold turn
    rw [if_neg (by omega), hl, hl]
    refine congrArg₂ (fun a b : EReal => (a * _ + b * _) * scale) (congrArg _ (Fin.ext ?_)) (congrArg _ (Fin.ext ?_))
    · show 1024 + (h.val * 128 + d.val) = 512 + 128 * (4 + h.val) + d.val; omega
    · show 1024 + (h.val * 128 + (opp d).val) = 512 + 128 * (4 + h.val) + (opp d).val; omega
  rw [dif_neg h3, turned_out _ _ _ _ _ (by omega), ref_19, hl]
  exact congrArg _ (Fin.ext (by dsimp only; omega))

theorem ref_82 (a : Fin 1536) : @Eq EReal (val_main_v82 x0 x1 x2 (ix2 s a)) (val_main_v78 x0 x1 x2 (ix2 s ⟨512 + a.val, by omega⟩)) := by
  pointwise [val_main_v82, val_main_v81]

end

theorem reference_frame : Cert.quiescent_Reference12Ideal := by
  intro m g _
  exact (θ_run Cert.Reference12Ideal.defs _ _).mono (fun r h => ⟨fun c => (h c).2.2.2, sem_eq_zero_of_no_sems rfl _⟩) (Cert.Reference12Ideal.Value.run m g)

theorem agree : Cert.algebraic_Kernel12Ideal_Reference12Ideal := by
  intro m g m' g' _ hagree
  refine ⟨fun c => out (Cert.Kernel12Ideal.Gen.V m c Cert.Kernel12Ideal.main_arg0) (Cert.Kernel12Ideal.Gen.V m c Cert.Kernel12Ideal.main_arg1) (Cert.Kernel12Ideal.Gen.V m c Cert.Kernel12Ideal.main_arg2),
    fun c => outT (Cert.Kernel12Ideal.Gen.V m c Cert.Kernel12Ideal.main_arg0) (Cert.Kernel12Ideal.Gen.V m c Cert.Kernel12Ideal.main_arg1),
    fun c => outQ (Cert.Kernel12Ideal.Gen.V m c Cert.Kernel12Ideal.main_arg0) (Cert.Kernel12Ideal.Gen.V m c Cert.Kernel12Ideal.main_arg1) (Cert.Kernel12Ideal.Gen.V m c Cert.Kernel12Ideal.main_arg2), ?_, ?_⟩
  · exact (θ_run Cert.Kernel12Ideal.defs _ _).mono (fun r h c => ⟨(h c).1.trans (arr_at m c), (h c).2.1.trans (arrT_at m c), (h c).2.2.1.trans (arrQ_at m c), (h c).2.2.2⟩) (Cert.Kernel12Ideal.Value.run_blocks m g)
  have hv : ∀ c, Cert.Kernel12Ideal.Gen.V m c Cert.Kernel12Ideal.main_arg0 = m (c, Proc.tc.devRef Cert.Kernel12Ideal.main_arg0)
      ∧ Cert.Kernel12Ideal.Gen.V m c Cert.Kernel12Ideal.main_arg1 = m (c, Proc.tc.devRef Cert.Kernel12Ideal.main_arg1)
      ∧ Cert.Kernel12Ideal.Gen.V m c Cert.Kernel12Ideal.main_arg2 = m (c, Proc.tc.devRef Cert.Kernel12Ideal.main_arg2) := fun c => ⟨arg0_at m c, arg1_at m c, arg2_at m c⟩
  refine (θ_run Cert.Reference12Ideal.defs _ _).mono (fun r h c => ⟨(h c).1.trans ?_, (h c).2.1.trans ?_, (h c).2.2.1.trans ?_, (h c).2.2.2⟩) (Cert.Reference12Ideal.Value.run m' g')
  · obtain ⟨h0, h1, h2⟩ := hagree c
    rw [Cert.Reference12Ideal.Read.val_main_v78_eq, h0, h1, h2]
    beta_reduce
    rw [(hv c).1, (hv c).2.1, (hv c).2.2]
    funext i
    obtain ⟨s, k, rfl⟩ : ∃ (s : Fin 8192) (k : Fin 3072), i = ix2 s k := ⟨i 0, i 1, by funext b; fin_cases b <;> rfl⟩
    exact ref_at _ _ _ s k
  · obtain ⟨h0, h1, h2⟩ := hagree c
    rw [Cert.Reference12Ideal.Read.val_main_v80_eq, h0, h1]
    beta_reduce
    rw [(hv c).1, (hv c).2.1]
    funext i
    obtain ⟨e, s, rfl⟩ : ∃ (e : Fin 1024) (s : Fin 8192), i = ix2 e s := ⟨i 0, i 1, by funext b; fin_cases b <;> rfl⟩
    exact ref_t _ _ s e
  · obtain ⟨h0, h1, h2⟩ := hagree c
    rw [Cert.Reference12Ideal.Read.val_main_v82_eq, h0, h1, h2]
    beta_reduce
    rw [(hv c).1, (hv c).2.1, (hv c).2.2]
    funext i
    obtain ⟨s, a, rfl⟩ : ∃ (s : Fin 8192) (a : Fin 1536), i = ix2 s a := ⟨i 0, i 1, by funext b; fin_cases b <;> rfl⟩
    exact (ref_82 _ _ _ s a).trans (ref_at _ _ _ s _)

end Cert.ProjFwd

end
-- ==== Proof.Proj.MixDx.lean ====
/- The gradient of the mixers' projection and of the gated, standardised heads: what the kernel leaves, at an index. -/
module

public import proofs.«01_k».proof.Proof.Gen.Kernel13Ideal.Value
public import proofs.«01_k».proof.Proof.Ffn.OutDx
public import proofs.«01_k».proof.Proof.Ret.Tables
public import proofs.«01_k».proof.Proof.Proj.ProjFwd
public import Idealize.ShloMosaic.Lib.Pointwise
public import Idealize.ShloMosaic.Lib.Pipeline.ValueKit

@[expose] public section

noncomputable section

namespace Cert.MixDx

open Cert.Kernel13Ideal Cert.Kernel13Ideal.Gen Cert.Kernel13Ideal.Value Idealize.ShloMosaic Idealize.ShloMosaic.Pointwise Idealize.ShloMosaic.Pipeline Idealize.SL.Sem
open Cert.OutDx (sg)
open Cert.Ret (hd)
open Cert.ProjFwd (emb2)

/-- The mean of a head's row. -/
def mean (f : Fin 128 → EReal) : EReal := Ideal.div (∑ k, f k) (Ideal.ofBits FTy.f32 0x43000000#32)

/-- A row less its mean. -/
def ctr (a : Fin 128 → EReal) (d : Fin 128) : EReal := a d - mean a

/-- A row's variance, a small constant added. -/
def va (a : Fin 128 → EReal) : EReal := mean (fun k => ctr a k * ctr a k) + Ideal.ofBits FTy.f32 0x358637BD#32

/-- The reciprocal root of a row's variance. -/
def rs (a : Fin 128 → EReal) : EReal := Ideal.rsqrt (va a)

/-- A row, standardised. -/
def std (a : Fin 128 → EReal) (d : Fin 128) : EReal := ctr a d * rs a

/-- The gradient of a gate value, from the gradient `D` of the gated row. -/
def dGate (D a g : Fin 128 → EReal) (d : Fin 128) : EReal := D d * std a d * (sg (g d) * (1 + g d * (1 - sg (g d))))

/-- The gradient of the standardised row. -/
def dN (D g : Fin 128 → EReal) (d : Fin 128) : EReal := D d * (g d * sg (g d))

/-- The gradient of a row, from the gradient `n` of its standardised form. -/
def dRow (n a : Fin 128 → EReal) (d : Fin 128) : EReal := rs a * ((n d - mean n) - std a d * mean (fun k => n k * std a k))

section
variable (x : Vec Ideal S512x1024 .f32) (D : FVec Ideal S512x128 .f32) (a g : Vec Ideal S512x128 .f32) (r : Fin 512) (d : Fin 128)

theorem pay4_at (w : Vec Ideal S128x1024 .bf16) : k0_pay4 (F := Ideal) x w (ix2 r d) = ∑ k : Fin 1024, HMul.hMul (α := EReal) (β := EReal) (x (ix2 r k)) (w (ix2 d k)) := by
  pointwise [k0_pay4, k0_pay1]

theorem pay2_at (w : Vec Ideal S256x1024 .bf16) (b : Fin 256) : k0_pay2 (F := Ideal) x w (ix2 r b) = ∑ k : Fin 1024, HMul.hMul (α := EReal) (β := EReal) (x (ix2 r k)) (w (ix2 b k)) := by
  pointwise [k0_pay2, k0_pay1]

theorem pay3_at (w : Vec Ideal S256x1024 .bf16) (b : Fin 256) : k0_pay3 (F := Ideal) x w (ix2 r b) = ∑ k : Fin 1024, HMul.hMul (α := EReal) (β := EReal) (x (ix2 r k)) (w (ix2 b k)) := by
  pointwise [k0_pay3, k0_pay1]

/-- A head's gradient of the rows. -/
abbrev pA : FVec Ideal S512x128 .bf16 := k0_pay11 D (k0_pay6 a) (k0_pay7 a) g (k0_pay8 g) (Scalar.ofBits .f32 0x3F800000#32)

/-- A head's gradient of the gates. -/
abbrev pG : FVec Ideal S512x128 .bf16 := k0_pay10 D (k0_pay7 a) g (k0_pay8 g) (Scalar.ofBits .f32 0x3F800000#32)

theorem pay5_at : k0_pay5 (F := Ideal) a (ix2 r d) = ctr (fun e => a (ix2 r e)) d := by
  pointwise [k0_pay5]
  rfl

theorem pay6_at : k0_pay6 (F := Ideal) a (ix2 r 0) = rs (fun e => a (ix2 r e)) := by
  have h := fun e => pay5_at a r e
  pointwise [k0_pay6]
  simp only [h]
  rfl

theorem pay7_at : k0_pay7 (F := Ideal) a (ix2 r d) = std (fun e => a (ix2 r e)) d := by
  have h := pay5_at a r d
  have h' := pay6_at a r
  pointwise [k0_pay7]
  rw [h, h']
  rfl

theorem pay9_at : k0_pay9 (F := Ideal) (k0_pay8 g) (1 : EReal) (ix2 r d) = sg (g (ix2 r d)) := by
  pointwise [k0_pay9, k0_pay8]
  rw [zero_sub]
  rfl

theorem pG_at : pG D a g (ix2 r d) = dGate (fun e => D (ix2 r e)) (fun e => a (ix2 r e)) (fun e => g (ix2 r e)) d := by
  have h := pay7_at a r d
  have h' := pay9_at g r d
  pointwise [k0_pay10]
  rw [h, h']
  rfl

theorem pA_at : pA D a g (ix2 r d) = dRow (dN (fun e => D (ix2 r e)) (fun e => g (ix2 r e))) (fun e => a (ix2 r e)) d := by
  have h := fun e => pay7_at a r e
  have h' := fun e => pay9_at g r e
  have h'' := pay6_at a r
  pointwise [k0_pay11]
  simp only [h, h', h'']
  rfl

end

section
variable (x : Vec Ideal S512x1024 .f32) (w : Vec Ideal S128x1024 .bf16) (D : FVec Ideal S512x128 .f32) (a g : Vec Ideal S512x128 .f32)

theorem dA1 : k0_pay24 (k0_pay16 a (k0_pay13 a) (k0_pay14 (F := Ideal))) (k0_pay17 a (k0_pay13 a) (k0_pay14 (F := Ideal))) (k0_pay21 D g)
    (k0_pay22 D a (k0_pay13 a) (k0_pay14 (F := Ideal)) g) (k0_pay23 (F := Ideal)) = pA D a g := rfl
theorem dA2 : k0_pay34 D (k0_pay27 a) (k0_pay28 a) g (k0_pay29 g) = pA D a g := rfl
theorem dA3 : k0_pay43 D (k0_pay36 a) (k0_pay37 a) (k0_pay38 (F := Ideal)) g = pA D a g := rfl
theorem dG1 : k0_pay19 D a (k0_pay13 a) (k0_pay14 (F := Ideal)) g = pG D a g := rfl
theorem dG2 : k0_pay33 (k0_pay29 g) (k0_pay30 (k0_pay1 x) w a) (k0_pay31 g) (k0_pay32 (F := Ideal)) = pG (k0_pay4 x w) a g := rfl
theorem dG3 : k0_pay42 D (k0_pay36 a) (k0_pay37 a) (k0_pay38 (F := Ideal)) g = pG D a g := rfl
theorem m1 : k0_pay12 (k0_pay1 x) w = k0_pay4 x w := rfl
theorem m2 : k0_pay25 (k0_pay1 x) w = k0_pay4 x w := rfl
theorem m3 : k0_pay35 (k0_pay1 x) w = k0_pay4 x w := rfl

end

/-- A place of the heads' gradient of the rows. -/
def cellA (D : Fin 1024 → EReal) (a g : Fin 512 → EReal) (k : Fin 512) : EReal :=
  dRow (dN (fun e => D ⟨256 + (k.val / 128 * 128 + e.val), by omega⟩) (fun e => g ⟨k.val / 128 * 128 + e.val, by omega⟩))
    (fun e => a ⟨k.val / 128 * 128 + e.val, by omega⟩) ⟨k.val % 128, Nat.mod_lt _ (by decide)⟩

/-- A place of the heads' gradient of the gates. -/
def cellG (D : Fin 1024 → EReal) (a g : Fin 512 → EReal) (k : Fin 512) : EReal :=
  dGate (fun e => D ⟨256 + (k.val / 128 * 128 + e.val), by omega⟩) (fun e => a ⟨k.val / 128 * 128 + e.val, by omega⟩)
    (fun e => g ⟨k.val / 128 * 128 + e.val, by omega⟩) ⟨k.val % 128, Nat.mod_lt _ (by decide)⟩

/-- The column of the mixed row that a head's lane takes. -/
abbrev mcol (h : Fin 4) (d : Fin 128) : Fin 1024 := ⟨256 + (h.val * 128 + d.val), by omega⟩

section
variable (D : Fin 1024 → EReal) (a g : Fin 512 → EReal) (h : Fin 4) (d : Fin 128)

theorem cellA_at : cellA D a g (hd h d) = dRow (dN (fun e => D (mcol h e)) (fun e => g (hd h e))) (fun e => a (hd h e)) d := by
  have hq : (h.val * 128 + d.val) / 128 = h.val := by omega
  have hr : (h.val * 128 + d.val) % 128 = d.val := by omega
  simp only [cellA, hd, mcol, hq, hr]

theorem cellG_at : cellG D a g (hd h d) = dGate (fun e => D (mcol h e)) (fun e => a (hd h e)) (fun e => g (hd h e)) d := by
  have hq : (h.val * 128 + d.val) / 128 = h.val := by omega
  have hr : (h.val * 128 + d.val) % 128 = d.val := by omega
  simp only [cellG, hd, mcol, hq, hr]

end

section
variable (x0 : Vec Ideal S512x1024 .f32) (x1 : Vec Ideal S1024x1024 .bf16) (x2 x3 : Vec Ideal S512x512 .f32)

/-- The mixed row's gradient. -/
def dm (r : Fin 512) (c : Fin 1024) : EReal := ∑ k : Fin 1024, HMul.hMul (α := EReal) (β := EReal) (x0 (ix2 r k)) (x1 (ix2 c k))

theorem ld0 : View.ld x0 r0_0 = x0 := by
  funext i
  refine View.ld_unit_apply_of x0 _ _ _ _ i fun a => ?_
  fin_cases a <;> exact (Nat.zero_add _).symm

theorem ldw {n : ℕ} (o : ℕ) (inb) (a : Fin n) (k : Fin 1024) (c : Fin 1024) (hc : c.val = o + a.val) :
    View.ld x1 (Rect.unit (s := S1024x1024) ![o, 0] ![n, 1024] inb) (ix2 a k) = x1 (ix2 c k) := by
  refine View.ld_unit_apply_of x1 _ _ _ _ (ix2 c k) fun b => ?_
  fin_cases b
  · exact hc
  · exact (Nat.zero_add _).symm

theorem lda (h : Fin 4) (o : ℕ) (inb) (ho : o = h.val * 128) (r : Fin 512) (d : Fin 128) :
    View.ld x2 (Rect.unit (s := S512x512) ![0, o] ![512, 128] inb) (ix2 r d) = x2 (ix2 r (hd h d)) := by
  subst ho
  refine View.ld_unit_apply_of x2 _ _ _ _ (ix2 r (hd h d)) fun b => ?_
  fin_cases b
  · exact (Nat.zero_add _).symm
  · rfl

/-- A place of the block of the rows' gradient. -/
def blockA (y : S512x512.Idx) : EReal := cellA (dm x0 x1 (y 0)) (fun k => x2 (ix2 (y 0) k)) (fun k => x3 (ix2 (y 0) k)) (y 1)

/-- A place of the block of the gates' gradient. -/
def blockG (y : S512x512.Idx) : EReal := cellG (dm x0 x1 (y 0)) (fun k => x2 (ix2 (y 0) k)) (fun k => x3 (ix2 (y 0) k)) (y 1)

theorem rowD (h : Fin 4) (ow : ℕ) (inbw) (hw : ow = 256 + h.val * 128) (r : Fin 512) (e : Fin 128) :
    k0_pay4 (F := Ideal) (View.ld x0 r0_0) (View.ld x1 (Rect.unit (s := S1024x1024) ![ow, 0] ![128, 1024] inbw)) (ix2 r e) = dm x0 x1 r (mcol h e) := by
  rw [ld0]
  refine (pay4_at _ r e _).trans (Finset.sum_congr rfl fun k _ => ?_)
  rw [ldw x1 ow inbw e k (mcol h e) (by simp only [mcol]; omega)]

theorem pieceA (h : Fin 4) (o ow : ℕ) (inb inbw) (ho : o = h.val * 128) (hw : ow = 256 + h.val * 128) (y : S512x128.Idx) :
    pA (k0_pay4 (View.ld x0 r0_0) (View.ld x1 (Rect.unit (s := S1024x1024) ![ow, 0] ![128, 1024] inbw)))
      (View.ld x2 (Rect.unit (s := S512x512) ![0, o] ![512, 128] inb)) (View.ld x3 (Rect.unit (s := S512x512) ![0, o] ![512, 128] inb)) y
      = blockA x0 x1 x2 x3 ((Rect.unit (s := S512x512) ![0, o] ![512, 128] inb).emb y) := by
  obtain ⟨r, d, rfl⟩ : ∃ (r : Fin 512) (d : Fin 128), y = ix2 r d := ⟨y 0, y 1, by funext b; fin_cases b <;> rfl⟩
  refine Eq.trans ?_ (congrArg (blockA x0 x1 x2 x3) (emb2 o inb r d (hd h d) (by show h.val * 128 + d.val = o + d.val; omega))).symm
  refine Eq.trans ?_ (cellA_at _ _ _ h d).symm
  refine (pA_at _ _ _ r d).trans ?_
  exact congrArg₂ (fun n a => dRow n a d) (congrArg₂ dN (funext fun e => rowD x0 x1 h ow inbw hw r e) (funext fun e => lda x3 h o inb ho r e)) (funext fun e => lda x2 h o inb ho r e)

theorem pieceG (h : Fin 4) (o ow : ℕ) (inb inbw) (ho : o = h.val * 128) (hw : ow = 256 + h.val * 128) (y : S512x128.Idx) :
    pG (k0_pay4 (View.ld x0 r0_0) (View.ld x1 (Rect.unit (s := S1024x1024) ![ow, 0] ![128, 1024] inbw)))
      (View.ld x2 (Rect.unit (s := S512x512) ![0, o] ![512, 128] inb)) (View.ld x3 (Rect.unit (s := S512x512) ![0, o] ![512, 128] inb)) y
      = blockG x0 x1 x2 x3 ((Rect.unit (s := S512x512) ![0, o] ![512, 128] inb).emb y) := by
  obtain ⟨r, d, rfl⟩ : ∃ (r : Fin 512) (d : Fin 128), y = ix2 r d := ⟨y 0, y 1, by funext b; fin_cases b <;> rfl⟩
  refine Eq.trans ?_ (congrArg (blockG x0 x1 x2 x3) (emb2 o inb r d (hd h d) (by show h.val * 128 + d.val = o + d.val; omega))).symm
  refine Eq.trans ?_ (cellG_at _ _ _ h d).symm
  refine (pG_at _ _ _ r d).trans ?_
  exact (congrArg₂ (fun n a => dGate n a _ d) (funext fun e => rowD x0 x1 h ow inbw hw r e) (funext fun e => lda x2 h o inb ho r e)).trans
    (congrArg (fun g => dGate _ _ g d) (funext fun e => lda x3 h o inb ho r e))

theorem outA_at (y : S512x512.Idx) : out0_5 x0 x1 x2 x3 y = blockA x0 x1 x2 x3 y := by
  unfold_out out0_5
  rw [dA1, dA2, dA3, m1, m2, m3]
  refine View.canon_apply_of_pieces (Val := Elt Ideal) (e := .bf16) (blockA x0 x1 x2 x3) _ ?_ y ?_
  swap
  · exact cover0_5 _ _ _ _ y
  refine List.forall_mem_cons.mpr ⟨pieceA x0 x1 x2 x3 3 384 640 inb_S512x512_S512x128_0_384 inb_S1024x1024_S128x1024_640_0 rfl rfl, ?_⟩
  refine List.forall_mem_cons.mpr ⟨pieceA x0 x1 x2 x3 2 256 512 inb_S512x512_S512x128_0_256 inb_S1024x1024_S128x1024_512_0 rfl rfl, ?_⟩
  refine List.forall_mem_cons.mpr ⟨pieceA x0 x1 x2 x3 1 128 384 inb_S512x512_S512x128_0_128 inb_S1024x1024_S128x1024_384_0 rfl rfl, ?_⟩
  refine List.forall_mem_cons.mpr ⟨pieceA x0 x1 x2 x3 0 0 256 inb_S512x512_S512x128_0_0 inb_S1024x1024_S128x1024_256_0 rfl rfl, ?_⟩
  exact fun _ h => absurd h List.not_mem_nil

theorem outG_at (y : S512x512.Idx) : out0_6 x0 x1 x2 x3 y = blockG x0 x1 x2 x3 y := by
  unfold_out out0_6
  rw [dG1, dG2, dG3, m1, m3]
  refine View.canon_apply_of_pieces (Val := Elt Ideal) (e := .bf16) (blockG x0 x1 x2 x3) _ ?_ y ?_
  swap
  · exact cover0_6 _ _ _ _ y
  refine List.forall_mem_cons.mpr ⟨pieceG x0 x1 x2 x3 3 384 640 inb_S512x512_S512x128_0_384 inb_S1024x1024_S128x1024_640_0 rfl rfl, ?_⟩
  refine List.forall_mem_cons.mpr ⟨pieceG x0 x1 x2 x3 2 256 512 inb_S512x512_S512x128_0_256 inb_S1024x1024_S128x1024_512_0 rfl rfl, ?_⟩
  refine List.forall_mem_cons.mpr ⟨pieceG x0 x1 x2 x3 1 128 384 inb_S512x512_S512x128_0_128 inb_S1024x1024_S128x1024_384_0 rfl rfl, ?_⟩
  refine List.forall_mem_cons.mpr ⟨pieceG x0 x1 x2 x3 0 0 256 inb_S512x512_S512x128_0_0 inb_S1024x1024_S128x1024_256_0 rfl rfl, ?_⟩
  exact fun _ h => absurd h List.not_mem_nil

theorem emb_out (r : Fin 512) (b : Fin 256) : r0_2.emb (ix2 r b) = ix2 r b := by
  funext a
  apply Fin.ext
  refine (Rect.idx_unit_val _ _ _ _ a).trans ?_
  fin_cases a <;> exact Nat.zero_add _

theorem outM_at (r : Fin 512) (b : Fin 256) : out0_4 x0 x1 x2 x3 (ix2 r b) = dm x0 x1 r ⟨b.val, by omega⟩ := by
  have e1 := View.canon_cons_emb (Val := Elt Ideal) (e := .f32) r0_2 (k0_pay2 (View.ld x0 r0_0) (View.ld x1 r0_1)) [] (ix2 r b)
  rw [emb_out] at e1
  refine e1.trans ?_
  rw [ld0]
  refine (pay2_at _ r _ b).trans (Finset.sum_congr rfl fun k _ => ?_)
  exact congrArg _ (ldw x1 0 inb_S1024x1024_S256x1024_0_0 b k ⟨b.val, by omega⟩ (Nat.zero_add _).symm)

theorem outC_at (r : Fin 512) (b : Fin 256) : out0_7 x0 x1 x2 x3 (ix2 r b) = dm x0 x1 r ⟨768 + b.val, by omega⟩ := by
  have e1 := View.canon_cons_emb (Val := Elt Ideal) (e := .f32) r0_2 (k0_pay3 (View.ld x0 r0_0) (View.ld x1 r0_3)) [] (ix2 r b)
  rw [emb_out] at e1
  refine e1.trans ?_
  rw [ld0]
  refine (pay3_at _ r _ b).trans (Finset.sum_congr rfl fun k _ => ?_)
  exact congrArg _ (ldw x1 768 inb_S1024x1024_S256x1024_768_0 b k ⟨768 + b.val, by omega⟩ rfl)

end

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 4] ∧ win0_4.index t = ![t.val, 0] ∧ win0_5.index t = ![t.val, 0] ∧ win0_6.index t = ![t.val, 0]
    ∧ win0_7.index t = ![t.val, 0] := by decide +kernel

/-- Row `r` of block `t`. -/
abbrev row (t : Fin 16) (r : Fin 512) : Fin 8192 := ⟨t.val * 512 + r.val, by omega⟩

theorem blk0 (c : Dev nD) (t : Fin 16) (r : Fin 512) (k : Fin 1024) : iblk m c 0 t (ix2 r k) = V m c main_arg0 (ix2 (row t r) k) := by
  blk_ext [iblk, idx t]

theorem blk1 (c : Dev nD) (t : Fin 16) (a k : Fin 1024) : iblk m c 1 t (ix2 a k) = V m c main_arg1 (ix2 a k) := by
  blk_ext [iblk, idx t]

theorem blk2 (c : Dev nD) (t : Fin 16) (r k : Fin 512) : iblk m c 2 t (ix2 r k) = V m c main_arg2 (ix2 (row t r) k) := by
  blk_ext [iblk, idx t]

theorem blk3 (c : Dev nD) (t : Fin 16) (r k : Fin 512) : iblk m c 3 t (ix2 r k) = V m c main_arg3 (ix2 (row t r) ⟨2048 + k.val, by omega⟩) := by
  blk_ext [iblk, idx t]

/-- The mixed row's gradient, from the whole arrays. -/
def dM (dy : S8192x1024.Idx → EReal) (w : S1024x1024.Idx → EReal) (s : Fin 8192) (c : Fin 1024) : EReal := ∑ k : Fin 1024, dy (ix2 s k) * w (ix2 c k)

/-- A place of the first 256 columns' gradient. -/
def outM (dy : S8192x1024.Idx → EReal) (w : S1024x1024.Idx → EReal) (j : S8192x256.Idx) : EReal := dM dy w (j 0) ⟨(j 1).val, lt_of_lt_of_le (j 1).isLt (by decide)⟩

/-- A place of the last 256 columns' gradient. -/
def outC (dy : S8192x1024.Idx → EReal) (w : S1024x1024.Idx → EReal) (j : S8192x256.Idx) : EReal := dM dy w (j 0) ⟨768 + (j 1).val, Nat.add_lt_add_left (show (j 1).val < 256 from (j 1).isLt) 768⟩

/-- A place of the rows' gradient. -/
def outA (dy : S8192x1024.Idx → EReal) (w : S1024x1024.Idx → EReal) (a : S8192x512.Idx → EReal) (p : S8192x3072.Idx → EReal) (j : S8192x512.Idx) : EReal :=
  cellA (dM dy w (j 0)) (fun k => a (ix2 (j 0) k)) (fun k => p (ix2 (j 0) ⟨2048 + k.val, by omega⟩)) (j 1)

/-- A place of the gates' gradient. -/
def outG (dy : S8192x1024.Idx → EReal) (w : S1024x1024.Idx → EReal) (a : S8192x512.Idx → EReal) (p : S8192x3072.Idx → EReal) (j : S8192x512.Idx) : EReal :=
  cellG (dM dy w (j 0)) (fun k => a (ix2 (j 0) k)) (fun k => p (ix2 (j 0) ⟨2048 + k.val, by omega⟩)) (j 1)

theorem dm_launch (c : Dev nD) (t : Fin 16) (r : Fin 512) : dm (iblk m c 0 t) (iblk m c 1 t) r = dM (V m c main_arg0) (V m c main_arg1) (row t r) := by
  funext b
  refine Finset.sum_congr rfl fun k _ => ?_
  rw [blk0, blk1]

theorem a_launch (c : Dev nD) (t : Fin 16) (r k : Fin 512) : blockA (iblk m c 0 t) (iblk m c 1 t) (iblk m c 2 t) (iblk m c 3 t) (ix2 r k)
    = outA (V m c main_arg0) (V m c main_arg1) (V m c main_arg2) (V m c main_arg3) (ix2 (row t r) k) := by
  show cellA (dm (iblk m c 0 t) (iblk m c 1 t) r) (fun k => iblk m c 2 t (ix2 r k)) (fun k => iblk m c 3 t (ix2 r k)) k = _
  rw [dm_launch, funext fun k => blk2 m c t r k, funext fun k => blk3 m c t r k]
  rfl

theorem g_launch (c : Dev nD) (t : Fin 16) (r k : Fin 512) : blockG (iblk m c 0 t) (iblk m c 1 t) (iblk m c 2 t) (iblk m c 3 t) (ix2 r k)
    = outG (V m c main_arg0) (V m c main_arg1) (V m c main_arg2) (V m c main_arg3) (ix2 (row t r) k) := by
  show cellG (dm (iblk m c 0 t) (iblk m c 1 t) r) (fun k => iblk m c 2 t (ix2 r k)) (fun k => iblk m c 3 t (ix2 r k)) k = _
  rw [dm_launch, funext fun k => blk2 m c t r k, funext fun k => blk3 m c t r k]
  rfl

theorem arrM_at (c : Dev nD) : (dats m 0 c).arrAt 4 cfg0.N = outM (V m c main_arg0) (V m c main_arg1) := by
  refine (dats m 0 c).arrAt_eq_of_covers 4 _ (by decide +kernel) fun t hf y => ?_
  blk_simp
  rw [after0_4]
  obtain ⟨r, b, rfl⟩ : ∃ (r : Fin 512) (b : Fin 256), y = ix2 r b := ⟨y 0, y 1, by funext b; fin_cases b <;> rfl⟩
  refine (outM_at _ _ _ _ r b).trans ?_
  refine (congrFun (dm_launch m c t r) _).trans ?_
  refine Eq.trans (b := outM (V m c main_arg0) (V m c main_arg1) (ix2 (row t r) b)) rfl ?_
  refine congrArg (outM _ _) (funext fun a => Fin.ext ?_)
  fin_cases a
  · blk_simp [idx t]
    rfl
  · blk_simp [idx t]
    rfl

theorem arrC_at (c : Dev nD) : (dats m 0 c).arrAt 7 cfg0.N = outC (V m c main_arg0) (V m c main_arg1) := by
  refine (dats m 0 c).arrAt_eq_of_covers 7 _ (by decide +kernel) fun t hf y => ?_
  blk_simp
  rw [after0_7]
  obtain ⟨r, b, rfl⟩ : ∃ (r : Fin 512) (b : Fin 256), y = ix2 r b := ⟨y 0, y 1, by funext b; fin_cases b <;> rfl⟩
  refine (outC_at _ _ _ _ r b).trans ?_
  refine (congrFun (dm_launch m c t r) _).trans ?_
  refine Eq.trans (b := outC (V m c main_arg0) (V m c main_arg1) (ix2 (row t r) b)) rfl ?_
  refine congrArg (outC _ _) (funext fun a => Fin.ext ?_)
  fin_cases a
  · blk_simp [idx t]
    rfl
  · blk_simp [idx t]
    rfl

theorem arrA_at (c : Dev nD) : (dats m 0 c).arrAt 5 cfg0.N = outA (V m c main_arg0) (V m c main_arg1) (V m c main_arg2) (V m c main_arg3) := by
  refine (dats m 0 c).arrAt_eq_of_covers 5 _ (by decide +kernel) fun t hf y => ?_
  blk_simp
  rw [after0_5]
  obtain ⟨r, k, rfl⟩ : ∃ (r k : Fin 512), y = ix2 r k := ⟨y 0, y 1, by funext b; fin_cases b <;> rfl⟩
  refine (outA_at _ _ _ _ _).trans ((a_launch m c t r k).trans ?_)
  refine congrArg (outA _ _ _ _) (funext fun a => Fin.ext ?_)
  fin_cases a
  · blk_simp [idx t]
    rfl
  · blk_simp [idx t]
    rfl

theorem arrG_at (c : Dev nD) : (dats m 0 c).arrAt 6 cfg0.N = outG (V m c main_arg0) (V m c main_arg1) (V m c main_arg2) (V m c main_arg3) := by
  refine (dats m 0 c).arrAt_eq_of_covers 6 _ (by decide +kernel) fun t hf y => ?_
  blk_simp
  rw [after0_6]
  obtain ⟨r, k, rfl⟩ : ∃ (r k : Fin 512), y = ix2 r k := ⟨y 0, y 1, by funext b; fin_cases b <;> rfl⟩
  refine (outG_at _ _ _ _ _).trans ((g_launch m c t r k).trans ?_)
  refine congrArg (outG _ _ _ _) (funext fun a => Fin.ext ?_)
  fin_cases a
  · blk_simp [idx t]
    rfl
  · blk_simp [idx t]
    rfl

end Cert.MixDx

end
-- ==== Proof.Proj.MixDxAgree.lean ====
/- The gradient of the mixers' projection and of the gated, standardised heads: the kernel's and the reference's are one
   where the arguments are finite. -/
module

public import proofs.«01_k».proof.Proof.Proj.MixDx
public import proofs.«01_k».proof.Proof.Ffn.Finite
public import proofs.«01_k».proof.Proof.Proj.PreFacts
public import proofs.«01_k».proof.Proof.Gen.Reference13Ideal.Run
public import proofs.«01_k».proof.Proof.Gen.Reference13Ideal.Read
public import proofs.«01_k».proof.Defs
public import Idealize.ShloMosaic.Lib.Quiescent
public import Idealize.ShloMosaic.Lib.Claim

@[expose] public section

noncomputable section

namespace Cert.MixDx

open Idealize.ShloMosaic Idealize.ShloMosaic.Pointwise Idealize.SL.Sem Cert.Fin
open Cert.OutDx (sg)
open Cert.Ret (hd)

theorem k128 : Ideal.ofBits FTy.f32 0x43000000#32 = ((128 : ℝ) : EReal) := by
  simp [Ideal.ofBits, Ideal.ieee, -EReal.coe_mul]; norm_num

theorem ktwo : Ideal.ofBits FTy.f32 0x40000000#32 = ((2 : ℝ) : EReal) := by
  simp [Ideal.ofBits, Ideal.ieee, -EReal.coe_mul]; norm_num

/-- The reference's gradient of a gate value, from the gradient `p` of the gate's part. -/
def gateR (p g : EReal) : EReal := p * sg g + g * p * (sg g * (1 - sg g))

/-- The reference's gradient of a row's variance, divided by the row's length. -/
def cR (n a : Fin 128 → EReal) : EReal :=
  Ideal.div ((∑ k, ctr a k * n k) * (Ideal.ofBits FTy.f32 0xBF000000#32 * Ideal.div (rs a) (va a))) (Ideal.ofBits FTy.f32 0x43000000#32)

/-- The reference's gradient of a row. -/
def rowR (n a : Fin 128 → EReal) (d : Fin 128) : EReal :=
  (n d * rs a + cR n a * (Ideal.ofBits FTy.f32 0x40000000#32 * ctr a d))
    + Ideal.div ((∑ k, -(n k * rs a)) + ∑ k, -(cR n a * (Ideal.ofBits FTy.f32 0x40000000#32 * ctr a k))) (Ideal.ofBits FTy.f32 0x43000000#32)

theorem mean_coe (f : Fin 128 → ℝ) : mean (fun k => (f k : EReal)) = (((∑ k, f k) / 128 : ℝ) : EReal) := by
  rw [mean, k128, coe_sum, div_real (by norm_num)]

/-- The row's gradient over the reals. -/
theorem real_eq (n x : Fin 128 → ℝ) (hx : ∑ k, x k = 0) (r v : ℝ) (h : r * r * v = 1) (hv : v ≠ 0) (d : Fin 128) :
    n d * r + (∑ k, x k * n k) * (-(1 / 2) * (r / v)) / 128 * (2 * x d)
      + ((∑ k, -(n k * r)) + ∑ k, -((∑ k, x k * n k) * (-(1 / 2) * (r / v)) / 128 * (2 * x k))) / 128
    = r * (n d - (∑ k, n k) / 128 - x d * r * ((∑ k, n k * (x k * r)) / 128)) := by
  have e : r / v = r * r * r := by rw [div_eq_iff hv]; linear_combination -r * h
  have s1 : ∑ k, -(n k * r) = -((∑ k, n k) * r) := by rw [Finset.sum_neg_distrib, Finset.sum_mul]
  have s2 : ∑ k, -((∑ k, x k * n k) * (-(1 / 2) * (r / v)) / 128 * (2 * x k)) = 0 := by
    rw [Finset.sum_neg_distrib, ← Finset.mul_sum, ← Finset.mul_sum, hx, mul_zero, mul_zero, neg_zero]
  have s3 : ∑ k, n k * (x k * r) = (∑ k, x k * n k) * r := by
    rw [Finset.sum_mul]
    exact Finset.sum_congr rfl fun k _ => by ring
  rw [s1, s2, s3, e]
  ring

theorem row_eq {n a : Fin 128 → EReal} (hn : ∀ k, Real? (n k)) (ha : ∀ k, Real? (a k)) (d : Fin 128) : rowR n a d = dRow n a d := by
  choose n' hn' using hn
  choose a' ha' using ha
  obtain rfl : n = fun k => (n' k : EReal) := funext hn'
  obtain rfl : a = fun k => (a' k : EReal) := funext ha'
  obtain ⟨x, hx⟩ : ∃ x : Fin 128 → ℝ, x = fun k => a' k - (∑ j, a' j) / 128 := ⟨_, rfl⟩
  have hc : ctr (fun k => (a' k : EReal)) = fun k => (x k : EReal) := by
    funext k
    rw [ctr, mean_coe, ← EReal.coe_sub, hx]
  have hs : ∑ k, x k = 0 := by
    rw [hx, Finset.sum_sub_distrib, Finset.sum_const, Finset.card_univ, Fintype.card_fin, nsmul_eq_mul]
    push_cast
    ring
  obtain ⟨e, he, hk⟩ := keps
  obtain ⟨v, hv⟩ : ∃ v : ℝ, v = (∑ k, x k * x k) / 128 + e := ⟨_, rfl⟩
  have hp : 0 < v := by
    rw [hv]
    exact add_pos_of_nonneg_of_pos (div_nonneg (Finset.sum_nonneg fun k _ => mul_self_nonneg _) (by norm_num)) he
  have h1 : va (fun k => (a' k : EReal)) = (v : EReal) := by
    rw [va, hc, hk, hv]
    simp only [← EReal.coe_mul]
    rw [mean_coe, ← EReal.coe_add]
  have h2 : rs (fun k => (a' k : EReal)) = (((Real.sqrt v)⁻¹ : ℝ) : EReal) := by rw [rs, h1, rsqrt_pos hp]
  have h3 : rowR (fun k => (n' k : EReal)) (fun k => (a' k : EReal)) d = ((n' d * (Real.sqrt v)⁻¹ + (∑ k, x k * n' k) * (-(1 / 2) * ((Real.sqrt v)⁻¹ / v)) / 128 * (2 * x d)
      + ((∑ k, -(n' k * (Real.sqrt v)⁻¹)) + ∑ k, -((∑ k, x k * n' k) * (-(1 / 2) * ((Real.sqrt v)⁻¹ / v)) / 128 * (2 * x k))) / 128 : ℝ) : EReal) := by
    simp only [rowR, cR, hc, h1, h2, khalf, k128, ktwo, ← EReal.coe_mul, coe_sum, div_real hp.ne', div_real (show (128 : ℝ) ≠ 0 by norm_num), ← EReal.coe_neg, ← EReal.coe_add]
  have h4 : dRow (fun k => (n' k : EReal)) (fun k => (a' k : EReal)) d
      = (((Real.sqrt v)⁻¹ * (n' d - (∑ k, n' k) / 128 - x d * (Real.sqrt v)⁻¹ * ((∑ k, n' k * (x k * (Real.sqrt v)⁻¹)) / 128)) : ℝ) : EReal) := by
    simp only [dRow, std, hc, h2, ← EReal.coe_mul, mean_coe, ← EReal.coe_sub]
  rw [h3, h4]
  exact congrArg _ (real_eq n' x hs _ v (rsqrt_sq hp) hp.ne' d)

theorem gate_eq' {D n g s : EReal} (hD : Real? D) (hn : Real? n) (hg : Real? g) (hs : Real? s) :
    n * D * s + g * (n * D) * (s * (1 - s)) = D * n * (s * (1 + g * (1 - s))) := by
  obtain ⟨D, rfl⟩ := hD; obtain ⟨n, rfl⟩ := hn; obtain ⟨g, rfl⟩ := hg; obtain ⟨s, rfl⟩ := hs
  rw [← EReal.coe_one]
  simp only [← EReal.coe_mul, ← EReal.coe_add, ← EReal.coe_sub]
  exact congrArg _ (by ring)

theorem std_real {a : Fin 128 → EReal} (ha : ∀ k, Real? (a k)) (d : Fin 128) : Real? (std a d) := by
  choose a' ha' using ha
  obtain rfl : a = fun k => (a' k : EReal) := funext ha'
  have hc : ctr (fun k => (a' k : EReal)) = fun k => ((a' k - (∑ j, a' j) / 128 : ℝ) : EReal) := by
    funext k
    rw [ctr, mean_coe, ← EReal.coe_sub]
  obtain ⟨e, he, hk⟩ := keps
  have h1 : va (fun k => (a' k : EReal)) = (((∑ k, (a' k - (∑ j, a' j) / 128) * (a' k - (∑ j, a' j) / 128)) / 128 + e : ℝ) : EReal) := by
    rw [va, hc, hk]
    simp only [← EReal.coe_mul]
    rw [mean_coe, ← EReal.coe_add]
  rw [std, hc, rs, h1, rsqrt_pos (add_pos_of_nonneg_of_pos (div_nonneg (Finset.sum_nonneg fun k _ => mul_self_nonneg _) (by norm_num)) he)]
  exact (Real?.coe _).mul (Real?.coe _)

theorem sg_real {g : EReal} : Real? g → Real? (sg g) := by
  rintro ⟨r, rfl⟩
  exact ⟨_, Ideal.logistic_coe r⟩

section
open Cert.Reference13Ideal Cert.Reference13Ideal.Gen Cert.Reference13Ideal.Read

variable (x0 : (⟨S8192x1024, .f32⟩ : BufTy).Contents (Elt Ideal)) (x1 : (⟨S1024x1024, .bf16⟩ : BufTy).Contents (Elt Ideal))
    (x2 : (⟨S8192x512, .f32⟩ : BufTy).Contents (Elt Ideal)) (x3 : (⟨S8192x3072, .f32⟩ : BufTy).Contents (Elt Ideal)) (s : Fin 8192)

theorem ref_32 (c : Fin 1024) : val_main_v32 x0 x1 (ix2 s c) = dM x0 x1 s c := by
  pointwise [val_main_v32, val_main_v29]
  rfl

theorem ref_33 (b : Fin 256) : val_main_v33 x0 x1 (ix2 s b) = val_main_v32 x0 x1 (ix2 s ⟨b.val, by omega⟩) := by
  pointwise [val_main_v33]

theorem ref_35 (b : Fin 256) : val_main_v35 x0 x1 (ix2 s b) = val_main_v32 x0 x1 (ix2 s ⟨768 + b.val, by omega⟩) := by
  pointwise [val_main_v35]

theorem ref_34 (h : Fin 4) (d : Fin 128) : val_main_v34 x0 x1 (ix2 s (hd h d)) = val_main_v32 x0 x1 (ix2 s (mcol h d)) := by
  pointwise [val_main_v34]

theorem ref_1 (k : Fin 512) : val_main_v1 x3 (ix2 s k) = x3 (ix2 s ⟨2048 + k.val, by omega⟩) := by
  pointwise [val_main_v1]

theorem ref_2 (h : Fin 4) (d : Fin 128) : val_main_v2 x2 (ix3 s h d) = x2 (ix2 s (hd h d)) := by
  pointwise [val_main_v2]

theorem ref_26 (h : Fin 4) (d : Fin 128) : val_main_v26 x2 (ix2 s (hd h d)) = val_main_v25 x2 (ix3 s h d) := by
  pointwise [val_main_v26]
  exact congrArg₂ (fun (a : Fin 4) (b : Fin 128) => val_main_v25 x2 (ix3 s a b)) (Fin.ext (by dsimp only; omega)) (Fin.ext (by dsimp only; omega))

theorem ref_39 (h : Fin 4) (d : Fin 128) : val_main_v39 x0 x1 x3 (ix3 s h d) = val_main_v37 x0 x1 x3 (ix2 s (hd h d)) := by
  pointwise [val_main_v39]

theorem ref_64 (h : Fin 4) (d : Fin 128) : val_main_v64 x0 x1 x2 x3 (ix2 s (hd h d)) = val_main_v63 x0 x1 x2 x3 (ix3 s h d) := by
  pointwise [val_main_v64]
  exact congrArg₂ (fun (a : Fin 4) (b : Fin 128) => val_main_v63 x0 x1 x2 x3 (ix3 s a b)) (Fin.ext (by dsimp only; omega)) (Fin.ext (by dsimp only; omega))

theorem ref_8 (h : Fin 4) (d : Fin 128) : val_main_v8 x2 (ix3 s h d) = ctr (fun e => val_main_v2 x2 (ix3 s h e)) d := by
  pointwise [val_main_v8, val_main_v7, val_main_v6, val_main_v5, val_main_v4, val_main_v3, val_main_cst_0, val_main_cst_1]
  rfl

theorem ref_17 (h : Fin 4) (d : Fin 128) : val_main_v17 x2 (ix3 s h d) = ctr (fun e => val_main_v2 x2 (ix3 s h e)) d := by
  pointwise [val_main_v17, val_main_v16, val_main_v6, val_main_v5, val_main_v4, val_main_v3, val_main_cst_0, val_main_cst_1]
  rfl

theorem ref_19 (h : Fin 4) : val_main_v19 x2 (ix3 s h 0) = va (fun e => val_main_v2 x2 (ix3 s h e)) := by
  have e := fun d => ref_8 x2 s h d
  pointwise [val_main_v19, val_main_v18, val_main_v15, val_main_v14, val_main_v13, val_main_v12, val_main_v9, val_main_cst_3, val_main_cst_4, val_main_cst_5]
  simp only [e]
  rfl

theorem ref_20 (h : Fin 4) : val_main_v20 x2 (ix3 s h 0) = rs (fun e => val_main_v2 x2 (ix3 s h e)) := by
  have e := ref_19 x2 s h
  pointwise [val_main_v20]
  rw [e]
  rfl

theorem ref_25 (h : Fin 4) (d : Fin 128) : val_main_v25 x2 (ix3 s h d) = std (fun e => val_main_v2 x2 (ix3 s h e)) d := by
  have e := ref_20 x2 s h
  have e' := ref_17 x2 s h d
  pointwise [val_main_v25, val_main_v24]
  rw [e, e']
  rfl

theorem ref_50 (h : Fin 4) : val_main_v50 x0 x1 x2 x3 (ix3 s h 0) = cR (fun e => val_main_v39 x0 x1 x3 (ix3 s h e)) (fun e => val_main_v2 x2 (ix3 s h e)) := by
  have e := ref_20 x2 s h
  have e' := fun d => ref_17 x2 s h d
  have e'' := ref_19 x2 s h
  pointwise [val_main_v50, val_main_v49, val_main_v45, val_main_v42, val_main_v41, val_main_v40, val_main_v23, val_main_v22, val_main_v21, val_main_cst_6, val_main_cst_7, val_main_cst_9]
  simp only [e, e', e'']
  rfl

theorem ref_52 (h : Fin 4) (d : Fin 128) : val_main_v52 x0 x1 x2 x3 (ix3 s h d) = val_main_v50 x0 x1 x2 x3 (ix3 s h 0) := by
  pointwise [val_main_v52, val_main_v51, val_main_cst_10]
  exact Fin.sum_univ_one _

theorem ref_44 (h : Fin 4) (d : Fin 128) : val_main_v44 x0 x1 x2 x3 (ix3 s h d)
    = HMul.hMul (α := EReal) (β := EReal) (val_main_v39 x0 x1 x3 (ix3 s h d)) (rs (fun e => val_main_v2 x2 (ix3 s h e))) := by
  have e := ref_20 x2 s h
  pointwise [val_main_v44, val_main_v43]
  rw [e]

theorem ref_53 (h : Fin 4) (d : Fin 128) : val_main_v53 x0 x1 x2 x3 (ix3 s h d)
    = cR (fun e => val_main_v39 x0 x1 x3 (ix3 s h e)) (fun e => val_main_v2 x2 (ix3 s h e)) * (Ideal.ofBits FTy.f32 0x40000000#32 * ctr (fun e => val_main_v2 x2 (ix3 s h e)) d) := by
  have e := (ref_52 x0 x1 x2 x3 s h d).trans (ref_50 x0 x1 x2 x3 s h)
  have e' := ref_8 x2 s h d
  pointwise [val_main_v53, val_main_v11, val_main_v10, val_main_cst_2]
  rw [e, e']

theorem ref_63 (h : Fin 4) (d : Fin 128) : val_main_v63 x0 x1 x2 x3 (ix3 s h d)
    = rowR (fun e => val_main_v39 x0 x1 x3 (ix3 s h e)) (fun e => val_main_v2 x2 (ix3 s h e)) d := by
  have e := fun d => ref_44 x0 x1 x2 x3 s h d
  have e' := fun d => ref_53 x0 x1 x2 x3 s h d
  pointwise [val_main_v63, val_main_v62, val_main_v61, val_main_v60, val_main_v59, val_main_v58, val_main_v57, val_main_v56, val_main_v55, val_main_v54,
    val_main_v48, val_main_v47, val_main_v46, val_main_cst_8, val_main_cst_11, val_main_cst_12, val_main_cst_13]
  simp only [e, e']
  exact congrArg _ (Fin.sum_univ_one _)

theorem ref_37 (k : Fin 512) : val_main_v37 x0 x1 x3 (ix2 s k)
    = HMul.hMul (α := EReal) (β := EReal) (val_main_v34 x0 x1 (ix2 s k)) (HMul.hMul (α := EReal) (β := EReal) (val_main_v1 x3 (ix2 s k)) (sg (val_main_v1 x3 (ix2 s k)))) := by
  pointwise [val_main_v37, val_main_v27_0, val_main_v27_2, val_main_call0_v4, val_main_call0_v3, val_main_call0_v2, val_main_call0_v1, val_main_call0_v0, val_main_call0_cst, val_main_call0_cst_0]
  rfl

theorem ref_38 (k : Fin 512) : val_main_v38 x0 x1 x2 x3 (ix2 s k)
    = gateR (HMul.hMul (α := EReal) (β := EReal) (val_main_v26 x2 (ix2 s k)) (val_main_v34 x0 x1 (ix2 s k))) (val_main_v1 x3 (ix2 s k)) := by
  pointwise [val_main_v38, val_main_call1_v2, val_main_call1_v1, val_main_call1_v0, val_main_v36, val_main_v27_2, val_main_v27_1, val_main_call0_v7, val_main_call0_v6,
    val_main_call0_v4, val_main_call0_v3, val_main_call0_v2, val_main_call0_v1, val_main_call0_v0, val_main_call0_cst, val_main_call0_cst_0, val_main_call0_cst_1]
  rfl

theorem ref_65 (k : Fin 512) : @Eq EReal (val_main_v65 x0 x1 x2 x3 (ix2 s k)) (val_main_v64 x0 x1 x2 x3 (ix2 s k)) := by
  pointwise [val_main_v65]

theorem ref_66 (k : Fin 512) : @Eq EReal (val_main_v66 x0 x1 x2 x3 (ix2 s k)) (val_main_v38 x0 x1 x2 x3 (ix2 s k)) := by
  pointwise [val_main_v66]

theorem ref_n (h : Fin 4) : (fun e => val_main_v39 x0 x1 x3 (ix3 s h e))
    = dN (fun e => dM x0 x1 s (mcol h e)) (fun e => x3 (ix2 s ⟨2048 + (hd h e).val, by omega⟩)) := by
  funext e
  rw [ref_39, ref_37, ref_34, ref_32, ref_1]
  rfl

theorem dM_real (h0 : ∀ i, Real? (x0 i)) (h1 : ∀ i, Real? (x1 i)) (c : Fin 1024) : Real? (dM x0 x1 s c) := Real?.sum fun _ => (h0 _).mul (h1 _)

theorem ref_A (h0 : ∀ i, Real? (x0 i)) (h1 : ∀ i, Real? (x1 i)) (h2 : ∀ i, Real? (x2 i)) (h3 : ∀ i, Real? (x3 i)) (k : Fin 512) :
    @Eq EReal (val_main_v65 x0 x1 x2 x3 (ix2 s k)) (outA x0 x1 x2 x3 (ix2 s k)) := by
  obtain ⟨h, d, rfl⟩ : ∃ (h : Fin 4) (d : Fin 128), k = hd h d :=
    ⟨⟨k.val / 128, by omega⟩, ⟨k.val % 128, by omega⟩, Fin.ext (by show k.val = k.val / 128 * 128 + k.val % 128; omega)⟩
  refine (ref_65 x0 x1 x2 x3 s _).trans ((ref_64 x0 x1 x2 x3 s h d).trans ((ref_63 x0 x1 x2 x3 s h d).trans (Eq.trans ?_ (cellA_at _ _ _ h d).symm)))
  rw [ref_n, funext fun e => ref_2 x2 s h e]
  exact row_eq (fun e => (dM_real x0 x1 s h0 h1 _).mul ((h3 _).mul (sg_real (h3 _)))) (fun e => h2 _) d

theorem ref_G (h0 : ∀ i, Real? (x0 i)) (h1 : ∀ i, Real? (x1 i)) (h2 : ∀ i, Real? (x2 i)) (h3 : ∀ i, Real? (x3 i)) (k : Fin 512) :
    @Eq EReal (val_main_v66 x0 x1 x2 x3 (ix2 s k)) (outG x0 x1 x2 x3 (ix2 s k)) := by
  obtain ⟨h, d, rfl⟩ : ∃ (h : Fin 4) (d : Fin 128), k = hd h d :=
    ⟨⟨k.val / 128, by omega⟩, ⟨k.val % 128, by omega⟩, Fin.ext (by show k.val = k.val / 128 * 128 + k.val % 128; omega)⟩
  refine (ref_66 x0 x1 x2 x3 s _).trans ((ref_38 x0 x1 x2 x3 s _).trans (Eq.trans ?_ (cellG_at _ _ _ h d).symm))
  rw [ref_26, ref_25, funext fun e => ref_2 x2 s h e, ref_34, ref_32, ref_1]
  exact gate_eq' (dM_real x0 x1 s h0 h1 _) (std_real (fun e => h2 _) d) (h3 _) (sg_real (h3 _))

end

theorem reference_frame : Cert.quiescent_Reference13Ideal := by
  intro m g _
  exact (θ_run Cert.Reference13Ideal.defs _ _).mono (fun r h => ⟨fun c => (h c).2.2.2.2, sem_eq_zero_of_no_sems rfl _⟩) (Cert.Reference13Ideal.Value.run m g)

theorem agree : Cert.algebraic_Kernel13Ideal_Reference13Ideal_pre_finite13 := by
  intro m g m' g' hpre hagree
  refine ⟨fun c => outM (Cert.Kernel13Ideal.Gen.V m c Cert.Kernel13Ideal.main_arg0) (Cert.Kernel13Ideal.Gen.V m c Cert.Kernel13Ideal.main_arg1), fun c => outA (Cert.Kernel13Ideal.Gen.V m c Cert.Kernel13Ideal.main_arg0) (Cert.Kernel13Ideal.Gen.V m c Cert.Kernel13Ideal.main_arg1) (Cert.Kernel13Ideal.Gen.V m c Cert.Kernel13Ideal.main_arg2) (Cert.Kernel13Ideal.Gen.V m c Cert.Kernel13Ideal.main_arg3),
    fun c => outG (Cert.Kernel13Ideal.Gen.V m c Cert.Kernel13Ideal.main_arg0) (Cert.Kernel13Ideal.Gen.V m c Cert.Kernel13Ideal.main_arg1) (Cert.Kernel13Ideal.Gen.V m c Cert.Kernel13Ideal.main_arg2) (Cert.Kernel13Ideal.Gen.V m c Cert.Kernel13Ideal.main_arg3), fun c => outC (Cert.Kernel13Ideal.Gen.V m c Cert.Kernel13Ideal.main_arg0) (Cert.Kernel13Ideal.Gen.V m c Cert.Kernel13Ideal.main_arg1), ?_, ?_⟩
  · exact (θ_run Cert.Kernel13Ideal.defs _ _).mono (fun r h c => ⟨(h c).1.trans (arrM_at m c), (h c).2.1.trans (arrA_at m c), (h c).2.2.1.trans (arrG_at m c), (h c).2.2.2.1.trans (arrC_at m c), (h c).2.2.2.2⟩)
      (Cert.Kernel13Ideal.Value.run_blocks m g)
  refine (θ_run Cert.Reference13Ideal.defs _ _).mono (fun r h c => ⟨(h c).1.trans ?_, (h c).2.1.trans ?_, (h c).2.2.1.trans ?_, (h c).2.2.2.1.trans ?_, (h c).2.2.2.2⟩) (Cert.Reference13Ideal.Value.run m' g')
  · obtain ⟨h0, h1, h2, h3⟩ := hagree c
    rw [Cert.Reference13Ideal.Read.val_main_v33_eq, h0, h1]
    funext i
    obtain ⟨s, b, rfl⟩ : ∃ (s : Fin 8192) (b : Fin 256), i = ix2 s b := ⟨i 0, i 1, by funext b; fin_cases b <;> rfl⟩
    exact (ref_33 _ _ s b).trans (ref_32 _ _ s _)
  · obtain ⟨h0, h1, h2, h3⟩ := hagree c
    obtain ⟨p0, p1, p2, p3⟩ := hpre c
    rw [Cert.Reference13Ideal.Read.val_main_v65_eq, h0, h1, h2, h3]
    funext i
    obtain ⟨s, k, rfl⟩ : ∃ (s : Fin 8192) (k : Fin 512), i = ix2 s k := ⟨i 0, i 1, by funext b; fin_cases b <;> rfl⟩
    exact ref_A _ _ _ _ s (fun i => of_cmp ((congrArg (Ideal.cmp .olt _) inf32.symm).trans (congrFun p0 i)))
      (fun i => of_cmp ((congrArg (Ideal.cmp .olt _) inf16.symm).trans (congrFun p1 i)))
      (fun i => of_cmp ((congrArg (Ideal.cmp .olt _) inf32.symm).trans (congrFun p2 i)))
      (fun i => of_cmp ((congrArg (Ideal.cmp .olt _) inf32.symm).trans (congrFun p3 i))) k
  · obtain ⟨h0, h1, h2, h3⟩ := hagree c
    obtain ⟨p0, p1, p2, p3⟩ := hpre c
    rw [Cert.Reference13Ideal.Read.val_main_v66_eq, h0, h1, h2, h3]
    funext i
    obtain ⟨s, k, rfl⟩ : ∃ (s : Fin 8192) (k : Fin 512), i = ix2 s k := ⟨i 0, i 1, by funext b; fin_cases b <;> rfl⟩
    exact ref_G _ _ _ _ s (fun i => of_cmp ((congrArg (Ideal.cmp .olt _) inf32.symm).trans (congrFun p0 i)))
      (fun i => of_cmp ((congrArg (Ideal.cmp .olt _) inf16.symm).trans (congrFun p1 i)))
      (fun i => of_cmp ((congrArg (Ideal.cmp .olt _) inf32.symm).trans (congrFun p2 i)))
      (fun i => of_cmp ((congrArg (Ideal.cmp .olt _) inf32.symm).trans (congrFun p3 i))) k
  · obtain ⟨h0, h1, h2, h3⟩ := hagree c
    rw [Cert.Reference13Ideal.Read.val_main_v35_eq, h0, h1]
    funext i
    obtain ⟨s, b, rfl⟩ : ∃ (s : Fin 8192) (b : Fin 256), i = ix2 s b := ⟨i 0, i 1, by funext b; fin_cases b <;> rfl⟩
    exact (ref_35 _ _ s b).trans (ref_32 _ _ s _)

end Cert.MixDx

end
-- ==== Proof.Adam.Step.lean ====
/- One step of the optimiser on one entry of a weight. -/
module

public import Idealize.ShloMosaic.Lib.Pointwise

@[expose] public section

noncomputable section

namespace Cert.Adam

open Idealize.ShloMosaic

/-- The new mean of the gradients, from the gradient and the old mean. -/
def mean (g m : EReal) : EReal := Ideal.ofBits FTy.f32 0x3F666666#32 * m + Ideal.ofBits FTy.f32 0x3DCCCCCD#32 * g

/-- The new mean of the gradients' squares, from the gradient and the old mean. -/
def square (g v : EReal) : EReal := Ideal.ofBits FTy.f32 0x3F7FBE77#32 * v + Ideal.ofBits FTy.f32 0x3A83126F#32 * (g * g)

/-- What is added to the weight: the mean over the root of the squares' mean, each with its bias taken out, and the decay. -/
def delta (g m v w : EReal) : EReal :=
  Ideal.ofBits FTy.f32 0xBA83126F#32
    * (Ideal.div (Ideal.div (mean g m) (Ideal.ofBits FTy.f32 0x3F26BD02#32))
        (Ideal.sqrt (Ideal.div (square g v) (Ideal.ofBits FTy.f32 0x3C231ACC#32)) + Ideal.ofBits FTy.f32 0x322BCC77#32)
      + Ideal.ofBits FTy.f32 0x3C23D70A#32 * w)

end Cert.Adam

end
-- ==== Proof.Adam.ProjIn.lean ====
/- The optimiser's step on the input projection's weight: the kernel's and the reference's are one. -/
module

public import proofs.«01_k».proof.Proof.Adam.Step
public import proofs.«01_k».proof.Proof.Gen.Kernel14Ideal.Value
public import proofs.«01_k».proof.Proof.Gen.Reference14Ideal.Run
public import proofs.«01_k».proof.Proof.Gen.Reference14Ideal.Read
public import proofs.«01_k».proof.Defs
public import Idealize.ShloMosaic.Lib.Pipeline.ValueKit
public import Idealize.ShloMosaic.Lib.Quiescent
public import Idealize.ShloMosaic.Lib.Claim

@[expose] public section

noncomputable section

namespace Cert.AdamProjIn

open Idealize.ShloMosaic Idealize.ShloMosaic.Pointwise Idealize.SL.Sem
open Cert.Adam (mean square delta)

section
open Cert.Kernel14Ideal Cert.Kernel14Ideal.Gen Cert.Kernel14Ideal.Value Idealize.ShloMosaic.Pipeline

section
variable (x0 x1 x2 x3 : Vec Ideal S512x768 .f32)

theorem ld0 : View.ld x0 r0_0 = x0 := by
  funext i
  refine View.ld_unit_apply_of x0 _ _ _ _ i fun a => ?_
  fin_cases a <;> exact (Nat.zero_add _).symm

theorem emb0 (y : S512x768.Idx) : r0_0.emb y = y := by
  funext b
  apply Fin.ext
  refine (Rect.idx_unit_val _ _ _ _ b).trans ?_
  fin_cases b <;> exact Nat.zero_add _

/-- A block stored whole reads what was stored. -/
theorem whole (p : Vec Ideal S512x768 .f32) (y : S512x768.Idx) : View.canon [⟨r0_0, p⟩] y = p y := by
  refine View.canon_apply_of_pieces (Val := Elt Ideal) (e := .f32) p _ ?_ y (cover0_4 p y)
  exact List.forall_mem_cons.mpr ⟨fun x => congrArg p (emb0 x).symm, fun _ h => absurd h List.not_mem_nil⟩

theorem out4_at (y : S512x768.Idx) : out0_4 x0 x1 x2 x3 y = delta (x1 y) (x2 y) (x3 y) (x0 y) := by
  refine (whole _ y).trans ?_
  rw [ld0, ld0, ld0, ld0]
  rfl

theorem out5_at (y : S512x768.Idx) : out0_5 x0 x1 x2 x3 y = mean (x1 y) (x2 y) := by
  refine (whole _ y).trans ?_
  rw [ld0, ld0]
  rfl

theorem out6_at (y : S512x768.Idx) : out0_6 x0 x1 x2 x3 y = square (x1 y) (x3 y) := by
  refine (whole _ y).trans ?_
  rw [ld0, ld0]
  rfl

theorem out7_at (y : S512x768.Idx) : out0_7 x0 x1 x2 x3 y = x1 y := by
  refine (whole _ y).trans ?_
  rw [ld0]

end

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

/-- Row `r` of block `t`. -/
abbrev row (t : Fin 4) (r : Fin 512) : Fin 2048 := ⟨t.val * 512 + r.val, by omega⟩

theorem blk0 (c : Dev nD) (t : Fin 4) (r : Fin 512) (e : Fin 768) :
    iblk m c 0 t (ix2 r e) = V m c main_arg0 (ix2 (row t r) e) := by
  blk_ext [iblk, idx t]

theorem blk1 (c : Dev nD) (t : Fin 4) (r : Fin 512) (e : Fin 768) :
    iblk m c 1 t (ix2 r e) = V m c main_arg1 (ix2 (row t r) e) := by
  blk_ext [iblk, idx t]

theorem blk2 (c : Dev nD) (t : Fin 4) (r : Fin 512) (e : Fin 768) :
    iblk m c 2 t (ix2 r e) = V m c main_arg2 (ix2 (row t r) e) := by
  blk_ext [iblk, idx t]

theorem blk3 (c : Dev nD) (t : Fin 4) (r : Fin 512) (e : Fin 768) :
    iblk m c 3 t (ix2 r e) = V m c main_arg3 (ix2 (row t r) e) := by
  blk_ext [iblk, idx t]

theorem arr4 (c : Dev nD) : (dats m 0 c).arrAt 4 cfg0.N = fun j => delta (V m c main_arg1 j) (V m c main_arg2 j) (V m c main_arg3 j) (V m c main_arg0 j) := by
  refine (dats m 0 c).arrAt_eq_of_covers 4 _ (by decide +kernel) fun t hf y => ?_
  blk_simp
  rw [after0_4]
  obtain ⟨r, e, rfl⟩ : ∃ (r : Fin 512) (e : Fin 768), y = ix2 r e := ⟨y 0, y 1, by funext b; fin_cases b <;> rfl⟩
  refine (out4_at _ _ _ _ _).trans ?_
  rw [blk1 m c t r e, blk2 m c t r e, blk3 m c t r e, blk0 m c t r e]
  refine congrArg (fun j => delta (V m c main_arg1 j) (V m c main_arg2 j) (V m c main_arg3 j) (V m c main_arg0 j)) (funext fun a => Fin.ext ?_)
  fin_cases a
  · blk_simp [idx t]
    rfl
  · blk_simp [idx t]
    rfl

theorem arr5 (c : Dev nD) : (dats m 0 c).arrAt 5 cfg0.N = fun j => mean (V m c main_arg1 j) (V m c main_arg2 j) := by
  refine (dats m 0 c).arrAt_eq_of_covers 5 _ (by decide +kernel) fun t hf y => ?_
  blk_simp
  rw [after0_5]
  obtain ⟨r, e, rfl⟩ : ∃ (r : Fin 512) (e : Fin 768), y = ix2 r e := ⟨y 0, y 1, by funext b; fin_cases b <;> rfl⟩
  refine (out5_at _ _ _ _ _).trans ?_
  rw [blk1 m c t r e, blk2 m c t r e]
  refine congrArg (fun j => mean (V m c main_arg1 j) (V m c main_arg2 j)) (funext fun a => Fin.ext ?_)
  fin_cases a
  · blk_simp [idx t]
    rfl
  · blk_simp [idx t]
    rfl

theorem arr6 (c : Dev nD) : (dats m 0 c).arrAt 6 cfg0.N = fun j => square (V m c main_arg1 j) (V m c main_arg3 j) := by
  refine (dats m 0 c).arrAt_eq_of_covers 6 _ (by decide +kernel) fun t hf y => ?_
  blk_simp
  rw [after0_6]
  obtain ⟨r, e, rfl⟩ : ∃ (r : Fin 512) (e : Fin 768), y = ix2 r e := ⟨y 0, y 1, by funext b; fin_cases b <;> rfl⟩
  refine (out6_at _ _ _ _ _).trans ?_
  rw [blk1 m c t r e, blk3 m c t r e]
  refine congrArg (fun j => square (V m c main_arg1 j) (V m c main_arg3 j)) (funext fun a => Fin.ext ?_)
  fin_cases a
  · blk_simp [idx t]
    rfl
  · blk_simp [idx t]
    rfl

theorem arr7 (c : Dev nD) : (dats m 0 c).arrAt 7 cfg0.N = V m c main_arg1 := by
  refine (dats m 0 c).arrAt_eq_of_covers 7 _ (by decide +kernel) fun t hf y => ?_
  blk_simp
  rw [after0_7]
  obtain ⟨r, e, rfl⟩ : ∃ (r : Fin 512) (e : Fin 768), y = ix2 r e := ⟨y 0, y 1, by funext b; fin_cases b <;> rfl⟩
  refine (out7_at _ _ _ _ _).trans ?_
  rw [blk1 m c t r e]
  refine congrArg (V m c main_arg1) (funext fun a => Fin.ext ?_)
  fin_cases a
  · blk_simp [idx t]
    rfl
  · blk_simp [idx t]
    rfl

end

theorem reference_frame : Cert.quiescent_Reference14Ideal := by
  intro m g _
  exact (θ_run Cert.Reference14Ideal.defs _ _).mono (fun r h => ⟨fun c => (h c).2.2.2.2, sem_eq_zero_of_no_sems rfl _⟩) (Cert.Reference14Ideal.Value.run m g)

section
open Cert.Kernel14Ideal Cert.Kernel14Ideal.Gen

theorem agree : Cert.algebraic_Kernel14Ideal_Reference14Ideal := by
  intro m g m' g' _ hagree
  refine ⟨fun c j => delta (V m c main_arg1 j) (V m c main_arg2 j) (V m c main_arg3 j) (V m c main_arg0 j), fun c j => mean (V m c main_arg1 j) (V m c main_arg2 j),
    fun c j => square (V m c main_arg1 j) (V m c main_arg3 j), fun c => V m c main_arg1, ?_, ?_⟩
  · exact (θ_run Cert.Kernel14Ideal.defs _ _).mono (fun r h c => ⟨(h c).1.trans (arr4 m c), (h c).2.1.trans (arr5 m c), (h c).2.2.1.trans (arr6 m c), (h c).2.2.2.1.trans (arr7 m c), (h c).2.2.2.2⟩)
      (Cert.Kernel14Ideal.Value.run_blocks m g)
  refine (θ_run Cert.Reference14Ideal.defs _ _).mono (fun r h c => ⟨(h c).1.trans ?_, (h c).2.1.trans ?_, (h c).2.2.1.trans ?_, (h c).2.2.2.1.trans (hagree c).2.1, (h c).2.2.2.2⟩) (Cert.Reference14Ideal.Value.run m' g')
  · obtain ⟨h0, h1, h2, h3⟩ := hagree c
    rw [Cert.Reference14Ideal.Read.val_main_v23_eq, h0, h1, h2, h3]
    rfl
  · obtain ⟨h0, h1, h2, h3⟩ := hagree c
    rw [Cert.Reference14Ideal.Read.val_main_v4_eq, h1, h2]
    rfl
  · obtain ⟨h0, h1, h2, h3⟩ := hagree c
    rw [Cert.Reference14Ideal.Read.val_main_v10_eq, h1, h3]
    rfl

end

end Cert.AdamProjIn

end
-- ==== Proof.Adam.ProjOut.lean ====
/- The optimiser's step on the output projection's weight: the kernel's and the reference's are one. -/
module

public import proofs.«01_k».proof.Proof.Adam.Step
public import proofs.«01_k».proof.Proof.Gen.Kernel15Ideal.Value
public import proofs.«01_k».proof.Proof.Gen.Reference15Ideal.Run
public import proofs.«01_k».proof.Proof.Gen.Reference15Ideal.Read
public import proofs.«01_k».proof.Defs
public import Idealize.ShloMosaic.Lib.Pipeline.ValueKit
public import Idealize.ShloMosaic.Lib.Quiescent
public import Idealize.ShloMosaic.Lib.Claim

@[expose] public section

noncomputable section

namespace Cert.AdamProjOut

open Idealize.ShloMosaic Idealize.ShloMosaic.Pointwise Idealize.SL.Sem
open Cert.Adam (mean square delta)

section
open Cert.Kernel15Ideal Cert.Kernel15Ideal.Gen Cert.Kernel15Ideal.Value Idealize.ShloMosaic.Pipeline

section
variable (x0 x1 x2 x3 : Vec Ideal S256x1024 .f32)

theorem ld0 : View.ld x0 r0_0 = x0 := by
  funext i
  refine View.ld_unit_apply_of x0 _ _ _ _ i fun a => ?_
  fin_cases a <;> exact (Nat.zero_add _).symm

theorem emb0 (y : S256x1024.Idx) : r0_0.emb y = y := by
  funext b
  apply Fin.ext
  refine (Rect.idx_unit_val _ _ _ _ b).trans ?_
  fin_cases b <;> exact Nat.zero_add _

/-- A block stored whole reads what was stored. -/
theorem whole (p : Vec Ideal S256x1024 .f32) (y : S256x1024.Idx) : View.canon [⟨r0_0, p⟩] y = p y := by
  refine View.canon_apply_of_pieces (Val := Elt Ideal) (e := .f32) p _ ?_ y (cover0_4 p y)
  exact List.forall_mem_cons.mpr ⟨fun x => congrArg p (emb0 x).symm, fun _ h => absurd h List.not_mem_nil⟩

theorem out4_at (y : S256x1024.Idx) : out0_4 x0 x1 x2 x3 y = delta (x1 y) (x2 y) (x3 y) (x0 y) := by
  refine (whole _ y).trans ?_
  rw [ld0, ld0, ld0, ld0]
  rfl

theorem out5_at (y : S256x1024.Idx) : out0_5 x0 x1 x2 x3 y = mean (x1 y) (x2 y) := by
  refine (whole _ y).trans ?_
  rw [ld0, ld0]
  rfl

theorem out6_at (y : S256x1024.Idx) : out0_6 x0 x1 x2 x3 y = square (x1 y) (x3 y) := by
  refine (whole _ y).trans ?_
  rw [ld0, ld0]
  rfl

theorem out7_at (y : S256x1024.Idx) : out0_7 x0 x1 x2 x3 y = x1 y := by
  refine (whole _ y).trans ?_
  rw [ld0]

end

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

/-- Row `r` of block `t`. -/
abbrev row (t : Fin 2) (r : Fin 256) : Fin 512 := ⟨t.val * 256 + r.val, by omega⟩

theorem blk0 (c : Dev nD) (t : Fin 2) (r : Fin 256) (e : Fin 1024) :
    iblk m c 0 t (ix2 r e) = V m c main_arg0 (ix2 (row t r) e) := by
  blk_ext [iblk, idx t]

theorem blk1 (c : Dev nD) (t : Fin 2) (r : Fin 256) (e : Fin 1024) :
    iblk m c 1 t (ix2 r e) = V m c main_arg1 (ix2 (row t r) e) := by
  blk_ext [iblk, idx t]

theorem blk2 (c : Dev nD) (t : Fin 2) (r : Fin 256) (e : Fin 1024) :
    iblk m c 2 t (ix2 r e) = V m c main_arg2 (ix2 (row t r) e) := by
  blk_ext [iblk, idx t]

theorem blk3 (c : Dev nD) (t : Fin 2) (r : Fin 256) (e : Fin 1024) :
    iblk m c 3 t (ix2 r e) = V m c main_arg3 (ix2 (row t r) e) := by
  blk_ext [iblk, idx t]

theorem arr4 (c : Dev nD) : (dats m 0 c).arrAt 4 cfg0.N = fun j => delta (V m c main_arg1 j) (V m c main_arg2 j) (V m c main_arg3 j) (V m c main_arg0 j) := by
  refine (dats m 0 c).arrAt_eq_of_covers 4 _ (by decide +kernel) fun t hf y => ?_
  blk_simp
  rw [after0_4]
  obtain ⟨r, e, rfl⟩ : ∃ (r : Fin 256) (e : Fin 1024), y = ix2 r e := ⟨y 0, y 1, by funext b; fin_cases b <;> rfl⟩
  refine (out4_at _ _ _ _ _).trans ?_
  rw [blk1 m c t r e, blk2 m c t r e, blk3 m c t r e, blk0 m c t r e]
  refine congrArg (fun j => delta (V m c main_arg1 j) (V m c main_arg2 j) (V m c main_arg3 j) (V m c main_arg0 j)) (funext fun a => Fin.ext ?_)
  fin_cases a
  · blk_simp [idx t]
    rfl
  · blk_simp [idx t]
    rfl

theorem arr5 (c : Dev nD) : (dats m 0 c).arrAt 5 cfg0.N = fun j => mean (V m c main_arg1 j) (V m c main_arg2 j) := by
  refine (dats m 0 c).arrAt_eq_of_covers 5 _ (by decide +kernel) fun t hf y => ?_
  blk_simp
  rw [after0_5]
  obtain ⟨r, e, rfl⟩ : ∃ (r : Fin 256) (e : Fin 1024), y = ix2 r e := ⟨y 0, y 1, by funext b; fin_cases b <;> rfl⟩
  refine (out5_at _ _ _ _ _).trans ?_
  rw [blk1 m c t r e, blk2 m c t r e]
  refine congrArg (fun j => mean (V m c main_arg1 j) (V m c main_arg2 j)) (funext fun a => Fin.ext ?_)
  fin_cases a
  · blk_simp [idx t]
    rfl
  · blk_simp [idx t]
    rfl

theorem arr6 (c : Dev nD) : (dats m 0 c).arrAt 6 cfg0.N = fun j => square (V m c main_arg1 j) (V m c main_arg3 j) := by
  refine (dats m 0 c).arrAt_eq_of_covers 6 _ (by decide +kernel) fun t hf y => ?_
  blk_simp
  rw [after0_6]
  obtain ⟨r, e, rfl⟩ : ∃ (r : Fin 256) (e : Fin 1024), y = ix2 r e := ⟨y 0, y 1, by funext b; fin_cases b <;> rfl⟩
  refine (out6_at _ _ _ _ _).trans ?_
  rw [blk1 m c t r e, blk3 m c t r e]
  refine congrArg (fun j => square (V m c main_arg1 j) (V m c main_arg3 j)) (funext fun a => Fin.ext ?_)
  fin_cases a
  · blk_simp [idx t]
    rfl
  · blk_simp [idx t]
    rfl

theorem arr7 (c : Dev nD) : (dats m 0 c).arrAt 7 cfg0.N = V m c main_arg1 := by
  refine (dats m 0 c).arrAt_eq_of_covers 7 _ (by decide +kernel) fun t hf y => ?_
  blk_simp
  rw [after0_7]
  obtain ⟨r, e, rfl⟩ : ∃ (r : Fin 256) (e : Fin 1024), y = ix2 r e := ⟨y 0, y 1, by funext b; fin_cases b <;> rfl⟩
  refine (out7_at _ _ _ _ _).trans ?_
  rw [blk1 m c t r e]
  refine congrArg (V m c main_arg1) (funext fun a => Fin.ext ?_)
  fin_cases a
  · blk_simp [idx t]
    rfl
  · blk_simp [idx t]
    rfl

end

theorem reference_frame : Cert.quiescent_Reference15Ideal := by
  intro m g _
  exact (θ_run Cert.Reference15Ideal.defs _ _).mono (fun r h => ⟨fun c => (h c).2.2.2.2, sem_eq_zero_of_no_sems rfl _⟩) (Cert.Reference15Ideal.Value.run m g)

section
open Cert.Kernel15Ideal Cert.Kernel15Ideal.Gen

theorem agree : Cert.algebraic_Kernel15Ideal_Reference15Ideal := by
  intro m g m' g' _ hagree
  refine ⟨fun c j => delta (V m c main_arg1 j) (V m c main_arg2 j) (V m c main_arg3 j) (V m c main_arg0 j), fun c j => mean (V m c main_arg1 j) (V m c main_arg2 j),
    fun c j => square (V m c main_arg1 j) (V m c main_arg3 j), fun c => V m c main_arg1, ?_, ?_⟩
  · exact (θ_run Cert.Kernel15Ideal.defs _ _).mono (fun r h c => ⟨(h c).1.trans (arr4 m c), (h c).2.1.trans (arr5 m c), (h c).2.2.1.trans (arr6 m c), (h c).2.2.2.1.trans (arr7 m c), (h c).2.2.2.2⟩)
      (Cert.Kernel15Ideal.Value.run_blocks m g)
  refine (θ_run Cert.Reference15Ideal.defs _ _).mono (fun r h c => ⟨(h c).1.trans ?_, (h c).2.1.trans ?_, (h c).2.2.1.trans ?_, (h c).2.2.2.1.trans (hagree c).2.1, (h c).2.2.2.2⟩) (Cert.Reference15Ideal.Value.run m' g')
  · obtain ⟨h0, h1, h2, h3⟩ := hagree c
    rw [Cert.Reference15Ideal.Read.val_main_v23_eq, h0, h1, h2, h3]
    rfl
  · obtain ⟨h0, h1, h2, h3⟩ := hagree c
    rw [Cert.Reference15Ideal.Read.val_main_v4_eq, h1, h2]
    rfl
  · obtain ⟨h0, h1, h2, h3⟩ := hagree c
    rw [Cert.Reference15Ideal.Read.val_main_v10_eq, h1, h3]
    rfl

end

end Cert.AdamProjOut

end
-- ==== Proof.Adam.FfnIn.lean ====
/- The optimiser's step on the SwiGLU layer's input weight: the kernel's and the reference's are one. -/
module

public import proofs.«01_k».proof.Proof.Adam.Step
public import proofs.«01_k».proof.Proof.Gen.Kernel16Ideal.Value
public import proofs.«01_k».proof.Proof.Gen.Reference16Ideal.Run
public import proofs.«01_k».proof.Proof.Gen.Reference16Ideal.Read
public import proofs.«01_k».proof.Defs
public import Idealize.ShloMosaic.Lib.Pipeline.ValueKit
public import Idealize.ShloMosaic.Lib.Quiescent
public import Idealize.ShloMosaic.Lib.Claim

@[expose] public section

noncomputable section

namespace Cert.AdamFfnIn

open Idealize.ShloMosaic Idealize.ShloMosaic.Pointwise Idealize.SL.Sem
open Cert.Adam (mean square delta)

section
open Cert.Kernel16Ideal Cert.Kernel16Ideal.Gen Cert.Kernel16Ideal.Value Idealize.ShloMosaic.Pipeline

section
variable (x0 x1 x2 x3 : Vec Ideal S256x1408 .f32)

theorem ld0 : View.ld x0 r0_0 = x0 := by
  funext i
  refine View.ld_unit_apply_of x0 _ _ _ _ i fun a => ?_
  fin_cases a <;> exact (Nat.zero_add _).symm

theorem emb0 (y : S256x1408.Idx) : r0_0.emb y = y := by
  funext b
  apply Fin.ext
  refine (Rect.idx_unit_val _ _ _ _ b).trans ?_
  fin_cases b <;> exact Nat.zero_add _

/-- A block stored whole reads what was stored. -/
theorem whole (p : Vec Ideal S256x1408 .f32) (y : S256x1408.Idx) : View.canon [⟨r0_0, p⟩] y = p y := by
  refine View.canon_apply_of_pieces (Val := Elt Ideal) (e := .f32) p _ ?_ y (cover0_4 p y)
  exact List.forall_mem_cons.mpr ⟨fun x => congrArg p (emb0 x).symm, fun _ h => absurd h List.not_mem_nil⟩

theorem out4_at (y : S256x1408.Idx) : out0_4 x0 x1 x2 x3 y = delta (x1 y) (x2 y) (x3 y) (x0 y) := by
  refine (whole _ y).trans ?_
  rw [ld0, ld0, ld0, ld0]
  rfl

theorem out5_at (y : S256x1408.Idx) : out0_5 x0 x1 x2 x3 y = mean (x1 y) (x2 y) := by
  refine (whole _ y).trans ?_
  rw [ld0, ld0]
  rfl

theorem out6_at (y : S256x1408.Idx) : out0_6 x0 x1 x2 x3 y = square (x1 y) (x3 y) := by
  refine (whole _ y).trans ?_
  rw [ld0, ld0]
  rfl

theorem out7_at (y : S256x1408.Idx) : out0_7 x0 x1 x2 x3 y = x1 y := by
  refine (whole _ y).trans ?_
  rw [ld0]

end

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

/-- Row `r` of block `t`. -/
abbrev row (t : Fin 8) (r : Fin 256) : Fin 2048 := ⟨t.val * 256 + r.val, by omega⟩

theorem blk0 (c : Dev nD) (t : Fin 8) (r : Fin 256) (e : Fin 1408) :
    iblk m c 0 t (ix2 r e) = V m c main_arg0 (ix2 (row t r) e) := by
  blk_ext [iblk, idx t]

theorem blk1 (c : Dev nD) (t : Fin 8) (r : Fin 256) (e : Fin 1408) :
    iblk m c 1 t (ix2 r e) = V m c main_arg1 (ix2 (row t r) e) := by
  blk_ext [iblk, idx t]

theorem blk2 (c : Dev nD) (t : Fin 8) (r : Fin 256) (e : Fin 1408) :
    iblk m c 2 t (ix2 r e) = V m c main_arg2 (ix2 (row t r) e) := by
  blk_ext [iblk, idx t]

theorem blk3 (c : Dev nD) (t : Fin 8) (r : Fin 256) (e : Fin 1408) :
    iblk m c 3 t (ix2 r e) = V m c main_arg3 (ix2 (row t r) e) := by
  blk_ext [iblk, idx t]

theorem arr4 (c : Dev nD) : (dats m 0 c).arrAt 4 cfg0.N = fun j => delta (V m c main_arg1 j) (V m c main_arg2 j) (V m c main_arg3 j) (V m c main_arg0 j) := by
  refine (dats m 0 c).arrAt_eq_of_covers 4 _ (by decide +kernel) fun t hf y => ?_
  blk_simp
  rw [after0_4]
  obtain ⟨r, e, rfl⟩ : ∃ (r : Fin 256) (e : Fin 1408), y = ix2 r e := ⟨y 0, y 1, by funext b; fin_cases b <;> rfl⟩
  refine (out4_at _ _ _ _ _).trans ?_
  rw [blk1 m c t r e, blk2 m c t r e, blk3 m c t r e, blk0 m c t r e]
  refine congrArg (fun j => delta (V m c main_arg1 j) (V m c main_arg2 j) (V m c main_arg3 j) (V m c main_arg0 j)) (funext fun a => Fin.ext ?_)
  fin_cases a
  · blk_simp [idx t]
    rfl
  · blk_simp [idx t]
    rfl

theorem arr5 (c : Dev nD) : (dats m 0 c).arrAt 5 cfg0.N = fun j => mean (V m c main_arg1 j) (V m c main_arg2 j) := by
  refine (dats m 0 c).arrAt_eq_of_covers 5 _ (by decide +kernel) fun t hf y => ?_
  blk_simp
  rw [after0_5]
  obtain ⟨r, e, rfl⟩ : ∃ (r : Fin 256) (e : Fin 1408), y = ix2 r e := ⟨y 0, y 1, by funext b; fin_cases b <;> rfl⟩
  refine (out5_at _ _ _ _ _).trans ?_
  rw [blk1 m c t r e, blk2 m c t r e]
  refine congrArg (fun j => mean (V m c main_arg1 j) (V m c main_arg2 j)) (funext fun a => Fin.ext ?_)
  fin_cases a
  · blk_simp [idx t]
    rfl
  · blk_simp [idx t]
    rfl

theorem arr6 (c : Dev nD) : (dats m 0 c).arrAt 6 cfg0.N = fun j => square (V m c main_arg1 j) (V m c main_arg3 j) := by
  refine (dats m 0 c).arrAt_eq_of_covers 6 _ (by decide +kernel) fun t hf y => ?_
  blk_simp
  rw [after0_6]
  obtain ⟨r, e, rfl⟩ : ∃ (r : Fin 256) (e : Fin 1408), y = ix2 r e := ⟨y 0, y 1, by funext b; fin_cases b <;> rfl⟩
  refine (out6_at _ _ _ _ _).trans ?_
  rw [blk1 m c t r e, blk3 m c t r e]
  refine congrArg (fun j => square (V m c main_arg1 j) (V m c main_arg3 j)) (funext fun a => Fin.ext ?_)
  fin_cases a
  · blk_simp [idx t]
    rfl
  · blk_simp [idx t]
    rfl

theorem arr7 (c : Dev nD) : (dats m 0 c).arrAt 7 cfg0.N = V m c main_arg1 := by
  refine (dats m 0 c).arrAt_eq_of_covers 7 _ (by decide +kernel) fun t hf y => ?_
  blk_simp
  rw [after0_7]
  obtain ⟨r, e, rfl⟩ : ∃ (r : Fin 256) (e : Fin 1408), y = ix2 r e := ⟨y 0, y 1, by funext b; fin_cases b <;> rfl⟩
  refine (out7_at _ _ _ _ _).trans ?_
  rw [blk1 m c t r e]
  refine congrArg (V m c main_arg1) (funext fun a => Fin.ext ?_)
  fin_cases a
  · blk_simp [idx t]
    rfl
  · blk_simp [idx t]
    rfl

end

theorem reference_frame : Cert.quiescent_Reference16Ideal := by
  intro m g _
  exact (θ_run Cert.Reference16Ideal.defs _ _).mono (fun r h => ⟨fun c => (h c).2.2.2.2, sem_eq_zero_of_no_sems rfl _⟩) (Cert.Reference16Ideal.Value.run m g)

section
open Cert.Kernel16Ideal Cert.Kernel16Ideal.Gen

theorem agree : Cert.algebraic_Kernel16Ideal_Reference16Ideal := by
  intro m g m' g' _ hagree
  refine ⟨fun c j => delta (V m c main_arg1 j) (V m c main_arg2 j) (V m c main_arg3 j) (V m c main_arg0 j), fun c j => mean (V m c main_arg1 j) (V m c main_arg2 j),
    fun c j => square (V m c main_arg1 j) (V m c main_arg3 j), fun c => V m c main_arg1, ?_, ?_⟩
  · exact (θ_run Cert.Kernel16Ideal.defs _ _).mono (fun r h c => ⟨(h c).1.trans (arr4 m c), (h c).2.1.trans (arr5 m c), (h c).2.2.1.trans (arr6 m c), (h c).2.2.2.1.trans (arr7 m c), (h c).2.2.2.2⟩)
      (Cert.Kernel16Ideal.Value.run_blocks m g)
  refine (θ_run Cert.Reference16Ideal.defs _ _).mono (fun r h c => ⟨(h c).1.trans ?_, (h c).2.1.trans ?_, (h c).2.2.1.trans ?_, (h c).2.2.2.1.trans (hagree c).2.1, (h c).2.2.2.2⟩) (Cert.Reference16Ideal.Value.run m' g')
  · obtain ⟨h0, h1, h2, h3⟩ := hagree c
    rw [Cert.Reference16Ideal.Read.val_main_v23_eq, h0, h1, h2, h3]
    rfl
  · obtain ⟨h0, h1, h2, h3⟩ := hagree c
    rw [Cert.Reference16Ideal.Read.val_main_v4_eq, h1, h2]
    rfl
  · obtain ⟨h0, h1, h2, h3⟩ := hagree c
    rw [Cert.Reference16Ideal.Read.val_main_v10_eq, h1, h3]
    rfl

end

end Cert.AdamFfnIn

end
-- ==== Proof.Adam.FfnOut.lean ====
/- The optimiser's step on the SwiGLU layer's output weight: the kernel's and the reference's are one. -/
module

public import proofs.«01_k».proof.Proof.Adam.Step
public import proofs.«01_k».proof.Proof.Gen.Kernel17Ideal.Value
public import proofs.«01_k».proof.Proof.Gen.Reference17Ideal.Run
public import proofs.«01_k».proof.Proof.Gen.Reference17Ideal.Read
public import proofs.«01_k».proof.Defs
public import Idealize.ShloMosaic.Lib.Pipeline.ValueKit
public import Idealize.ShloMosaic.Lib.Quiescent
public import Idealize.ShloMosaic.Lib.Claim

@[expose] public section

noncomputable section

namespace Cert.AdamFfnOut

open Idealize.ShloMosaic Idealize.ShloMosaic.Pointwise Idealize.SL.Sem
open Cert.Adam (mean square delta)

section
open Cert.Kernel17Ideal Cert.Kernel17Ideal.Gen Cert.Kernel17Ideal.Value Idealize.ShloMosaic.Pipeline

section
variable (x0 x1 x2 x3 : Vec Ideal S352x1024 .f32)

theorem ld0 : View.ld x0 r0_0 = x0 := by
  funext i
  refine View.ld_unit_apply_of x0 _ _ _ _ i fun a => ?_
  fin_cases a <;> exact (Nat.zero_add _).symm

theorem emb0 (y : S352x1024.Idx) : r0_0.emb y = y := by
  funext b
  apply Fin.ext
  refine (Rect.idx_unit_val _ _ _ _ b).trans ?_
  fin_cases b <;> exact Nat.zero_add _

/-- A block stored whole reads what was stored. -/
theorem whole (p : Vec Ideal S352x1024 .f32) (y : S352x1024.Idx) : View.canon [⟨r0_0, p⟩] y = p y := by
  refine View.canon_apply_of_pieces (Val := Elt Ideal) (e := .f32) p _ ?_ y (cover0_4 p y)
  exact List.forall_mem_cons.mpr ⟨fun x => congrArg p (emb0 x).symm, fun _ h => absurd h List.not_mem_nil⟩

theorem out4_at (y : S352x1024.Idx) : out0_4 x0 x1 x2 x3 y = delta (x1 y) (x2 y) (x3 y) (x0 y) := by
  refine (whole _ y).trans ?_
  rw [ld0, ld0, ld0, ld0]
  rfl

theorem out5_at (y : S352x1024.Idx) : out0_5 x0 x1 x2 x3 y = mean (x1 y) (x2 y) := by
  refine (whole _ y).trans ?_
  rw [ld0, ld0]
  rfl

theorem out6_at (y : S352x1024.Idx) : out0_6 x0 x1 x2 x3 y = square (x1 y) (x3 y) := by
  refine (whole _ y).trans ?_
  rw [ld0, ld0]
  rfl

theorem out7_at (y : S352x1024.Idx) : out0_7 x0 x1 x2 x3 y = x1 y := by
  refine (whole _ y).trans ?_
  rw [ld0]

end

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

/-- Row `r` of block `t`. -/
abbrev row (t : Fin 4) (r : Fin 352) : Fin 1408 := ⟨t.val * 352 + r.val, by omega⟩

theorem blk0 (c : Dev nD) (t : Fin 4) (r : Fin 352) (e : Fin 1024) :
    iblk m c 0 t (ix2 r e) = V m c main_arg0 (ix2 (row t r) e) := by
  blk_ext [iblk, idx t]

theorem blk1 (c : Dev nD) (t : Fin 4) (r : Fin 352) (e : Fin 1024) :
    iblk m c 1 t (ix2 r e) = V m c main_arg1 (ix2 (row t r) e) := by
  blk_ext [iblk, idx t]

theorem blk2 (c : Dev nD) (t : Fin 4) (r : Fin 352) (e : Fin 1024) :
    iblk m c 2 t (ix2 r e) = V m c main_arg2 (ix2 (row t r) e) := by
  blk_ext [iblk, idx t]

theorem blk3 (c : Dev nD) (t : Fin 4) (r : Fin 352) (e : Fin 1024) :
    iblk m c 3 t (ix2 r e) = V m c main_arg3 (ix2 (row t r) e) := by
  blk_ext [iblk, idx t]

theorem arr4 (c : Dev nD) : (dats m 0 c).arrAt 4 cfg0.N = fun j => delta (V m c main_arg1 j) (V m c main_arg2 j) (V m c main_arg3 j) (V m c main_arg0 j) := by
  refine (dats m 0 c).arrAt_eq_of_covers 4 _ (by decide +kernel) fun t hf y => ?_
  blk_simp
  rw [after0_4]
  obtain ⟨r, e, rfl⟩ : ∃ (r : Fin 352) (e : Fin 1024), y = ix2 r e := ⟨y 0, y 1, by funext b; fin_cases b <;> rfl⟩
  refine (out4_at _ _ _ _ _).trans ?_
  rw [blk1 m c t r e, blk2 m c t r e, blk3 m c t r e, blk0 m c t r e]
  refine congrArg (fun j => delta (V m c main_arg1 j) (V m c main_arg2 j) (V m c main_arg3 j) (V m c main_arg0 j)) (funext fun a => Fin.ext ?_)
  fin_cases a
  · blk_simp [idx t]
    rfl
  · blk_simp [idx t]
    rfl

theorem arr5 (c : Dev nD) : (dats m 0 c).arrAt 5 cfg0.N = fun j => mean (V m c main_arg1 j) (V m c main_arg2 j) := by
  refine (dats m 0 c).arrAt_eq_of_covers 5 _ (by decide +kernel) fun t hf y => ?_
  blk_simp
  rw [after0_5]
  obtain ⟨r, e, rfl⟩ : ∃ (r : Fin 352) (e : Fin 1024), y = ix2 r e := ⟨y 0, y 1, by funext b; fin_cases b <;> rfl⟩
  refine (out5_at _ _ _ _ _).trans ?_
  rw [blk1 m c t r e, blk2 m c t r e]
  refine congrArg (fun j => mean (V m c main_arg1 j) (V m c main_arg2 j)) (funext fun a => Fin.ext ?_)
  fin_cases a
  · blk_simp [idx t]
    rfl
  · blk_simp [idx t]
    rfl

theorem arr6 (c : Dev nD) : (dats m 0 c).arrAt 6 cfg0.N = fun j => square (V m c main_arg1 j) (V m c main_arg3 j) := by
  refine (dats m 0 c).arrAt_eq_of_covers 6 _ (by decide +kernel) fun t hf y => ?_
  blk_simp
  rw [after0_6]
  obtain ⟨r, e, rfl⟩ : ∃ (r : Fin 352) (e : Fin 1024), y = ix2 r e := ⟨y 0, y 1, by funext b; fin_cases b <;> rfl⟩
  refine (out6_at _ _ _ _ _).trans ?_
  rw [blk1 m c t r e, blk3 m c t r e]
  refine congrArg (fun j => square (V m c main_arg1 j) (V m c main_arg3 j)) (funext fun a => Fin.ext ?_)
  fin_cases a
  · blk_simp [idx t]
    rfl
  · blk_simp [idx t]
    rfl

theorem arr7 (c : Dev nD) : (dats m 0 c).arrAt 7 cfg0.N = V m c main_arg1 := by
  refine (dats m 0 c).arrAt_eq_of_covers 7 _ (by decide +kernel) fun t hf y => ?_
  blk_simp
  rw [after0_7]
  obtain ⟨r, e, rfl⟩ : ∃ (r : Fin 352) (e : Fin 1024), y = ix2 r e := ⟨y 0, y 1, by funext b; fin_cases b <;> rfl⟩
  refine (out7_at _ _ _ _ _).trans ?_
  rw [blk1 m c t r e]
  refine congrArg (V m c main_arg1) (funext fun a => Fin.ext ?_)
  fin_cases a
  · blk_simp [idx t]
    rfl
  · blk_simp [idx t]
    rfl

end

theorem reference_frame : Cert.quiescent_Reference17Ideal := by
  intro m g _
  exact (θ_run Cert.Reference17Ideal.defs _ _).mono (fun r h => ⟨fun c => (h c).2.2.2.2, sem_eq_zero_of_no_sems rfl _⟩) (Cert.Reference17Ideal.Value.run m g)

section
open Cert.Kernel17Ideal Cert.Kernel17Ideal.Gen

theorem agree : Cert.algebraic_Kernel17Ideal_Reference17Ideal := by
  intro m g m' g' _ hagree
  refine ⟨fun c j => delta (V m c main_arg1 j) (V m c main_arg2 j) (V m c main_arg3 j) (V m c main_arg0 j), fun c j => mean (V m c main_arg1 j) (V m c main_arg2 j),
    fun c j => square (V m c main_arg1 j) (V m c main_arg3 j), fun c => V m c main_arg1, ?_, ?_⟩
  · exact (θ_run Cert.Kernel17Ideal.defs _ _).mono (fun r h c => ⟨(h c).1.trans (arr4 m c), (h c).2.1.trans (arr5 m c), (h c).2.2.1.trans (arr6 m c), (h c).2.2.2.1.trans (arr7 m c), (h c).2.2.2.2⟩)
      (Cert.Kernel17Ideal.Value.run_blocks m g)
  refine (θ_run Cert.Reference17Ideal.defs _ _).mono (fun r h c => ⟨(h c).1.trans ?_, (h c).2.1.trans ?_, (h c).2.2.1.trans ?_, (h c).2.2.2.1.trans (hagree c).2.1, (h c).2.2.2.2⟩) (Cert.Reference17Ideal.Value.run m' g')
  · obtain ⟨h0, h1, h2, h3⟩ := hagree c
    rw [Cert.Reference17Ideal.Read.val_main_v23_eq, h0, h1, h2, h3]
    rfl
  · obtain ⟨h0, h1, h2, h3⟩ := hagree c
    rw [Cert.Reference17Ideal.Read.val_main_v4_eq, h1, h2]
    rfl
  · obtain ⟨h0, h1, h2, h3⟩ := hagree c
    rw [Cert.Reference17Ideal.Read.val_main_v10_eq, h1, h3]
    rfl

end

end Cert.AdamFfnOut

end
-- ==== Proof.Adam.Small.lean ====
/- The optimiser's step on the small weights, packed one after the other: the kernel's and the reference's are one. -/
module

public import proofs.«01_k».proof.Proof.Adam.Step
public import proofs.«01_k».proof.Proof.Gen.Kernel18Ideal.Value
public import proofs.«01_k».proof.Proof.Gen.Reference18Ideal.Run
public import proofs.«01_k».proof.Proof.Gen.Reference18Ideal.Read
public import proofs.«01_k».proof.Defs
public import Idealize.ShloMosaic.Lib.Pipeline.ValueKit
public import Idealize.ShloMosaic.Lib.Quiescent
public import Idealize.ShloMosaic.Lib.Claim

@[expose] public section

noncomputable section

namespace Cert.AdamSmall

open Idealize.ShloMosaic Idealize.SL.Sem
open Cert.Adam (mean square delta)
open Cert.Kernel18Ideal.Value (G4 G5 G6)

section
open Cert.Kernel18Ideal
variable (w g m v : Vec Ideal S1144x128 .f32)

theorem kernel_delta : G4 g m v w = fun j => delta (g j) (m j) (v j) (w j) := rfl
theorem kernel_mean : G5 g m = fun j => mean (g j) (m j) := rfl
theorem kernel_square : G6 g v = fun j => square (g j) (v j) := rfl

end

theorem reference_frame : Cert.quiescent_Reference18Ideal := by
  intro m g _
  exact (θ_run Cert.Reference18Ideal.defs _ _).mono (fun r h => ⟨fun c => (h c).2.2.2, sem_eq_zero_of_no_sems rfl _⟩) (Cert.Reference18Ideal.Value.run m g)

theorem agree : Cert.algebraic_Kernel18Ideal_Reference18Ideal := by
  intro m g m' g' _ hagree
  refine ⟨_, _, _, (θ_run Cert.Kernel18Ideal.defs _ _).mono (fun r h c => ⟨(h c).1.trans (kernel_delta _ _ _ _), (h c).2.1.trans (kernel_mean _ _), (h c).2.2.1.trans (kernel_square _ _), (h c).2.2.2⟩)
      (Cert.Kernel18Ideal.Value.run m g), ?_⟩
  refine (θ_run Cert.Reference18Ideal.defs _ _).mono (fun r h c => ⟨(h c).1.trans ?_, (h c).2.1.trans ?_, (h c).2.2.1.trans ?_, (h c).2.2.2⟩) (Cert.Reference18Ideal.Value.run m' g')
  · obtain ⟨h0, h1, h2, h3⟩ := hagree c
    rw [Cert.Reference18Ideal.Read.val_main_v23_eq, h0, h1, h2, h3]
    rfl
  · obtain ⟨h0, h1, h2, h3⟩ := hagree c
    rw [Cert.Reference18Ideal.Read.val_main_v4_eq, h1, h2]
    rfl
  · obtain ⟨h0, h1, h2, h3⟩ := hagree c
    rw [Cert.Reference18Ideal.Read.val_main_v10_eq, h1, h3]
    rfl

end Cert.AdamSmall

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Ret.Agree
public import proofs.«01_k».proof.Proof.Ffn.OutDwAgree
public import proofs.«01_k».proof.Proof.Ffn.InDwAgree
public import proofs.«01_k».proof.Proof.Ffn.PreFacts
public import proofs.«01_k».proof.Proof.Ffn.InDxAgree
public import proofs.«01_k».proof.Proof.Ffn.OutDxAgree
public import proofs.«01_k».proof.Proof.Ffn.InFwdAgree
public import proofs.«01_k».proof.Proof.Ffn.OutFwdAgree
public import proofs.«01_k».proof.Proof.Proj.PreFacts
public import proofs.«01_k».proof.Proof.Proj.ProjDxAgree
public import proofs.«01_k».proof.Proof.Proj.ProjDwAgree
public import proofs.«01_k».proof.Proof.Proj.MixDwAgree
public import proofs.«01_k».proof.Proof.Proj.MixFwdAgree
public import proofs.«01_k».proof.Proof.Proj.ProjFwdAgree
public import proofs.«01_k».proof.Proof.Proj.MixDxAgree
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Adam.ProjIn
public import proofs.«01_k».proof.Proof.Adam.ProjOut
public import proofs.«01_k».proof.Proof.Adam.FfnIn
public import proofs.«01_k».proof.Proof.Adam.FfnOut
public import proofs.«01_k».proof.Proof.Adam.Small

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Fin.facts4, Cert.Fin.facts5, Cert.Fin.facts8, Cert.Fin.facts13,
  fun m ρ _ => Cert.Kernel.Gen.frame m ρ, fun m ρ _ => Cert.KernelIdeal.Gen.frame m ρ,
  Cert.Ret.reference_frame,
  fun m ρ _ => Cert.Kernel2.Gen.frame m ρ, fun m ρ _ => Cert.Kernel2Ideal.Gen.frame m ρ,
  Cert.OutDw.reference_frame,
  fun m ρ _ => Cert.Kernel3.Gen.frame m ρ, fun m ρ _ => Cert.Kernel3Ideal.Gen.frame m ρ,
  Cert.InDw.reference_frame,
  fun m ρ _ => Cert.Kernel4.Gen.frame m ρ, fun m ρ _ => Cert.Kernel4Ideal.Gen.frame m ρ,
  fun m ρ _ => Cert.Kernel4Ideal.Gen.frame m ρ, Cert.InDx.reference_frame, fun m ρ _ => Cert.InDx.reference_frame m ρ trivial,
  fun m ρ _ => Cert.Kernel5.Gen.frame m ρ, fun m ρ _ => Cert.Kernel5Ideal.Gen.frame m ρ,
  fun m ρ _ => Cert.Kernel5Ideal.Gen.frame m ρ, Cert.OutDx.reference_frame, fun m ρ _ => Cert.OutDx.reference_frame m ρ trivial,
  fun m ρ _ => Cert.Kernel6.Gen.frame m ρ, fun m ρ _ => Cert.Kernel6Ideal.Gen.frame m ρ,
  Cert.InFwd.reference_frame,
  fun m ρ _ => Cert.Kernel7.Gen.frame m ρ, fun m ρ _ => Cert.Kernel7Ideal.Gen.frame m ρ,
  Cert.OutFwd.reference_frame,
  fun m ρ _ => Cert.Kernel8.Gen.frame m ρ, fun m ρ _ => Cert.Kernel8Ideal.Gen.frame m ρ,
  fun m ρ _ => Cert.Kernel8Ideal.Gen.frame m ρ, Cert.ProjDx.reference_frame, fun m ρ _ => Cert.ProjDx.reference_frame m ρ trivial,
  fun m ρ _ => Cert.Kernel9.Gen.frame m ρ, fun m ρ _ => Cert.Kernel9Ideal.Gen.frame m ρ,
  Cert.ProjDw.reference_frame,
  fun m ρ _ => Cert.Kernel10.Gen.frame m ρ, fun m ρ _ => Cert.Kernel10Ideal.Gen.frame m ρ,
  Cert.MixDw.reference_frame,
  fun m ρ _ => Cert.Kernel11.Gen.frame m ρ, fun m ρ _ => Cert.Kernel11Ideal.Gen.frame m ρ,
  Cert.MixFwd.reference_frame,
  fun m ρ _ => Cert.Kernel12.Gen.frame m ρ, fun m ρ _ => Cert.Kernel12Ideal.Gen.frame m ρ,
  Cert.ProjFwd.reference_frame,
  fun m ρ _ => Cert.Kernel13.Gen.frame m ρ, fun m ρ _ => Cert.Kernel13Ideal.Gen.frame m ρ,
  fun m ρ _ => Cert.Kernel13Ideal.Gen.frame m ρ, Cert.MixDx.reference_frame, fun m ρ _ => Cert.MixDx.reference_frame m ρ trivial,
  fun m ρ _ => Cert.Kernel14.Gen.frame m ρ, fun m ρ _ => Cert.Kernel14Ideal.Gen.frame m ρ,
  Cert.AdamProjIn.reference_frame,
  fun m ρ _ => Cert.Kernel15.Gen.frame m ρ, fun m ρ _ => Cert.Kernel15Ideal.Gen.frame m ρ,
  Cert.AdamProjOut.reference_frame,
  fun m ρ _ => Cert.Kernel16.Gen.frame m ρ, fun m ρ _ => Cert.Kernel16Ideal.Gen.frame m ρ,
  Cert.AdamFfnIn.reference_frame,
  fun m ρ _ => Cert.Kernel17.Gen.frame m ρ, fun m ρ _ => Cert.Kernel17Ideal.Gen.frame m ρ,
  Cert.AdamFfnOut.reference_frame,
  fun m ρ _ => Cert.Kernel18.Gen.frame m ρ, fun m ρ _ => Cert.Kernel18Ideal.Gen.frame m ρ,
  Cert.AdamSmall.reference_frame,
  trivial, Cert.Ret.agree, trivial, Cert.OutDw.agree, trivial, Cert.InDw.agree, trivial, Cert.InDx.agree, trivial, Cert.OutDx.agree, trivial, Cert.InFwd.agree, trivial, Cert.OutFwd.agree, trivial, Cert.ProjDx.agree, trivial, Cert.ProjDw.agree, trivial, Cert.MixDw.agree, trivial, Cert.MixFwd.agree, trivial, Cert.ProjFwd.agree, trivial, Cert.MixDx.agree, trivial, Cert.AdamProjIn.agree, trivial, Cert.AdamProjOut.agree, trivial, Cert.AdamFfnIn.agree, trivial, Cert.AdamFfnOut.agree, trivial, Cert.AdamSmall.agree⟩

end Cert.Proof

end
